-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8704x2048 : Shape := ⟨2, ![8704, 2048]⟩
abbrev S1x2048x8480 : Shape := ⟨3, ![1, 2048, 8480]⟩
abbrev S512x1024 : Shape := ⟨2, ![512, 1024]⟩
abbrev S1x128x16x64x64 : Shape := ⟨5, ![1, 128, 16, 64, 64]⟩
abbrev S2048x8480 : Shape := ⟨2, ![2048, 8480]⟩
abbrev S8480x2048 : Shape := ⟨2, ![8480, 2048]⟩
abbrev S128x16x64x64 : Shape := ⟨4, ![128, 16, 64, 64]⟩
abbrev S16x64x64x128 : Shape := ⟨4, ![16, 64, 64, 128]⟩
abbrev S8704x5120 : Shape := ⟨2, ![8704, 5120]⟩
abbrev S1088x2048 : Shape := ⟨2, ![1088, 2048]⟩
abbrev S1024x2048 : Shape := ⟨2, ![1024, 2048]⟩
abbrev S512x128 : Shape := ⟨2, ![512, 128]⟩
abbrev S1x32x64x128 : Shape := ⟨4, ![1, 32, 64, 128]⟩
abbrev S1088x1024 : Shape := ⟨2, ![1088, 1024]⟩
abbrev S5x4x128x128 : Shape := ⟨4, ![5, 4, 128, 128]⟩
abbrev S4x128x128 : Shape := ⟨3, ![4, 128, 128]⟩
abbrev S128x128 : Shape := ⟨2, ![128, 128]⟩
abbrev S1x1x128x128 : Shape := ⟨4, ![1, 1, 128, 128]⟩
abbrev S1x128x128 : Shape := ⟨3, ![1, 128, 128]⟩
abbrev S256x2048 : Shape := ⟨2, ![256, 2048]⟩
abbrev S1088x256 : Shape := ⟨2, ![1088, 256]⟩
abbrev S1x1x64x128 : Shape := ⟨4, ![1, 1, 64, 128]⟩
abbrev S64x128 : Shape := ⟨2, ![64, 128]⟩
abbrev S128 : Shape := ⟨1, ![128]⟩
abbrev S1x128 : Shape := ⟨2, ![1, 128]⟩
abbrev S1x1x128 : Shape := ⟨3, ![1, 1, 128]⟩

abbrev nBuf : Space → Nat
  | .hbm => 16
  | .vmem => 28
  | .smem => 0
  | _ => 0

abbrev bufTy : (tb : Table) → Fin (tcTables nBuf tb) → BufTy
  | .hbm, ⟨0, _⟩ => ⟨S8704x2048, .bf16⟩
  | .hbm, ⟨1, _⟩ => ⟨S1x2048x8480, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1x128x16x64x64, .f32⟩
  | .hbm, ⟨9, _⟩ => ⟨S2048x8480, .f32⟩
  | .hbm, ⟨10, _⟩ => ⟨S8480x2048, .f32⟩
  | .hbm, ⟨11, _⟩ => ⟨S128x16x64x64, .f32⟩
  | .hbm, ⟨12, _⟩ => ⟨S16x64x64x128, .f32⟩
  | .hbm, ⟨13, _⟩ => ⟨S8704x5120, .f32⟩
  | .hbm, ⟨14, _⟩ => ⟨S512x1024, .f32⟩
  | .hbm, ⟨15, _⟩ => ⟨S16x64x64x128, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .f32⟩
  | .local _ .vmem, ⟨3, _⟩ => ⟨S1024x2048, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x32x64x128, .f32⟩
  | .local _ .vmem, ⟨17, _⟩ => ⟨S1x32x64x128, .f32⟩
  | .local _ .vmem, ⟨18, _⟩ => ⟨S1088x1024, .f32⟩
  | .local _ .vmem, ⟨19, _⟩ => ⟨S1088x1024, .f32⟩
  | .local _ .vmem, ⟨20, _⟩ => ⟨S512x128, .f32⟩
  | .local _ .vmem, ⟨21, _⟩ => ⟨S512x128, .f32⟩
  | .local _ .vmem, ⟨22, _⟩ => ⟨S1x32x64x128, .f32⟩
  | .local _ .vmem, ⟨23, _⟩ => ⟨S1x32x64x128, .f32⟩
  | .local _ .vmem, ⟨24, _⟩ => ⟨S1024x2048, .bf16⟩
  | .local _ .vmem, ⟨25, _⟩ => ⟨S5x4x128x128, .f32⟩
  | .local _ .vmem, ⟨26, _⟩ => ⟨S4x128x128, .f32⟩
  | .local _ .vmem, ⟨27, _⟩ => ⟨S4x128x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![5, 8], ![false, false]⟩

def k0_cond2 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  v41
def k0_off1 (i : grid0.Coords) : Fin 4 → Nat :=
  let c3 : Index := 3#32
  let c0_32 : Index := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v61 : Index := Scalar.indexCast v42
  let c0_33 : Index := 0#32
  ![3, 0, v61.toNat, 0]
def k0_off2 (i : grid0.Coords) (c0_i32_35 : BitVec 32) : Fin 3 → Nat :=
  let c0_36 : Index := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let c2_i32_16 : BitVec 32 := 2#32
  let c0_i32_17 : BitVec 32 := 0#32
  let v43 : BitVec 1 := Scalar.cmpi .eq c2_i32_16 c0_i32_17
  let c1_i32_18 : BitVec 32 := 1#32
  let v44 : BitVec 32 := Scalar.select v43 c1_i32_18 c2_i32_16
  let v45 : BitVec 32 := Scalar.remsi v20 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c32_i32_22 : BitVec 32 := 32#32
  let v53 : BitVec 32 := Scalar.muli v52 c32_i32_22
  let v54 : BitVec 32 := Scalar.addi v42 v53
  let v67 : BitVec 32 := Scalar.addi v54 c0_i32_35
  let v68 : Index := Scalar.indexCast v67
  let c0_37 : Index := 0#32
  ![0, v68.toNat, 0]
def k0_off3 (i : grid0.Coords) : Fin 4 → Nat :=
  let c1 : Index := 1#32
  let c0_38 : Index := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v71 : Index := Scalar.indexCast v42
  let c0_39 : Index := 0#32
  ![1, 0, v71.toNat, 0]
def k0_off4 (i : grid0.Coords) : Fin 4 → Nat :=
  let c4 : Index := 4#32
  let c0_40 : Index := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v75 : Index := Scalar.indexCast v42
  let c0_41 : Index := 0#32
  ![4, 0, v75.toNat, 0]
def k0_off5 (i : grid0.Coords) : Fin 4 → Nat :=
  let c2 : Index := 2#32
  let c0_42 : Index := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v81 : Index := Scalar.indexCast v42
  let c0_43 : Index := 0#32
  ![2, 0, v81.toNat, 0]
def k0_off6 (i : grid0.Coords) : Fin 4 → Nat :=
  let c0_44 : Index := 0#32
  let c0_45 : Index := 0#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v87 : Index := Scalar.indexCast v42
  let c0_46 : Index := 0#32
  ![0, 0, v87.toNat, 0]
def k0_off7 (i : grid0.Coords) : Fin 4 → Nat :=
  let c3_51 : Index := 3#32
  let c1_52 : Index := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v98 : Index := Scalar.indexCast v42
  let c0_53 : Index := 0#32
  ![3, 1, v98.toNat, 0]
def k0_off8 (i : grid0.Coords) (c0_i32_55 : BitVec 32) : Fin 3 → Nat :=
  let c1_56 : Index := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let c2_i32_16 : BitVec 32 := 2#32
  let c0_i32_17 : BitVec 32 := 0#32
  let v43 : BitVec 1 := Scalar.cmpi .eq c2_i32_16 c0_i32_17
  let c1_i32_18 : BitVec 32 := 1#32
  let v44 : BitVec 32 := Scalar.select v43 c1_i32_18 c2_i32_16
  let v45 : BitVec 32 := Scalar.remsi v20 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c32_i32_22 : BitVec 32 := 32#32
  let v53 : BitVec 32 := Scalar.muli v52 c32_i32_22
  let v54 : BitVec 32 := Scalar.addi v42 v53
  let v104 : BitVec 32 := Scalar.addi v54 c0_i32_55
  let v105 : Index := Scalar.indexCast v104
  let c0_57 : Index := 0#32
  ![1, v105.toNat, 0]
def k0_off9 (i : grid0.Coords) : Fin 4 → Nat :=
  let c1_58 : Index := 1#32
  let c1_59 : Index := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v108 : Index := Scalar.indexCast v42
  let c0_60 : Index := 0#32
  ![1, 1, v108.toNat, 0]
def k0_off10 (i : grid0.Coords) : Fin 4 → Nat :=
  let c4_61 : Index := 4#32
  let c1_62 : Index := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v112 : Index := Scalar.indexCast v42
  let c0_63 : Index := 0#32
  ![4, 1, v112.toNat, 0]
def k0_off11 (i : grid0.Coords) : Fin 4 → Nat :=
  let c2_64 : Index := 2#32
  let c1_65 : Index := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v118 : Index := Scalar.indexCast v42
  let c0_66 : Index := 0#32
  ![2, 1, v118.toNat, 0]
def k0_off12 (i : grid0.Coords) : Fin 4 → Nat :=
  let c0_67 : Index := 0#32
  let c1_68 : Index := 1#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v124 : Index := Scalar.indexCast v42
  let c0_69 : Index := 0#32
  ![0, 1, v124.toNat, 0]
def k0_off13 (i : grid0.Coords) : Fin 4 → Nat :=
  let c3_74 : Index := 3#32
  let c2_75 : Index := 2#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v135 : Index := Scalar.indexCast v42
  let c0_76 : Index := 0#32
  ![3, 2, v135.toNat, 0]
def k0_off14 (i : grid0.Coords) (c0_i32_78 : BitVec 32) : Fin 3 → Nat :=
  let c2_79 : Index := 2#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let c2_i32_16 : BitVec 32 := 2#32
  let c0_i32_17 : BitVec 32 := 0#32
  let v43 : BitVec 1 := Scalar.cmpi .eq c2_i32_16 c0_i32_17
  let c1_i32_18 : BitVec 32 := 1#32
  let v44 : BitVec 32 := Scalar.select v43 c1_i32_18 c2_i32_16
  let v45 : BitVec 32 := Scalar.remsi v20 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c32_i32_22 : BitVec 32 := 32#32
  let v53 : BitVec 32 := Scalar.muli v52 c32_i32_22
  let v54 : BitVec 32 := Scalar.addi v42 v53
  let v141 : BitVec 32 := Scalar.addi v54 c0_i32_78
  let v142 : Index := Scalar.indexCast v141
  let c0_80 : Index := 0#32
  ![2, v142.toNat, 0]
def k0_off15 (i : grid0.Coords) : Fin 4 → Nat :=
  let c1_81 : Index := 1#32
  let c2_82 : Index := 2#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v145 : Index := Scalar.indexCast v42
  let c0_83 : Index := 0#32
  ![1, 2, v145.toNat, 0]
def k0_off16 (i : grid0.Coords) : Fin 4 → Nat :=
  let c4_84 : Index := 4#32
  let c2_85 : Index := 2#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v149 : Index := Scalar.indexCast v42
  let c0_86 : Index := 0#32
  ![4, 2, v149.toNat, 0]
def k0_off17 (i : grid0.Coords) : Fin 4 → Nat :=
  let c2_87 : Index := 2#32
  let c2_88 : Index := 2#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v155 : Index := Scalar.indexCast v42
  let c0_89 : Index := 0#32
  ![2, 2, v155.toNat, 0]
def k0_off18 (i : grid0.Coords) : Fin 4 → Nat :=
  let c0_90 : Index := 0#32
  let c2_91 : Index := 2#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v161 : Index := Scalar.indexCast v42
  let c0_92 : Index := 0#32
  ![0, 2, v161.toNat, 0]
def k0_off19 (i : grid0.Coords) : Fin 4 → Nat :=
  let c3_97 : Index := 3#32
  let c3_98 : Index := 3#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v172 : Index := Scalar.indexCast v42
  let c0_99 : Index := 0#32
  ![3, 3, v172.toNat, 0]
def k0_off20 (i : grid0.Coords) (c0_i32_101 : BitVec 32) : Fin 3 → Nat :=
  let c3_102 : Index := 3#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let c2_i32_16 : BitVec 32 := 2#32
  let c0_i32_17 : BitVec 32 := 0#32
  let v43 : BitVec 1 := Scalar.cmpi .eq c2_i32_16 c0_i32_17
  let c1_i32_18 : BitVec 32 := 1#32
  let v44 : BitVec 32 := Scalar.select v43 c1_i32_18 c2_i32_16
  let v45 : BitVec 32 := Scalar.remsi v20 v44
  let c0_i32_20 : BitVec 32 := 0#32
  let v47 : BitVec 1 := Scalar.cmpi .slt v45 c0_i32_20
  let c0_i32_21 : BitVec 32 := 0#32
  let v48 : BitVec 1 := Scalar.cmpi .slt v44 c0_i32_21
  let v49 : BitVec 1 := Scalar.xori v47 v48
  let c0_i32_19 : BitVec 32 := 0#32
  let v46 : BitVec 1 := Scalar.cmpi .ne v45 c0_i32_19
  let v50 : BitVec 1 := Scalar.andi v49 v46
  let v51 : BitVec 32 := Scalar.addi v45 v44
  let v52 : BitVec 32 := Scalar.select v50 v51 v45
  let c32_i32_22 : BitVec 32 := 32#32
  let v53 : BitVec 32 := Scalar.muli v52 c32_i32_22
  let v54 : BitVec 32 := Scalar.addi v42 v53
  let v178 : BitVec 32 := Scalar.addi v54 c0_i32_101
  let v179 : Index := Scalar.indexCast v178
  let c0_103 : Index := 0#32
  ![3, v179.toNat, 0]
def k0_off21 (i : grid0.Coords) : Fin 4 → Nat :=
  let c1_104 : Index := 1#32
  let c3_105 : Index := 3#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v182 : Index := Scalar.indexCast v42
  let c0_106 : Index := 0#32
  ![1, 3, v182.toNat, 0]
def k0_off22 (i : grid0.Coords) : Fin 4 → Nat :=
  let c4_107 : Index := 4#32
  let c3_108 : Index := 3#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v186 : Index := Scalar.indexCast v42
  let c0_109 : Index := 0#32
  ![4, 3, v186.toNat, 0]
def k0_off23 (i : grid0.Coords) : Fin 4 → Nat :=
  let c2_110 : Index := 2#32
  let c3_111 : Index := 3#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v192 : Index := Scalar.indexCast v42
  let c0_112 : Index := 0#32
  ![2, 3, v192.toNat, 0]
def k0_off24 (i : grid0.Coords) : Fin 4 → Nat :=
  let c0_113 : Index := 0#32
  let c3_114 : Index := 3#32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_10 : BitVec 32 := 0#32
  let v25 : BitVec 1 := Scalar.cmpi .sgt v20 c0_i32_10
  let v26 : BitVec 32 := Scalar.extui v25
  let c0_i32_11 : BitVec 32 := 0#32
  let v27 : BitVec 1 := Scalar.cmpi .slt v20 c0_i32_11
  let v28 : BitVec 32 := Scalar.extui v27
  let v29 : BitVec 32 := Scalar.subi v26 v28
  let c2_i32 : BitVec 32 := 2#32
  let c0_i32_12 : BitVec 32 := 0#32
  let v30 : BitVec 1 := Scalar.cmpi .sgt c2_i32 c0_i32_12
  let v31 : BitVec 32 := Scalar.extui v30
  let c0_i32_13 : BitVec 32 := 0#32
  let v32 : BitVec 1 := Scalar.cmpi .slt c2_i32 c0_i32_13
  let v33 : BitVec 32 := Scalar.extui v32
  let v34 : BitVec 32 := Scalar.subi v31 v33
  let v35 : BitVec 1 := Scalar.cmpi .ne v29 v34
  let v36 : BitVec 32 := Scalar.remsi v20 c2_i32
  let c0_i32_14 : BitVec 32 := 0#32
  let v37 : BitVec 1 := Scalar.cmpi .ne v36 c0_i32_14
  let v38 : BitVec 1 := Scalar.andi v35 v37
  let v24 : BitVec 32 := Scalar.divsi v20 c2_i32
  let c1_i32_15 : BitVec 32 := 1#32
  let v39 : BitVec 32 := Scalar.subi v24 c1_i32_15
  let v40 : BitVec 32 := Scalar.select v38 v39 v24
  let c64_i32 : BitVec 32 := 64#32
  let v41 : BitVec 32 := Scalar.muli v40 c64_i32
  let v42 : BitVec 32 := v41
  let v198 : Index := Scalar.indexCast v42
  let c0_115 : Index := 0#32
  ![0, 3, v198.toNat, 0]
def k0_cond5 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c32_i32_2 : BitVec 32 := 32#32
  let v8 : BitVec 1 := Scalar.cmpi .sge v4 c32_i32_2
  let v9 : BitVec 32 := Scalar.extui v8
  let c0_i32_3 : BitVec 32 := 0#32
  let v10 : BitVec 1 := Scalar.cmpi .ne v9 c0_i32_3
  v10

def k0_cond4 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c4_i32 : BitVec 32 := 4#32
  let c0_i32_4 : BitVec 32 := 0#32
  let v11 : BitVec 1 := Scalar.cmpi .eq c4_i32 c0_i32_4
  let c1_i32 : BitVec 32 := 1#32
  let v12 : BitVec 32 := Scalar.select v11 c1_i32 c4_i32
  let v13 : BitVec 32 := Scalar.remsi v4 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c3_i32_3188 : BitVec 32 := 3#32
  let v4967 : BitVec 1 := Scalar.cmpi .eq v20 c3_i32_3188
  let v4968 : BitVec 32 := Scalar.extui v4967
  let c0_i32_3189 : BitVec 32 := 0#32
  let v4969 : BitVec 1 := Scalar.cmpi .ne v4968 c0_i32_3189
  v4969

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c420_i32 : BitVec 32 := 420#32
  let v1 : BitVec 32 := Scalar.addi c420_i32 v0
  let c8_i32 : BitVec 32 := 8#32
  let v2 : BitVec 32 := Scalar.muli c8_i32 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  let c0_i32_13 : BitVec 32 := 0#32
  let c0_i32_14 : BitVec 32 := 0#32
  ![v19.toNat, v32.toNat, c0_i32_12.toNat, c0_i32_13.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![c0_i32_4.toNat, v19.toNat]

def cc0_transform_11 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c2_i32 : BitVec 32 := 2#32
  let v3 : BitVec 32 := Scalar.divsi v2 c2_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  let c0_i32_13 : BitVec 32 := 0#32
  let c0_i32_14 : BitVec 32 := 0#32
  ![v19.toNat, v32.toNat, c0_i32_12.toNat, c0_i32_13.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1088x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8704x2048 : Shape := ⟨2, ![8704, 2048]⟩
abbrev S1x2048x8480 : Shape := ⟨3, ![1, 2048, 8480]⟩
abbrev S512x1024 : Shape := ⟨2, ![512, 1024]⟩
abbrev S1x128x16x64x64 : Shape := ⟨5, ![1, 128, 16, 64, 64]⟩
abbrev S128x16x64x64 : Shape := ⟨4, ![128, 16, 64, 64]⟩
abbrev S128x4x16x64 : Shape := ⟨4, ![128, 4, 16, 64]⟩
abbrev S4x128x16x64 : Shape := ⟨4, ![4, 128, 16, 64]⟩
abbrev S_ : Shape := ⟨0, ![]⟩
abbrev S1x128x16x64 : Shape := ⟨4, ![1, 128, 16, 64]⟩
abbrev S128x16x64 : Shape := ⟨3, ![128, 16, 64]⟩
abbrev S128x16x1x64 : Shape := ⟨4, ![128, 16, 1, 64]⟩
abbrev S128x16x64x1 : Shape := ⟨4, ![128, 16, 64, 1]⟩
abbrev S2048x8480 : Shape := ⟨2, ![2048, 8480]⟩
abbrev S8704x8480 : Shape := ⟨2, ![8704, 8480]⟩
abbrev S8704x5120 : Shape := ⟨2, ![8704, 5120]⟩
abbrev S16x64x64x128 : Shape := ⟨4, ![16, 64, 64, 128]⟩

abbrev nBuf : Space → Nat
  | .hbm => 98
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x8480, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1x128x16x64x64, .f32⟩
  | .hbm, ⟨9, _⟩ => ⟨S128x16x64x64, .f32⟩
  | .hbm, ⟨10, _⟩ => ⟨S128x4x16x64, .f32⟩
  | .hbm, ⟨11, _⟩ => ⟨S512x1024, .f32⟩
  | .hbm, ⟨12, _⟩ => ⟨S128x4x16x64, .f32⟩
  | .hbm, ⟨13, _⟩ => ⟨S128x4x16x64, .f32⟩
  | .hbm, ⟨14, _⟩ => ⟨S128x4x16x64, .f32⟩
  | .hbm, ⟨15, _⟩ => ⟨S128x4x16x64, .f32⟩
  | .hbm, ⟨16, _⟩ => ⟨S128x4x16x64, .f32⟩
  | .hbm, ⟨17, _⟩ => ⟨S4x128x16x64, .f32⟩
  | .hbm, ⟨18, _⟩ => ⟨S4x128x16x64, .f32⟩
  | .hbm, ⟨19, _⟩ => ⟨S4x128x16x64, .f32⟩
  | .hbm, ⟨20, _⟩ => ⟨S4x128x16x64, .f32⟩
  | .hbm, ⟨21, _⟩ => ⟨S4x128x16x64, .f32⟩
  | .hbm, ⟨22, _⟩ => ⟨S4x128x16x64, .f32⟩
  | .hbm, ⟨23, _⟩ => ⟨S_, .f32⟩
  | .hbm, ⟨24, _⟩ => ⟨S4x128x16x64, .f32⟩
  | .hbm, ⟨25, _⟩ => ⟨S_, .i32⟩
  | .hbm, ⟨26, _⟩ => ⟨S4x128x16x64, .f32⟩
  | .hbm, ⟨27, _⟩ => ⟨S4x128x16x64, .f32⟩
  | .hbm, ⟨28, _⟩ => ⟨S4x128x16x64, .f32⟩
  | .hbm, ⟨29, _⟩ => ⟨S4x128x16x64, .f32⟩
  | .hbm, ⟨30, _⟩ => ⟨S4x128x16x64, .f32⟩
  | .hbm, ⟨31, _⟩ => ⟨S4x128x16x64, .f32⟩
  | .hbm, ⟨32, _⟩ => ⟨S_, .i32⟩
  | .hbm, ⟨33, _⟩ => ⟨S128x16x64x64, .f32⟩
  | .hbm, ⟨34, _⟩ => ⟨S4x128x16x64, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x128x16x64, .f32⟩
  | .hbm, ⟨41, _⟩ => ⟨S128x16x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x128x16x64, .f32⟩
  | .hbm, ⟨46, _⟩ => ⟨S128x16x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x128x16x64, .f32⟩
  | .hbm, ⟨51, _⟩ => ⟨S128x16x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x128x16x64, .f32⟩
  | .hbm, ⟨56, _⟩ => ⟨S128x16x64, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x128x16x64, .f32⟩
  | .hbm, ⟨61, _⟩ => ⟨S128x16x64, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x128x16x64, .f32⟩
  | .hbm, ⟨66, _⟩ => ⟨S128x16x64, .f32⟩
  | .hbm, ⟨67, _⟩ => ⟨S128x16x64, .f32⟩
  | .hbm, ⟨68, _⟩ => ⟨S128x16x1x64, .f32⟩
  | .hbm, ⟨69, _⟩ => ⟨S128x16x64x64, .f32⟩
  | .hbm, ⟨70, _⟩ => ⟨S128x16x64x64, .f32⟩
  | .hbm, ⟨71, _⟩ => ⟨S128x16x64x1, .f32⟩
  | .hbm, ⟨72, _⟩ => ⟨S128x16x1x64, .f32⟩
  | .hbm, ⟨73, _⟩ => ⟨S128x16x64x64, .f32⟩
  | .hbm, ⟨74, _⟩ => ⟨S128x16x64x64, .f32⟩
  | .hbm, ⟨75, _⟩ => ⟨S128x16x64x64, .f32⟩
  | .hbm, ⟨76, _⟩ => ⟨S128x16x64x64, .f32⟩
  | .hbm, ⟨77, _⟩ => ⟨S128x16x64x1, .f32⟩
  | .hbm, ⟨78, _⟩ => ⟨S128x16x1x64, .f32⟩
  | .hbm, ⟨79, _⟩ => ⟨S128x16x64x64, .f32⟩
  | .hbm, ⟨80, _⟩ => ⟨S128x16x64x64, .f32⟩
  | .hbm, ⟨81, _⟩ => ⟨S128x16x64x64, .f32⟩
  | .hbm, ⟨82, _⟩ => ⟨S128x16x64x64, .f32⟩
  | .hbm, ⟨83, _⟩ => ⟨S128x16x64, .f32⟩
  | .hbm, ⟨84, _⟩ => ⟨S1x128x16x64, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S4x128x16x64, .f32⟩
  | .hbm, ⟨89, _⟩ => ⟨S_, .i32⟩
  | .hbm, ⟨90, _⟩ => ⟨S_, .i32⟩
  | .hbm, ⟨91, _⟩ => ⟨S128x4x16x64, .f32⟩
  | .hbm, ⟨92, _⟩ => ⟨S8704x2048, .f32⟩
  | .hbm, ⟨93, _⟩ => ⟨S2048x8480, .f32⟩
  | .hbm, ⟨94, _⟩ => ⟨S8704x8480, .f32⟩
  | .hbm, ⟨95, _⟩ => ⟨S8704x5120, .f32⟩
  | .hbm, ⟨96, _⟩ => ⟨S512x1024, .f32⟩
  | .hbm, ⟨97, _⟩ => ⟨S16x64x64x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_c : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev main_v15_8 : Ref sig .tc := ⟨.hbm, 34, rfl⟩
abbrev main_while0c_c_8 : Ref sig .tc := ⟨.hbm, 35, rfl⟩
abbrev main_while0c_v23 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v23 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v24 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v25 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v26 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_v0 : Ref sig .tc := ⟨.hbm, 60, rfl⟩
abbrev main_while0b_v27 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_c_1 : Ref sig .tc := ⟨.hbm, 64, rfl⟩
abbrev main_while0b_call5_v0 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_v46 : Ref sig .tc := ⟨.hbm, 88, rfl⟩
abbrev main_while0b_c_8 : Ref sig .tc := ⟨.hbm, 89, rfl⟩
abbrev main_while0b_v47 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩

abbrev nD : Nat := 1
abbrev τ : Topo := Topo.v7x

variable {F : FTy → Type} [FloatOps F]

abbrev main_while0_count : Scf.Loop 32 := ⟨0#32, 4#32, 1#32⟩
-- ==== Kernel2.lean ====
abbrev S8192x2048 : Shape := ⟨2, ![8192, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S1x2048 : Shape := ⟨2, ![1, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S16x8x5632 : Shape := ⟨3, ![16, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x8x512 : Shape := ⟨3, ![1, 8, 512]⟩
abbrev S11x8x512 : Shape := ⟨3, ![11, 8, 512]⟩
abbrev S8x512 : Shape := ⟨2, ![8, 512]⟩
abbrev S512x512 : Shape := ⟨2, ![512, 512]⟩
abbrev S512 : Shape := ⟨1, ![512]⟩
abbrev S512x1 : Shape := ⟨2, ![512, 1]⟩
abbrev S4x4x8x5632 : Shape := ⟨4, ![4, 4, 8, 5632]⟩
abbrev S4x1x2x5632 : Shape := ⟨4, ![4, 1, 2, 5632]⟩
abbrev S4x2x5632 : Shape := ⟨3, ![4, 2, 5632]⟩

abbrev nBuf : Space → Nat
  | .hbm => 21
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S3x5632, .f32⟩
  | .hbm, ⟨10, _⟩ => ⟨S5632, .f32⟩
  | .hbm, ⟨11, _⟩ => ⟨S1x5632, .f32⟩
  | .hbm, ⟨12, _⟩ => ⟨S5632x2048, .f32⟩
  | .hbm, ⟨13, _⟩ => ⟨S5632x2048, .bf16⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S16x8x5632, .f32⟩
  | .hbm, ⟨18, _⟩ => ⟨S4x4x8x5632, .f32⟩
  | .hbm, ⟨19, _⟩ => ⟨S4x1x2x5632, .f32⟩
  | .hbm, ⟨20, _⟩ => ⟨S4x2x5632, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S1x8x512, .f32⟩
  | .local _ .vmem, ⟨18, _⟩ => ⟨S1x8x512, .f32⟩
  | .local _ .vmem, ⟨19, _⟩ => ⟨S512x2048, .f32⟩
  | .local _ .vmem, ⟨20, _⟩ => ⟨S11x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v102 : Index := Scalar.indexCast arg1
  let c0_44 : Index := 0#32
  let c0_45 : Index := 0#32
  ![v102.toNat, 0, 0]
def k0_off2 (i : grid0.Coords) : Fin 3 → Nat :=
  let arg1 : BitVec 32 := BitVec.ofNat 32 (i 1).val
  let v13 : Index := Scalar.indexCast arg1
  let c0 : Index := 0#32
  let c0_5 : Index := 0#32
  ![v13.toNat, 0, 0]
def k0_cond3 (i : grid0.Coords) : BitVec 1 :=
  let arg1 : BitVec 32 := BitVec.ofNat 32 (i 1).val
  let c10_i32 : BitVec 32 := 10#32
  let v92 : BitVec 1 := Scalar.cmpi .eq arg1 c10_i32
  let v93 : BitVec 32 := Scalar.extui v92
  let c0_i32_37 : BitVec 32 := 0#32
  let v94 : BitVec 1 := Scalar.cmpi .ne v93 c0_i32_37
  v94

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8192x2048 : Shape := ⟨2, ![8192, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S1x2048 : Shape := ⟨2, ![1, 2048]⟩
abbrev S4x2048x2048 : Shape := ⟨3, ![4, 2048, 2048]⟩
abbrev S_ : Shape := ⟨0, ![]⟩
abbrev S4x2x5632 : Shape := ⟨3, ![4, 2, 5632]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S4x2048x11264 : Shape := ⟨3, ![4, 2048, 11264]⟩
abbrev S4x2048x5632 : Shape := ⟨3, ![4, 2048, 5632]⟩
abbrev S4x2050x5632 : Shape := ⟨3, ![4, 2050, 5632]⟩
abbrev S1x1x5632 : Shape := ⟨3, ![1, 1, 5632]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S1x2048, .f32⟩
  | .hbm, ⟨7, _⟩ => ⟨S4x2048x2048, .f32⟩
  | .hbm, ⟨8, _⟩ => ⟨S8192x2048, .f32⟩
  | .hbm, ⟨9, _⟩ => ⟨S4x2048x2048, .f32⟩
  | .hbm, ⟨10, _⟩ => ⟨S_, .f32⟩
  | .hbm, ⟨11, _⟩ => ⟨S4x2x5632, .f32⟩
  | .hbm, ⟨12, _⟩ => ⟨S2048x11264, .f32⟩
  | .hbm, ⟨13, _⟩ => ⟨S3x5632, .f32⟩
  | .hbm, ⟨14, _⟩ => ⟨S5632, .f32⟩
  | .hbm, ⟨15, _⟩ => ⟨S5632x2048, .f32⟩
  | .hbm, ⟨16, _⟩ => ⟨S4x2048x11264, .f32⟩
  | .hbm, ⟨17, _⟩ => ⟨S4x2048x5632, .f32⟩
  | .hbm, ⟨18, _⟩ => ⟨S4x2048x5632, .f32⟩
  | .hbm, ⟨19, _⟩ => ⟨S4x2050x5632, .f32⟩
  | .hbm, ⟨20, _⟩ => ⟨S1x5632, .f32⟩
  | .hbm, ⟨21, _⟩ => ⟨S5632, .f32⟩
  | .hbm, ⟨22, _⟩ => ⟨S4x2048x5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S_, .f32⟩
  | .hbm, ⟨27, _⟩ => ⟨S4x2048x5632, .f32⟩
  | .hbm, ⟨28, _⟩ => ⟨S4x2048x5632, .f32⟩
  | .hbm, ⟨29, _⟩ => ⟨S1x5632, .f32⟩
  | .hbm, ⟨30, _⟩ => ⟨S5632, .f32⟩
  | .hbm, ⟨31, _⟩ => ⟨S4x2048x5632, .f32⟩
  | .hbm, ⟨32, _⟩ => ⟨S1x1x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S1x5632, .f32⟩
  | .hbm, ⟨37, _⟩ => ⟨S5632, .f32⟩
  | .hbm, ⟨38, _⟩ => ⟨S4x2048x5632, .f32⟩
  | .hbm, ⟨39, _⟩ => ⟨S1x1x5632, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S1x1x5632, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S_, .f32⟩
  | .hbm, ⟨49, _⟩ => ⟨S4x2048x5632, .f32⟩
  | .hbm, ⟨50, _⟩ => ⟨S4x2048x5632, .f32⟩
  | .hbm, ⟨51, _⟩ => ⟨S4x2048x5632, .f32⟩
  | .hbm, ⟨52, _⟩ => ⟨S_, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S_, .f32⟩
  | .hbm, ⟨57, _⟩ => ⟨S4x2048x5632, .f32⟩
  | .hbm, ⟨58, _⟩ => ⟨S4x2048x5632, .f32⟩
  | .hbm, ⟨59, _⟩ => ⟨S_, .f32⟩
  | .hbm, ⟨60, _⟩ => ⟨S4x2048x5632, .f32⟩
  | .hbm, ⟨61, _⟩ => ⟨S4x2048x5632, .f32⟩
  | .hbm, ⟨62, _⟩ => ⟨S4x2048x5632, .f32⟩
  | .hbm, ⟨63, _⟩ => ⟨S4x2048x5632, .f32⟩
  | .hbm, ⟨64, _⟩ => ⟨S4x2048x2048, .f32⟩
  | .hbm, ⟨65, _⟩ => ⟨S4x2x5632, .f32⟩
  | .hbm, ⟨66, _⟩ => ⟨S2048, .f32⟩
  | .hbm, ⟨67, _⟩ => ⟨S4x2048x2048, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x2048, .f32⟩
  | .hbm, ⟨79, _⟩ => ⟨S4x2048x2048, .f32⟩
  | .hbm, ⟨80, _⟩ => ⟨S1x1x2048, .f32⟩
  | .hbm, ⟨81, _⟩ => ⟨S4x2048x2048, .f32⟩
  | .hbm, ⟨82, _⟩ => ⟨S4x2048x2048, .f32⟩
  | .hbm, ⟨83, _⟩ => ⟨S4x2048x2048, .f32⟩
  | .hbm, ⟨84, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Kernel3.lean ====
abbrev S8704x2048 : Shape := ⟨2, ![8704, 2048]⟩
abbrev S1x2048x8480 : Shape := ⟨3, ![1, 2048, 8480]⟩
abbrev S2048x8480 : Shape := ⟨2, ![2048, 8480]⟩
abbrev S8480x2048 : Shape := ⟨2, ![8480, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x8480, .f32⟩
  | .hbm, ⟨2, _⟩ => ⟨S2048x8480, .f32⟩
  | .hbm, ⟨3, _⟩ => ⟨S8480x2048, .f32⟩
  | .hbm, ⟨4, _⟩ => ⟨S8704x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .f32⟩
  | .local _ .vmem, ⟨3, _⟩ => ⟨S1024x2048, .f32⟩
  | .local _ .vmem, ⟨4, _⟩ => ⟨S1088x1024, .f32⟩
  | .local _ .vmem, ⟨5, _⟩ => ⟨S1088x1024, .f32⟩
  | .local _ .vmem, ⟨6, _⟩ => ⟨S1024x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi c128_i32_0 v0
  let c8_i32 : BitVec 32 := 8#32
  let v2 : BitVec 32 := Scalar.muli c8_i32 v1
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8704x2048 : Shape := ⟨2, ![8704, 2048]⟩
abbrev S1x2048x8480 : Shape := ⟨3, ![1, 2048, 8480]⟩
abbrev S2048x8480 : Shape := ⟨2, ![2048, 8480]⟩
abbrev S8704x8480 : Shape := ⟨2, ![8704, 8480]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x8480, .f32⟩
  | .hbm, ⟨2, _⟩ => ⟨S8704x2048, .f32⟩
  | .hbm, ⟨3, _⟩ => ⟨S2048x8480, .f32⟩
  | .hbm, ⟨4, _⟩ => ⟨S8704x8480, .f32⟩
  | .hbm, ⟨5, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S4x2048x2048 : Shape := ⟨3, ![4, 2048, 2048]⟩
abbrev S128x4x2048 : Shape := ⟨3, ![128, 4, 2048]⟩
abbrev S1x2048 : Shape := ⟨2, ![1, 2048]⟩
abbrev S1x2048x8480 : Shape := ⟨3, ![1, 2048, 8480]⟩
abbrev S2048x8480 : Shape := ⟨2, ![2048, 8480]⟩
abbrev S8480x2048 : Shape := ⟨2, ![8480, 2048]⟩
abbrev S8192x2048 : Shape := ⟨2, ![8192, 2048]⟩
abbrev S512x2048 : Shape := ⟨2, ![512, 2048]⟩
abbrev S2048 : Shape := ⟨1, ![2048]⟩
abbrev S8704x2048 : Shape := ⟨2, ![8704, 2048]⟩
abbrev S8704x1024 : Shape := ⟨2, ![8704, 1024]⟩
abbrev S8704x384 : Shape := ⟨2, ![8704, 384]⟩
abbrev S1024x2048 : Shape := ⟨2, ![1024, 2048]⟩
abbrev S384x2048 : Shape := ⟨2, ![384, 2048]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048, .f32⟩
  | .hbm, ⟨3, _⟩ => ⟨S1x2048x8480, .f32⟩
  | .hbm, ⟨4, _⟩ => ⟨S2048x8480, .f32⟩
  | .hbm, ⟨5, _⟩ => ⟨S8480x2048, .f32⟩
  | .hbm, ⟨6, _⟩ => ⟨S8192x2048, .f32⟩
  | .hbm, ⟨7, _⟩ => ⟨S512x2048, .f32⟩
  | .hbm, ⟨8, _⟩ => ⟨S2048, .f32⟩
  | .hbm, ⟨9, _⟩ => ⟨S1x2048, .f32⟩
  | .hbm, ⟨10, _⟩ => ⟨S8704x2048, .bf16⟩
  | .hbm, ⟨11, _⟩ => ⟨S8704x1024, .f32⟩
  | .hbm, ⟨12, _⟩ => ⟨S8704x384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1024x2048, .f32⟩
  | .local _ .vmem, ⟨6, _⟩ => ⟨S384x2048, .f32⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S512x384, .f32⟩
  | .local _ .vmem, ⟨12, _⟩ => ⟨S512x384, .f32⟩
  | .local _ .vmem, ⟨13, _⟩ => ⟨S1024x2048, .bf16⟩
  | .local _ .vmem, ⟨14, _⟩ => ⟨S384x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x2048x2048 : Shape := ⟨3, ![4, 2048, 2048]⟩
abbrev S128x4x2048 : Shape := ⟨3, ![128, 4, 2048]⟩
abbrev S1x2048 : Shape := ⟨2, ![1, 2048]⟩
abbrev S1x2048x8480 : Shape := ⟨3, ![1, 2048, 8480]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S128x4 : Shape := ⟨2, ![128, 4]⟩
abbrev S128x4x1 : Shape := ⟨3, ![128, 4, 1]⟩
abbrev S8192x2048 : Shape := ⟨2, ![8192, 2048]⟩
abbrev S512x2048 : Shape := ⟨2, ![512, 2048]⟩
abbrev S8704x2048 : Shape := ⟨2, ![8704, 2048]⟩
abbrev S2048x8480 : Shape := ⟨2, ![2048, 8480]⟩
abbrev S8704x8480 : Shape := ⟨2, ![8704, 8480]⟩
abbrev S8704x1024 : Shape := ⟨2, ![8704, 1024]⟩
abbrev S8704x384 : Shape := ⟨2, ![8704, 384]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048, .f32⟩
  | .hbm, ⟨3, _⟩ => ⟨S1x2048x8480, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048, .f32⟩
  | .hbm, ⟨22, _⟩ => ⟨S128x4x2048, .f32⟩
  | .hbm, ⟨23, _⟩ => ⟨S_, .f32⟩
  | .hbm, ⟨24, _⟩ => ⟨S128x4, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S128x4x1, .f32⟩
  | .hbm, ⟨33, _⟩ => ⟨S128x4x2048, .f32⟩
  | .hbm, ⟨34, _⟩ => ⟨S128x4x2048, .f32⟩
  | .hbm, ⟨35, _⟩ => ⟨S1x1x2048, .f32⟩
  | .hbm, ⟨36, _⟩ => ⟨S128x4x2048, .f32⟩
  | .hbm, ⟨37, _⟩ => ⟨S128x4x2048, .f32⟩
  | .hbm, ⟨38, _⟩ => ⟨S8192x2048, .f32⟩
  | .hbm, ⟨39, _⟩ => ⟨S512x2048, .f32⟩
  | .hbm, ⟨40, _⟩ => ⟨S8704x2048, .f32⟩
  | .hbm, ⟨41, _⟩ => ⟨S2048x8480, .f32⟩
  | .hbm, ⟨42, _⟩ => ⟨S8704x8480, .f32⟩
  | .hbm, ⟨43, _⟩ => ⟨S8704x2048, .bf16⟩
  | .hbm, ⟨44, _⟩ => ⟨S8704x1024, .f32⟩
  | .hbm, ⟨45, _⟩ => ⟨S8704x384, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel5.lean ====
abbrev S512x2048 : Shape := ⟨2, ![512, 2048]⟩
abbrev S1x128x2x5632 : Shape := ⟨4, ![1, 128, 2, 5632]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S1x2048 : Shape := ⟨2, ![1, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S128x2x5632 : Shape := ⟨3, ![128, 2, 5632]⟩
abbrev S128x2x512 : Shape := ⟨3, ![128, 2, 512]⟩
abbrev S2048x512 : Shape := ⟨2, ![2048, 512]⟩
abbrev S3x512 : Shape := ⟨2, ![3, 512]⟩
abbrev S1x512 : Shape := ⟨2, ![1, 512]⟩
abbrev S4x512x128 : Shape := ⟨3, ![4, 512, 128]⟩
abbrev S128x1x512 : Shape := ⟨3, ![128, 1, 512]⟩
abbrev S128x512 : Shape := ⟨2, ![128, 512]⟩
abbrev S512x512 : Shape := ⟨2, ![512, 512]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩

abbrev nBuf : Space → Nat
  | .hbm => 20
  | .vmem => 22
  | .smem => 0
  | _ => 0

abbrev bufTy : (tb : Table) → Fin (tcTables nBuf tb) → BufTy
  | .hbm, ⟨0, _⟩ => ⟨S512x2048, .f32⟩
  | .hbm, ⟨1, _⟩ => ⟨S512x2048, .bf16⟩
  | .hbm, ⟨2, _⟩ => ⟨S1x128x2x5632, .f32⟩
  | .hbm, ⟨3, _⟩ => ⟨S1x2048x11264, .f32⟩
  | .hbm, ⟨4, _⟩ => ⟨S1x3x5632, .f32⟩
  | .hbm, ⟨5, _⟩ => ⟨S1x5632, .f32⟩
  | .hbm, ⟨6, _⟩ => ⟨S1x5632x2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S3x5632, .f32⟩
  | .hbm, ⟨11, _⟩ => ⟨S5632, .f32⟩
  | .hbm, ⟨12, _⟩ => ⟨S1x5632, .f32⟩
  | .hbm, ⟨13, _⟩ => ⟨S5632x2048, .f32⟩
  | .hbm, ⟨14, _⟩ => ⟨S5632x2048, .bf16⟩
  | .hbm, ⟨15, _⟩ => ⟨S2048, .f32⟩
  | .hbm, ⟨16, _⟩ => ⟨S1x2048, .f32⟩
  | .hbm, ⟨17, _⟩ => ⟨S128x2x5632, .f32⟩
  | .hbm, ⟨18, _⟩ => ⟨S512x2048, .f32⟩
  | .hbm, ⟨19, _⟩ => ⟨S128x2x5632, .f32⟩
  | .local _ .vmem, ⟨0, _⟩ => ⟨S512x2048, .f32⟩
  | .local _ .vmem, ⟨1, _⟩ => ⟨S128x2x512, .f32⟩
  | .local _ .vmem, ⟨2, _⟩ => ⟨S128x2x512, .f32⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | .local _ .vmem, ⟨16, _⟩ => ⟨S128x2x512, .f32⟩
  | .local _ .vmem, ⟨17, _⟩ => ⟨S128x2x512, .f32⟩
  | .local _ .vmem, ⟨18, _⟩ => ⟨S512x2048, .f32⟩
  | .local _ .vmem, ⟨19, _⟩ => ⟨S4x512x128, .f32⟩
  | .local _ .vmem, ⟨20, _⟩ => ⟨S4x512x128, .f32⟩
  | .local _ .vmem, ⟨21, _⟩ => ⟨S4x512x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v194 : BitVec 1 := Scalar.cmpi .eq arg1 c10_i32
  let v195 : BitVec 32 := Scalar.extui v194
  let c0_i32_151 : BitVec 32 := 0#32
  let v196 : BitVec 1 := Scalar.cmpi .ne v195 c0_i32_151
  v196

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference5Ideal.lean ====
abbrev S512x2048 : Shape := ⟨2, ![512, 2048]⟩
abbrev S1x128x2x5632 : Shape := ⟨4, ![1, 128, 2, 5632]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S1x2048 : Shape := ⟨2, ![1, 2048]⟩
abbrev S128x4x2048 : Shape := ⟨3, ![128, 4, 2048]⟩
abbrev S128x2x5632 : Shape := ⟨3, ![128, 2, 5632]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S128x4x11264 : Shape := ⟨3, ![128, 4, 11264]⟩
abbrev S128x4x5632 : Shape := ⟨3, ![128, 4, 5632]⟩
abbrev S128x6x5632 : Shape := ⟨3, ![128, 6, 5632]⟩
abbrev S1x1x5632 : Shape := ⟨3, ![1, 1, 5632]⟩
abbrev S_ : Shape := ⟨0, ![]⟩
abbrev S2048 : Shape := ⟨1, ![2048]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .bf16⟩
  | .hbm, ⟨2, _⟩ => ⟨S1x128x2x5632, .f32⟩
  | .hbm, ⟨3, _⟩ => ⟨S1x2048x11264, .f32⟩
  | .hbm, ⟨4, _⟩ => ⟨S1x3x5632, .f32⟩
  | .hbm, ⟨5, _⟩ => ⟨S1x5632, .f32⟩
  | .hbm, ⟨6, _⟩ => ⟨S1x5632x2048, .f32⟩
  | .hbm, ⟨7, _⟩ => ⟨S1x2048, .f32⟩
  | .hbm, ⟨8, _⟩ => ⟨S128x4x2048, .f32⟩
  | .hbm, ⟨9, _⟩ => ⟨S512x2048, .f32⟩
  | .hbm, ⟨10, _⟩ => ⟨S128x4x2048, .f32⟩
  | .hbm, ⟨11, _⟩ => ⟨S128x2x5632, .f32⟩
  | .hbm, ⟨12, _⟩ => ⟨S2048x11264, .f32⟩
  | .hbm, ⟨13, _⟩ => ⟨S3x5632, .f32⟩
  | .hbm, ⟨14, _⟩ => ⟨S5632, .f32⟩
  | .hbm, ⟨15, _⟩ => ⟨S5632x2048, .f32⟩
  | .hbm, ⟨16, _⟩ => ⟨S128x4x11264, .f32⟩
  | .hbm, ⟨17, _⟩ => ⟨S128x4x5632, .f32⟩
  | .hbm, ⟨18, _⟩ => ⟨S128x4x5632, .f32⟩
  | .hbm, ⟨19, _⟩ => ⟨S128x6x5632, .f32⟩
  | .hbm, ⟨20, _⟩ => ⟨S1x5632, .f32⟩
  | .hbm, ⟨21, _⟩ => ⟨S5632, .f32⟩
  | .hbm, ⟨22, _⟩ => ⟨S128x4x5632, .f32⟩
  | .hbm, ⟨23, _⟩ => ⟨S1x1x5632, .f32⟩
  | .hbm, ⟨24, _⟩ => ⟨S128x4x5632, .f32⟩
  | .hbm, ⟨25, _⟩ => ⟨S128x4x5632, .f32⟩
  | .hbm, ⟨26, _⟩ => ⟨S_, .f32⟩
  | .hbm, ⟨27, _⟩ => ⟨S128x4x5632, .f32⟩
  | .hbm, ⟨28, _⟩ => ⟨S128x4x5632, .f32⟩
  | .hbm, ⟨29, _⟩ => ⟨S1x5632, .f32⟩
  | .hbm, ⟨30, _⟩ => ⟨S5632, .f32⟩
  | .hbm, ⟨31, _⟩ => ⟨S128x4x5632, .f32⟩
  | .hbm, ⟨32, _⟩ => ⟨S1x1x5632, .f32⟩
  | .hbm, ⟨33, _⟩ => ⟨S128x4x5632, .f32⟩
  | .hbm, ⟨34, _⟩ => ⟨S128x4x5632, .f32⟩
  | .hbm, ⟨35, _⟩ => ⟨S128x4x5632, .f32⟩
  | .hbm, ⟨36, _⟩ => ⟨S1x5632, .f32⟩
  | .hbm, ⟨37, _⟩ => ⟨S5632, .f32⟩
  | .hbm, ⟨38, _⟩ => ⟨S128x4x5632, .f32⟩
  | .hbm, ⟨39, _⟩ => ⟨S1x1x5632, .f32⟩
  | .hbm, ⟨40, _⟩ => ⟨S128x4x5632, .f32⟩
  | .hbm, ⟨41, _⟩ => ⟨S128x4x5632, .f32⟩
  | .hbm, ⟨42, _⟩ => ⟨S128x4x5632, .f32⟩
  | .hbm, ⟨43, _⟩ => ⟨S1x1x5632, .f32⟩
  | .hbm, ⟨44, _⟩ => ⟨S128x4x5632, .f32⟩
  | .hbm, ⟨45, _⟩ => ⟨S128x4x5632, .f32⟩
  | .hbm, ⟨46, _⟩ => ⟨S128x4x5632, .f32⟩
  | .hbm, ⟨47, _⟩ => ⟨S128x4x5632, .f32⟩
  | .hbm, ⟨48, _⟩ => ⟨S_, .f32⟩
  | .hbm, ⟨49, _⟩ => ⟨S128x4x5632, .f32⟩
  | .hbm, ⟨50, _⟩ => ⟨S128x4x5632, .f32⟩
  | .hbm, ⟨51, _⟩ => ⟨S128x4x5632, .f32⟩
  | .hbm, ⟨52, _⟩ => ⟨S_, .f32⟩
  | .hbm, ⟨53, _⟩ => ⟨S128x4x5632, .f32⟩
  | .hbm, ⟨54, _⟩ => ⟨S128x4x5632, .f32⟩
  | .hbm, ⟨55, _⟩ => ⟨S128x4x5632, .f32⟩
  | .hbm, ⟨56, _⟩ => ⟨S_, .f32⟩
  | .hbm, ⟨57, _⟩ => ⟨S128x4x5632, .f32⟩
  | .hbm, ⟨58, _⟩ => ⟨S128x4x5632, .f32⟩
  | .hbm, ⟨59, _⟩ => ⟨S_, .f32⟩
  | .hbm, ⟨60, _⟩ => ⟨S128x4x5632, .f32⟩
  | .hbm, ⟨61, _⟩ => ⟨S128x4x5632, .f32⟩
  | .hbm, ⟨62, _⟩ => ⟨S128x4x5632, .f32⟩
  | .hbm, ⟨63, _⟩ => ⟨S128x4x5632, .f32⟩
  | .hbm, ⟨64, _⟩ => ⟨S128x4x2048, .f32⟩
  | .hbm, ⟨65, _⟩ => ⟨S128x2x5632, .f32⟩
  | .hbm, ⟨66, _⟩ => ⟨S2048, .f32⟩
  | .hbm, ⟨67, _⟩ => ⟨S128x4x2048, .f32⟩
  | .hbm, ⟨68, _⟩ => ⟨S_, .f32⟩
  | .hbm, ⟨69, _⟩ => ⟨S128x4, .f32⟩
  | .hbm, ⟨70, _⟩ => ⟨S128x4x1, .f32⟩
  | .hbm, ⟨71, _⟩ => ⟨S_, .f32⟩
  | .hbm, ⟨72, _⟩ => ⟨S128x4x1, .f32⟩
  | .hbm, ⟨73, _⟩ => ⟨S128x4x1, .f32⟩
  | .hbm, ⟨74, _⟩ => ⟨S_, .f32⟩
  | .hbm, ⟨75, _⟩ => ⟨S128x4x1, .f32⟩
  | .hbm, ⟨76, _⟩ => ⟨S128x4x1, .f32⟩
  | .hbm, ⟨77, _⟩ => ⟨S128x4x1, .f32⟩
  | .hbm, ⟨78, _⟩ => ⟨S128x4x2048, .f32⟩
  | .hbm, ⟨79, _⟩ => ⟨S128x4x2048, .f32⟩
  | .hbm, ⟨80, _⟩ => ⟨S1x1x2048, .f32⟩
  | .hbm, ⟨81, _⟩ => ⟨S128x4x2048, .f32⟩
  | .hbm, ⟨82, _⟩ => ⟨S128x4x2048, .f32⟩
  | .hbm, ⟨83, _⟩ => ⟨S128x4x2048, .f32⟩
  | .hbm, ⟨84, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Proof.Body.lean ====
module

public import proofs.«01_k».proof.Proof.Gen.KernelIdeal.Frame

@[expose] public section

set_option synthInstance.maxSize 4096

noncomputable section

namespace Cert.KernelIdeal.Hand

open Idealize.ShloMosaic Idealize.SL.Sem Cert.KernelIdeal Facts₀ Facts

variable {F : FTy → Type} [FloatOps F] [Facts]

/-- The kernel's programs. -/
abbrev P0 (F : FTy → Type) [FloatOps F] := Prog (TpuEff nD τ sig (Elt F) Λ₀ .tc) PUnit

/-- The state after one token: `s·w + sa·b + v·k`. -/
def nextState (s : FVec F S64x128 .f32) (x3 : Vec F S1x1x64x128 .f32) (xv : Vec F S1x1x128 .f32)
    (x1 x4 x2 : Vec F S1x1x64x128 .f32) : FVec F S64x128 .f32 :=
  addf (addf (mulf s (shapeCast S64x128 x1 shapeCasts_S1x1x64x128_S64x128))
      (mulf (broadcastTo S64x128 (shapeCast S1x128 (multiReduction .add [0] S128
          (mulf s (shapeCast S64x128 x3 shapeCasts_S1x1x64x128_S64x128)) 0x00000000#32
          reduces_S64x128_S128 (.inl rfl) rfl) shapeCasts_S128_S1x128) broadcasts_S1x128_S64x128)
        (shapeCast S64x128 x4 shapeCasts_S1x1x64x128_S64x128)))
    (mulf (broadcastTo S64x128 (shapeCast S1x128 xv shapeCasts_S1x1x128_S1x128)
        broadcasts_S1x128_S64x128) (shapeCast S64x128 x2 shapeCasts_S1x1x64x128_S64x128))

/-- The output row of a token: the column sums of `s·r`. -/
def outRow (s : FVec F S64x128 .f32) (x0 : Vec F S1x1x64x128 .f32) : FVec F S1x1x128 .f32 :=
  shapeCast S1x1x128 (shapeCast S1x128 (multiReduction .add [0] S128
    (mulf s (shapeCast S64x128 x0 shapeCasts_S1x1x64x128_S64x128)) 0x00000000#32
    reduces_S64x128_S128 (.inl rfl) rfl) shapeCasts_S128_S1x128) shapeCasts_S1x128_S1x1x128

section
variable (arg10 : Memref sig .tc .vmem S1x32x64x128 .f32)
  (arg13 : Memref sig .tc .vmem S1x32x64x128 .f32) (arg15 : Memref sig .tc .vmem S5x4x128x128 .f32)
  (arg16 : Memref sig .tc .vmem S4x128x128 .f32) (arg17 : Memref sig .tc .vmem S4x128x128 .f32)

/-- One token of one value column, before the rest `k` of the program. -/
def tokenP (o3 o1 o4 o2 o0 : Fin 4 → Nat) (ov : Fin 3 → Nat)
    (p3 : ∀ a, o3 a + S1x1x64x128.size a ≤ S5x4x128x128.size a)
    (p1 : ∀ a, o1 a + S1x1x64x128.size a ≤ S5x4x128x128.size a)
    (p4 : ∀ a, o4 a + S1x1x64x128.size a ≤ S5x4x128x128.size a)
    (p2 : ∀ a, o2 a + S1x1x64x128.size a ≤ S5x4x128x128.size a)
    (p0 : ∀ a, o0 a + S1x1x64x128.size a ≤ S5x4x128x128.size a)
    (pv : ∀ a, ov a + S1x1x128.size a ≤ S4x128x128.size a)
    (s : FVec F S64x128 .f32) (k : FVec F S64x128 .f32 → P0 F) : P0 F := do
  let x3 : Vec F S1x1x64x128 .f32 ← Prog.lift (.load arg15 (Rect.unit (s := S5x4x128x128) o3 S1x1x64x128.size p3).toLoadRect (View.loadsAt_vmem h_S1x1x64x128))
  let xv : Vec F S1x1x128 .f32 ← Prog.lift (.load arg16 (Rect.unit (s := S4x128x128) ov S1x1x128.size pv).toLoadRect (View.loadsAt_vmem h_S1x1x128))
  let x1 : Vec F S1x1x64x128 .f32 ← Prog.lift (.load arg15 (Rect.unit (s := S5x4x128x128) o1 S1x1x64x128.size p1).toLoadRect (View.loadsAt_vmem h_S1x1x64x128))
  let x4 : Vec F S1x1x64x128 .f32 ← Prog.lift (.load arg15 (Rect.unit (s := S5x4x128x128) o4 S1x1x64x128.size p4).toLoadRect (View.loadsAt_vmem h_S1x1x64x128))
  let x2 : Vec F S1x1x64x128 .f32 ← Prog.lift (.load arg15 (Rect.unit (s := S5x4x128x128) o2 S1x1x64x128.size p2).toLoadRect (View.loadsAt_vmem h_S1x1x64x128))
  let x0 : Vec F S1x1x64x128 .f32 ← Prog.lift (.load arg15 (Rect.unit (s := S5x4x128x128) o0 S1x1x64x128.size p0).toLoadRect (View.loadsAt_vmem h_S1x1x64x128))
  let _y : Vec F S1x1x128 .f32 ← Prog.lift (.load arg17 (Rect.unit (s := S4x128x128) ov S1x1x128.size pv).toLoadRect (View.loadsAt_vmem h_S1x1x128))
  Prog.lift (.store arg17 (Rect.unit (s := S4x128x128) ov S1x1x128.size pv) (outRow (nextState s x3 xv x1 x4 x2) x0) Finset.univ (View.stores_vmem_bits_univ h_S1x1x128 rfl) (.inl rfl))
  k (nextState s x3 xv x1 x4 x2)

/-- Row `vi` of the state slab. -/
def slabOff (vi : Fin 32) : Fin 4 → Nat := ![0, vi.val, 0, 0]

theorem slabOff_inb (vi : Fin 32) : ∀ a, slabOff vi a + S1x1x64x128.size a ≤ S1x32x64x128.size a := by
  revert vi; decide

/-- One value column: its four tokens between the load of its state and the store of the last. -/
def iterP (i : grid0.Coords) (h2 : k0_cond2 i = 1#1) (vi : Fin 32) (K : P0 F) : P0 F := do
  let s : Vec F S1x1x64x128 .f32 ← Prog.lift (.load arg10 (Rect.unit (s := S1x32x64x128) (slabOff vi) S1x1x64x128.size (slabOff_inb vi)).toLoadRect (View.loadsAt_vmem h_S1x1x64x128))
  tokenP arg15 arg16 arg17 (k0_off1 i) (k0_off3 i) (k0_off4 i) (k0_off5 i) (k0_off6 i) (k0_off2 i (BitVec.ofNat 32 vi.val)) (k0_off1_inb i h2) (k0_off3_inb i h2) (k0_off4_inb i h2) (k0_off5_inb i h2) (k0_off6_inb i h2) (k0_off2_inb i h2 vi) (shapeCast S64x128 s shapeCasts_S1x1x64x128_S64x128) fun s =>
   tokenP arg15 arg16 arg17 (k0_off7 i) (k0_off9 i) (k0_off10 i) (k0_off11 i) (k0_off12 i) (k0_off8 i (BitVec.ofNat 32 vi.val)) (k0_off7_inb i h2) (k0_off9_inb i h2) (k0_off10_inb i h2) (k0_off11_inb i h2) (k0_off12_inb i h2) (k0_off8_inb i h2 vi) s fun s =>
   tokenP arg15 arg16 arg17 (k0_off13 i) (k0_off15 i) (k0_off16 i) (k0_off17 i) (k0_off18 i) (k0_off14 i (BitVec.ofNat 32 vi.val)) (k0_off13_inb i h2) (k0_off15_inb i h2) (k0_off16_inb i h2) (k0_off17_inb i h2) (k0_off18_inb i h2) (k0_off14_inb i h2 vi) s fun s =>
   tokenP arg15 arg16 arg17 (k0_off19 i) (k0_off21 i) (k0_off22 i) (k0_off23 i) (k0_off24 i) (k0_off20 i (BitVec.ofNat 32 vi.val)) (k0_off19_inb i h2) (k0_off21_inb i h2) (k0_off22_inb i h2) (k0_off23_inb i h2) (k0_off24_inb i h2) (k0_off20_inb i h2 vi) s fun s => do
    let _s : Vec F S1x1x64x128 .f32 ← Prog.lift (.load arg13 (Rect.unit (s := S1x32x64x128) (slabOff vi) S1x1x64x128.size (slabOff_inb vi)).toLoadRect (View.loadsAt_vmem h_S1x1x64x128))
    Prog.lift (.store arg13 (Rect.unit (s := S1x32x64x128) (slabOff vi) S1x1x64x128.size (slabOff_inb vi)) (shapeCast S1x1x64x128 s shapeCasts_S64x128_S1x1x64x128) Finset.univ (View.stores_vmem_bits_univ h_S1x1x64x128 rfl) (.inl rfl))
    K

end

section
variable (arg2 : Memref sig .tc .vmem S1088x2048 .bf16) (arg11 : Memref sig .tc .vmem S1088x1024 .f32)
  (arg14 : Memref sig .tc .vmem S1024x2048 .bf16)

/-- Quarter `p` of the weight rows. -/
def wOff (p : Fin 4) : Fin 2 → Nat := ![256 * p.val, 0]

theorem wOff_inb (p : Fin 4) : ∀ a, wOff p a + S256x2048.size a ≤ S1024x2048.size a := by
  revert p; decide

/-- Quarter `p` of the projection's columns. -/
def zOff (p : Fin 4) : Fin 2 → Nat := ![0, 256 * p.val]

theorem zOff_inb (p : Fin 4) : ∀ a, zOff p a + S1088x256.size a ≤ S1088x1024.size a := by
  revert p; decide

/-- One quarter of the projection before the rest `K`. -/
def projP (p : Fin 4) (K : P0 F) : P0 F := do
  let x : Vec F S1088x2048 .bf16 ← Prog.lift (.load arg2 (Rect.unit (s := S1088x2048) ![0, 0] S1088x2048.size inb_S1088x2048_S1088x2048_0_0).toLoadRect (View.loadsAt_vmem h_S1088x2048))
  let w : Vec F S256x2048 .bf16 ← Prog.lift (.load arg14 (Rect.unit (s := S1024x2048) (wOff p) S256x2048.size (wOff_inb p)).toLoadRect (View.loadsAt_vmem h_S256x2048))
  let _z : Vec F S1088x256 .f32 ← Prog.lift (.load arg11 (Rect.unit (s := S1088x1024) (zOff p) S1088x256.size (zOff_inb p)).toLoadRect (View.loadsAt_vmem h_S1088x256))
  Prog.lift (.store arg11 (Rect.unit (s := S1088x1024) (zOff p) S1088x256.size (zOff_inb p)) (matmul dot_S1088x2048_S256x2048_S1088x256_1_1_0_0_n_n none x w (constant S1088x256 .f32 0x00000000#32)) Finset.univ (View.stores_vmem_bits_univ h_S1088x256 rfl) (.inl rfl))
  K

end

section
variable (arg4 arg5 arg6 arg7 arg8 arg9 : Memref sig .tc .vmem S512x128 .f32)
  (arg15 : Memref sig .tc .vmem S5x4x128x128 .f32) (arg16 : Memref sig .tc .vmem S4x128x128 .f32)

/-- The rows of token `t`: one row in four, from `t`. -/
def rowOff (t : Fin 4) : Fin 2 → Nat := ![t.val, 0]

theorem rowOff_inb (t : Fin 4) : ∀ a, S128x128.size a = 0 ∨ rowOff t a + (![4, 1] : Fin 2 → Nat) a * (S128x128.size a - 1) < S512x128.size a := by
  revert t; decide

/-- Plane `q` of token `t`. -/
def opOff (q : Fin 5) (t : Fin 4) : Fin 4 → Nat := ![q.val, t.val, 0, 0]

theorem opOff_inb (q : Fin 5) (t : Fin 4) : ∀ a, opOff q t a + S1x1x128x128.size a ≤ S5x4x128x128.size a := by
  revert q t; decide

/-- Plane of token `t`. -/
def vtOff (t : Fin 4) : Fin 3 → Nat := ![t.val, 0, 0]

theorem vtOff_inb (t : Fin 4) : ∀ a, vtOff t a + S1x128x128.size a ≤ S4x128x128.size a := by
  revert t; decide

/-- The rows of token `t` of `src`, through `f`, transposed into plane `q`, before the rest `K`. -/
def planeP (src : Memref sig .tc .vmem S512x128 .f32) (f : FVec F S128x128 .f32 → FVec F S128x128 .f32)
    (q : Fin 5) (t : Fin 4) (K : P0 F) : P0 F := do
  let x : Vec F S128x128 .f32 ← Prog.lift (.load src (⟨rowOff t, S128x128.size, ![4, 1], rowOff_inb t⟩ : LoadRect S512x128) (View.loadsAt_vmem h_S128x128))
  let _x : Vec F S1x1x128x128 .f32 ← Prog.lift (.load arg15 (Rect.unit (s := S5x4x128x128) (opOff q t) S1x1x128x128.size (opOff_inb q t)).toLoadRect (View.loadsAt_vmem h_S1x1x128x128))
  Prog.lift (.store arg15 (Rect.unit (s := S5x4x128x128) (opOff q t) S1x1x128x128.size (opOff_inb q t)) (shapeCast S1x1x128x128 (transpose S128x128 [1, 0] (f x) transposes_S128x128_p1_0_S128x128) shapeCasts_S128x128_S1x1x128x128) Finset.univ (View.stores_vmem_bits_univ h_S1x1x128x128 rfl) (.inl rfl))
  K

/-- The rows of token `t` of `arg7` transposed into `arg16`, before the rest `K`. -/
def vplaneP (t : Fin 4) (K : P0 F) : P0 F := do
  let x : Vec F S128x128 .f32 ← Prog.lift (.load arg7 (⟨rowOff t, S128x128.size, ![4, 1], rowOff_inb t⟩ : LoadRect S512x128) (View.loadsAt_vmem h_S128x128))
  let _x : Vec F S1x128x128 .f32 ← Prog.lift (.load arg16 (Rect.unit (s := S4x128x128) (vtOff t) S1x128x128.size (vtOff_inb t)).toLoadRect (View.loadsAt_vmem h_S1x128x128))
  Prog.lift (.store arg16 (Rect.unit (s := S4x128x128) (vtOff t) S1x128x128.size (vtOff_inb t)) (shapeCast S1x128x128 (transpose S128x128 [1, 0] x transposes_S128x128_p1_0_S128x128) shapeCasts_S128x128_S1x128x128) Finset.univ (View.stores_vmem_bits_univ h_S1x128x128 rfl) (.inl rfl))
  K

/-- The six planes of token `t`. -/
def prologueP (t : Fin 4) (K : P0 F) : P0 F :=
  planeP arg15 arg4 id 0 t <| planeP arg15 arg5 exp 1 t <| planeP arg15 arg6 id 2 t <|
    planeP arg15 arg8 id 3 t <| planeP arg15 arg9 id 4 t <| vplaneP arg7 arg16 t K

end

section
variable (arg12 : Memref sig .tc .vmem S512x128 .f32) (arg17 : Memref sig .tc .vmem S4x128x128 .f32)

/-- Plane `t` of `arg17` transposed into the rows of token `t`, before the rest `K`. -/
def epilogueP (t : Fin 4) (K : P0 F) : P0 F := do
  let x : Vec F S1x128x128 .f32 ← Prog.lift (.load arg17 (Rect.unit (s := S4x128x128) (vtOff t) S1x128x128.size (vtOff_inb t)).toLoadRect (View.loadsAt_vmem h_S1x128x128))
  let _x : Vec F S128x128 .f32 ← Prog.lift (.load arg12 (⟨rowOff t, S128x128.size, ![4, 1], rowOff_inb t⟩ : LoadRect S512x128) (View.loadsAt_vmem h_S128x128))
  Prog.lift (.store arg12 ⟨(⟨rowOff t, S128x128.size, ![4, 1], rowOff_inb t⟩ : LoadRect S512x128), spos_4_1⟩ (transpose S128x128 [1, 0] (shapeCast S128x128 x shapeCasts_S1x128x128_S128x128) transposes_S128x128_p1_0_S128x128) Finset.univ (View.stores_vmem_bits_univ h_S128x128 rfl) (.inl rfl))
  K

end

/-- `A` where `c` holds, before the rest `K`. -/
def whenP (c : Prop) [Decidable c] (A : c → P0 F → P0 F) (K : P0 F) : P0 F :=
  if h : c then A h K else K

/-- The number of the inner step, compared with zero. -/
def cond1 (i : grid0.Coords) : BitVec 1 :=
  Scalar.cmpi .ne (Scalar.extui (Scalar.cmpi .eq (BitVec.ofNat 32 (i 1).val) 0#32) : BitVec 32) 0#32

/-- The step's place in its group of four. -/
def subIdx (i : grid0.Coords) : BitVec 32 :=
  let v4 : BitVec 32 := Scalar.addi (Scalar.muli (BitVec.ofNat 32 (i 0).val) 8#32) (BitVec.ofNat 32 (i 1).val)
  let v12 : BitVec 32 := Scalar.select (Scalar.cmpi .eq 4#32 0#32) 1#32 4#32
  let v13 : BitVec 32 := Scalar.remsi v4 v12
  Scalar.select (Scalar.andi (Scalar.xori (Scalar.cmpi .slt v13 0#32) (Scalar.cmpi .slt v12 0#32))
    (Scalar.cmpi .ne v13 0#32)) (Scalar.addi v13 v12) v13

/-- The step's place in its group of four, compared with zero. -/
def cond3 (i : grid0.Coords) : BitVec 1 :=
  Scalar.cmpi .ne (Scalar.extui (Scalar.cmpi .eq (subIdx i) 0#32) : BitVec 32) 0#32

/-- The cast of the weight tile. -/
def castP (arg3 : Memref sig .tc .vmem S1024x2048 .f32) (arg14 : Memref sig .tc .vmem S1024x2048 .bf16)
    (harg14 : arg14.IsWhole) (K : P0 F) : P0 F := do
  let x : Vec F S1024x2048 .f32 ← Prog.lift (.load arg3 (Rect.unit (s := S1024x2048) ![0, 0] S1024x2048.size inb_S1024x2048_S1024x2048_0_0).toLoadRect (View.loadsAt_vmem h_S1024x2048))
  let _x : Vec F S1024x2048 .bf16 ← Prog.lift (.load arg14 (Rect.unit (s := S1024x2048) ![0, 0] S1024x2048.size inb_S1024x2048_S1024x2048_0_0).toLoadRect (View.loadsAt_vmem h_S1024x2048))
  Prog.lift (.store arg14 (Rect.unit (s := S1024x2048) ![0, 0] S1024x2048.size inb_S1024x2048_S1024x2048_0_0) (shapeCast S1024x2048 (truncf .bf16 (shapeCast S1024x2048 x shapeCasts_S1024x2048_S1024x2048) bitsLt_bf16_f32) shapeCasts_S1024x2048_S1024x2048) Finset.univ (View.stores_vmem h_S1024x2048 (harg14.storeExact_slice rfl _ packedbf16_S1024x2048_S1024x2048_0_0) (fun _ => rfl)) (.inl rfl))
  K

section
variable (i : grid0.Coords) (arg2 : Memref sig .tc .vmem S1088x2048 .bf16)
  (arg10 : Memref sig .tc .vmem S1x32x64x128 .f32) (arg11 : Memref sig .tc .vmem S1088x1024 .f32)
  (arg13 : Memref sig .tc .vmem S1x32x64x128 .f32) (arg14 : Memref sig .tc .vmem S1024x2048 .bf16)
  (arg15 : Memref sig .tc .vmem S5x4x128x128 .f32)
  (arg16 : Memref sig .tc .vmem S4x128x128 .f32) (arg17 : Memref sig .tc .vmem S4x128x128 .f32)
  (h2 : k0_cond2 i = 1#1)

/-- Value columns `8p` to `8p + 7` behind quarter `p` of the projection. -/
def octP (p : Fin 4) (K : P0 F) : P0 F :=
  let it (r : Fin 8) := iterP (F := F) arg10 arg13 arg15 arg16 arg17 i h2
    ⟨8 * p.val + r.val, by have := p.isLt; have := r.isLt; omega⟩
  projP arg2 arg11 arg14 p <| it 0 <| it 1 <| it 2 <| it 3 <| it 4 <| it 5 <| it 6 <| it 7 <| K

end

variable (i : grid0.Coords) (arg2 : Memref sig .tc .vmem S1088x2048 .bf16) (harg2 : arg2.IsWhole) (arg3 : Memref sig .tc .vmem S1024x2048 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x32x64x128 .f32) (harg10 : arg10.IsWhole) (arg11 : Memref sig .tc .vmem S1088x1024 .f32) (harg11 : arg11.IsWhole) (arg12 : Memref sig .tc .vmem S512x128 .f32) (harg12 : arg12.IsWhole) (arg13 : Memref sig .tc .vmem S1x32x64x128 .f32) (harg13 : arg13.IsWhole) (arg14 : Memref sig .tc .vmem S1024x2048 .bf16) (harg14 : arg14.IsWhole) (arg15 : Memref sig .tc .vmem S5x4x128x128 .f32) (harg15 : arg15.IsWhole) (arg16 : Memref sig .tc .vmem S4x128x128 .f32) (harg16 : arg16.IsWhole) (arg17 : Memref sig .tc .vmem S4x128x128 .f32) (harg17 : arg17.IsWhole)

/-- The body in its four pieces. -/
def bodyS : P0 F :=
  whenP (cond1 i = 1#1) (fun _ => castP arg3 arg14 harg14) <|
  whenP (k0_cond2 i = 1#1) (fun h2 K =>
    whenP (cond3 i = 1#1) (fun _ K =>
      prologueP arg4 arg5 arg6 arg7 arg8 arg9 arg15 arg16 0 <| prologueP arg4 arg5 arg6 arg7 arg8 arg9 arg15 arg16 1 <|
      prologueP arg4 arg5 arg6 arg7 arg8 arg9 arg15 arg16 2 <| prologueP arg4 arg5 arg6 arg7 arg8 arg9 arg15 arg16 3 K) <|
    octP i arg2 arg10 arg11 arg13 arg14 arg15 arg16 arg17 h2 0 <|
    octP i arg2 arg10 arg11 arg13 arg14 arg15 arg16 arg17 h2 1 <|
    octP i arg2 arg10 arg11 arg13 arg14 arg15 arg16 arg17 h2 2 <|
    octP i arg2 arg10 arg11 arg13 arg14 arg15 arg16 arg17 h2 3 <|
    whenP (k0_cond4 i = 1#1) (fun _ K =>
      epilogueP arg12 arg17 0 <| epilogueP arg12 arg17 1 <| epilogueP arg12 arg17 2 <|
      epilogueP arg12 arg17 3 K) K) <|
  whenP (k0_cond5 i = 1#1) (fun _ K =>
    projP arg2 arg11 arg14 0 <| projP arg2 arg11 arg14 1 <| projP arg2 arg11 arg14 2 <|
    projP arg2 arg11 arg14 3 K) <|
  .ret ⟨⟩

theorem whenP_intro {c : Prop} [Decidable c] {A : c → P0 F → P0 F} {A0 : c → P0 F} {K K0 : P0 F}
    (hK : K0 = K) (hA : K0 = K → ∀ h, A0 h = A h K) : (if h : c then A0 h else K0) = whenP c A K := by
  unfold whenP
  split
  · exact hA hK _
  · exact hK

set_option maxRecDepth 1000000 in
theorem body_eq : cc0_in_proj_wkv (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = bodyS i arg2 arg3 arg4 arg5 arg6 arg7 arg8 arg9 arg10 arg11 arg12 arg13 arg14 harg14 arg15 arg16 arg17 := by
  unfold cc0_in_proj_wkv
  unfold bodyS
  extract_lets
  refine whenP_intro ?_ (fun e h => ?_)
  rotate_left
  · rw [← e]; with_unfolding_all exact rfl
  refine whenP_intro ?_ (fun e h => ?_)
  rotate_left
  · rw [← e]
    unfold k0_part144 k0_part5
    dsimp only
    split
    · rename_i h3
      refine Eq.trans ?_ (dif_pos h3).symm
      with_unfolding_all exact rfl
    · rename_i h3
      refine Eq.trans ?_ (dif_neg h3).symm
      with_unfolding_all exact rfl
  refine whenP_intro ?_ (fun e h => ?_)
  · rfl
  · rw [← e]; with_unfolding_all exact rfl

end Cert.KernelIdeal.Hand
-- ==== Proof.Offs.lean ====
module

public import proofs.«01_k».proof.Proof.Body

@[expose] public section

set_option synthInstance.maxSize 4096

noncomputable section

namespace Cert.KernelIdeal.Hand

open Idealize.ShloMosaic Cert.KernelIdeal

/-- The step's place in its group of four. -/
abbrev subN (i : grid0.Coords) : Nat := (i 1).val % 4

/-- The rows of plane `q`, token `t`, that belong to the step's head. -/
def headOff (q : Fin 5) (t : Fin 4) (i : grid0.Coords) : Fin 4 → Nat := ![q.val, t.val, 64 * (subN i / 2), 0]

theorem headOff_inb : ∀ (q : Fin 5) (t : Fin 4) (i : grid0.Coords), ∀ a, headOff q t i a + S1x1x64x128.size a ≤ S5x4x128x128.size a := by
  decide +kernel

/-- Row of token `t` that value column `n` of the step writes. -/
def colOff (t : Fin 4) (i : grid0.Coords) (n : Fin 32) : Fin 3 → Nat := ![t.val, 32 * subN i + n.val, 0]

theorem colOff_inb : ∀ (t : Fin 4) (i : grid0.Coords) (n : Fin 32), ∀ a, colOff t i n a + S1x1x128.size a ≤ S4x128x128.size a := by
  decide +kernel

/-! The kernel's offsets in closed form, checked at every step. -/
theorem off1_eq : ∀ i : grid0.Coords, k0_off1 i = headOff 3 0 i := by decide +kernel
theorem off3_eq : ∀ i : grid0.Coords, k0_off3 i = headOff 1 0 i := by decide +kernel
theorem off4_eq : ∀ i : grid0.Coords, k0_off4 i = headOff 4 0 i := by decide +kernel
theorem off5_eq : ∀ i : grid0.Coords, k0_off5 i = headOff 2 0 i := by decide +kernel
theorem off6_eq : ∀ i : grid0.Coords, k0_off6 i = headOff 0 0 i := by decide +kernel
theorem off7_eq : ∀ i : grid0.Coords, k0_off7 i = headOff 3 1 i := by decide +kernel
theorem off9_eq : ∀ i : grid0.Coords, k0_off9 i = headOff 1 1 i := by decide +kernel
theorem off10_eq : ∀ i : grid0.Coords, k0_off10 i = headOff 4 1 i := by decide +kernel
theorem off11_eq : ∀ i : grid0.Coords, k0_off11 i = headOff 2 1 i := by decide +kernel
theorem off12_eq : ∀ i : grid0.Coords, k0_off12 i = headOff 0 1 i := by decide +kernel
theorem off13_eq : ∀ i : grid0.Coords, k0_off13 i = headOff 3 2 i := by decide +kernel
theorem off15_eq : ∀ i : grid0.Coords, k0_off15 i = headOff 1 2 i := by decide +kernel
theorem off16_eq : ∀ i : grid0.Coords, k0_off16 i = headOff 4 2 i := by decide +kernel
theorem off17_eq : ∀ i : grid0.Coords, k0_off17 i = headOff 2 2 i := by decide +kernel
theorem off18_eq : ∀ i : grid0.Coords, k0_off18 i = headOff 0 2 i := by decide +kernel
theorem off19_eq : ∀ i : grid0.Coords, k0_off19 i = headOff 3 3 i := by decide +kernel
theorem off21_eq : ∀ i : grid0.Coords, k0_off21 i = headOff 1 3 i := by decide +kernel
theorem off22_eq : ∀ i : grid0.Coords, k0_off22 i = headOff 4 3 i := by decide +kernel
theorem off23_eq : ∀ i : grid0.Coords, k0_off23 i = headOff 2 3 i := by decide +kernel
theorem off24_eq : ∀ i : grid0.Coords, k0_off24 i = headOff 0 3 i := by decide +kernel
theorem off2_eq : ∀ (i : grid0.Coords) (n : Fin 32), k0_off2 i (BitVec.ofNat 32 n.val) = colOff 0 i n := by decide +kernel
theorem off8_eq : ∀ (i : grid0.Coords) (n : Fin 32), k0_off8 i (BitVec.ofNat 32 n.val) = colOff 1 i n := by decide +kernel
theorem off14_eq : ∀ (i : grid0.Coords) (n : Fin 32), k0_off14 i (BitVec.ofNat 32 n.val) = colOff 2 i n := by decide +kernel
theorem off20_eq : ∀ (i : grid0.Coords) (n : Fin 32), k0_off20 i (BitVec.ofNat 32 n.val) = colOff 3 i n := by decide +kernel

end Cert.KernelIdeal.Hand
-- ==== Proof.Steps.lean ====
module

public import proofs.«01_k».proof.Proof.Offs
public import Idealize.ShloMosaic.Lib.VecWindow
public import Idealize.ShloMosaic.Lib.PointwiseCore

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer held whole on core `c`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- A buffer held whole on core `c`, reading `X`. -/
def rd (c : Dev nD) {sp : Space} {S : Shape} {e : EltTy} (M : Memref sig .tc sp S e) (X : S.Idx → Elt F e) : sProp 𝕄 :=
  iprop(∃ f, ⌜M.view.read (Elt F) f = X⌝ ∗ pt c M f)

/-- The rectangle of sizes `size` at `off` read from `X`. -/
abbrev win {S : Shape} {α : Type} (X : S.Idx → α) (off size : Fin S.rank → Nat) (inb : ∀ a, off a + size a ≤ S.size a) :=
  VecWindow.window X off size inb

/-- `K` run to the postcondition `Q` on core `c`. -/
abbrev runs (c : Dev nD) (K : P0 F) (Q : PUnit → sProp 𝕄) : sProp 𝕄 :=
  wp frame (wpE (defs₀ (F := F)) Variants.none c none) Set.univ K Q

section
variable {sp : CoreSpace} {S : Shape} {e : EltTy} (M : Memref sig .tc sp S e)

/-- A load of a rectangle of a held buffer. -/
theorem load_wp (c : Dev nD) (X : S.Idx → Elt F e) (off size : Fin S.rank → Nat) (inb : ∀ a, off a + size a ≤ S.size a)
    (hl : M.view.LoadsAt (Rect.unit off size inb).toLoadRect) (k : ((Rect.unit off size inb).shape.Idx → Elt F e) → P0 F) (Q : PUnit → sProp 𝕄) :
    iprop(rd c M X ∗ (rd c M X -∗ runs c (k (win X off size inb)) Q))
    ⊢ runs c (Prog.lift (.load M (Rect.unit off size inb).toLoadRect hl) >>= k) Q := by
  unfold rd
  iintro ⟨⟨%f, %h, H⟩, HK⟩
  subst h
  unfold runs
  sl_exec
  iapply HK $$ [H]
  iexists f; isplitr; · ipureintro; rfl
  iexact H

/-- A load of any rectangle, strided or not, of a held buffer. -/
theorem loadR_wp (c : Dev nD) (X : S.Idx → Elt F e) (r : LoadRect S)
    (hl : M.view.LoadsAt r) (k : (r.shape.Idx → Elt F e) → P0 F) (Q : PUnit → sProp 𝕄) :
    iprop(rd c M X ∗ (rd c M X -∗ runs c (k (fun x => X (r.idx x))) Q))
    ⊢ runs c (Prog.lift (.load M r hl) >>= k) Q := by
  unfold rd
  iintro ⟨⟨%f, %h, H⟩, HK⟩
  subst h
  unfold runs
  sl_exec
  iapply HK $$ [H]
  iexists f; isplitr; · ipureintro; rfl
  iexact H

/-- A store over a rectangle of a held buffer. -/
theorem store_wp (c : Dev nD) (X : S.Idx → Elt F e) (off size : Fin S.rank → Nat) (inb : ∀ a, off a + size a ≤ S.size a)
    (w : (Rect.unit off size inb).shape.Idx → Elt F e)
    (hl : (M.access (Rect.unit off size inb)).Stores Finset.univ) (hm) (k : P0 F) (Q : PUnit → sProp 𝕄) :
    iprop(rd c M X ∗ (rd c M (VecWindow.put X off size w) -∗ runs c k Q))
    ⊢ runs c (Prog.lift (.store M (Rect.unit off size inb) w Finset.univ hl hm) >>= fun _ => k) Q := by
  unfold rd
  iintro ⟨⟨%f, %h, H⟩, HK⟩
  subst h
  unfold runs
  sl_exec
  iapply HK $$ [H]
  iexists _; isplitr; rotate_left; · iexact H
  ipureintro
  exact View.read_writes_cons_put _ _ _ _ [] rfl

/-- A store over any rectangle, strided or not, of a held buffer: `X'` is any array that has the payload at the
    rectangle's places and the old contents elsewhere. -/
theorem storeR_wp (c : Dev nD) (X X' : S.Idx → Elt F e) (r : Rect S)
    (w : r.shape.Idx → Elt F e)
    (hl : (M.access r).Stores Finset.univ) (hm) (k : P0 F) (Q : PUnit → sProp 𝕄)
    (h1 : ∀ x, X' (r.emb x) = w x) (h2 : ∀ y, y ∉ r.set → X' y = X y) :
    iprop(rd c M X ∗ (rd c M X' -∗ runs c k Q))
    ⊢ runs c (Prog.lift (.store M r w Finset.univ hl hm) >>= fun _ => k) Q := by
  unfold rd
  iintro ⟨⟨%f, %h, H⟩, HK⟩
  subst h
  unfold runs
  sl_exec
  iapply HK $$ [H]
  iexists _; isplitr; rotate_left; · iexact H
  ipureintro
  funext y
  by_cases hy : y ∈ r.set
  · obtain ⟨x, rfl⟩ : ∃ x, r.emb x = y := by
      rw [← Rect.map_emb_univ] at hy
      obtain ⟨x, -, hx⟩ := Finset.mem_map.mp hy
      exact ⟨x, hx⟩
    rw [View.read_writes_cons_emb, h1]
  · rw [View.read_writes_cons_miss _ _ _ _ _ hy, h2 y hy]
    rfl
end

section Pure
variable (X10 : Vec F S1x32x64x128 .f32) (X15 : Vec F S5x4x128x128 .f32) (X16 : Vec F S4x128x128 .f32) (i : grid0.Coords) (n : Fin 32)

/-- The state of value column `n` as token `t` leaves it, from the state `s` it finds. -/
def stepS (t : Fin 4) (s : FVec F S64x128 .f32) : FVec F S64x128 .f32 :=
  nextState s (win X15 (headOff 3 t i) S1x1x64x128.size (headOff_inb 3 t i)) (win X16 (colOff t i n) S1x1x128.size (colOff_inb t i n))
    (win X15 (headOff 1 t i) S1x1x64x128.size (headOff_inb 1 t i)) (win X15 (headOff 4 t i) S1x1x64x128.size (headOff_inb 4 t i))
    (win X15 (headOff 2 t i) S1x1x64x128.size (headOff_inb 2 t i))

/-- The state of value column `n` before any token. -/
def state0 : FVec F S64x128 .f32 :=
  shapeCast S64x128 (win X10 (slabOff n) S1x1x64x128.size (slabOff_inb n)) shapeCasts_S1x1x64x128_S64x128

/-- The state of value column `n` after token `t`. -/
def stateAt : Fin 4 → FVec F S64x128 .f32
  | 0 => stepS X15 X16 i n 0 (state0 X10 n)
  | 1 => stepS X15 X16 i n 1 (stepS X15 X16 i n 0 (state0 X10 n))
  | 2 => stepS X15 X16 i n 2 (stepS X15 X16 i n 1 (stepS X15 X16 i n 0 (state0 X10 n)))
  | 3 => stepS X15 X16 i n 3 (stepS X15 X16 i n 2 (stepS X15 X16 i n 1 (stepS X15 X16 i n 0 (state0 X10 n))))

/-- The output row of value column `n` at token `t`. -/
def rowAt (t : Fin 4) : FVec F S1x1x128 .f32 :=
  outRow (stateAt X10 X15 X16 i n t) (win X15 (headOff 0 t i) S1x1x64x128.size (headOff_inb 0 t i))

/-- The output rows with value column `n`'s written. -/
def col17 (X17 : Vec F S4x128x128 .f32) : Vec F S4x128x128 .f32 :=
  VecWindow.put (VecWindow.put (VecWindow.put (VecWindow.put X17
    (colOff 0 i n) S1x1x128.size (rowAt X10 X15 X16 i n 0)) (colOff 1 i n) S1x1x128.size (rowAt X10 X15 X16 i n 1))
    (colOff 2 i n) S1x1x128.size (rowAt X10 X15 X16 i n 2)) (colOff 3 i n) S1x1x128.size (rowAt X10 X15 X16 i n 3)

/-- The state slab with value column `n`'s written. -/
def col13 (X13 : Vec F S1x32x64x128 .f32) : Vec F S1x32x64x128 .f32 :=
  VecWindow.put X13 (slabOff n) S1x1x64x128.size (shapeCast S1x1x64x128 (stateAt X10 X15 X16 i n 3) shapeCasts_S64x128_S1x1x64x128)

end Pure

section
variable (arg10 : Memref sig .tc .vmem S1x32x64x128 .f32)
  (arg13 : Memref sig .tc .vmem S1x32x64x128 .f32) (arg15 : Memref sig .tc .vmem S5x4x128x128 .f32)
  (arg16 : Memref sig .tc .vmem S4x128x128 .f32) (arg17 : Memref sig .tc .vmem S4x128x128 .f32)

/-- One token run: its row of `arg17` becomes the token's output. -/
theorem tokenP_wp (c : Dev nD) (X15 : Vec F S5x4x128x128 .f32) (X16 X17 : Vec F S4x128x128 .f32)
    (o3 o1 o4 o2 o0 : Fin 4 → Nat) (ov : Fin 3 → Nat)
    (p3 : ∀ a, o3 a + S1x1x64x128.size a ≤ S5x4x128x128.size a)
    (p1 : ∀ a, o1 a + S1x1x64x128.size a ≤ S5x4x128x128.size a)
    (p4 : ∀ a, o4 a + S1x1x64x128.size a ≤ S5x4x128x128.size a)
    (p2 : ∀ a, o2 a + S1x1x64x128.size a ≤ S5x4x128x128.size a)
    (p0 : ∀ a, o0 a + S1x1x64x128.size a ≤ S5x4x128x128.size a)
    (pv : ∀ a, ov a + S1x1x128.size a ≤ S4x128x128.size a)
    (s : FVec F S64x128 .f32) (k : FVec F S64x128 .f32 → P0 F) (Q : PUnit → sProp 𝕄) (s' : FVec F S64x128 .f32)
    (X17' : Vec F S4x128x128 .f32)
    (hs : nextState s (win X15 o3 S1x1x64x128.size p3) (win X16 ov S1x1x128.size pv) (win X15 o1 S1x1x64x128.size p1)
      (win X15 o4 S1x1x64x128.size p4) (win X15 o2 S1x1x64x128.size p2) = s')
    (hX : VecWindow.put X17 ov S1x1x128.size (outRow s' (win X15 o0 S1x1x64x128.size p0)) = X17') :
    iprop(rd c arg15 X15 ∗ rd c arg16 X16 ∗ rd c arg17 X17
      ∗ (rd c arg15 X15 -∗ rd c arg16 X16 -∗ rd c arg17 X17' -∗ runs c (k s') Q))
    ⊢ runs c (tokenP arg15 arg16 arg17 o3 o1 o4 o2 o0 ov p3 p1 p4 p2 p0 pv s k) Q := by
  subst hs; subst hX
  unfold rd
  iintro ⟨⟨%f15, %h15, H5⟩, ⟨%f16, %h16, H6⟩, ⟨%f17, %h17, H7⟩, HK⟩
  subst h15; subst h16; subst h17
  unfold tokenP runs
  sl_exec
  iapply HK $$ [H5] [H6] [H7]
  · iexists f15; isplitr; · ipureintro; rfl
    iexact H5
  · iexists f16; isplitr; · ipureintro; rfl
    iexact H6
  · iexists _; isplitr; rotate_left; · iexact H7
    ipureintro
    exact View.read_writes_cons_put _ _ _ _ [] rfl

variable {arg10 arg13 arg15 arg16 arg17} in
/-- The program of a token depends on its offsets only. -/
theorem tokenP_congr {o3 o1 o4 o2 o0 o3' o1' o4' o2' o0' : Fin 4 → Nat} {ov ov' : Fin 3 → Nat}
    {p3 : ∀ a, o3 a + S1x1x64x128.size a ≤ S5x4x128x128.size a}
    {p1 : ∀ a, o1 a + S1x1x64x128.size a ≤ S5x4x128x128.size a}
    {p4 : ∀ a, o4 a + S1x1x64x128.size a ≤ S5x4x128x128.size a}
    {p2 : ∀ a, o2 a + S1x1x64x128.size a ≤ S5x4x128x128.size a}
    {p0 : ∀ a, o0 a + S1x1x64x128.size a ≤ S5x4x128x128.size a}
    {pv : ∀ a, ov a + S1x1x128.size a ≤ S4x128x128.size a}
    {s : FVec F S64x128 .f32} {k k' : FVec F S64x128 .f32 → P0 F}
    (h3 : o3 = o3') (h1 : o1 = o1') (h4 : o4 = o4') (h2 : o2 = o2') (h0 : o0 = o0') (hv : ov = ov') (hk : k = k') :
    tokenP arg15 arg16 arg17 o3 o1 o4 o2 o0 ov p3 p1 p4 p2 p0 pv s k
      = tokenP arg15 arg16 arg17 o3' o1' o4' o2' o0' ov' (h3 ▸ p3) (h1 ▸ p1) (h4 ▸ p4) (h2 ▸ p2) (h0 ▸ p0) (hv ▸ pv) s k' := by
  subst h3 h1 h4 h2 h0 hv hk; rfl

/-- One token at its offsets in closed form. -/
def tokC (i : grid0.Coords) (n : Fin 32) (t : Fin 4) (s : FVec F S64x128 .f32) (k : FVec F S64x128 .f32 → P0 F) : P0 F :=
  tokenP arg15 arg16 arg17 (headOff 3 t i) (headOff 1 t i) (headOff 4 t i) (headOff 2 t i) (headOff 0 t i) (colOff t i n)
    (headOff_inb 3 t i) (headOff_inb 1 t i) (headOff_inb 4 t i) (headOff_inb 2 t i) (headOff_inb 0 t i) (colOff_inb t i n) s k

/-- One value column's program with its offsets in closed form. -/
theorem iterP_eq (i : grid0.Coords) (h2 : k0_cond2 i = 1#1) (n : Fin 32) (K : P0 F) :
    iterP arg10 arg13 arg15 arg16 arg17 i h2 n K = (do
      let s : Vec F S1x1x64x128 .f32 ← Prog.lift (.load arg10 (Rect.unit (s := S1x32x64x128) (slabOff n) S1x1x64x128.size (slabOff_inb n)).toLoadRect (View.loadsAt_vmem h_S1x1x64x128))
      tokC arg15 arg16 arg17 i n 0 (shapeCast S64x128 s shapeCasts_S1x1x64x128_S64x128) fun s =>
      tokC arg15 arg16 arg17 i n 1 s fun s => tokC arg15 arg16 arg17 i n 2 s fun s => tokC arg15 arg16 arg17 i n 3 s fun s => do
      let _s : Vec F S1x1x64x128 .f32 ← Prog.lift (.load arg13 (Rect.unit (s := S1x32x64x128) (slabOff n) S1x1x64x128.size (slabOff_inb n)).toLoadRect (View.loadsAt_vmem h_S1x1x64x128))
      Prog.lift (.store arg13 (Rect.unit (s := S1x32x64x128) (slabOff n) S1x1x64x128.size (slabOff_inb n)) (shapeCast S1x1x64x128 s shapeCasts_S64x128_S1x1x64x128) Finset.univ (View.stores_vmem_bits_univ h_S1x1x64x128 rfl) (.inl rfl))
      K) := by
  unfold iterP tokC
  refine congrArg _ (funext fun s => ?_)
  refine tokenP_congr (off1_eq i) (off3_eq i) (off4_eq i) (off5_eq i) (off6_eq i) (off2_eq i n) (funext fun s => ?_)
  refine tokenP_congr (off7_eq i) (off9_eq i) (off10_eq i) (off11_eq i) (off12_eq i) (off8_eq i n) (funext fun s => ?_)
  refine tokenP_congr (off13_eq i) (off15_eq i) (off16_eq i) (off17_eq i) (off18_eq i) (off14_eq i n) (funext fun s => ?_)
  refine tokenP_congr (off19_eq i) (off21_eq i) (off22_eq i) (off23_eq i) (off24_eq i) (off20_eq i n) rfl

/-- One token at its offsets in closed form, run. -/
theorem tokC_wp (c : Dev nD) (i : grid0.Coords) (n : Fin 32) (t : Fin 4) (X15 : Vec F S5x4x128x128 .f32) (X16 X17 : Vec F S4x128x128 .f32)
    (s : FVec F S64x128 .f32) (k : FVec F S64x128 .f32 → P0 F) (Q : PUnit → sProp 𝕄) :
    iprop(rd c arg15 X15 ∗ rd c arg16 X16 ∗ rd c arg17 X17
      ∗ (rd c arg15 X15 -∗ rd c arg16 X16
        -∗ rd c arg17 (VecWindow.put X17 (colOff t i n) S1x1x128.size (outRow (stepS X15 X16 i n t s) (win X15 (headOff 0 t i) S1x1x64x128.size (headOff_inb 0 t i))))
        -∗ runs c (k (stepS X15 X16 i n t s)) Q))
    ⊢ runs c (tokC arg15 arg16 arg17 i n t s k) Q :=
  tokenP_wp arg15 arg16 arg17 c X15 X16 X17 _ _ _ _ _ _ _ _ _ _ _ _ s k Q _ _ rfl rfl

/-- One value column run: its state goes through the four tokens into the slab, its output rows are written. -/
theorem iterP_wp (c : Dev nD) (i : grid0.Coords) (h2 : k0_cond2 i = 1#1) (n : Fin 32)
    (X10 X13 : Vec F S1x32x64x128 .f32) (X15 : Vec F S5x4x128x128 .f32) (X16 X17 : Vec F S4x128x128 .f32)
    (K : P0 F) (Q : PUnit → sProp 𝕄) :
    iprop(rd c arg10 X10 ∗ rd c arg15 X15 ∗ rd c arg16 X16 ∗ rd c arg13 X13 ∗ rd c arg17 X17
      ∗ (rd c arg10 X10 -∗ rd c arg15 X15 -∗ rd c arg16 X16 -∗ rd c arg13 (col13 X10 X15 X16 i n X13)
        -∗ rd c arg17 (col17 X10 X15 X16 i n X17) -∗ runs c K Q))
    ⊢ runs c (iterP arg10 arg13 arg15 arg16 arg17 i h2 n K) Q := by
  rw [iterP_eq]
  simp only [col13, col17, rowAt, stateAt, state0]
  iintro ⟨H10, H5, H6, H13, H7, HK⟩
  iapply (load_wp arg10 c X10 _ _ _ _ _ Q)
  isplitl [H10]; · iexact H10
  iintro H10
  iapply (tokC_wp arg15 arg16 arg17 c i n 0 X15 X16 _ _ _ Q)
  isplitl [H5]; · iexact H5
  isplitl [H6]; · iexact H6
  isplitl [H7]; · iexact H7
  iintro H5 H6 H7
  iapply (tokC_wp arg15 arg16 arg17 c i n 1 X15 X16 _ _ _ Q)
  isplitl [H5]; · iexact H5
  isplitl [H6]; · iexact H6
  isplitl [H7]; · iexact H7
  iintro H5 H6 H7
  iapply (tokC_wp arg15 arg16 arg17 c i n 2 X15 X16 _ _ _ Q)
  isplitl [H5]; · iexact H5
  isplitl [H6]; · iexact H6
  isplitl [H7]; · iexact H7
  iintro H5 H6 H7
  iapply (tokC_wp arg15 arg16 arg17 c i n 3 X15 X16 _ _ _ Q)
  isplitl [H5]; · iexact H5
  isplitl [H6]; · iexact H6
  isplitl [H7]; · iexact H7
  iintro H5 H6 H7
  iapply (load_wp arg13 c X13 _ _ _ _ _ Q)
  isplitl [H13]; · iexact H13
  iintro H13
  iapply (store_wp arg13 c X13 _ _ _ _ _ _ _ Q)
  isplitl [H13]; · iexact H13
  iintro H13
  iapply HK $$ H10 H5 H6 H13 H7

/-- Value columns `0` to `k - 1` run over the state slab. -/
def slabUpTo (X10 : Vec F S1x32x64x128 .f32) (X15 : Vec F S5x4x128x128 .f32) (X16 : Vec F S4x128x128 .f32) (i : grid0.Coords)
    (X13 : Vec F S1x32x64x128 .f32) : Nat → Vec F S1x32x64x128 .f32
  | 0 => X13
  | k + 1 => if h : k < 32 then col13 X10 X15 X16 i ⟨k, h⟩ (slabUpTo X10 X15 X16 i X13 k) else slabUpTo X10 X15 X16 i X13 k

/-- Value columns `0` to `k - 1` run over the output rows. -/
def rowsUpTo (X10 : Vec F S1x32x64x128 .f32) (X15 : Vec F S5x4x128x128 .f32) (X16 : Vec F S4x128x128 .f32) (i : grid0.Coords)
    (X17 : Vec F S4x128x128 .f32) : Nat → Vec F S4x128x128 .f32
  | 0 => X17
  | k + 1 => if h : k < 32 then col17 X10 X15 X16 i ⟨k, h⟩ (rowsUpTo X10 X15 X16 i X17 k) else rowsUpTo X10 X15 X16 i X17 k

/-- One value column run, after those before it. -/
theorem iterP_upTo_wp (c : Dev nD) (i : grid0.Coords) (h2 : k0_cond2 i = 1#1) (n : Nat) (hn : n < 32)
    (X10 X13 : Vec F S1x32x64x128 .f32) (X15 : Vec F S5x4x128x128 .f32) (X16 X17 : Vec F S4x128x128 .f32)
    (K : P0 F) (Q : PUnit → sProp 𝕄) :
    iprop(rd c arg10 X10 ∗ rd c arg15 X15 ∗ rd c arg16 X16 ∗ rd c arg13 (slabUpTo X10 X15 X16 i X13 n)
      ∗ rd c arg17 (rowsUpTo X10 X15 X16 i X17 n)
      ∗ (rd c arg10 X10 -∗ rd c arg15 X15 -∗ rd c arg16 X16 -∗ rd c arg13 (slabUpTo X10 X15 X16 i X13 (n + 1))
        -∗ rd c arg17 (rowsUpTo X10 X15 X16 i X17 (n + 1)) -∗ runs c K Q))
    ⊢ runs c (iterP arg10 arg13 arg15 arg16 arg17 i h2 ⟨n, hn⟩ K) Q := by
  rw [slabUpTo, rowsUpTo, dif_pos hn, dif_pos hn]
  exact iterP_wp arg10 arg13 arg15 arg16 arg17 c i h2 ⟨n, hn⟩ X10 _ X15 X16 _ K Q

end

section
variable (arg2 : Memref sig .tc .vmem S1088x2048 .bf16) (arg11 : Memref sig .tc .vmem S1088x1024 .f32)
  (arg14 : Memref sig .tc .vmem S1024x2048 .bf16)

/-- Quarter `p` of the projection. -/
def quarter (X2 : Vec F S1088x2048 .bf16) (X14 : Vec F S1024x2048 .bf16) (p : Fin 4) : Vec F S1088x256 .f32 :=
  matmul dot_S1088x2048_S256x2048_S1088x256_1_1_0_0_n_n none X2 (win X14 (wOff p) S256x2048.size (wOff_inb p))
    (constant S1088x256 .f32 0x00000000#32)

/-- The projection with quarter `p` written. -/
def putZ (X2 : Vec F S1088x2048 .bf16) (X14 : Vec F S1024x2048 .bf16) (p : Fin 4) (X11 : Vec F S1088x1024 .f32) :
    Vec F S1088x1024 .f32 :=
  VecWindow.put X11 (zOff p) S1088x256.size (quarter X2 X14 p)

/-- A window of a whole array's sizes is the array. -/
theorem win_full {S : Shape} {α : Type} (X : S.Idx → α) (off : Fin S.rank → Nat) (inb : ∀ a, off a + S.size a ≤ S.size a) :
    win X off S.size inb = X := by
  funext y
  show X _ = X y
  refine congrArg X (funext fun a => Fin.ext ?_)
  show off a + 1 * (y a).val = (y a).val
  have := inb a; omega

/-- A whole array written is the payload. -/
theorem put_full {S : Shape} {α : Type} (X : S.Idx → α) (off : Fin S.rank → Nat) (h : off = fun _ => 0) (w : S.Idx → α) :
    VecWindow.put X off S.size w = w := by
  subst h
  funext y
  unfold VecWindow.put
  rw [dif_pos fun a => ⟨Nat.zero_le _, by have := (y a).isLt; omega⟩]
  rfl

/-- One quarter of the projection run. -/
theorem projP_wp (c : Dev nD) (p : Fin 4) (X2 : Vec F S1088x2048 .bf16) (X11 : Vec F S1088x1024 .f32) (X14 : Vec F S1024x2048 .bf16)
    (K : P0 F) (Q : PUnit → sProp 𝕄) :
    iprop(rd c arg2 X2 ∗ rd c arg14 X14 ∗ rd c arg11 X11
      ∗ (rd c arg2 X2 -∗ rd c arg14 X14 -∗ rd c arg11 (putZ X2 X14 p X11) -∗ runs c K Q))
    ⊢ runs c (projP arg2 arg11 arg14 p K) Q := by
  unfold projP putZ quarter
  iintro ⟨H2, H4, H1, HK⟩
  iapply (load_wp arg2 c X2 _ _ _ _ _ Q)
  isplitl [H2]; · iexact H2
  iintro H2
  iapply (load_wp arg14 c X14 _ _ _ _ _ Q)
  isplitl [H4]; · iexact H4
  iintro H4
  iapply (load_wp arg11 c X11 _ _ _ _ _ Q)
  isplitl [H1]; · iexact H1
  iintro H1
  iapply (store_wp arg11 c X11 _ _ _ _ _ _ _ Q)
  isplitl [H1]; · iexact H1
  iintro H1
  rw [win_full]
  iapply HK $$ H2 H4 H1

end

section
variable (arg4 arg5 arg6 arg7 arg8 arg9 src : Memref sig .tc .vmem S512x128 .f32)
  (arg15 : Memref sig .tc .vmem S5x4x128x128 .f32) (arg16 : Memref sig .tc .vmem S4x128x128 .f32)

/-- The rows of token `t`: rows `t`, `t + 4`, … -/
def rowsOf (X : Vec F S512x128 .f32) (t : Fin 4) : FVec F S128x128 .f32 :=
  fun x => X ((⟨rowOff t, S128x128.size, ![4, 1], rowOff_inb t⟩ : LoadRect S512x128).idx x)

/-- Plane `q` of token `t` written from `X`'s rows through `f`. -/
def putPlane (f : FVec F S128x128 .f32 → FVec F S128x128 .f32) (q : Fin 5) (t : Fin 4) (X : Vec F S512x128 .f32)
    (X15 : Vec F S5x4x128x128 .f32) : Vec F S5x4x128x128 .f32 :=
  VecWindow.put X15 (opOff q t) S1x1x128x128.size (shapeCast S1x1x128x128 (transpose S128x128 [1, 0] (f (rowsOf X t)) transposes_S128x128_p1_0_S128x128) shapeCasts_S128x128_S1x1x128x128)

/-- The value plane of token `t` written from `X`'s rows. -/
def putV (t : Fin 4) (X : Vec F S512x128 .f32) (X16 : Vec F S4x128x128 .f32) : Vec F S4x128x128 .f32 :=
  VecWindow.put X16 (vtOff t) S1x128x128.size (shapeCast S1x128x128 (transpose S128x128 [1, 0] (rowsOf X t) transposes_S128x128_p1_0_S128x128) shapeCasts_S128x128_S1x128x128)

/-- One plane written. -/
theorem planeP_wp (c : Dev nD) (f : FVec F S128x128 .f32 → FVec F S128x128 .f32) (q : Fin 5) (t : Fin 4)
    (X : Vec F S512x128 .f32) (X15 : Vec F S5x4x128x128 .f32) (K : P0 F) (Q : PUnit → sProp 𝕄) :
    iprop(rd c src X ∗ rd c arg15 X15 ∗ (rd c src X -∗ rd c arg15 (putPlane f q t X X15) -∗ runs c K Q))
    ⊢ runs c (planeP arg15 src f q t K) Q := by
  unfold planeP putPlane rowsOf
  iintro ⟨H2, H5, HK⟩
  iapply (loadR_wp src c X _ _ _ Q)
  isplitl [H2]; · iexact H2
  iintro H2
  iapply (load_wp arg15 c X15 _ _ _ _ _ Q)
  isplitl [H5]; · iexact H5
  iintro H5
  iapply (store_wp arg15 c X15 _ _ _ _ _ _ _ Q)
  isplitl [H5]; · iexact H5
  iintro H5
  iapply HK $$ H2 H5

/-- One value plane written. -/
theorem vplaneP_wp (c : Dev nD) (t : Fin 4)
    (X : Vec F S512x128 .f32) (X16 : Vec F S4x128x128 .f32) (K : P0 F) (Q : PUnit → sProp 𝕄) :
    iprop(rd c arg7 X ∗ rd c arg16 X16 ∗ (rd c arg7 X -∗ rd c arg16 (putV t X X16) -∗ runs c K Q))
    ⊢ runs c (vplaneP arg7 arg16 t K) Q := by
  unfold vplaneP putV rowsOf
  iintro ⟨H2, H5, HK⟩
  iapply (loadR_wp arg7 c X _ _ _ Q)
  isplitl [H2]; · iexact H2
  iintro H2
  iapply (load_wp arg16 c X16 _ _ _ _ _ Q)
  isplitl [H5]; · iexact H5
  iintro H5
  iapply (store_wp arg16 c X16 _ _ _ _ _ _ _ Q)
  isplitl [H5]; · iexact H5
  iintro H5
  iapply HK $$ H2 H5

/-- The five operand planes of token `t` written. -/
def planesT (X4 X5 X6 X8 X9 : Vec F S512x128 .f32) (t : Fin 4) (X15 : Vec F S5x4x128x128 .f32) : Vec F S5x4x128x128 .f32 :=
  putPlane id 4 t X9 (putPlane id 3 t X8 (putPlane id 2 t X6 (putPlane exp 1 t X5 (putPlane id 0 t X4 X15))))

/-- The six planes of token `t` written. -/
theorem prologueP_wp (c : Dev nD) (t : Fin 4)
    (X4 X5 X6 X7 X8 X9 : Vec F S512x128 .f32) (X15 : Vec F S5x4x128x128 .f32) (X16 : Vec F S4x128x128 .f32) (K : P0 F) (Q : PUnit → sProp 𝕄) :
    iprop(rd c arg4 X4 ∗ rd c arg5 X5 ∗ rd c arg6 X6 ∗ rd c arg7 X7 ∗ rd c arg8 X8 ∗ rd c arg9 X9 ∗ rd c arg15 X15 ∗ rd c arg16 X16
      ∗ (rd c arg4 X4 -∗ rd c arg5 X5 -∗ rd c arg6 X6 -∗ rd c arg7 X7 -∗ rd c arg8 X8 -∗ rd c arg9 X9
        -∗ rd c arg15 (planesT X4 X5 X6 X8 X9 t X15) -∗ rd c arg16 (putV t X7 X16) -∗ runs c K Q))
    ⊢ runs c (prologueP arg4 arg5 arg6 arg7 arg8 arg9 arg15 arg16 t K) Q := by
  unfold prologueP planesT
  iintro ⟨H4, H5, H6, H7, H8, H9, Ho, Hv, HK⟩
  iapply (planeP_wp arg4 arg15 c id 0 t X4 _ _ Q)
  isplitl [H4]; · iexact H4
  isplitl [Ho]; · iexact Ho
  iintro H4 Ho
  iapply (planeP_wp arg5 arg15 c exp 1 t X5 _ _ Q)
  isplitl [H5]; · iexact H5
  isplitl [Ho]; · iexact Ho
  iintro H5 Ho
  iapply (planeP_wp arg6 arg15 c id 2 t X6 _ _ Q)
  isplitl [H6]; · iexact H6
  isplitl [Ho]; · iexact Ho
  iintro H6 Ho
  iapply (planeP_wp arg8 arg15 c id 3 t X8 _ _ Q)
  isplitl [H8]; · iexact H8
  isplitl [Ho]; · iexact Ho
  iintro H8 Ho
  iapply (planeP_wp arg9 arg15 c id 4 t X9 _ _ Q)
  isplitl [H9]; · iexact H9
  isplitl [Ho]; · iexact Ho
  iintro H9 Ho
  iapply (vplaneP_wp arg7 arg16 c t X7 _ _ Q)
  isplitl [H7]; · iexact H7
  isplitl [Hv]; · iexact Hv
  iintro H7 Hv
  iapply HK $$ H4 H5 H6 H7 H8 H9 Ho Hv

end

section
variable (arg12 : Memref sig .tc .vmem S512x128 .f32) (arg17 : Memref sig .tc .vmem S4x128x128 .f32)

/-- The rows of token `t` written from its plane. -/
def putRows (t : Fin 4) (X17 : Vec F S4x128x128 .f32) (X12 : Vec F S512x128 .f32) : Vec F S512x128 .f32 :=
  fun y => if (y 0).val % 4 = t.val then X17 (fun a => match a with
      | 0 => t | 1 => y 1 | 2 => ⟨(y 0).val / 4, by have : (y 0).val < 512 := (y 0).isLt; show _ < 128; omega⟩)
    else X12 y

/-- A window read at an index, where the place in the array is told coordinate by coordinate. -/
theorem win_apply {S : Shape} {α : Type} (X : S.Idx → α) (off size : Fin S.rank → Nat) (inb : ∀ a, off a + size a ≤ S.size a)
    (x : (⟨S.rank, size⟩ : Shape).Idx) (y : S.Idx) (h : ∀ a, (y a).val = off a + (x a).val) : win X off size inb x = X y :=
  congrArg X (funext fun a => Fin.ext (by
    show off a + 1 * (x a).val = (y a).val
    rw [h a, Nat.one_mul]))

/-- A plane of token `t` transposed, read at an index. -/
theorem planeT_apply (t : Fin 4) (X17 : Vec F S4x128x128 .f32) (a b : Fin 128) :
    transpose S128x128 [1, 0] (shapeCast S128x128 (win X17 (vtOff t) S1x128x128.size (vtOff_inb t)) shapeCasts_S1x128x128_S128x128) transposes_S128x128_p1_0_S128x128 (ix2 a b)
      = X17 (ix3 t b a) := by
  have hW (W : Vec F S1x128x128 .f32) : transpose S128x128 [1, 0] (shapeCast S128x128 W shapeCasts_S1x128x128_S128x128) transposes_S128x128_p1_0_S128x128 (ix2 a b) = W (ix3 0 b a) := by
    pointwise
  refine (hW _).trans ?_
  exact win_apply X17 _ _ _ _ _ fun a => by
    match a with
    | 0 => rfl
    | 1 => exact (Nat.zero_add _).symm
    | 2 => exact (Nat.zero_add _).symm

/-- The rows of token `t` hold its plane transposed. -/
theorem putRows_at (t : Fin 4) (X17 : Vec F S4x128x128 .f32) (X12 : Vec F S512x128 .f32) (y : S512x128.Idx) (a b : Fin 128)
    (h0 : (y 0).val = t.val + 4 * a.val) (h1 : (y 1).val = b.val) :
    putRows t X17 X12 y = X17 (ix3 t b a) := by
  have ht := t.isLt
  unfold putRows
  rw [if_pos (by omega)]
  refine congrArg X17 (funext fun k => Fin.ext ?_)
  match k with
  | 0 => rfl
  | 1 => exact h1
  | 2 => show (y 0).val / 4 = a.val; omega

/-- The rows of one token written. -/
theorem epilogueP_wp (c : Dev nD) (t : Fin 4) (X12 : Vec F S512x128 .f32) (X17 : Vec F S4x128x128 .f32) (K : P0 F) (Q : PUnit → sProp 𝕄) :
    iprop(rd c arg17 X17 ∗ rd c arg12 X12 ∗ (rd c arg17 X17 -∗ rd c arg12 (putRows t X17 X12) -∗ runs c K Q))
    ⊢ runs c (epilogueP arg12 arg17 t K) Q := by
  unfold epilogueP
  iintro ⟨H7, H2, HK⟩
  iapply (load_wp arg17 c X17 _ _ _ _ _ Q)
  isplitl [H7]; · iexact H7
  iintro H7
  iapply (loadR_wp arg12 c X12 _ _ _ Q)
  isplitl [H2]; · iexact H2
  iintro H2
  iapply (storeR_wp arg12 c X12 (putRows t X17 X12) _ _ _ _ _ Q ?_ ?_)
  · intro (x : S128x128.Idx)
    obtain ⟨a, b, rfl⟩ : ∃ a b : Fin 128, x = ix2 a b := ⟨x 0, x 1, funext fun k => by match k with | 0 => rfl | 1 => rfl⟩
    exact (putRows_at t X17 X12 _ a b rfl (by show 0 + 1 * b.val = b.val; omega)).trans (planeT_apply t X17 a b).symm
  · intro y hy
    refine if_neg fun h0 => hy ?_
    have ht := t.isLt
    have hy0 : (y 0).val < 512 := (y 0).isLt
    have hy1 : (y 1).val < 128 := (y 1).isLt
    refine LoadRect.mem_set _ |>.mpr fun a => ?_
    match a with
    | 0 => exact ⟨(y 0).val / 4, by show _ < 128; omega, by show _ = t.val + 4 * ((y 0).val / 4); omega⟩
    | 1 => exact ⟨(y 1).val, hy1, by show _ = 0 + 1 * (y 1).val; omega⟩
  isplitl [H2]; · iexact H2
  iintro H2
  iapply HK $$ H7 H2

/-- The cast weight tile written. -/
theorem castP_wp (arg3 : Memref sig .tc .vmem S1024x2048 .f32) (arg14 : Memref sig .tc .vmem S1024x2048 .bf16) (harg14 : arg14.IsWhole)
    (c : Dev nD) (X3 : Vec F S1024x2048 .f32) (X14 : Vec F S1024x2048 .bf16) (K : P0 F) (Q : PUnit → sProp 𝕄) :
    iprop(rd c arg3 X3 ∗ rd c arg14 X14 ∗ (rd c arg3 X3 -∗ rd c arg14 (truncf .bf16 X3 bitsLt_bf16_f32) -∗ runs c K Q))
    ⊢ runs c (castP arg3 arg14 harg14 K) Q := by
  unfold castP
  iintro ⟨H3, H4, HK⟩
  iapply (load_wp arg3 c X3 _ _ _ _ _ Q)
  isplitl [H3]; · iexact H3
  iintro H3
  iapply (load_wp arg14 c X14 _ _ _ _ _ Q)
  isplitl [H4]; · iexact H4
  iintro H4
  iapply (store_wp arg14 c X14 _ _ _ _ _ _ _ Q)
  isplitl [H4]; · iexact H4
  iintro H4
  rw [win_full, put_full _ _ (by decide), shapeCast_id, shapeCast_id]
  iapply HK $$ H3 H4

end

end Cert.KernelIdeal.Hand
-- ==== Proof.Whole.lean ====
module

public import proofs.«01_k».proof.Proof.Steps
public import Idealize.ShloMosaic.Lib.VecWindow
public import Idealize.ShloMosaic.Lib.PointwiseCore

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1088x2048 .bf16)
  (arg3 : Memref sig .tc .vmem S1024x2048 .f32)
  (arg4 : Memref sig .tc .vmem S512x128 .f32)
  (arg5 : Memref sig .tc .vmem S512x128 .f32)
  (arg6 : Memref sig .tc .vmem S512x128 .f32)
  (arg7 : Memref sig .tc .vmem S512x128 .f32)
  (arg8 : Memref sig .tc .vmem S512x128 .f32)
  (arg9 : Memref sig .tc .vmem S512x128 .f32)
  (arg10 : Memref sig .tc .vmem S1x32x64x128 .f32)
  (arg11 : Memref sig .tc .vmem S1088x1024 .f32)
  (arg12 : Memref sig .tc .vmem S512x128 .f32)
  (arg13 : Memref sig .tc .vmem S1x32x64x128 .f32)
  (arg14 : Memref sig .tc .vmem S1024x2048 .bf16)
  (arg15 : Memref sig .tc .vmem S5x4x128x128 .f32)
  (arg16 : Memref sig .tc .vmem S4x128x128 .f32)
  (arg17 : Memref sig .tc .vmem S4x128x128 .f32)
  (X2 : Vec F S1088x2048 .bf16)
  (X3 : Vec F S1024x2048 .f32)
  (X4 : Vec F S512x128 .f32)
  (X5 : Vec F S512x128 .f32)
  (X6 : Vec F S512x128 .f32)
  (X7 : Vec F S512x128 .f32)
  (X8 : Vec F S512x128 .f32)
  (X9 : Vec F S512x128 .f32)
  (X10 : Vec F S1x32x64x128 .f32)
  (X11 : Vec F S1088x1024 .f32)
  (X12 : Vec F S512x128 .f32)
  (X13 : Vec F S1x32x64x128 .f32)
  (X14 : Vec F S1024x2048 .bf16)
  (X15 : Vec F S5x4x128x128 .f32)
  (X16 : Vec F S4x128x128 .f32)
  (X17 : Vec F S4x128x128 .f32)

/-- The cast tile after the step: made anew at the first inner step. -/
def cast14 : Vec F S1024x2048 .bf16 := if cond1 i = 1#1 then truncf .bf16 X3 bitsLt_bf16_f32 else X14

/-- The operand planes after the step: written at the first step of a group. -/
def planes15 : Vec F S5x4x128x128 .f32 :=
  if cond3 i = 1#1 then planesT X4 X5 X6 X8 X9 3 (planesT X4 X5 X6 X8 X9 2 (planesT X4 X5 X6 X8 X9 1 (planesT X4 X5 X6 X8 X9 0 X15)))
  else X15

/-- The value planes after the step: written at the first step of a group. -/
def planes16 : Vec F S4x128x128 .f32 :=
  if cond3 i = 1#1 then putV 3 X7 (putV 2 X7 (putV 1 X7 (putV 0 X7 X16))) else X16

/-- The projection's four quarters. -/
def zAll : Vec F S1088x1024 .f32 := putZ X2 X14 3 (putZ X2 X14 2 (putZ X2 X14 1 (putZ X2 X14 0 X11)))

/-- The output rows after the step: written at the last step of a group. -/
def rows12 : Vec F S512x128 .f32 :=
  if k0_cond4 i = 1#1 then putRows 3 X17 (putRows 2 X17 (putRows 1 X17 (putRows 0 X17 X12))) else X12

/-- The cast at the first inner step, run. -/
theorem when1_wp (harg14 : arg14.IsWhole) (K : P0 F) (Q : PUnit → sProp 𝕄) :
    iprop(rd c arg3 X3 ∗ rd c arg14 X14
      ∗ (rd c arg3 X3 -∗ rd c arg14 (cast14 i X3 X14) -∗ runs c K Q))
    ⊢ runs c (whenP (cond1 i = 1#1) (fun _ => castP arg3 arg14 harg14) K) Q := by
  unfold whenP cast14
  split
  · exact castP_wp arg3 arg14 harg14 c X3 X14 K Q
  · iintro ⟨H3, H14, HK⟩
    iapply HK $$ H3 H14

/-- The planes at the first step of a group, run. -/
theorem when3_wp (K : P0 F) (Q : PUnit → sProp 𝕄) :
    iprop(rd c arg4 X4 ∗ rd c arg5 X5 ∗ rd c arg6 X6 ∗ rd c arg7 X7 ∗ rd c arg8 X8 ∗ rd c arg9 X9 ∗ rd c arg15 X15 ∗ rd c arg16 X16
      ∗ (rd c arg4 X4 -∗ rd c arg5 X5 -∗ rd c arg6 X6 -∗ rd c arg7 X7 -∗ rd c arg8 X8 -∗ rd c arg9 X9 -∗ rd c arg15 (planes15 i X4 X5 X6 X8 X9 X15) -∗ rd c arg16 (planes16 i X7 X16) -∗ runs c K Q))
    ⊢ runs c (whenP (cond3 i = 1#1) (fun _ K =>
      prologueP arg4 arg5 arg6 arg7 arg8 arg9 arg15 arg16 0 <| prologueP arg4 arg5 arg6 arg7 arg8 arg9 arg15 arg16 1 <|
      prologueP arg4 arg5 arg6 arg7 arg8 arg9 arg15 arg16 2 <| prologueP arg4 arg5 arg6 arg7 arg8 arg9 arg15 arg16 3 K) K) Q := by
  unfold whenP planes15 planes16
  split
  · iintro ⟨H4, H5, H6, H7, H8, H9, H15, H16, HK⟩
    iapply (prologueP_wp arg4 arg5 arg6 arg7 arg8 arg9 arg15 arg16 c 0 X4 X5 X6 X7 X8 X9 _ _ _ Q)
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    iintro H4 H5 H6 H7 H8 H9 H15 H16
    iapply (prologueP_wp arg4 arg5 arg6 arg7 arg8 arg9 arg15 arg16 c 1 X4 X5 X6 X7 X8 X9 _ _ _ Q)
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    iintro H4 H5 H6 H7 H8 H9 H15 H16
    iapply (prologueP_wp arg4 arg5 arg6 arg7 arg8 arg9 arg15 arg16 c 2 X4 X5 X6 X7 X8 X9 _ _ _ Q)
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    iintro H4 H5 H6 H7 H8 H9 H15 H16
    iapply (prologueP_wp arg4 arg5 arg6 arg7 arg8 arg9 arg15 arg16 c 3 X4 X5 X6 X7 X8 X9 _ _ _ Q)
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    iintro H4 H5 H6 H7 H8 H9 H15 H16
    iapply HK $$ H4 H5 H6 H7 H8 H9 H15 H16
  · iintro ⟨H4, H5, H6, H7, H8, H9, H15, H16, HK⟩
    iapply HK $$ H4 H5 H6 H7 H8 H9 H15 H16

/-- A quarter of the projection and its eight value columns, run. -/
theorem octP_wp (h2 : k0_cond2 i = 1#1) (p : Fin 4) (K : P0 F) (Q : PUnit → sProp 𝕄) :
    iprop(rd c arg2 X2 ∗ rd c arg14 X14 ∗ rd c arg11 X11 ∗ rd c arg10 X10 ∗ rd c arg15 X15 ∗ rd c arg16 X16 ∗ rd c arg13 (slabUpTo X10 X15 X16 i X13 (8 * p.val)) ∗ rd c arg17 (rowsUpTo X10 X15 X16 i X17 (8 * p.val))
      ∗ (rd c arg2 X2 -∗ rd c arg14 X14 -∗ rd c arg11 (putZ X2 X14 p X11) -∗ rd c arg10 X10 -∗ rd c arg15 X15 -∗ rd c arg16 X16 -∗ rd c arg13 (slabUpTo X10 X15 X16 i X13 (8 * p.val + 7 + 1)) -∗ rd c arg17 (rowsUpTo X10 X15 X16 i X17 (8 * p.val + 7 + 1)) -∗ runs c K Q))
    ⊢ runs c (octP i arg2 arg10 arg11 arg13 arg14 arg15 arg16 arg17 h2 p K) Q := by
  unfold octP
  dsimp only
  iintro ⟨H2, H14, H11, H10, H15, H16, H13, H17, HK⟩
  iapply (projP_wp arg2 arg11 arg14 c p X2 X11 X14 _ Q)
  isplitl [H2]; · iexact H2
  isplitl [H14]; · iexact H14
  isplitl [H11]; · iexact H11
  iintro H2 H14 H11
  iapply (iterP_upTo_wp arg10 arg13 arg15 arg16 arg17 c i h2 (8 * p.val + 0) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 1) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 2) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 3) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 4) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 5) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 6) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply (iterP_upTo_wp arg10 arg13 arg15 arg16 arg17 c i h2 (8 * p.val + 7) _ X10 X13 X15 X16 X17 _ Q)
  isplitl [H10]; · iexact H10
  isplitl [H15]; · iexact H15
  isplitl [H16]; · iexact H16
  isplitl [H13]; · iexact H13
  isplitl [H17]; · iexact H17
  iintro H10 H15 H16 H13 H17
  iapply HK $$ H2 H14 H11 H10 H15 H16 H13 H17

/-- The output rows at the last step of a group, run. -/
theorem when4_wp (K : P0 F) (Q : PUnit → sProp 𝕄) :
    iprop(rd c arg17 X17 ∗ rd c arg12 X12
      ∗ (rd c arg17 X17 -∗ rd c arg12 (rows12 i X12 X17) -∗ runs c K Q))
    ⊢ runs c (whenP (k0_cond4 i = 1#1) (fun _ K =>
      epilogueP arg12 arg17 0 <| epilogueP arg12 arg17 1 <| epilogueP arg12 arg17 2 <|
      epilogueP arg12 arg17 3 K) K) Q := by
  unfold whenP rows12
  split
  · iintro ⟨H17, H12, HK⟩
    iapply (epilogueP_wp arg12 arg17 c 0 _ X17 _ Q)
    isplitl [H17]; · iexact H17
    isplitl [H12]; · iexact H12
    iintro H17 H12
    iapply (epilogueP_wp arg12 arg17 c 1 _ X17 _ Q)
    isplitl [H17]; · iexact H17
    isplitl [H12]; · iexact H12
    iintro H17 H12
    iapply (epilogueP_wp arg12 arg17 c 2 _ X17 _ Q)
    isplitl [H17]; · iexact H17
    isplitl [H12]; · iexact H12
    iintro H17 H12
    iapply (epilogueP_wp arg12 arg17 c 3 _ X17 _ Q)
    isplitl [H17]; · iexact H17
    isplitl [H12]; · iexact H12
    iintro H17 H12
    iapply HK $$ H17 H12
  · iintro ⟨H17, H12, HK⟩
    iapply HK $$ H17 H12

/-- The projection alone, run. -/
theorem when5_wp (K : P0 F) (Q : PUnit → sProp 𝕄) :
    iprop(rd c arg2 X2 ∗ rd c arg14 X14 ∗ rd c arg11 X11
      ∗ (rd c arg2 X2 -∗ rd c arg14 X14 -∗ rd c arg11 (if k0_cond5 i = 1#1 then zAll X2 X11 X14 else X11) -∗ runs c K Q))
    ⊢ runs c (whenP (k0_cond5 i = 1#1) (fun _ K =>
    projP arg2 arg11 arg14 0 <| projP arg2 arg11 arg14 1 <| projP arg2 arg11 arg14 2 <|
    projP arg2 arg11 arg14 3 K) K) Q := by
  unfold whenP zAll
  split
  · iintro ⟨H2, H14, H11, HK⟩
    iapply (projP_wp arg2 arg11 arg14 c 0 X2 _ X14 _ Q)
    isplitl [H2]; · iexact H2
    isplitl [H14]; · iexact H14
    isplitl [H11]; · iexact H11
    iintro H2 H14 H11
    iapply (projP_wp arg2 arg11 arg14 c 1 X2 _ X14 _ Q)
    isplitl [H2]; · iexact H2
    isplitl [H14]; · iexact H14
    isplitl [H11]; · iexact H11
    iintro H2 H14 H11
    iapply (projP_wp arg2 arg11 arg14 c 2 X2 _ X14 _ Q)
    isplitl [H2]; · iexact H2
    isplitl [H14]; · iexact H14
    isplitl [H11]; · iexact H11
    iintro H2 H14 H11
    iapply (projP_wp arg2 arg11 arg14 c 3 X2 _ X14 _ Q)
    isplitl [H2]; · iexact H2
    isplitl [H14]; · iexact H14
    isplitl [H11]; · iexact H11
    iintro H2 H14 H11
    iapply HK $$ H2 H14 H11
  · iintro ⟨H2, H14, H11, HK⟩
    iapply HK $$ H2 H14 H11

/-- The value planes, the state slab and the output rows after the step's 32 value columns. -/
def slab13 : Vec F S1x32x64x128 .f32 := slabUpTo X10 X15 X16 i X13 32
/-- The output rows after the step's 32 value columns. -/
def rows17 : Vec F S4x128x128 .f32 := rowsUpTo X10 X15 X16 i X17 32

/-- The step's share of the recurrence, with the projection in quarters between, run. -/
theorem when2_wp (K : P0 F) (Q : PUnit → sProp 𝕄) :
    iprop(rd c arg2 X2 ∗ rd c arg4 X4 ∗ rd c arg5 X5 ∗ rd c arg6 X6 ∗ rd c arg7 X7 ∗ rd c arg8 X8 ∗ rd c arg9 X9 ∗ rd c arg10 X10 ∗ rd c arg11 X11 ∗ rd c arg12 X12 ∗ rd c arg13 X13 ∗ rd c arg14 X14 ∗ rd c arg15 X15 ∗ rd c arg16 X16 ∗ rd c arg17 X17
      ∗ (rd c arg2 X2 -∗ rd c arg4 X4 -∗ rd c arg5 X5 -∗ rd c arg6 X6 -∗ rd c arg7 X7 -∗ rd c arg8 X8 -∗ rd c arg9 X9 -∗ rd c arg10 X10 -∗ rd c arg11 (if k0_cond2 i = 1#1 then zAll X2 X11 X14 else X11) -∗ rd c arg12 (if k0_cond2 i = 1#1 then rows12 i X12 (rows17 i X10 (planes15 i X4 X5 X6 X8 X9 X15) (planes16 i X7 X16) X17) else X12) -∗ rd c arg13 (if k0_cond2 i = 1#1 then slab13 i X10 X13 (planes15 i X4 X5 X6 X8 X9 X15) (planes16 i X7 X16) else X13) -∗ rd c arg14 X14 -∗ rd c arg15 (if k0_cond2 i = 1#1 then (planes15 i X4 X5 X6 X8 X9 X15) else X15) -∗ rd c arg16 (if k0_cond2 i = 1#1 then (planes16 i X7 X16) else X16) -∗ rd c arg17 (if k0_cond2 i = 1#1 then rows17 i X10 (planes15 i X4 X5 X6 X8 X9 X15) (planes16 i X7 X16) X17 else X17) -∗ runs c K Q))
    ⊢ runs c (whenP (k0_cond2 i = 1#1) (fun h2 K =>
    whenP (cond3 i = 1#1) (fun _ K =>
      prologueP arg4 arg5 arg6 arg7 arg8 arg9 arg15 arg16 0 <| prologueP arg4 arg5 arg6 arg7 arg8 arg9 arg15 arg16 1 <|
      prologueP arg4 arg5 arg6 arg7 arg8 arg9 arg15 arg16 2 <| prologueP arg4 arg5 arg6 arg7 arg8 arg9 arg15 arg16 3 K) <|
    octP i arg2 arg10 arg11 arg13 arg14 arg15 arg16 arg17 h2 0 <|
    octP i arg2 arg10 arg11 arg13 arg14 arg15 arg16 arg17 h2 1 <|
    octP i arg2 arg10 arg11 arg13 arg14 arg15 arg16 arg17 h2 2 <|
    octP i arg2 arg10 arg11 arg13 arg14 arg15 arg16 arg17 h2 3 <|
    whenP (k0_cond4 i = 1#1) (fun _ K =>
      epilogueP arg12 arg17 0 <| epilogueP arg12 arg17 1 <| epilogueP arg12 arg17 2 <|
      epilogueP arg12 arg17 3 K) K) K) Q := by
  unfold whenP
  split
  rotate_left
  · iintro ⟨H2, H4, H5, H6, H7, H8, H9, H10, H11, H12, H13, H14, H15, H16, H17, HK⟩
    iapply HK $$ H2 H4 H5 H6 H7 H8 H9 H10 H11 H12 H13 H14 H15 H16 H17
  rename_i h2
  iintro ⟨H2, H4, H5, H6, H7, H8, H9, H10, H11, H12, H13, H14, H15, H16, H17, HK⟩
  iapply (when3_wp c i arg4 arg5 arg6 arg7 arg8 arg9 arg15 arg16 X4 X5 X6 X7 X8 X9 X15 X16 _ Q)
  isplitl [H4]; · iexact H4
  isplitl [H5]; · iexact H5
  isplitl [H6]; · iexact H6
  isplitl [H7]; · iexact H7
  isplitl [H8]; · iexact H8
  isplitl [H9]; · iexact H9
  isplitl [H15]; · iexact H15
  isplitl [H16]; · iexact H16
  iintro H4 H5 H6 H7 H8 H9 H15 H16
  iapply (octP_wp c i arg2 arg10 arg11 arg13 arg14 arg15 arg16 arg17 X2 X10 _ X13 X14 _ _ X17 h2 0 _ Q)
  isplitl [H2]; · iexact H2
  isplitl [H14]; · iexact H14
  isplitl [H11]; · iexact H11
  isplitl [H10]; · iexact H10
  isplitl [H15]; · iexact H15
  isplitl [H16]; · iexact H16
  isplitl [H13]; · iexact H13
  isplitl [H17]; · iexact H17
  iintro H2 H14 H11 H10 H15 H16 H13 H17
  iapply (octP_wp c i arg2 arg10 arg11 arg13 arg14 arg15 arg16 arg17 X2 X10 _ X13 X14 _ _ X17 h2 1 _ Q)
  isplitl [H2]; · iexact H2
  isplitl [H14]; · iexact H14
  isplitl [H11]; · iexact H11
  isplitl [H10]; · iexact H10
  isplitl [H15]; · iexact H15
  isplitl [H16]; · iexact H16
  isplitl [H13]; · iexact H13
  isplitl [H17]; · iexact H17
  iintro H2 H14 H11 H10 H15 H16 H13 H17
  iapply (octP_wp c i arg2 arg10 arg11 arg13 arg14 arg15 arg16 arg17 X2 X10 _ X13 X14 _ _ X17 h2 2 _ Q)
  isplitl [H2]; · iexact H2
  isplitl [H14]; · iexact H14
  isplitl [H11]; · iexact H11
  isplitl [H10]; · iexact H10
  isplitl [H15]; · iexact H15
  isplitl [H16]; · iexact H16
  isplitl [H13]; · iexact H13
  isplitl [H17]; · iexact H17
  iintro H2 H14 H11 H10 H15 H16 H13 H17
  iapply (octP_wp c i arg2 arg10 arg11 arg13 arg14 arg15 arg16 arg17 X2 X10 _ X13 X14 _ _ X17 h2 3 _ Q)
  isplitl [H2]; · iexact H2
  isplitl [H14]; · iexact H14
  isplitl [H11]; · iexact H11
  isplitl [H10]; · iexact H10
  isplitl [H15]; · iexact H15
  isplitl [H16]; · iexact H16
  isplitl [H13]; · iexact H13
  isplitl [H17]; · iexact H17
  iintro H2 H14 H11 H10 H15 H16 H13 H17
  iapply (when4_wp c i arg12 arg17 X12 _ _ Q)
  isplitl [H17]; · iexact H17
  isplitl [H12]; · iexact H12
  iintro H17 H12
  unfold zAll slab13 rows17
  iapply HK $$ H2 H4 H5 H6 H7 H8 H9 H10 H11 H12 H13 H14 H15 H16 H17

/-- The body run: what each buffer holds afterwards. -/
theorem bodyS_wp (harg14 : arg14.IsWhole) (Q : PUnit → sProp 𝕄) :
    iprop(rd c arg2 X2 ∗ rd c arg3 X3 ∗ rd c arg4 X4 ∗ rd c arg5 X5 ∗ rd c arg6 X6 ∗ rd c arg7 X7 ∗ rd c arg8 X8 ∗ rd c arg9 X9 ∗ rd c arg10 X10 ∗ rd c arg11 X11 ∗ rd c arg12 X12 ∗ rd c arg13 X13 ∗ rd c arg14 X14 ∗ rd c arg15 X15 ∗ rd c arg16 X16 ∗ rd c arg17 X17
      ∗ (rd c arg2 X2 -∗ rd c arg3 X3 -∗ rd c arg4 X4 -∗ rd c arg5 X5 -∗ rd c arg6 X6 -∗ rd c arg7 X7 -∗ rd c arg8 X8 -∗ rd c arg9 X9 -∗ rd c arg10 X10 -∗ rd c arg11 (if k0_cond5 i = 1#1 then zAll X2 (if k0_cond2 i = 1#1 then zAll X2 X11 (cast14 i X3 X14) else X11) (cast14 i X3 X14) else (if k0_cond2 i = 1#1 then zAll X2 X11 (cast14 i X3 X14) else X11)) -∗ rd c arg12 (if k0_cond2 i = 1#1 then rows12 i X12 (rows17 i X10 (planes15 i X4 X5 X6 X8 X9 X15) (planes16 i X7 X16) X17) else X12) -∗ rd c arg13 (if k0_cond2 i = 1#1 then slab13 i X10 X13 (planes15 i X4 X5 X6 X8 X9 X15) (planes16 i X7 X16) else X13) -∗ rd c arg14 (cast14 i X3 X14) -∗ rd c arg15 (if k0_cond2 i = 1#1 then (planes15 i X4 X5 X6 X8 X9 X15) else X15) -∗ rd c arg16 (if k0_cond2 i = 1#1 then (planes16 i X7 X16) else X16) -∗ rd c arg17 (if k0_cond2 i = 1#1 then rows17 i X10 (planes15 i X4 X5 X6 X8 X9 X15) (planes16 i X7 X16) X17 else X17) -∗ Q ⟨⟩))
    ⊢ runs c (bodyS i arg2 arg3 arg4 arg5 arg6 arg7 arg8 arg9 arg10 arg11 arg12 arg13 arg14 harg14 arg15 arg16 arg17) Q := by
  unfold bodyS
  iintro ⟨H2, H3, H4, H5, H6, H7, H8, H9, H10, H11, H12, H13, H14, H15, H16, H17, HK⟩
  iapply (when1_wp c i arg3 arg14 X3 X14 harg14 _ Q)
  isplitl [H3]; · iexact H3
  isplitl [H14]; · iexact H14
  iintro H3 H14
  iapply (when2_wp c i arg2 arg4 arg5 arg6 arg7 arg8 arg9 arg10 arg11 arg12 arg13 arg14 arg15 arg16 arg17 X2 X4 X5 X6 X7 X8 X9 X10 X11 X12 X13 _ X15 X16 X17 _ Q)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro H2 H4 H5 H6 H7 H8 H9 H10 H11 H12 H13 H14 H15 H16 H17
  iapply (when5_wp c i arg2 arg11 arg14 X2 _ _ _ Q)
  isplitl [H2]; · iexact H2
  isplitl [H14]; · iexact H14
  isplitl [H11]; · iexact H11
  iintro H2 H14 H11
  unfold runs
  rw [wp_ret]
  iapply HK $$ H2 H3 H4 H5 H6 H7 H8 H9 H10 H11 H12 H13 H14 H15 H16 H17

end Cert.KernelIdeal.Hand
-- ==== Proof.Closed.lean ====
module

public import proofs.«01_k».proof.Proof.Whole

@[expose] public section

noncomputable section

namespace Cert.KernelIdeal.Hand

open Idealize.ShloMosaic Cert.KernelIdeal Cert.KernelIdeal.Gen

variable {F : FTy → Type} [FloatOps F]

/-- A put read inside its window. -/
theorem put_in {S : Shape} {α : Type} (X : S.Idx → α) (off size : Fin S.rank → Nat) (w : ((a : Fin S.rank) → Fin (size a)) → α)
    (y : S.Idx) (x : (a : Fin S.rank) → Fin (size a)) (h : ∀ a, (y a).val = off a + (x a).val) :
    VecWindow.put X off size w y = w x := by
  unfold VecWindow.put
  rw [dif_pos fun a => ⟨by rw [h a]; omega, by rw [h a]; have := (x a).isLt; omega⟩]
  exact congrArg w (funext fun a => Fin.ext (by rw [Rect.unitLocal_val, h a]; omega))

/-- A put read outside its window on some axis. -/
theorem put_out {S : Shape} {α : Type} (X : S.Idx → α) (off size : Fin S.rank → Nat) (w : ((a : Fin S.rank) → Fin (size a)) → α)
    (y : S.Idx) (a : Fin S.rank) (h : (y a).val < off a ∨ off a + size a ≤ (y a).val) :
    VecWindow.put X off size w y = X y := by
  unfold VecWindow.put
  rw [dif_neg fun hall => by have := hall a; omega]

/-! ## The projection -/

/-- The projection of a block of rows: column `b` in quarter `b / 256`. -/
def zC (X2 : Vec F S1088x2048 .bf16) (X14 : Vec F S1024x2048 .bf16) : Vec F S1088x1024 .f32 :=
  fun y => quarter X2 X14 ⟨(y 1).val / 256, by have : (y 1).val < 1024 := (y 1).isLt; omega⟩
    (ix2 (y 0) ⟨(y 1).val % 256, Nat.mod_lt _ (by decide)⟩)

/-- The quarters written one after the other are the projection, whatever was there before. -/
theorem zAll_eq (X2 : Vec F S1088x2048 .bf16) (X14 : Vec F S1024x2048 .bf16) (X11 : Vec F S1088x1024 .f32) :
    zAll X2 X11 X14 = zC X2 X14 := by
  funext y
  have h1 : (y 1).val < 1024 := (y 1).isLt
  have key (p : Fin 4) (X : Vec F S1088x1024 .f32) (hp : (y 1).val / 256 = p.val) : putZ X2 X14 p X y = zC X2 X14 y := by
    have e : (⟨(y 1).val / 256, by omega⟩ : Fin 4) = p := Fin.ext hp
    unfold putZ zC
    rw [e]
    exact put_in X (zOff p) S1088x256.size _ y (ix2 (y 0) ⟨(y 1).val % 256, Nat.mod_lt _ (by decide)⟩) fun a => by
      match a with
      | 0 => exact (Nat.zero_add _).symm
      | 1 => show (y 1).val = 256 * p.val + (y 1).val % 256; omega
  have skip (p : Fin 4) (X : Vec F S1088x1024 .f32) (hp : (y 1).val / 256 ≠ p.val) : putZ X2 X14 p X y = X y :=
    put_out X (zOff p) S1088x256.size _ y 1 (by show (y 1).val < 256 * p.val ∨ 256 * p.val + 256 ≤ (y 1).val; omega)
  unfold zAll
  by_cases h3 : (y 1).val / 256 = 3
  · exact key 3 _ h3
  rw [skip 3 _ h3]
  by_cases h2 : (y 1).val / 256 = 2
  · exact key 2 _ h2
  rw [skip 2 _ h2]
  by_cases h1 : (y 1).val / 256 = 1
  · exact key 1 _ h1
  rw [skip 1 _ h1]
  exact key 0 _ (by show (y 1).val / 256 = 0; omega)

/-! ## The planes -/

/-- Operand `q`'s rows of token `t`. -/
def opRows (X4 X5 X6 X8 X9 : Vec F S512x128 .f32) (q : Fin 5) (t : Fin 4) : FVec F S128x128 .f32 :=
  match q with
  | 0 => rowsOf X4 t | 1 => exp (rowsOf X5 t) | 2 => rowsOf X6 t | 3 => rowsOf X8 t | 4 => rowsOf X9 t

/-- The operand planes of a group: plane `q` of token `t` holds its operand's rows of that token, transposed. -/
def opC (X4 X5 X6 X8 X9 : Vec F S512x128 .f32) : Vec F S5x4x128x128 .f32 := fun y =>
  opRows X4 X5 X6 X8 X9 (y 0) (y 1) (ix2 (y 3) (y 2))

/-- The value planes of a group. -/
def vtC (X7 : Vec F S512x128 .f32) : Vec F S4x128x128 .f32 := fun y => rowsOf X7 (y 0) (ix2 (y 2) (y 1))

theorem putPlane_apply (f : FVec F S128x128 .f32 → FVec F S128x128 .f32) (q q' : Fin 5) (t t' : Fin 4) (X : Vec F S512x128 .f32)
    (X15 : Vec F S5x4x128x128 .f32) (a b : Fin 128) :
    putPlane f q t X X15 (ix4 q' t' a b) = if q' = q ∧ t' = t then f (rowsOf X t) (ix2 b a) else X15 (ix4 q' t' a b) := by
  have hT (W : FVec F S128x128 .f32) : shapeCast S1x1x128x128 (transpose S128x128 [1, 0] W transposes_S128x128_p1_0_S128x128) shapeCasts_S128x128_S1x1x128x128 (ix4 0 0 a b) = W (ix2 b a) := by
    pointwise
  unfold putPlane
  split
  · rename_i h
    obtain ⟨rfl, rfl⟩ := h
    refine (put_in X15 (opOff q' t') S1x1x128x128.size _ (ix4 q' t' a b) (ix4 0 0 a b : S1x1x128x128.Idx) fun k => ?_).trans (hT _)
    match k with
    | 0 => rfl
    | 1 => rfl
    | 2 => exact (Nat.zero_add _).symm
    | 3 => exact (Nat.zero_add _).symm
  · rename_i h
    by_cases hq : q' = q
    · have ht : t' ≠ t := fun e => h ⟨hq, e⟩
      exact put_out X15 (opOff q t) S1x1x128x128.size _ _ 1 (by
        show t'.val < t.val ∨ t.val + 1 ≤ t'.val
        have : t'.val ≠ t.val := fun e => ht (Fin.ext e)
        omega)
    · exact put_out X15 (opOff q t) S1x1x128x128.size _ _ 0 (by
        show q'.val < q.val ∨ q.val + 1 ≤ q'.val
        have : q'.val ≠ q.val := fun e => hq (Fin.ext e)
        omega)

theorem putV_apply (t t' : Fin 4) (X : Vec F S512x128 .f32) (X16 : Vec F S4x128x128 .f32) (a b : Fin 128) :
    putV t X X16 (ix3 t' a b) = if t' = t then rowsOf X t (ix2 b a) else X16 (ix3 t' a b) := by
  have hT (W : FVec F S128x128 .f32) : shapeCast S1x128x128 (transpose S128x128 [1, 0] W transposes_S128x128_p1_0_S128x128) shapeCasts_S128x128_S1x128x128 (ix3 0 a b) = W (ix2 b a) := by
    pointwise
  unfold putV
  split
  · rename_i h
    subst h
    refine (put_in X16 (vtOff t') S1x128x128.size _ (ix3 t' a b) (ix3 0 a b : S1x128x128.Idx) fun k => ?_).trans (hT _)
    match k with
    | 0 => rfl
    | 1 => exact (Nat.zero_add _).symm
    | 2 => exact (Nat.zero_add _).symm
  · rename_i h
    exact put_out X16 (vtOff t) S1x128x128.size _ _ 0 (by
        show t'.val < t.val ∨ t.val + 1 ≤ t'.val
        have : t'.val ≠ t.val := fun e => h (Fin.ext e)
        omega)

/-- The planes written one after the other, whatever was there before. -/
theorem planes_eq (X4 X5 X6 X8 X9 : Vec F S512x128 .f32) (X15 : Vec F S5x4x128x128 .f32) :
    planesT X4 X5 X6 X8 X9 3 (planesT X4 X5 X6 X8 X9 2 (planesT X4 X5 X6 X8 X9 1 (planesT X4 X5 X6 X8 X9 0 X15)))
      = opC X4 X5 X6 X8 X9 := by
  funext y
  obtain ⟨q, t, a, b, rfl⟩ : ∃ (q : Fin 5) (t : Fin 4) (a b : Fin 128), y = ix4 q t a b :=
    ⟨y 0, y 1, y 2, y 3, funext fun k => by match k with | 0 => rfl | 1 => rfl | 2 => rfl | 3 => rfl⟩
  simp only [planesT, putPlane_apply]
  show _ = opRows X4 X5 X6 X8 X9 q t (ix2 b a)
  fin_cases q <;> fin_cases t <;> rfl

theorem vplanes_eq (X7 : Vec F S512x128 .f32) (X16 : Vec F S4x128x128 .f32) :
    putV 3 X7 (putV 2 X7 (putV 1 X7 (putV 0 X7 X16))) = vtC X7 := by
  funext y
  obtain ⟨t, a, b, rfl⟩ : ∃ (t : Fin 4) (a b : Fin 128), y = ix3 t a b :=
    ⟨y 0, y 1, y 2, funext fun k => by match k with | 0 => rfl | 1 => rfl | 2 => rfl⟩
  simp only [putV_apply]
  show _ = rowsOf X7 t (ix2 b a)
  fin_cases t <;> rfl

/-! ## The output rows of a group -/

/-- The planes of a group's output transposed into rows. -/
def yC (X17 : Vec F S4x128x128 .f32) : Vec F S512x128 .f32 := fun y =>
  X17 (ix3 ⟨(y 0).val % 4, Nat.mod_lt _ (by decide)⟩ (y 1) ⟨(y 0).val / 4, by have : (y 0).val < 512 := (y 0).isLt; omega⟩)

theorem rows_eq (X12 : Vec F S512x128 .f32) (X17 : Vec F S4x128x128 .f32) :
    putRows 3 X17 (putRows 2 X17 (putRows 1 X17 (putRows 0 X17 X12))) = yC X17 := by
  funext y
  have h0 : (y 0).val < 512 := (y 0).isLt
  have key (t : Fin 4) (X : Vec F S512x128 .f32) (h : (y 0).val % 4 = t.val) : putRows t X17 X y = yC X17 y := by
    refine (putRows_at t X17 X y ⟨(y 0).val / 4, by omega⟩ (y 1) (by show (y 0).val = t.val + 4 * ((y 0).val / 4); omega) rfl).trans ?_
    unfold yC
    rw [show (⟨(y 0).val % 4, Nat.mod_lt _ (by decide)⟩ : Fin 4) = t from Fin.ext h]
  have skip (t : Fin 4) (X : Vec F S512x128 .f32) (h : (y 0).val % 4 ≠ t.val) : putRows t X17 X y = X y := if_neg h
  by_cases h3 : (y 0).val % 4 = 3
  · exact key 3 _ h3
  rw [skip 3 _ h3]
  by_cases h2 : (y 0).val % 4 = 2
  · exact key 2 _ h2
  rw [skip 2 _ h2]
  by_cases h1 : (y 0).val % 4 = 1
  · exact key 1 _ h1
  rw [skip 1 _ h1]
  exact key 0 _ (by show (y 0).val % 4 = 0; omega)

/-! ## The value columns -/

section
variable (X10 X13 : Vec F S1x32x64x128 .f32) (X15 : Vec F S5x4x128x128 .f32) (X16 X17 : Vec F S4x128x128 .f32) (i : grid0.Coords)

/-- The state slab after the step. -/
def slabC : Vec F S1x32x64x128 .f32 := fun y => stateAt X10 X15 X16 i (y 1) 3 (ix2 (y 2) (y 3))

theorem col13_apply (n n' : Fin 32) (a : Fin 64) (b : Fin 128) :
    col13 X10 X15 X16 i n X13 (ix4 0 n' a b) = if n' = n then stateAt X10 X15 X16 i n 3 (ix2 a b) else X13 (ix4 0 n' a b) := by
  have hT (W : FVec F S64x128 .f32) : shapeCast S1x1x64x128 W shapeCasts_S64x128_S1x1x64x128 (ix4 0 0 a b) = W (ix2 a b) := by
    pointwise
  unfold col13
  split
  · rename_i h
    subst h
    refine (put_in X13 (slabOff n') S1x1x64x128.size _ (ix4 0 n' a b) (ix4 0 0 a b : S1x1x64x128.Idx) fun k => ?_).trans (hT _)
    match k with
    | 0 => rfl
    | 1 => rfl
    | 2 => exact (Nat.zero_add _).symm
    | 3 => exact (Nat.zero_add _).symm
  · rename_i h
    exact put_out X13 (slabOff n) S1x1x64x128.size _ _ 1 (by
        show n'.val < n.val ∨ n.val + 1 ≤ n'.val
        have : n'.val ≠ n.val := fun e => h (Fin.ext e)
        omega)

theorem slabUpTo_apply (k : Nat) (n : Fin 32) (a : Fin 64) (b : Fin 128) :
    slabUpTo X10 X15 X16 i X13 k (ix4 0 n a b) = if n.val < k then stateAt X10 X15 X16 i n 3 (ix2 a b) else X13 (ix4 0 n a b) := by
  induction k with
  | zero => rfl
  | succ k ih =>
    rw [slabUpTo]
    split
    · rename_i hk
      rw [col13_apply, ih]
      by_cases h : n = ⟨k, hk⟩
      · subst h; simp
      · have : n.val ≠ k := fun e => h (Fin.ext e)
        rw [if_neg h]
        exact if_congr (by omega) rfl rfl
    · rw [ih]
      have := n.isLt
      exact if_congr (by omega) rfl rfl

/-- The slab after the step's value columns, whatever was there before. -/
theorem slab13_eq : slab13 i X10 X13 X15 X16 = slabC X10 X15 X16 i := by
  funext y
  obtain ⟨n, a, b, rfl⟩ : ∃ (n : Fin 32) (a : Fin 64) (b : Fin 128), y = ix4 0 n a b :=
    ⟨y 1, y 2, y 3, funext fun k => by
      match k with
      | 0 => exact Fin.ext (by have : (y 0).val < 1 := (y 0).isLt; show (y 0).val = 0; omega)
      | 1 => rfl | 2 => rfl | 3 => rfl⟩
  unfold slab13
  rw [slabUpTo_apply, if_pos n.isLt]
  rfl

theorem putRow_apply (t t' : Fin 4) (n : Fin 32) (w : FVec F S1x1x128 .f32) (r b : Fin 128) :
    VecWindow.put X17 (colOff t i n) S1x1x128.size w (ix3 t' r b)
      = if t' = t ∧ r.val = 32 * subN i + n.val then w (ix3 0 0 b) else X17 (ix3 t' r b) := by
  split
  · rename_i h
    obtain ⟨rfl, h⟩ := h
    refine put_in X17 (colOff t' i n) S1x1x128.size w (ix3 t' r b) (ix3 0 0 b : S1x1x128.Idx) fun k => ?_
    match k with
    | 0 => rfl
    | 1 => exact h
    | 2 => exact (Nat.zero_add _).symm
  · rename_i h
    by_cases hq : t' = t
    · have ht : r.val ≠ 32 * subN i + n.val := fun e => h ⟨hq, e⟩
      exact put_out X17 (colOff t i n) S1x1x128.size w _ 1 (by
        show r.val < 32 * subN i + n.val ∨ 32 * subN i + n.val + 1 ≤ r.val
        omega)
    · exact put_out X17 (colOff t i n) S1x1x128.size w _ 0 (by
        show t'.val < t.val ∨ t.val + 1 ≤ t'.val
        have : t'.val ≠ t.val := fun e => hq (Fin.ext e)
        omega)

theorem col17_apply (n : Fin 32) (t : Fin 4) (r b : Fin 128) :
    col17 X10 X15 X16 i n X17 (ix3 t r b)
      = if r.val = 32 * subN i + n.val then rowAt X10 X15 X16 i n t (ix3 0 0 b) else X17 (ix3 t r b) := by
  unfold col17
  refine (putRow_apply _ i 3 t n _ r b).trans ?_
  refine (if_congr Iff.rfl rfl (putRow_apply _ i 2 t n _ r b)).trans ?_
  refine (if_congr Iff.rfl rfl (if_congr Iff.rfl rfl (putRow_apply _ i 1 t n _ r b))).trans ?_
  refine (if_congr Iff.rfl rfl (if_congr Iff.rfl rfl (if_congr Iff.rfl rfl (putRow_apply X17 i 0 t n _ r b)))).trans ?_
  by_cases h : r.val = 32 * subN i + n.val
  · simp only [h, and_true, ↓reduceIte]
    fin_cases t <;> rfl
  · simp only [h, and_false, ↓reduceIte]

/-- The output rows after the step's first `k` value columns: rows `32·sub` to `32·sub + k - 1` are new. -/
theorem rowsUpTo_apply (k : Nat) (hk : k ≤ 32) (t : Fin 4) (r b : Fin 128) :
    rowsUpTo X10 X15 X16 i X17 k (ix3 t r b)
      = if 32 * subN i ≤ r.val ∧ r.val < 32 * subN i + k then
          rowAt X10 X15 X16 i ⟨r.val % 32, Nat.mod_lt _ (by decide)⟩ t (ix3 0 0 b)
        else X17 (ix3 t r b) := by
  induction k with
  | zero => rw [if_neg (by omega)]; rfl
  | succ k ih =>
    rw [rowsUpTo, dif_pos (by omega), col17_apply, ih (by omega)]
    by_cases h : r.val = 32 * subN i + k
    · rw [if_pos h, if_pos (by omega)]
      have : (⟨k, by omega⟩ : Fin 32) = ⟨r.val % 32, Nat.mod_lt _ (by decide)⟩ := Fin.ext (by show k = r.val % 32; omega)
      rw [this]
    · rw [if_neg h]
      exact if_congr (by omega) rfl rfl

theorem rows17_apply (t : Fin 4) (r b : Fin 128) :
    rows17 i X10 X15 X16 X17 (ix3 t r b)
      = if 32 * subN i ≤ r.val ∧ r.val < 32 * subN i + 32 then
          rowAt X10 X15 X16 i ⟨r.val % 32, Nat.mod_lt _ (by decide)⟩ t (ix3 0 0 b)
        else X17 (ix3 t r b) :=
  rowsUpTo_apply X10 X15 X16 X17 i 32 le_rfl t r b

end

end Cert.KernelIdeal.Hand
-- ==== Proof.Facts.lean ====
module

public import proofs.«01_k».proof.Proof.Closed
public import proofs.«01_k».proof.Proof.Gen.KernelIdeal.Frame

@[expose] public section

set_option maxRecDepth 100000

noncomputable section

namespace Cert.KernelIdeal.Hand

open Idealize.ShloMosaic Cert.KernelIdeal Cert.KernelIdeal.Gen
open Idealize.ShloMosaic.Pipeline (Dat Cfg Window)

/-! ## The grid's 40 points -/

/-- The weight tile is cast at the first point of each outer step. -/
theorem cond1_iff : ∀ t : Fin cfg0.N, cond1 (grid0.coords t) = 1#1 ↔ t.val % 8 = 0 := by decide +kernel
/-- The first 32 points advance the states. -/
theorem cond2_iff : ∀ t : Fin cfg0.N, k0_cond2 (grid0.coords t) = 1#1 ↔ t.val < 32 := by decide +kernel
/-- A group's first point writes its planes. -/
theorem cond3_iff : ∀ t : Fin cfg0.N, cond3 (grid0.coords t) = 1#1 ↔ t.val % 4 = 0 := by decide +kernel
/-- A group's last point writes its output rows. -/
theorem cond4_iff : ∀ t : Fin cfg0.N, k0_cond4 (grid0.coords t) = 1#1 ↔ t.val % 4 = 3 := by decide +kernel
/-- The last eight points only project. -/
theorem cond5_iff : ∀ t : Fin cfg0.N, k0_cond5 (grid0.coords t) = 1#1 ↔ 32 ≤ t.val := by decide +kernel
/-- A point's place in its group. -/
theorem subN_coords : ∀ t : Fin cfg0.N, subN (grid0.coords t) = t.val % 4 := by decide +kernel

theorem fetch0_2 : ∀ t : Fin cfg0.N, (cfg0.win 2).fetch t = true ↔ t.val % 4 = 0 ∧ t.val < 32 := by decide +kernel
theorem fetch0_3 : ∀ t : Fin cfg0.N, (cfg0.win 3).fetch t = true ↔ t.val % 4 = 0 ∧ t.val < 32 := by decide +kernel
theorem fetch0_4 : ∀ t : Fin cfg0.N, (cfg0.win 4).fetch t = true ↔ t.val % 4 = 0 ∧ t.val < 32 := by decide +kernel
theorem fetch0_5 : ∀ t : Fin cfg0.N, (cfg0.win 5).fetch t = true ↔ t.val % 4 = 0 ∧ t.val < 32 := by decide +kernel
theorem fetch0_6 : ∀ t : Fin cfg0.N, (cfg0.win 6).fetch t = true ↔ t.val % 4 = 0 ∧ t.val < 32 := by decide +kernel
theorem fetch0_7 : ∀ t : Fin cfg0.N, (cfg0.win 7).fetch t = true ↔ t.val % 4 = 0 ∧ t.val < 32 := by decide +kernel

theorem fetch0_10 : ∀ t : Fin cfg0.N, (cfg0.win 10).fetch t = false := by decide +kernel
theorem fetch0_11 : ∀ t : Fin cfg0.N, (cfg0.win 11).fetch t = false := by decide +kernel
theorem flush0_10 : ∀ t : Fin cfg0.N, (cfg0.win 10).flush t = true ↔ t.val % 4 = 3 ∧ t.val < 31 ∨ t.val = 39 := by decide +kernel
theorem flush0_11 : ∀ t : Fin cfg0.N, (cfg0.win 11).flush t = true ↔ t.val < 31 ∨ t.val = 39 := by decide +kernel
theorem idle0_9 : ∀ t : Fin cfg0.N, cfg0.idle 9 (cfg0.grid.coords t) = false := by decide +kernel
theorem idle0_10 : ∀ t : Fin cfg0.N, cfg0.idle 10 (cfg0.grid.coords t) = true ↔ ¬(t.val < 32 ∧ t.val % 4 = 3) := by decide +kernel
theorem idle0_11 : ∀ t : Fin cfg0.N, cfg0.idle 11 (cfg0.grid.coords t) = true ↔ ¬t.val < 32 := by decide +kernel

end Cert.KernelIdeal.Hand
-- ==== Proof.Data.lean ====
module

public import proofs.«01_k».proof.Proof.Facts

@[expose] public section

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## What the buffers hold -/

/-- The grid's point number `n`. -/
def point (n : Nat) (h : n < 40) : Fin cfg0.N := ⟨n, h⟩

theorem lt40 (t : Fin cfg0.N) : t.val < 40 := t.isLt

/-- The rows a point projects. -/
def inH (t : Fin cfg0.N) : Vec F S1088x2048 .bf16 := iblk m c 0 t
/-- The weight rows of a point. -/
def inW (t : Fin cfg0.N) : Vec F S1024x2048 .f32 := iblk m c 1 t
/-- The receptance columns of a point. -/
def inR (t : Fin cfg0.N) : Vec F S512x128 .f32 := iblk m c 2 t
/-- The log-decay columns of a point. -/
def inL (t : Fin cfg0.N) : Vec F S512x128 .f32 := iblk m c 3 t
/-- The key columns of a point. -/
def inK (t : Fin cfg0.N) : Vec F S512x128 .f32 := iblk m c 4 t
/-- The value columns of a point. -/
def inV (t : Fin cfg0.N) : Vec F S512x128 .f32 := iblk m c 5 t
/-- The removal-key columns of a point. -/
def inA (t : Fin cfg0.N) : Vec F S512x128 .f32 := iblk m c 6 t
/-- The replacement-key columns of a point. -/
def inB (t : Fin cfg0.N) : Vec F S512x128 .f32 := iblk m c 7 t
/-- The state slab of a point. -/
def inS (t : Fin cfg0.N) : Vec F S1x32x64x128 .f32 := iblk m c 8 t

/-- The cast weight tile of a point. -/
def wb (t : Fin cfg0.N) : Vec F S1024x2048 .bf16 := truncf .bf16 (inW m c t) bitsLt_bf16_f32
/-- The operand planes of a point's group. -/
def op (t : Fin cfg0.N) : Vec F S5x4x128x128 .f32 := opC (inR m c t) (inL m c t) (inK m c t) (inA m c t) (inB m c t)
/-- The value planes of a point's group. -/
def vt (t : Fin cfg0.N) : Vec F S4x128x128 .f32 := vtC (inV m c t)
/-- The projection a point writes. -/
def zOut (t : Fin cfg0.N) : Vec F S1088x1024 .f32 := zC (inH m c t) (wb m c t)
/-- The state slab a point writes. -/
def sOut (t : Fin cfg0.N) : Vec F S1x32x64x128 .f32 := slabC (inS m c t) (op m c t) (vt m c t) (grid0.coords t)
/-- The output planes of group `g`: row `r` is written by the group's point `r / 32`. -/
def yPlanes (g : Fin 8) : Vec F S4x128x128 .f32 := fun y =>
  let u := point (4 * g.val + (y 1).val / 32) (by have : (y 1).val < 128 := (y 1).isLt; omega)
  rowAt (inS m c u) (op m c u) (vt m c u) (grid0.coords u) ⟨(y 1).val % 32, Nat.mod_lt _ (by decide)⟩ (y 0) (ix3 0 0 (y 2))
/-- The output rows of group `g`. -/
def yOut (g : Fin 8) : Vec F S512x128 .f32 := yC (yPlanes m c g)

/-- A point's group; the points after the recurrence keep the last group's. -/
def groupOf (t : Fin cfg0.N) : Fin 8 := ⟨min (t.val / 4) 7, by omega⟩
/-- The last point up to `t` that advances a state. -/
def lastUnit (t : Fin cfg0.N) : Fin cfg0.N := point (min t.val 31) (by omega)

/-- The scratch buffers between points: after point `t`, the tile's cast; while the recurrence runs also the group's planes
and the output rows written so far. -/
def Good (n : Nat) (X14 : Vec F S1024x2048 .bf16) (X15 : Vec F S5x4x128x128 .f32) (X16 X17 : Vec F S4x128x128 .f32) : Prop :=
  ∀ t : Fin cfg0.N, t.val + 1 = n → X14 = wb m c t ∧ (t.val < 32 → X15 = op m c t ∧ X16 = vt m c t ∧
    ∀ (t4 : Fin 4) (r b : Fin 128), r.val < 32 * (t.val % 4 + 1) → X17 (ix3 t4 r b) = yPlanes m c (groupOf t) (ix3 t4 r b))

/-- The region's invariant. -/
def inv (n : Nat) : sProp 𝕄 :=
  iprop((∃ X14 X15 X16 X17, ⌜Good m c n X14 X15 X16 X17⌝ ∗ rd c (Memref.whole cc0_scratch0) X14 ∗ rd c (Memref.whole cc0_scratch1) X15
    ∗ rd c (Memref.whole cc0_scratch2) X16 ∗ rd c (Memref.whole cc0_scratch3) X17) ∗ ∃ r, prngReg c r)

/-- The proof data: each input's block stays in place, each output's is the closed form. -/
def dats (p : Fin 1) (c : Dev nD) : Dat τ (Elt F) Unit ℕ (UR sig nD τ) ℕ (cfgs p) c where
  A w := V m c (Pipeline.arrRef spec0 w)
  after := fun
    | 0 => iblk m c 0 | 1 => iblk m c 1 | 2 => iblk m c 2 | 3 => iblk m c 3 | 4 => iblk m c 4 | 5 => iblk m c 5
    | 6 => iblk m c 6 | 7 => iblk m c 7 | 8 => iblk m c 8
    | 9 => fun t => zOut m c t
    | 10 => fun t => yOut m c (groupOf t)
    | 11 => fun t => sOut m c (lastUnit t)
  Φ n := inv m c n.val
  q _ := fullShare
  owed _ := 0

theorem A_eq (w : Fin cfg0.W) : (dats m 0 c).A w = V m c (Pipeline.arrRef spec0 w) := by dsimp only [dats]

/-! ## Blocks that do not move -/

/-- A window whose block index does not move from one point to the next reads the same block. -/
theorem fetched_step (w : Fin cfg0.W) (hw : (cfg0.win w).isOut = false) (t : Fin cfg0.N) (hf : (cfg0.win w).fetch t = false)
    (hclip : ∀ i i' : grid0.Coords, (cfg0.win w).clip i = (cfg0.win w).clip i') (d) :
    (dats m 0 c).fetched w t d = (dats m 0 c).fetched w (point (t.val - 1) (by have := lt40 t; omega)) d :=
  (Dat.fetched_congr (dats m 0 c) w ((cfg0.win w).index_eq_of_fetch hw t hf).2.symm (hclip _ _) d).symm

/-- The point before. -/
def pred (t : Fin cfg0.N) : Fin cfg0.N := point (t.val - 1) (by have := lt40 t; omega)

theorem not_fetch {w : Fin cfg0.W} {t : Fin cfg0.N} {p : Prop} (h : (cfg0.win w).fetch t = true ↔ p) (hp : ¬p) :
    (cfg0.win w).fetch t = false := Bool.eq_false_iff.mpr fun e => hp (h.mp e)

theorem inW_step (t : Fin cfg0.N) (h : t.val % 8 ≠ 0) : inW m c t = inW m c (pred t) :=
  fetched_step m c 1 rfl t (not_fetch (fetch0_1 t) h) (fun _ _ => rfl) fun _ => FloatOps.ofBits .f32 0
theorem inR_step (t : Fin cfg0.N) (h : t.val % 4 ≠ 0) : inR m c t = inR m c (pred t) :=
  fetched_step m c 2 rfl t (not_fetch (fetch0_2 t) fun e => h e.1) (fun _ _ => rfl) fun _ => FloatOps.ofBits .f32 0
theorem inL_step (t : Fin cfg0.N) (h : t.val % 4 ≠ 0) : inL m c t = inL m c (pred t) :=
  fetched_step m c 3 rfl t (not_fetch (fetch0_3 t) fun e => h e.1) (fun _ _ => rfl) fun _ => FloatOps.ofBits .f32 0
theorem inK_step (t : Fin cfg0.N) (h : t.val % 4 ≠ 0) : inK m c t = inK m c (pred t) :=
  fetched_step m c 4 rfl t (not_fetch (fetch0_4 t) fun e => h e.1) (fun _ _ => rfl) fun _ => FloatOps.ofBits .f32 0
theorem inV_step (t : Fin cfg0.N) (h : t.val % 4 ≠ 0) : inV m c t = inV m c (pred t) :=
  fetched_step m c 5 rfl t (not_fetch (fetch0_5 t) fun e => h e.1) (fun _ _ => rfl) fun _ => FloatOps.ofBits .f32 0
theorem inA_step (t : Fin cfg0.N) (h : t.val % 4 ≠ 0) : inA m c t = inA m c (pred t) :=
  fetched_step m c 6 rfl t (not_fetch (fetch0_6 t) fun e => h e.1) (fun _ _ => rfl) fun _ => FloatOps.ofBits .f32 0
theorem inB_step (t : Fin cfg0.N) (h : t.val % 4 ≠ 0) : inB m c t = inB m c (pred t) :=
  fetched_step m c 7 rfl t (not_fetch (fetch0_7 t) fun e => h e.1) (fun _ _ => rfl) fun _ => FloatOps.ofBits .f32 0

/-- Inside an outer step the cast tile stays. -/
theorem wb_step (t : Fin cfg0.N) (h : t.val % 8 ≠ 0) : wb m c t = wb m c (pred t) := by
  unfold wb; rw [inW_step m c t h]
/-- Inside a group the operand planes stay. -/
theorem op_step (t : Fin cfg0.N) (h : t.val % 4 ≠ 0) : op m c t = op m c (pred t) := by
  unfold op; rw [inR_step m c t h, inL_step m c t h, inK_step m c t h, inA_step m c t h, inB_step m c t h]
/-- Inside a group the value planes stay. -/
theorem vt_step (t : Fin cfg0.N) (h : t.val % 4 ≠ 0) : vt m c t = vt m c (pred t) := by
  unfold vt; rw [inV_step m c t h]

/-! ## One point's effect on the scratch buffers -/

section
variable {m c} {t : Fin cfg0.N} {X14 : Vec F S1024x2048 .bf16} {X15 : Vec F S5x4x128x128 .f32} {X16 X17 : Vec F S4x128x128 .f32}

theorem cast14_good (h : Good m c t.val X14 X15 X16 X17) : cast14 (grid0.coords t) (inW m c t) X14 = wb m c t := by
  unfold cast14
  split
  · rfl
  · rename_i h1
    have h8 : t.val % 8 ≠ 0 := fun e => h1 ((cond1_iff t).mpr e)
    exact (h (pred t) (by show t.val - 1 + 1 = t.val; omega)).1.trans (wb_step m c t h8).symm

theorem planes15_good (h : Good m c t.val X14 X15 X16 X17) (ht : t.val < 32) :
    planes15 (grid0.coords t) (inR m c t) (inL m c t) (inK m c t) (inA m c t) (inB m c t) X15 = op m c t := by
  unfold planes15
  split
  · exact planes_eq _ _ _ _ _ _
  · rename_i h1
    have h4 : t.val % 4 ≠ 0 := fun e => h1 ((cond3_iff t).mpr e)
    exact ((h (pred t) (by show t.val - 1 + 1 = t.val; omega)).2 (by show t.val - 1 < 32; omega)).1.trans (op_step m c t h4).symm

theorem planes16_good (h : Good m c t.val X14 X15 X16 X17) (ht : t.val < 32) :
    planes16 (grid0.coords t) (inV m c t) X16 = vt m c t := by
  unfold planes16
  split
  · exact vplanes_eq _ _
  · rename_i h1
    have h4 : t.val % 4 ≠ 0 := fun e => h1 ((cond3_iff t).mpr e)
    exact ((h (pred t) (by show t.val - 1 + 1 = t.val; omega)).2 (by show t.val - 1 < 32; omega)).2.1.trans (vt_step m c t h4).symm

/-- The output rows after a point: this point's rows are new, the group's earlier points' stay. -/
theorem rows17_good (h : Good m c t.val X14 X15 X16 X17) (ht : t.val < 32) (t4 : Fin 4) (r b : Fin 128)
    (hr : r.val < 32 * (t.val % 4 + 1)) :
    rows17 (grid0.coords t) (inS m c t) (op m c t) (vt m c t) X17 (ix3 t4 r b) = yPlanes m c (groupOf t) (ix3 t4 r b) := by
  rw [rows17_apply, subN_coords]
  have hg : (groupOf t).val = t.val / 4 := by show min (t.val / 4) 7 = _; omega
  split
  · rename_i h1
    have hu : point (4 * (groupOf t).val + r.val / 32) (by have := r.isLt; omega) = t := Fin.ext (by
      show 4 * (groupOf t).val + r.val / 32 = t.val; omega)
    show _ = rowAt (inS m c (point (4 * (groupOf t).val + r.val / 32) _)) (op m c (point (4 * (groupOf t).val + r.val / 32) _))
      (vt m c (point (4 * (groupOf t).val + r.val / 32) _)) (grid0.coords (point (4 * (groupOf t).val + r.val / 32) _)) _ t4 (ix3 0 0 b)
    rw [hu]
    rfl
  · rename_i h1
    have h4 : r.val < 32 * (t.val % 4) := by omega
    have hp := ((h (pred t) (by show t.val - 1 + 1 = t.val; omega)).2 (by show t.val - 1 < 32; omega)).2.2 t4 r b
      (by show r.val < 32 * ((t.val - 1) % 4 + 1); omega)
    rw [hp]
    have : groupOf (pred t) = groupOf t := Fin.ext (by show min ((t.val - 1) / 4) 7 = min (t.val / 4) 7; omega)
    rw [this]

/-- After the group's last point all rows are written. -/
theorem rows17_full (h : Good m c t.val X14 X15 X16 X17) (ht : t.val < 32) (h3 : t.val % 4 = 3) :
    rows17 (grid0.coords t) (inS m c t) (op m c t) (vt m c t) X17 = yPlanes m c (groupOf t) := by
  funext y
  obtain ⟨t4, r, b, rfl⟩ : ∃ (t4 : Fin 4) (r b : Fin 128), y = ix3 t4 r b :=
    ⟨y 0, y 1, y 2, funext fun k => by match k with | 0 => rfl | 1 => rfl | 2 => rfl⟩
  exact rows17_good h ht t4 r b (by have := r.isLt; omega)

/-- The invariant after a point of the recurrence. -/
theorem good_unit (h : Good m c t.val X14 X15 X16 X17) (ht : t.val < 32) :
    Good m c (t.val + 1) (wb m c t) (op m c t) (vt m c t) (rows17 (grid0.coords t) (inS m c t) (op m c t) (vt m c t) X17) := by
  intro t' ht'
  obtain rfl : t' = t := Fin.ext (by omega)
  exact ⟨rfl, fun _ => ⟨rfl, rfl, fun t4 r b hr => rows17_good h ht t4 r b hr⟩⟩

/-- The invariant after a point that only projects. -/
theorem good_rest (ht : ¬t.val < 32) : Good m c (t.val + 1) (wb m c t) X15 X16 X17 := by
  intro t' ht'
  obtain rfl : t' = t := Fin.ext (by omega)
  exact ⟨rfl, fun h => absurd h ht⟩
end

/-! ## What the outputs' buffers hold where the body does not write them -/

theorem lastUnit_ge (t : Fin cfg0.N) (ht : 32 ≤ t.val) : lastUnit t = point 31 (by decide) := Fin.ext (by
  show min t.val 31 = 31; omega)
theorem groupOf_ge (t : Fin cfg0.N) (ht : 28 ≤ t.val) : groupOf t = 7 := Fin.ext (by
  show min (t.val / 4) 7 = 7; omega)

theorem left_live (w : Fin cfg0.W) (t : Fin cfg0.N) (e : cfg0.idle w (cfg0.grid.coords t) = false) (d) :
    (dats m 0 c).left w t d = (dats m 0 c).kept w t d := by
  have e' : (cfgs 0).idle w ((cfgs 0).grid.coords t) = false := e
  unfold Dat.left; rw [e']
theorem left_idle (w : Fin cfg0.W) (t : Fin cfg0.N) (e : cfg0.idle w (cfg0.grid.coords t) = true) (d) :
    (dats m 0 c).left w t d = (dats m 0 c).before w t d := by
  have e' : (cfgs 0).idle w ((cfgs 0).grid.coords t) = true := e
  unfold Dat.left; rw [e']

/-- The output rows' buffer at the points after the recurrence: the last group's rows. -/
theorem before_10 (k : Nat) (hk : 32 + k < 40) (d) :
    (dats m 0 c).before 10 (point (32 + k) hk) d = yOut m c 7 := by
  induction k with
  | zero =>
    rw [Dat.before_of_pos (dats m 0 c) 10 (point 32 hk) (by show 32 ≠ 0; decide) (fetch0_10 _) d]
    rw [if_neg (by rw [flush0_10]; show ¬(31 % 4 = 3 ∧ 31 < 31 ∨ 31 = 39); decide)]
    have e : cfg0.idle 10 (cfg0.grid.coords (point 31 (by decide))) = false :=
      Bool.eq_false_iff.mpr fun e => (idle0_10 _).mp e (by show 31 < 32 ∧ 31 % 4 = 3; decide)
    exact (left_live m c 10 (point 31 (by decide)) e d).trans
      (congrArg (yOut m c) (groupOf_ge (point 31 (by decide)) (by show 28 ≤ 31; decide)))
  | succ k ih =>
    rw [Dat.before_of_pos (dats m 0 c) 10 (point (32 + (k + 1)) hk) (by show 32 + (k + 1) ≠ 0; omega) (fetch0_10 _) d]
    rw [if_neg (by rw [flush0_10]; show ¬((32 + k) % 4 = 3 ∧ (32 + k) < 31 ∨ (32 + k) = 39); omega)]
    have e : cfg0.idle 10 (cfg0.grid.coords (point (32 + k) (by omega))) = true :=
      (idle0_10 _).mpr (by show ¬((32 + k) < 32 ∧ (32 + k) % 4 = 3); omega)
    refine (left_idle m c 10 (point (32 + k) (by omega)) e d).trans ?_
    exact ih (by omega)

/-- The slab's buffer at the points after the recurrence: the last slab. -/
theorem before_11 (k : Nat) (hk : 32 + k < 40) (d) :
    (dats m 0 c).before 11 (point (32 + k) hk) d = sOut m c (point 31 (by decide)) := by
  induction k with
  | zero =>
    rw [Dat.before_of_pos (dats m 0 c) 11 (point 32 hk) (by show 32 ≠ 0; decide) (fetch0_11 _) d]
    rw [if_neg (by rw [flush0_11]; show ¬(31 < 31 ∨ 31 = 39); decide)]
    have e : cfg0.idle 11 (cfg0.grid.coords (point 31 (by decide))) = false :=
      Bool.eq_false_iff.mpr fun e => (idle0_11 _).mp e (by show 31 < 32; decide)
    exact (left_live m c 11 (point 31 (by decide)) e d).trans
      (congrArg (sOut m c) (Fin.ext (by show min 31 31 = 31; decide)))
  | succ k ih =>
    rw [Dat.before_of_pos (dats m 0 c) 11 (point (32 + (k + 1)) hk) (by show 32 + (k + 1) ≠ 0; omega) (fetch0_11 _) d]
    rw [if_neg (by rw [flush0_11]; show ¬((32 + k) < 31 ∨ (32 + k) = 39); omega)]
    have e : cfg0.idle 11 (cfg0.grid.coords (point (32 + k) (by omega))) = true :=
      (idle0_11 _).mpr (by show ¬((32 + k) < 32); omega)
    refine (left_idle m c 11 (point (32 + k) (by omega)) e d).trans ?_
    exact ih (by omega)

/-! ## Ownership -/

/-- A whole buffer owned at contents `X` is the buffer held whole, reading `X`. -/
theorem owns_eq {sp : Space} {S : Shape} {e : EltTy} (M : Memref sig .tc sp S e) (hM : M.IsWhole) (X : S.Idx → Elt F e) :
    (owns (c : Thread nD τ) M fullShare X : sProp 𝕄) = rd c M X := by
  obtain ⟨b, hsp, hsh, he, h⟩ := hM
  subst hsp hsh he
  cases h
  show (owns (c : Thread nD τ) (Memref.whole b) fullShare X : sProp 𝕄) = rd c (Memref.whole b) X
  unfold rd owns
  simp only [View.set_whole]

end Cert.KernelIdeal.Hand
-- ==== Proof.Run.lean ====
module

public import proofs.«01_k».proof.Proof.Data
public import Idealize.ShloMosaic.Lib.Claim

@[expose] public section

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

variable (t : Fin cfg0.N)

/-! ## What the body leaves in the output windows -/

theorem leaves_live (w : Fin cfg0.W) (e : cfg0.idle w (cfg0.grid.coords t) = false) :
    (dats m 0 c).leavesExact w t = (owns (c : Thread nD τ) ((cfg0.win w).stage (cfg0.slots t w)) fullShare ((dats m 0 c).after w t) : sProp 𝕄) := by
  have e' : (cfgs 0).idle w ((cfgs 0).grid.coords t) = false := e
  unfold Dat.leavesExact; rw [e']
theorem leaves_keep (w : Fin cfg0.W) (e : cfg0.idle w (cfg0.grid.coords t) = true) (hf : (cfg0.win w).flush t = false) :
    (dats m 0 c).leavesExact w t = (iprop(∃ d, owns (c : Thread nD τ) ((cfg0.win w).stage (cfg0.slots t w)) fullShare ((dats m 0 c).before w t d)) : sProp 𝕄) := by
  have e' : (cfgs 0).idle w ((cfgs 0).grid.coords t) = true := e
  have hf' : ((cfgs 0).win w).flush t = false := hf
  unfold Dat.leavesExact; rw [e', hf']
theorem leaves_flush (w : Fin cfg0.W) (e : cfg0.idle w (cfg0.grid.coords t) = true) (hf : (cfg0.win w).flush t = true) :
    (dats m 0 c).leavesExact w t = (owns (c : Thread nD τ) ((cfg0.win w).stage (cfg0.slots t w)) fullShare ((dats m 0 c).after w t) : sProp 𝕄) := by
  have e' : (cfgs 0).idle w ((cfgs 0).grid.coords t) = true := e
  have hf' : ((cfgs 0).win w).flush t = true := hf
  unfold Dat.leavesExact; rw [e', hf']

/-- The projection: written at every point. -/
theorem left_9 (X11 : Vec F S1088x1024 .f32) :
    rd c (st0_9 t) (if k0_cond5 (grid0.coords t) = 1#1 then zAll (inH m c t) (if k0_cond2 (grid0.coords t) = 1#1 then zAll (inH m c t) X11 (wb m c t) else X11) (wb m c t)
      else (if k0_cond2 (grid0.coords t) = 1#1 then zAll (inH m c t) X11 (wb m c t) else X11))
    ⊢ (dats m 0 c).leavesExact 9 t := by
  rw [leaves_live m c t 9 (idle0_9 t)]
  refine BIBase.Entails.trans ?_ (Entails.of_eq (owns_eq c (st0_9 t) (hstage0_9 ((cfg0.slots t 9).cast nbuf0_9)) (zOut m c t)).symm)
  refine Entails.of_eq (congrArg _ ?_)
  by_cases ht : t.val < 32
  · rw [if_neg fun e => absurd ((cond5_iff t).mp e) (by omega), if_pos ((cond2_iff t).mpr ht), zAll_eq]
    rfl
  · rw [if_pos ((cond5_iff t).mpr (by omega)), zAll_eq]
    rfl

/-- The output rows: written at a group's last point, kept elsewhere. -/
theorem left_10 (X17 : Vec F S4x128x128 .f32) (d)
    (h : t.val < 32 → t.val % 4 = 3 → X17 = yPlanes m c (groupOf t)) :
    rd c (st0_10 t) (if k0_cond2 (grid0.coords t) = 1#1 then rows12 (grid0.coords t) ((dats m 0 c).before 10 t d) X17 else (dats m 0 c).before 10 t d)
    ⊢ (dats m 0 c).leavesExact 10 t := by
  have own (X : Vec F S512x128 .f32) : rd c (st0_10 t) X ⊢ (owns (c : Thread nD τ) (st0_10 t) fullShare X : sProp 𝕄) :=
    Entails.of_eq (owns_eq c (st0_10 t) (hstage0_10 ((cfg0.slots t 10).cast nbuf0_10)) X).symm
  by_cases hw : t.val < 32 ∧ t.val % 4 = 3
  · rw [leaves_live m c t 10 (Bool.eq_false_iff.mpr fun e => (idle0_10 t).mp e hw), if_pos ((cond2_iff t).mpr hw.1)]
    refine BIBase.Entails.trans (Entails.of_eq (congrArg _ ?_)) (own (yOut m c (groupOf t)))
    unfold rows12
    rw [if_pos ((cond4_iff t).mpr hw.2), rows_eq, h hw.1 hw.2]
    rfl
  · have hv : (if k0_cond2 (grid0.coords t) = 1#1 then rows12 (grid0.coords t) ((dats m 0 c).before 10 t d) X17 else (dats m 0 c).before 10 t d)
        = (dats m 0 c).before 10 t d := by
      split
      · rename_i h2
        unfold rows12
        exact if_neg fun e => hw ⟨(cond2_iff t).mp h2, (cond4_iff t).mp e⟩
      · rfl
    rw [hv]
    by_cases h39 : t.val = 39
    · rw [leaves_flush m c t 10 ((idle0_10 t).mpr hw) ((flush0_10 t).mpr (.inr h39))]
      have ht : t = point (32 + 7) (by decide) := Fin.ext h39
      refine BIBase.Entails.trans (Entails.of_eq (congrArg _ ?_)) (own (yOut m c (groupOf t)))
      rw [groupOf_ge t (by omega)]
      subst ht
      exact before_10 m c 7 (by decide) d
    · rw [leaves_keep m c t 10 ((idle0_10 t).mpr hw) (Bool.eq_false_iff.mpr fun e => by have := (flush0_10 t).mp e; omega)]
      iintro H
      iexists d
      iapply (own ((dats m 0 c).before 10 t d))
      iexact H

/-- The state slab: written at every point of the recurrence, kept after. -/
theorem left_11 (X15 : Vec F S5x4x128x128 .f32) (X16 : Vec F S4x128x128 .f32) (d) (h : t.val < 32 → X15 = op m c t ∧ X16 = vt m c t) :
    rd c (st0_11 t) (if k0_cond2 (grid0.coords t) = 1#1 then slab13 (grid0.coords t) (inS m c t) ((dats m 0 c).before 11 t d) X15 X16 else (dats m 0 c).before 11 t d)
    ⊢ (dats m 0 c).leavesExact 11 t := by
  have own (X : Vec F S1x32x64x128 .f32) : rd c (st0_11 t) X ⊢ (owns (c : Thread nD τ) (st0_11 t) fullShare X : sProp 𝕄) :=
    Entails.of_eq (owns_eq c (st0_11 t) (hstage0_11 ((cfg0.slots t 11).cast nbuf0_11)) X).symm
  by_cases hw : t.val < 32
  · rw [leaves_live m c t 11 (Bool.eq_false_iff.mpr fun e => (idle0_11 t).mp e hw), if_pos ((cond2_iff t).mpr hw)]
    refine BIBase.Entails.trans (Entails.of_eq (congrArg _ ?_)) (own (sOut m c (lastUnit t)))
    obtain ⟨rfl, rfl⟩ := h hw
    rw [slab13_eq, show lastUnit t = t from Fin.ext (by show min t.val 31 = t.val; omega)]
    rfl
  · rw [if_neg fun e => hw ((cond2_iff t).mp e)]
    by_cases h39 : t.val = 39
    · rw [leaves_flush m c t 11 ((idle0_11 t).mpr hw) ((flush0_11 t).mpr (.inr h39))]
      have ht : t = point (32 + 7) (by decide) := Fin.ext h39
      refine BIBase.Entails.trans (Entails.of_eq (congrArg _ ?_)) (own (sOut m c (lastUnit t)))
      rw [lastUnit_ge t (by omega)]
      subst ht
      exact before_11 m c 7 (by decide) d
    · rw [leaves_keep m c t 11 ((idle0_11 t).mpr hw) (Bool.eq_false_iff.mpr fun e => by have := (flush0_11 t).mp e; omega)]
      iintro H
      iexists d
      iapply (own ((dats m 0 c).before 11 t d))
      iexact H

/-! ## The body at a point -/

/-- Window 0 holds its block when the body runs. -/
theorem in_0 : iprop(∃ d, owns (c : Thread nD τ) (st0_0 t) fullShare ((dats m 0 c).before 0 t d)) ⊢ rd c (st0_0 t) (inH m c t) := by
  iintro ⟨%d, H⟩
  rw [before0_0_of m (dats m 0 c) (A_eq m c 0) (fun _ => by dsimp only [dats]) t d]
  iapply (Entails.of_eq (owns_eq c (st0_0 t) (hstage0_0 ((cfg0.slots t 0).cast nbuf0_0)) (inH m c t)))
  iexact H
/-- The body leaves window 0's block in place. -/
theorem out_0 : rd c (st0_0 t) (inH m c t) ⊢ (owns (c : Thread nD τ) (st0_0 t) fullShare ((dats m 0 c).after 0 t) : sProp 𝕄) :=
  Entails.of_eq (owns_eq c (st0_0 t) (hstage0_0 ((cfg0.slots t 0).cast nbuf0_0)) (inH m c t)).symm
/-- Window 1 holds its block when the body runs. -/
theorem in_1 : iprop(∃ d, owns (c : Thread nD τ) (st0_1 t) fullShare ((dats m 0 c).before 1 t d)) ⊢ rd c (st0_1 t) (inW m c t) := by
  iintro ⟨%d, H⟩
  rw [before0_1_of m (dats m 0 c) (A_eq m c 1) (fun _ => by dsimp only [dats]) t d]
  iapply (Entails.of_eq (owns_eq c (st0_1 t) (hstage0_1 ((cfg0.slots t 1).cast nbuf0_1)) (inW m c t)))
  iexact H
/-- The body leaves window 1's block in place. -/
theorem out_1 : rd c (st0_1 t) (inW m c t) ⊢ (owns (c : Thread nD τ) (st0_1 t) fullShare ((dats m 0 c).after 1 t) : sProp 𝕄) :=
  Entails.of_eq (owns_eq c (st0_1 t) (hstage0_1 ((cfg0.slots t 1).cast nbuf0_1)) (inW m c t)).symm
/-- Window 2 holds its block when the body runs. -/
theorem in_2 : iprop(∃ d, owns (c : Thread nD τ) (st0_2 t) fullShare ((dats m 0 c).before 2 t d)) ⊢ rd c (st0_2 t) (inR m c t) := by
  iintro ⟨%d, H⟩
  rw [before0_2_of m (dats m 0 c) (A_eq m c 2) (fun _ => by dsimp only [dats]) t d]
  iapply (Entails.of_eq (owns_eq c (st0_2 t) (hstage0_2 ((cfg0.slots t 2).cast nbuf0_2)) (inR m c t)))
  iexact H
/-- The body leaves window 2's block in place. -/
theorem out_2 : rd c (st0_2 t) (inR m c t) ⊢ (owns (c : Thread nD τ) (st0_2 t) fullShare ((dats m 0 c).after 2 t) : sProp 𝕄) :=
  Entails.of_eq (owns_eq c (st0_2 t) (hstage0_2 ((cfg0.slots t 2).cast nbuf0_2)) (inR m c t)).symm
/-- Window 3 holds its block when the body runs. -/
theorem in_3 : iprop(∃ d, owns (c : Thread nD τ) (st0_3 t) fullShare ((dats m 0 c).before 3 t d)) ⊢ rd c (st0_3 t) (inL m c t) := by
  iintro ⟨%d, H⟩
  rw [before0_3_of m (dats m 0 c) (A_eq m c 3) (fun _ => by dsimp only [dats]) t d]
  iapply (Entails.of_eq (owns_eq c (st0_3 t) (hstage0_3 ((cfg0.slots t 3).cast nbuf0_3)) (inL m c t)))
  iexact H
/-- The body leaves window 3's block in place. -/
theorem out_3 : rd c (st0_3 t) (inL m c t) ⊢ (owns (c : Thread nD τ) (st0_3 t) fullShare ((dats m 0 c).after 3 t) : sProp 𝕄) :=
  Entails.of_eq (owns_eq c (st0_3 t) (hstage0_3 ((cfg0.slots t 3).cast nbuf0_3)) (inL m c t)).symm
/-- Window 4 holds its block when the body runs. -/
theorem in_4 : iprop(∃ d, owns (c : Thread nD τ) (st0_4 t) fullShare ((dats m 0 c).before 4 t d)) ⊢ rd c (st0_4 t) (inK m c t) := by
  iintro ⟨%d, H⟩
  rw [before0_4_of m (dats m 0 c) (A_eq m c 4) (fun _ => by dsimp only [dats]) t d]
  iapply (Entails.of_eq (owns_eq c (st0_4 t) (hstage0_4 ((cfg0.slots t 4).cast nbuf0_4)) (inK m c t)))
  iexact H
/-- The body leaves window 4's block in place. -/
theorem out_4 : rd c (st0_4 t) (inK m c t) ⊢ (owns (c : Thread nD τ) (st0_4 t) fullShare ((dats m 0 c).after 4 t) : sProp 𝕄) :=
  Entails.of_eq (owns_eq c (st0_4 t) (hstage0_4 ((cfg0.slots t 4).cast nbuf0_4)) (inK m c t)).symm
/-- Window 5 holds its block when the body runs. -/
theorem in_5 : iprop(∃ d, owns (c : Thread nD τ) (st0_5 t) fullShare ((dats m 0 c).before 5 t d)) ⊢ rd c (st0_5 t) (inV m c t) := by
  iintro ⟨%d, H⟩
  rw [before0_5_of m (dats m 0 c) (A_eq m c 5) (fun _ => by dsimp only [dats]) t d]
  iapply (Entails.of_eq (owns_eq c (st0_5 t) (hstage0_5 ((cfg0.slots t 5).cast nbuf0_5)) (inV m c t)))
  iexact H
/-- The body leaves window 5's block in place. -/
theorem out_5 : rd c (st0_5 t) (inV m c t) ⊢ (owns (c : Thread nD τ) (st0_5 t) fullShare ((dats m 0 c).after 5 t) : sProp 𝕄) :=
  Entails.of_eq (owns_eq c (st0_5 t) (hstage0_5 ((cfg0.slots t 5).cast nbuf0_5)) (inV m c t)).symm
/-- Window 6 holds its block when the body runs. -/
theorem in_6 : iprop(∃ d, owns (c : Thread nD τ) (st0_6 t) fullShare ((dats m 0 c).before 6 t d)) ⊢ rd c (st0_6 t) (inA m c t) := by
  iintro ⟨%d, H⟩
  rw [before0_6_of m (dats m 0 c) (A_eq m c 6) (fun _ => by dsimp only [dats]) t d]
  iapply (Entails.of_eq (owns_eq c (st0_6 t) (hstage0_6 ((cfg0.slots t 6).cast nbuf0_6)) (inA m c t)))
  iexact H
/-- The body leaves window 6's block in place. -/
theorem out_6 : rd c (st0_6 t) (inA m c t) ⊢ (owns (c : Thread nD τ) (st0_6 t) fullShare ((dats m 0 c).after 6 t) : sProp 𝕄) :=
  Entails.of_eq (owns_eq c (st0_6 t) (hstage0_6 ((cfg0.slots t 6).cast nbuf0_6)) (inA m c t)).symm
/-- Window 7 holds its block when the body runs. -/
theorem in_7 : iprop(∃ d, owns (c : Thread nD τ) (st0_7 t) fullShare ((dats m 0 c).before 7 t d)) ⊢ rd c (st0_7 t) (inB m c t) := by
  iintro ⟨%d, H⟩
  rw [before0_7_of m (dats m 0 c) (A_eq m c 7) (fun _ => by dsimp only [dats]) t d]
  iapply (Entails.of_eq (owns_eq c (st0_7 t) (hstage0_7 ((cfg0.slots t 7).cast nbuf0_7)) (inB m c t)))
  iexact H
/-- The body leaves window 7's block in place. -/
theorem out_7 : rd c (st0_7 t) (inB m c t) ⊢ (owns (c : Thread nD τ) (st0_7 t) fullShare ((dats m 0 c).after 7 t) : sProp 𝕄) :=
  Entails.of_eq (owns_eq c (st0_7 t) (hstage0_7 ((cfg0.slots t 7).cast nbuf0_7)) (inB m c t)).symm
/-- Window 8 holds its block when the body runs. -/
theorem in_8 : iprop(∃ d, owns (c : Thread nD τ) (st0_8 t) fullShare ((dats m 0 c).before 8 t d)) ⊢ rd c (st0_8 t) (inS m c t) := by
  iintro ⟨%d, H⟩
  rw [before0_8_of m (dats m 0 c) (A_eq m c 8) (fun _ => by dsimp only [dats]) t d]
  iapply (Entails.of_eq (owns_eq c (st0_8 t) (hstage0_8 ((cfg0.slots t 8).cast nbuf0_8)) (inS m c t)))
  iexact H
/-- The body leaves window 8's block in place. -/
theorem out_8 : rd c (st0_8 t) (inS m c t) ⊢ (owns (c : Thread nD τ) (st0_8 t) fullShare ((dats m 0 c).after 8 t) : sProp 𝕄) :=
  Entails.of_eq (owns_eq c (st0_8 t) (hstage0_8 ((cfg0.slots t 8).cast nbuf0_8)) (inS m c t)).symm

/-- The body at a point: the inputs stay, the projection is written, and the recurrence advances while it runs. -/
theorem sound_body : iprop(inv m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
    ⊢ wp frame (wpE (defs₀ (F := F)) Variants.none (c : Thread nD τ) none) Set.univ (bodyAt0 t) fun _ =>
      iprop(inv m c (t.val + 1) ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (dats m 0 c).leavesExact 9 t ∗ (dats m 0 c).leavesExact 10 t ∗ (dats m 0 c).leavesExact 11 t) := by
  rw [show (dats m 0 c).owesAt () t.succ = (dats m 0 c).owesAt () t.castSucc from rfl]
  iintro ⟨HΦ, Ho, H0, H1, H2, H3, H4, H5, H6, H7, H8, ⟨%d9, H9⟩, ⟨%d10, H10⟩, ⟨%d11, H11⟩⟩
  unfold inv
  icases HΦ with ⟨⟨%X14, %X15, %X16, %X17, %hG, HS0, HS1, HS2, HS3⟩, HR⟩
  ihave H0 := (in_0 m c t) $$ H0
  ihave H1 := (in_1 m c t) $$ H1
  ihave H2 := (in_2 m c t) $$ H2
  ihave H3 := (in_3 m c t) $$ H3
  ihave H4 := (in_4 m c t) $$ H4
  ihave H5 := (in_5 m c t) $$ H5
  ihave H6 := (in_6 m c t) $$ H6
  ihave H7 := (in_7 m c t) $$ H7
  ihave H8 := (in_8 m c t) $$ H8
  ihave H9 := (Entails.of_eq (owns_eq c (st0_9 t) (hstage0_9 ((cfg0.slots t 9).cast nbuf0_9)) ((dats m 0 c).before 9 t d9))) $$ H9
  ihave H10 := (Entails.of_eq (owns_eq c (st0_10 t) (hstage0_10 ((cfg0.slots t 10).cast nbuf0_10)) ((dats m 0 c).before 10 t d10))) $$ H10
  ihave H11 := (Entails.of_eq (owns_eq c (st0_11 t) (hstage0_11 ((cfg0.slots t 11).cast nbuf0_11)) ((dats m 0 c).before 11 t d11))) $$ H11
  unfold bodyAt0
  rw [body_eq]
  iapply (bodyS_wp c (grid0.coords t) _ _ _ _ _ _ _ _ _ _ _ _ _ _ _ _ (inH m c t) (inW m c t) (inR m c t) (inL m c t) (inK m c t) (inV m c t) (inA m c t) (inB m c t) (inS m c t) ((dats m 0 c).before 9 t d9) ((dats m 0 c).before 10 t d10) ((dats m 0 c).before 11 t d11) X14 X15 X16 X17 (Memref.isWhole_whole _) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  rw [cast14_good hG]
  iintro H0 H1 H2 H3 H4 H5 H6 H7 H8 H9 H10 H11 HS0 HS1 HS2 HS3
  isplitl [HS0 HS1 HS2 HS3 HR]
  · isplitr [HR]
    · iexists _, _, _, _
      isplitr
      rotate_left
      · isplitl [HS0]; · iexact HS0
        isplitl [HS1]; · iexact HS1
        isplitl [HS2]; · iexact HS2
        iexact HS3
      · ipureintro
        by_cases ht : t.val < 32
        · simp only [if_pos ((cond2_iff t).mpr ht), planes15_good hG ht, planes16_good hG ht]
          exact good_unit hG ht
        · exact good_rest ht
    · iexact HR
  isplitl [Ho]; · iexact Ho
  isplitl [H0]; · iapply (out_0 m c t); iexact H0
  isplitl [H1]; · iapply (out_1 m c t); iexact H1
  isplitl [H2]; · iapply (out_2 m c t); iexact H2
  isplitl [H3]; · iapply (out_3 m c t); iexact H3
  isplitl [H4]; · iapply (out_4 m c t); iexact H4
  isplitl [H5]; · iapply (out_5 m c t); iexact H5
  isplitl [H6]; · iapply (out_6 m c t); iexact H6
  isplitl [H7]; · iapply (out_7 m c t); iexact H7
  isplitl [H8]; · iapply (out_8 m c t); iexact H8
  isplitl [H9]; · iapply (left_9 m c t _); iexact H9
  isplitl [H10]
  · iapply (left_10 m c t _ d10 fun ht h3 => (congrArg₂ (fun P15 P16 => rows17 (grid0.coords t) (inS m c t) P15 P16 X17)
      (planes15_good hG ht) (planes16_good hG ht)).trans (rows17_full hG ht h3))
    iexact H10
  iapply (left_11 m c t _ _ d11 fun ht => ⟨planes15_good hG ht, planes16_good hG ht⟩)
  iexact H11

/-- The body table's row at a point is the body. -/
theorem defs₀_row : defs₀ (F := F) .tc cfg0.body (cfg0.bodyArgs t (cfg0.slots t)) = bodyAt0 t := by
  unfold defs₀; rw [Defs.onTc_tc]

/-- The body obligation at every point. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant is entered from the scratch buffers at any contents. -/
theorem inv_enter : Pipeline.ΦA spec0 c ⊢ inv m c 0 := by
  unfold Pipeline.ΦA inv
  rw [scopedRest0_eq]
  iintro ⟨⟨⟨%f0, H0⟩, ⟨%f1, H1⟩, ⟨%f2, H2⟩, ⟨%f3, H3⟩⟩, HR⟩
  isplitr [HR]
  · iexists f0, f1, f2, f3
    isplitr
    · ipureintro
      intro t ht
      omega
    unfold rd
    isplitl [H0]
    · iexists f0
      isplitr
      · ipureintro; rfl
      · iexact H0
    isplitl [H1]
    · iexists f1
      isplitr
      · ipureintro; rfl
      · iexact H1
    isplitl [H2]
    · iexists f2
      isplitr
      · ipureintro; rfl
      · iexact H2
    · iexists f3
      isplitr
      · ipureintro; rfl
      · iexact H3
  · iexact HR

/-- The invariant gives the scratch buffers back at some contents. -/
theorem inv_leave (n : Nat) : inv m c n ⊢ Pipeline.ΦA spec0 c := by
  unfold Pipeline.ΦA inv rd
  rw [scopedRest0_eq]
  iintro ⟨⟨%X14, %X15, %X16, %X17, -, ⟨%f0, -, H0⟩, ⟨%f1, -, H1⟩, ⟨%f2, -, H2⟩, ⟨%f3, -, H3⟩⟩, HR⟩
  isplitr [HR]
  · isplitl [H0]
    · iexists f0; iexact H0
    isplitl [H1]
    · iexists f1; iexact H1
    isplitl [H2]
    · iexists f2; iexact H2
    · iexists f3; iexact H3
  · iexact HR

variable (ρ : Dev nD → PrngReg)

set_option backward.isDefEq.respectTransparency.types false in
/-- The run, at any values: every array ends at what the data give, and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_enter m c) (hout := fun c => inv_leave m c _)

/-- The arrays at the end of the run. -/
theorem run_main : θ_run defs (onTc (τ := τ) (main (F := F))) (s₀ m ρ) (Pipeline.FramePost cfgs (dats m) 0 (V m)) :=
  (θ_run defs _ _).mono (fun _ h => h.1) (run_quiescent m ρ)

/-- The frame: the run terminates, the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.KernelIdeal.Hand
-- ==== Proof.Same.lean ====
/- The kernel at machine words and the kernel at any values are one text: their tables of bodies are equal, so the frame
   proved at any values is the frame at machine words. -/
module

public import proofs.«01_k».proof.Defs
public import proofs.«01_k».proof.Proof.Gen.Kernel
public import proofs.«01_k».proof.Proof.Run
public import Idealize.ShloMosaic.Adequacy
public import Idealize.ShloMosaic.Init

@[expose] public section

noncomputable section

namespace Cert.Kernel.Hand

open Idealize.ShloMosaic Idealize.SL.Sem

local instance : Cert.Kernel.Facts := Cert.Kernel.Gen.facts
local instance : Cert.KernelIdeal.Facts := Cert.KernelIdeal.Gen.facts

/-- The two programs have one body. -/
theorem body_same : @Cert.Kernel.cc0_in_proj_wkv Bits _ _ = @Cert.KernelIdeal.cc0_in_proj_wkv Bits _ _ := rfl

/-- Equal bodies are equal at equal arguments. -/
theorem body_congr {B B' : type_of% (@Cert.KernelIdeal.cc0_in_proj_wkv Bits _ _)} (e : B = B') i a2 h2 a3 h3 a4 h4 a5 h5 a6 h6 a7 h7 a8 h8 a9 h9 a10 h10 a11 h11 a12 h12 a13 h13 a14 h14 a15 h15 a16 h16 a17 h17 :
    B i a2 h2 a3 h3 a4 h4 a5 h5 a6 h6 a7 h7 a8 h8 a9 h9 a10 h10 a11 h11 a12 h12 a13 h13 a14 h14 a15 h15 a16 h16 a17 h17 = B' i a2 h2 a3 h3 a4 h4 a5 h5 a6 h6 a7 h7 a8 h8 a9 h9 a10 h10 a11 h11 a12 h12 a13 h13 a14 h14 a15 h15 a16 h16 a17 h17 := by
  rw [e]

set_option maxHeartbeats 4000000 in
/-- The two programs have one table of bodies. -/
theorem table_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    exact body_congr (B := @Cert.Kernel.cc0_in_proj_wkv Bits _ _) (B' := @Cert.KernelIdeal.cc0_in_proj_wkv Bits _ _) body_same
      _ _ _ _ _ _ _ _ _ _ _ _ _ _ _ _ _ _ _ _ _ _ _ _ _ _ _ _ _ _ _ _ _
  | ⟨_ + 1, h⟩, _ => exact absurd h (Nat.not_lt.2 (Nat.le_add_left _ _))

/-- The two programs have the same definitions. -/
theorem defs_same : Cert.Kernel.defs (F := Bits) = Cert.KernelIdeal.defs (F := Bits) :=
  congrArg (Pipeline.defs Cert.KernelIdeal.pcfgs) table_same

/-- The kernel at machine words runs, leaves its arguments and ends with every semaphore at zero. -/
theorem frame : Cert.quiescent_Kernel := fun m ρ _ => by
  rw [defs_same]
  exact Cert.KernelIdeal.Hand.frame (F := Bits) m ρ

end Cert.Kernel.Hand

end
-- ==== Proof.Final.lean ====
module

public import proofs.«01_k».proof.Proof.Run

@[expose] public section

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

variable {F : FTy → Type} [FloatOps F]

variable (m : (ℓ : Loc nD τ sig) → Buf (Elt F) ℓ) (c : Dev nD)

/-! ## Where each window's block sits at a point -/

theorem index_0 : ∀ t : Fin cfg0.N, win0_0.index t 0 = t.val % 8 ∧ win0_0.index t 1 = 0 := by decide +kernel
theorem index_1 : ∀ t : Fin cfg0.N, win0_1.index t 0 = 3360 + 1024 * (t.val / 8) ∧ win0_1.index t 1 = 0 := by decide +kernel
theorem index_2 : ∀ t : Fin cfg0.N, win0_2.index t 0 = 0 ∧ win0_2.index t 1 = min (t.val / 4) 7 := by decide +kernel
theorem index_3 : ∀ t : Fin cfg0.N, win0_3.index t 0 = 0 ∧ win0_3.index t 1 = min (t.val / 4) 7 := by decide +kernel
theorem index_4 : ∀ t : Fin cfg0.N, win0_4.index t 0 = 0 ∧ win0_4.index t 1 = min (t.val / 4) 7 := by decide +kernel
theorem index_5 : ∀ t : Fin cfg0.N, win0_5.index t 0 = 0 ∧ win0_5.index t 1 = min (t.val / 4) 7 := by decide +kernel
theorem index_6 : ∀ t : Fin cfg0.N, win0_6.index t 0 = 0 ∧ win0_6.index t 1 = min (t.val / 4) 7 := by decide +kernel
theorem index_7 : ∀ t : Fin cfg0.N, win0_7.index t 0 = 0 ∧ win0_7.index t 1 = min (t.val / 4) 7 := by decide +kernel
theorem index_8 : ∀ t : Fin cfg0.N, win0_8.index t 0 = min t.val 31 / 2 ∧ win0_8.index t 1 = min t.val 31 % 2
    ∧ win0_8.index t 2 = 0 ∧ win0_8.index t 3 = 0 := by decide +kernel
theorem index_9 : ∀ t : Fin cfg0.N, win0_9.index t 0 = t.val % 8 ∧ win0_9.index t 1 = t.val / 8 := by decide +kernel
theorem index_10 : ∀ t : Fin cfg0.N, win0_10.index t 0 = 0 ∧ win0_10.index t 1 = min (t.val / 4) 7 := by decide +kernel
theorem index_11 : ∀ t : Fin cfg0.N, win0_11.index t 0 = min t.val 31 / 2 ∧ win0_11.index t 1 = min t.val 31 % 2
    ∧ win0_11.index t 2 = 0 ∧ win0_11.index t 3 = 0 := by decide +kernel
theorem flush0_9 : ∀ t : Fin cfg0.N, (cfg0.win 9).flush t = true := by decide +kernel

/-! ## What the result arrays end holding -/

/-- The projection: entry `(i, j)` is the point's whose row block and column block hold it. -/
def zFin : S8704x5120.Idx → Elt F .f32 := fun y =>
  have h0 : (y 0).val < 8704 := (y 0).isLt
  have h1 : (y 1).val < 5120 := (y 1).isLt
  zOut m c (point (8 * ((y 1).val / 1024) + (y 0).val / 1088) (by omega))
    (ix2 ⟨(y 0).val % 1088, Nat.mod_lt _ (by decide)⟩ ⟨(y 1).val % 1024, Nat.mod_lt _ (by decide)⟩)
/-- The recurrence's outputs: column `j` is group `j / 128`'s. -/
def yFin : S512x1024.Idx → Elt F .f32 := fun y =>
  have h1 : (y 1).val < 1024 := (y 1).isLt
  yOut m c ⟨(y 1).val / 128, by omega⟩ (ix2 (y 0) ⟨(y 1).val % 128, Nat.mod_lt _ (by decide)⟩)
/-- The final states: head `h` and value column `n` are the unit's `2 h + n / 32`. -/
def sFin : S16x64x64x128.Idx → Elt F .f32 := fun y =>
  have h0 : (y 0).val < 16 := (y 0).isLt
  have h1 : (y 1).val < 64 := (y 1).isLt
  sOut m c (point (2 * (y 0).val + (y 1).val / 32) (by omega))
    (ix4 0 ⟨(y 1).val % 32, Nat.mod_lt _ (by decide)⟩ (y 2) (y 3))

theorem flushed_9 (t : Fin cfg0.N) : (dats m 0 c).flushed 9 t = ((cfg0.win 9).blk t).view.read (Elt F) (zFin m c) := by
  funext y
  show zOut m c t y = zFin m c ((win0_9.rect t).emb y)
  have e0 : ((win0_9.rect t).emb y 0 : Nat) = _ := win0_9.rect_emb_val t y 0
  have e1 : ((win0_9.rect t).emb y 1 : Nat) = _ := win0_9.rect_emb_val t y 1
  rw [(index_9 t).1] at e0
  rw [(index_9 t).2] at e1
  have s0 : win0_9.size 0 = 1088 := rfl
  have s1 : win0_9.size 1 = 1024 := rfl
  rw [s0] at e0
  rw [s1] at e1
  generalize (win0_9.rect t).emb y = z at e0 e1 ⊢
  have y0 : (y 0).val < 1088 := (y 0).isLt
  have y1 : (y 1).val < 1024 := (y 1).isLt
  have ht := lt40 t
  have ep : point (8 * ((z 1).val / 1024) + (z 0).val / 1088) (by have : (z 0).val < 8704 := (z 0).isLt; have : (z 1).val < 5120 := (z 1).isLt; omega) = t :=
    Fin.ext (by show 8 * ((z 1).val / 1024) + (z 0).val / 1088 = t.val; omega)
  have ey : (ix2 ⟨(z 0).val % 1088, Nat.mod_lt _ (by decide)⟩ ⟨(z 1).val % 1024, Nat.mod_lt _ (by decide)⟩ : S1088x1024.Idx) = y := by
    funext k
    match k with
    | 0 => exact Fin.ext (by show (z 0).val % 1088 = (y 0).val; omega)
    | 1 => exact Fin.ext (by show (z 1).val % 1024 = (y 1).val; omega)
  show _ = zOut m c (point (8 * ((z 1).val / 1024) + (z 0).val / 1088) _) (ix2 _ _)
  rw [ep, ey]

theorem flushed_10 (t : Fin cfg0.N) : (dats m 0 c).flushed 10 t = ((cfg0.win 10).blk t).view.read (Elt F) (yFin m c) := by
  funext y
  show yOut m c (groupOf t) y = yFin m c ((win0_10.rect t).emb y)
  have e0 : ((win0_10.rect t).emb y 0 : Nat) = _ := win0_10.rect_emb_val t y 0
  have e1 : ((win0_10.rect t).emb y 1 : Nat) = _ := win0_10.rect_emb_val t y 1
  rw [(index_10 t).1] at e0
  rw [(index_10 t).2] at e1
  have s1 : win0_10.size 1 = 128 := rfl
  rw [s1] at e1
  generalize (win0_10.rect t).emb y = z at e0 e1 ⊢
  have y1 : (y 1).val < 128 := (y 1).isLt
  have ep : (⟨(z 1).val / 128, by have : (z 1).val < 1024 := (z 1).isLt; omega⟩ : Fin 8) = groupOf t :=
    Fin.ext (by show (z 1).val / 128 = min (t.val / 4) 7; omega)
  have ey : (ix2 (z 0) ⟨(z 1).val % 128, Nat.mod_lt _ (by decide)⟩ : S512x128.Idx) = y := by
    funext k
    match k with
    | 0 => exact Fin.ext (by show (z 0).val = (y 0).val; omega)
    | 1 => exact Fin.ext (by show (z 1).val % 128 = (y 1).val; omega)
  show _ = yOut m c ⟨(z 1).val / 128, _⟩ (ix2 _ _)
  rw [ep, ey]

theorem flushed_11 (t : Fin cfg0.N) : (dats m 0 c).flushed 11 t = ((cfg0.win 11).blk t).view.read (Elt F) (sFin m c) := by
  funext y
  show sOut m c (lastUnit t) y = sFin m c ((win0_11.rect t).emb y)
  have e0 : ((win0_11.rect t).emb y 0 : Nat) = _ := win0_11.rect_emb_val t y 0
  have e1 : ((win0_11.rect t).emb y 1 : Nat) = _ := win0_11.rect_emb_val t y 1
  have e2 : ((win0_11.rect t).emb y 2 : Nat) = _ := win0_11.rect_emb_val t y 2
  have e3 : ((win0_11.rect t).emb y 3 : Nat) = _ := win0_11.rect_emb_val t y 3
  rw [(index_11 t).1] at e0
  rw [(index_11 t).2.1] at e1
  rw [(index_11 t).2.2.1] at e2
  rw [(index_11 t).2.2.2] at e3
  have s0 : win0_11.size 0 = 1 := rfl
  have s1 : win0_11.size 1 = 32 := rfl
  rw [s0] at e0
  rw [s1] at e1
  generalize (win0_11.rect t).emb y = z at e0 e1 e2 e3 ⊢
  have y0 : (y 0).val < 1 := (y 0).isLt
  have y1 : (y 1).val < 32 := (y 1).isLt
  have ep : point (2 * (z 0).val + (z 1).val / 32) (by have : (z 0).val < 16 := (z 0).isLt; have : (z 1).val < 64 := (z 1).isLt; omega) = lastUnit t :=
    Fin.ext (by show 2 * (z 0).val + (z 1).val / 32 = min t.val 31; omega)
  have ey : (ix4 0 ⟨(z 1).val % 32, Nat.mod_lt _ (by decide)⟩ (z 2) (z 3) : S1x32x64x128.Idx) = y := by
    funext k
    match k with
    | 0 => exact Fin.ext (by show 0 = (y 0).val; omega)
    | 1 => exact Fin.ext (by show (z 1).val % 32 = (y 1).val; omega)
    | 2 => exact Fin.ext (by show (z 2).val = (y 2).val; omega)
    | 3 => exact Fin.ext (by show (z 3).val = (y 3).val; omega)
  show _ = sOut m c (point (2 * (z 0).val + (z 1).val / 32) _) (ix4 _ _ _ _)
  rw [ep, ey]

theorem cover_9 (i : S8704x5120.Idx) : ∃ t : Fin cfg0.N, (cfg0.win 9).flush t = true ∧ i ∈ ((cfg0.win 9).blk t).view.set := by
  have h0 : (i 0).val < 8704 := (i 0).isLt
  have h1 : (i 1).val < 5120 := (i 1).isLt
  let t := point (8 * ((i 1).val / 1024) + (i 0).val / 1088) (by omega)
  have tv : t.val = 8 * ((i 1).val / 1024) + (i 0).val / 1088 := rfl
  refine ⟨t, flush0_9 _, ?_⟩
  show i ∈ ((View.whole main_v4_0).slice (win0_9.rect t)).set
  rw [View.set_slice_whole, Rect.mem_set_unit]
  intro a
  match a with
  | 0 =>
    show win0_9.index t 0 * 1088 ≤ (i 0 : Nat) ∧ (i 0 : Nat) < win0_9.index t 0 * 1088 + 1088
    rw [(index_9 t).1]; omega
  | 1 =>
    show win0_9.index t 1 * 1024 ≤ (i 1 : Nat) ∧ (i 1 : Nat) < win0_9.index t 1 * 1024 + 1024
    rw [(index_9 t).2]; omega

theorem cover_10 (i : S512x1024.Idx) : ∃ t : Fin cfg0.N, (cfg0.win 10).flush t = true ∧ i ∈ ((cfg0.win 10).blk t).view.set := by
  have h0 : (i 0).val < 512 := (i 0).isLt
  have h1 : (i 1).val < 1024 := (i 1).isLt
  let t := point (if (i 1).val / 128 < 7 then 4 * ((i 1).val / 128) + 3 else 39) (by split <;> omega)
  have tv : t.val = if (i 1).val / 128 < 7 then 4 * ((i 1).val / 128) + 3 else 39 := rfl
  refine ⟨t, (flush0_10 t).mpr (by rw [tv]; split <;> omega), ?_⟩
  show i ∈ ((View.whole main_v4_1).slice (win0_10.rect t)).set
  rw [View.set_slice_whole, Rect.mem_set_unit]
  intro a
  match a with
  | 0 =>
    show win0_10.index t 0 * 512 ≤ (i 0 : Nat) ∧ (i 0 : Nat) < win0_10.index t 0 * 512 + 512
    rw [(index_10 t).1]; omega
  | 1 =>
    show win0_10.index t 1 * 128 ≤ (i 1 : Nat) ∧ (i 1 : Nat) < win0_10.index t 1 * 128 + 128
    rw [(index_10 t).2, tv]; split <;> omega

theorem cover_11 (i : S16x64x64x128.Idx) : ∃ t : Fin cfg0.N, (cfg0.win 11).flush t = true ∧ i ∈ ((cfg0.win 11).blk t).view.set := by
  have h0 : (i 0).val < 16 := (i 0).isLt
  have h1 : (i 1).val < 64 := (i 1).isLt
  have h2 : (i 2).val < 64 := (i 2).isLt
  have h3 : (i 3).val < 128 := (i 3).isLt
  let t := point (if 2 * (i 0).val + (i 1).val / 32 < 31 then 2 * (i 0).val + (i 1).val / 32 else 39) (by split <;> omega)
  have tv : t.val = if 2 * (i 0).val + (i 1).val / 32 < 31 then 2 * (i 0).val + (i 1).val / 32 else 39 := rfl
  refine ⟨t, (flush0_11 t).mpr (by rw [tv]; split <;> omega), ?_⟩
  show i ∈ ((View.whole main_v4_2).slice (win0_11.rect t)).set
  rw [View.set_slice_whole, Rect.mem_set_unit]
  intro a
  match a with
  | 0 =>
    show win0_11.index t 0 * 1 ≤ (i 0 : Nat) ∧ (i 0 : Nat) < win0_11.index t 0 * 1 + 1
    rw [(index_11 t).1, tv]; split <;> omega
  | 1 =>
    show win0_11.index t 1 * 32 ≤ (i 1 : Nat) ∧ (i 1 : Nat) < win0_11.index t 1 * 32 + 32
    rw [(index_11 t).2.1, tv]; split <;> omega
  | 2 =>
    show win0_11.index t 2 * 64 ≤ (i 2 : Nat) ∧ (i 2 : Nat) < win0_11.index t 2 * 64 + 64
    rw [(index_11 t).2.2.1]; omega
  | 3 =>
    show win0_11.index t 3 * 128 ≤ (i 3 : Nat) ∧ (i 3 : Nat) < win0_11.index t 3 * 128 + 128
    rw [(index_11 t).2.2.2]; omega

/-- The projection array ends holding `zFin`. -/
theorem final_9 : (dats m 0 c).arrAt 9 cfg0.N = zFin m c :=
  (dats m 0 c).arrAt_eq_of_cover 9 (zFin m c) (fun t _ => flushed_9 m c t) cover_9
/-- The output array ends holding `yFin`. -/
theorem final_10 : (dats m 0 c).arrAt 10 cfg0.N = yFin m c :=
  (dats m 0 c).arrAt_eq_of_cover 10 (yFin m c) (fun t _ => flushed_10 m c t) cover_10
/-- The state array ends holding `sFin`. -/
theorem final_11 : (dats m 0 c).arrAt 11 cfg0.N = sFin m c :=
  (dats m 0 c).arrAt_eq_of_cover 11 (sFin m c) (fun t _ => flushed_11 m c t) cover_11

variable (ρ : Dev nD → PrngReg)

/-- The run ends with the three result arrays holding these values and the arguments as launched. -/
theorem run_values : θ_run defs (onTc (τ := τ) (main (F := F))) ⟨m, fun _ => 0, ρ⟩ (fun r => ∀ c : Dev nD,
    (r.2.mem ((c.tc : Thread nD τ).loc main_v4_0) = zFin m c
      ∧ r.2.mem ((c.tc : Thread nD τ).loc main_v4_1) = yFin m c
      ∧ r.2.mem ((c.tc : Thread nD τ).loc main_v4_2) = sFin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨⟨((h c).1 9).trans (final_9 m c), ((h c).1 10).trans (final_10 m c),
      ((h c).1 11).trans (final_11 m c)⟩,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩)
    (run_main m ρ)

end Cert.KernelIdeal.Hand
-- ==== Proof.Recur.lean ====
module

public import Idealize.ShloMosaic.PureOps.Ideal.Laws
public import Idealize.ShloMosaic.Lib.Pointwise

@[expose] public section

noncomputable section

/-! The recurrence of one head, sequence and value column over extended reals, which both programs compute. -/

namespace Cert.Recur

open Idealize.ShloMosaic

/-- An operand with a row per token and a column per head and key. -/
abbrev Rows := Fin 512 → Fin 1024 → EReal

/-- The row of sequence `b`'s token `t`. -/
def row (b : Fin 128) (t : Fin 4) : Fin 512 := ⟨4 * b.val + t.val, by omega⟩
/-- The column of head `h`'s entry `j`. -/
def col (h : Fin 16) (j : Fin 64) : Fin 1024 := ⟨64 * h.val + j.val, by omega⟩

/-- The operands: receptance, decay, key, value, removal key, replacement key. -/
structure Ops where
  r : Rows
  w : Rows
  k : Rows
  v : Rows
  a : Rows
  b : Rows

/-- The decayed state, plus what was read at the removal key put at the replacement key, plus the value put at the key. -/
def step (o : Ops) (b : Fin 128) (h : Fin 16) (p : Fin 64) (t : Fin 4) (s : Fin 64 → EReal) : Fin 64 → EReal := fun j =>
  s j * o.w (row b t) (col h j) + (∑ i : Fin 64, s i * o.a (row b t) (col h i)) * o.b (row b t) (col h j)
    + o.v (row b t) (col h p) * o.k (row b t) (col h j)

/-- Value column `p`'s state after token `t`, from `s`. -/
def state (o : Ops) (b : Fin 128) (h : Fin 16) (p : Fin 64) (s : Fin 64 → EReal) : Fin 4 → Fin 64 → EReal
  | 0 => step o b h p 0 s
  | 1 => step o b h p 1 (step o b h p 0 s)
  | 2 => step o b h p 2 (step o b h p 1 (step o b h p 0 s))
  | 3 => step o b h p 3 (step o b h p 2 (step o b h p 1 (step o b h p 0 s)))

/-- The output of value column `p` at token `t`: its state read at the receptance. -/
def out (o : Ops) (b : Fin 128) (h : Fin 16) (p : Fin 64) (s : Fin 64 → EReal) (t : Fin 4) : EReal :=
  ∑ j : Fin 64, state o b h p s t j * o.r (row b t) (col h j)

end Cert.Recur
-- ==== Proof.Units.lean ====
module

public import proofs.«01_k».proof.Proof.Final
public import proofs.«01_k».proof.Proof.Recur

@[expose] public section

set_option synthInstance.maxSize 4096
set_option maxRecDepth 16384

noncomputable section

namespace Cert.KernelIdeal.Hand

open Cert.KernelIdeal Cert.KernelIdeal.Gen Cert.Recur
open Idealize.ShloMosaic Idealize.ShloMosaic.TcCoe Idealize.ShloMosaic.Tactic
open Idealize.SL

/-! ## The body's operations over extended reals, at an index -/

theorem nextState_apply (s : FVec Ideal S64x128 .f32) (x3 : Vec Ideal S1x1x64x128 .f32) (xv : Vec Ideal S1x1x128 .f32)
    (x1 x4 x2 : Vec Ideal S1x1x64x128 .f32) (j : Fin 64) (b : Fin 128) :
    nextState s x3 xv x1 x4 x2 (ix2 j b) = (s (ix2 j b) * x1 (ix4 0 0 j b)
      + (∑ i : Fin 64, s (ix2 i b) * x3 (ix4 0 0 i b)) * x4 (ix4 0 0 j b) + xv (ix3 0 0 b) * x2 (ix4 0 0 j b) : EReal) := by
  unfold nextState
  pointwise

theorem outRow_apply (s : FVec Ideal S64x128 .f32) (x0 : Vec Ideal S1x1x64x128 .f32) (b : Fin 128) :
    outRow s x0 (ix3 0 0 b) = (∑ i : Fin 64, s (ix2 i b) * x0 (ix4 0 0 i b) : EReal) := by
  unfold outRow
  pointwise

/-- The projection's tile: rows times weight rows. -/
theorem zC_apply (X2 : Vec Ideal S1088x2048 .bf16) (X14 : Vec Ideal S1024x2048 .bf16) (a : Fin 1088) (b : Fin 1024) :
    zC X2 X14 (ix2 a b) = (∑ k : Fin 2048, X2 (ix2 a k) * X14 (ix2 b k) : EReal) := by
  have hb : b.val / 256 < 4 := by omega
  have hW (W : Vec Ideal S256x2048 .bf16) (b' : Fin 256) : matmul (F := Ideal) (φ₁ := .bf16) (φ₂ := .bf16) dot_S1088x2048_S256x2048_S1088x256_1_1_0_0_n_n none X2 W
      (constant S1088x256 .f32 0x00000000#32) (ix2 a b') = (∑ k : Fin 2048, X2 (ix2 a k) * W (ix2 b' k) : EReal) := by
    pointwise
  show quarter X2 X14 ⟨b.val / 256, hb⟩ (ix2 a ⟨b.val % 256, Nat.mod_lt _ (by decide)⟩) = _
  refine (hW _ _).trans (Finset.sum_congr rfl fun k _ => congrArg (X2 (ix2 a k) * ·) ?_)
  show X14 _ = X14 _
  refine congrArg X14 (funext fun x => ?_)
  match x with
  | 0 => exact Fin.ext (by show 256 * (b.val / 256) + 1 * (b.val % 256) = b.val; omega)
  | 1 => exact Fin.ext (by show 0 + 1 * k.val = k.val; omega)

section
variable (X10 : Vec Ideal S1x32x64x128 .f32) (X4 X5 X6 X7 X8 X9 : Vec Ideal S512x128 .f32) (i : grid0.Coords) (n : Fin 32)

/-- The head's column inside its block of 128 columns. -/
def lane (j : Fin 64) : Fin 128 := ⟨64 * (subN i / 2) + j.val, by have : subN i < 4 := Nat.mod_lt _ (by decide); omega⟩

theorem rowsOf_ix2 (X : Vec Ideal S512x128 .f32) (t : Fin 4) (b a : Fin 128) : rowsOf X t (ix2 b a) = X (ix2 (row b t) a) := by
  refine congrArg X (funext fun x => ?_)
  match x with
  | 0 => exact Fin.ext (by show t.val + 4 * b.val = 4 * b.val + t.val; omega)
  | 1 => exact Fin.ext (by show 0 + 1 * a.val = a.val; omega)

theorem opWin (q : Fin 5) (t : Fin 4) (j : Fin 64) (b : Fin 128) :
    win (opC X4 X5 X6 X8 X9) (headOff q t i) S1x1x64x128.size (headOff_inb q t i) (ix4 0 0 j b)
      = opRows X4 X5 X6 X8 X9 q t (ix2 b (lane i j)) := by
  show opRows X4 X5 X6 X8 X9 _ _ _ = _
  refine congrArg (opRows X4 X5 X6 X8 X9 q t) (funext fun x => ?_)
  match x with
  | 0 => exact Fin.ext (by show 0 + 1 * b.val = b.val; omega)
  | 1 => exact Fin.ext (by show 64 * (subN i / 2) + 1 * j.val = 64 * (subN i / 2) + j.val; omega)

theorem vWin (t : Fin 4) (b : Fin 128) :
    win (vtC X7) (colOff t i n) S1x1x128.size (colOff_inb t i n) (ix3 0 0 b)
      = X7 (ix2 (row b t) ⟨32 * subN i + n.val, by have : subN i < 4 := Nat.mod_lt _ (by decide); omega⟩) := by
  show rowsOf X7 _ _ = _
  refine Eq.trans ?_ (rowsOf_ix2 X7 t b _)
  refine congrArg (rowsOf X7 t) (funext fun x => ?_)
  match x with
  | 0 => exact Fin.ext (by show 0 + 1 * b.val = b.val; omega)
  | 1 => rfl

theorem state0_apply (j : Fin 64) (b : Fin 128) : state0 X10 n (ix2 j b) = X10 (ix4 0 n j b) := by
  have hT (W : Vec Ideal S1x1x64x128 .f32) : shapeCast S64x128 W shapeCasts_S1x1x64x128_S64x128 (ix2 j b) = W (ix4 0 0 j b) := by
    pointwise
  refine (hT _).trans ?_
  show X10 _ = X10 _
  refine congrArg X10 (funext fun x => ?_)
  match x with
  | 0 => rfl
  | 1 => rfl
  | 2 => exact Fin.ext (by show 0 + 1 * j.val = j.val; omega)
  | 3 => exact Fin.ext (by show 0 + 1 * b.val = b.val; omega)

/-! ## One unit's states and output rows are the recurrence's -/

variable (o : Ops) (h : Fin 16) (p : Fin 64)
  (hr : ∀ (t : Fin 4) (b : Fin 128) (j : Fin 64), X4 (ix2 (row b t) (lane i j)) = o.r (row b t) (col h j))
  (hw : ∀ (t : Fin 4) (b : Fin 128) (j : Fin 64), Ideal.exp (X5 (ix2 (row b t) (lane i j))) = o.w (row b t) (col h j))
  (hk : ∀ (t : Fin 4) (b : Fin 128) (j : Fin 64), X6 (ix2 (row b t) (lane i j)) = o.k (row b t) (col h j))
  (ha : ∀ (t : Fin 4) (b : Fin 128) (j : Fin 64), X8 (ix2 (row b t) (lane i j)) = o.a (row b t) (col h j))
  (hb : ∀ (t : Fin 4) (b : Fin 128) (j : Fin 64), X9 (ix2 (row b t) (lane i j)) = o.b (row b t) (col h j))
  (hv : ∀ (t : Fin 4) (b : Fin 128), X7 (ix2 (row b t) ⟨32 * subN i + n.val, by have : subN i < 4 := Nat.mod_lt _ (by decide); omega⟩)
    = o.v (row b t) (col h p))

include hw hk ha hb hv in
theorem stepS_apply (t : Fin 4) (s : FVec Ideal S64x128 .f32) (b : Fin 128) (u : Fin 64 → EReal) (hs : ∀ j, s (ix2 j b) = u j) (j : Fin 64) :
    stepS (opC X4 X5 X6 X8 X9) (vtC X7) i n t s (ix2 j b) = step o b h p t u j := by
  unfold stepS
  rw [nextState_apply, vWin, hv]
  have h1 : ∀ j, win (opC X4 X5 X6 X8 X9) (headOff 1 t i) S1x1x64x128.size (headOff_inb 1 t i) (ix4 0 0 j b) = o.w (row b t) (col h j) :=
    fun j => (opWin X4 X5 X6 X8 X9 i 1 t j b).trans ((congrArg Ideal.exp (rowsOf_ix2 X5 t b _)).trans (hw t b j))
  have h2 : ∀ j, win (opC X4 X5 X6 X8 X9) (headOff 2 t i) S1x1x64x128.size (headOff_inb 2 t i) (ix4 0 0 j b) = o.k (row b t) (col h j) :=
    fun j => (opWin X4 X5 X6 X8 X9 i 2 t j b).trans ((rowsOf_ix2 X6 t b _).trans (hk t b j))
  have h3 : ∀ j, win (opC X4 X5 X6 X8 X9) (headOff 3 t i) S1x1x64x128.size (headOff_inb 3 t i) (ix4 0 0 j b) = o.a (row b t) (col h j) :=
    fun j => (opWin X4 X5 X6 X8 X9 i 3 t j b).trans ((rowsOf_ix2 X8 t b _).trans (ha t b j))
  have h4 : ∀ j, win (opC X4 X5 X6 X8 X9) (headOff 4 t i) S1x1x64x128.size (headOff_inb 4 t i) (ix4 0 0 j b) = o.b (row b t) (col h j) :=
    fun j => (opWin X4 X5 X6 X8 X9 i 4 t j b).trans ((rowsOf_ix2 X9 t b _).trans (hb t b j))
  simp only [h1, h2, h3, h4, hs]
  rfl

variable (s0 : Fin 128 → Fin 64 → EReal) (hs0 : ∀ b j, X10 (ix4 0 n j b) = s0 b j)

include hw hk ha hb hv hs0 in
theorem stateAt_apply (t : Fin 4) (b : Fin 128) (j : Fin 64) :
    stateAt X10 (opC X4 X5 X6 X8 X9) (vtC X7) i n t (ix2 j b) = state o b h p (s0 b) t j := by
  have z (j) : state0 X10 n (ix2 j b) = s0 b j := (state0_apply X10 n j b).trans (hs0 b j)
  have A := fun t s u e j => stepS_apply X4 X5 X6 X7 X8 X9 i n o h p hw hk ha hb hv t s b u e j
  match t with
  | 0 => exact A 0 _ _ z j
  | 1 => exact A 1 _ _ (A 0 _ _ z) j
  | 2 => exact A 2 _ _ (A 1 _ _ (A 0 _ _ z)) j
  | 3 => exact A 3 _ _ (A 2 _ _ (A 1 _ _ (A 0 _ _ z))) j

include hr hw hk ha hb hv hs0 in
theorem rowAt_apply (t : Fin 4) (b : Fin 128) :
    rowAt X10 (opC X4 X5 X6 X8 X9) (vtC X7) i n t (ix3 0 0 b) = out o b h p (s0 b) t := by
  unfold rowAt
  rw [outRow_apply]
  refine Finset.sum_congr rfl fun j _ => ?_
  rw [stateAt_apply X10 X4 X5 X6 X7 X8 X9 i n o h p hw hk ha hb hv s0 hs0, opWin]
  exact congrArg (state o b h p (s0 b) t j * ·) ((rowsOf_ix2 X4 t b _).trans (hr t b j))
end

end Cert.KernelIdeal.Hand
-- ==== Proof.Blocks.lean ====
module

public import proofs.«01_k».proof.Proof.Units
public import Idealize.ShloMosaic.Lib.StableHlo.ReadAt

@[expose] public section

set_option synthInstance.maxSize 4096
set_option maxRecDepth 16384

noncomputable section

namespace Cert.KernelIdeal.Hand

open Cert.KernelIdeal Cert.KernelIdeal.Gen Cert.Recur
open Idealize.ShloMosaic Idealize.ShloMosaic.TcCoe Idealize.ShloMosaic.Tactic
open Idealize.SL

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The transposed weights. -/
theorem V_v1 (a : Fin 8480) (b : Fin 2048) : V m c main_v1 (ix2 a b) = arg m c main_arg1 (ix3 0 b a) := by
  unfold V
  after_reads_at

/-- The states with the sequence last. -/
theorem V_v3 (h : Fin 16) (p j : Fin 64) (b : Fin 128) : V m c main_v3 (ix4 h p j b) = arg m c main_arg8 (ix5 0 b h p j) := by
  unfold V
  after_reads_at

/-! ## The blocks -/

theorem inH_apply (t : Fin cfg0.N) (a : Fin 1088) (k : Fin 2048) :
    inH m c t (ix2 a k) = arg m c main_arg0 (ix2 ⟨1088 * (t.val % 8) + a.val, by omega⟩ k) := by
  refine (congrFun (V_main_arg0 m c) _).trans (congrArg (arg m c main_arg0) (funext fun x => Fin.ext ?_))
  match x with
  | 0 => exact (win0_0.rect_emb_val t _ 0).trans (by rw [(index_0 t).1]; show t.val % 8 * 1088 + a.val = 1088 * (t.val % 8) + a.val; omega)
  | 1 => exact (win0_0.rect_emb_val t _ 1).trans (by rw [(index_0 t).2]; show 0 * 2048 + k.val = k.val; omega)

theorem inW_apply (t : Fin cfg0.N) (b : Fin 1024) (k : Fin 2048) :
    inW m c t (ix2 b k) = arg m c main_arg1 (ix3 0 k ⟨3360 + 1024 * (t.val / 8) + b.val, by have := lt40 t; omega⟩) := by
  refine Eq.trans (congrArg (V m c main_v1) (funext fun x => Fin.ext ?_))
    (V_v1 m c ⟨3360 + 1024 * (t.val / 8) + b.val, by have := lt40 t; omega⟩ k)
  match x with
  | 0 => exact (win0_1.rect_emb_val_off t _ 0).trans (by rw [(index_1 t).1]; rfl)
  | 1 => exact (win0_1.rect_emb_val_off t _ 1).trans (by rw [(index_1 t).2]; exact Nat.zero_add _)

theorem inS_apply (t : Fin cfg0.N) (n : Fin 32) (j : Fin 64) (b : Fin 128) :
    inS m c t (ix4 0 n j b) = arg m c main_arg8 (ix5 0 b ⟨min t.val 31 / 2, by omega⟩ ⟨32 * (min t.val 31 % 2) + n.val, by omega⟩ j) := by
  refine Eq.trans (congrArg (V m c main_v3) (funext fun x => Fin.ext ?_))
    (V_v3 m c ⟨min t.val 31 / 2, by omega⟩ ⟨32 * (min t.val 31 % 2) + n.val, by omega⟩ j b)
  match x with
  | 0 => exact (win0_8.rect_emb_val t _ 0).trans (by rw [(index_8 t).1]; show min t.val 31 / 2 * 1 + 0 = min t.val 31 / 2; omega)
  | 1 => exact (win0_8.rect_emb_val t _ 1).trans (by rw [(index_8 t).2.1]; show min t.val 31 % 2 * 32 + n.val = 32 * (min t.val 31 % 2) + n.val; omega)
  | 2 => exact (win0_8.rect_emb_val t _ 2).trans (by rw [(index_8 t).2.2.1]; show 0 * 64 + j.val = j.val; omega)
  | 3 => exact (win0_8.rect_emb_val t _ 3).trans (by rw [(index_8 t).2.2.2]; show 0 * 128 + b.val = b.val; omega)

/-- A column of a point's group. -/
def gcol (t : Fin cfg0.N) (b : Fin 128) : Fin 1024 := ⟨min (t.val / 4) 7 * 128 + b.val, by omega⟩

theorem emb_cols (t : Fin cfg0.N) (a : Fin 512) (b : Fin 128) (z : S512x1024.Idx) (h0 : (z 0).val = a.val)
    (h1 : (z 1).val = min (t.val / 4) 7 * 128 + b.val) : z = ix2 a (gcol t b) := by
  funext x
  match x with
  | 0 => exact Fin.ext h0
  | 1 => exact Fin.ext h1

theorem inR_apply (t : Fin cfg0.N) (a : Fin 512) (b : Fin 128) : inR m c t (ix2 a b) = arg m c main_arg2 (ix2 a (gcol t b)) :=
  (congrFun (V_main_arg2 m c) _).trans (congrArg (arg m c main_arg2) (emb_cols t a b _ ((win0_2.rect_emb_val t _ 0).trans (by rw [(index_2 t).1]; exact Nat.zero_add _))
    ((win0_2.rect_emb_val t _ 1).trans (by rw [(index_2 t).2]; rfl))))

theorem inL_apply (t : Fin cfg0.N) (a : Fin 512) (b : Fin 128) : inL m c t (ix2 a b) = arg m c main_arg3 (ix2 a (gcol t b)) :=
  (congrFun (V_main_arg3 m c) _).trans (congrArg (arg m c main_arg3) (emb_cols t a b _ ((win0_3.rect_emb_val t _ 0).trans (by rw [(index_3 t).1]; exact Nat.zero_add _))
    ((win0_3.rect_emb_val t _ 1).trans (by rw [(index_3 t).2]; rfl))))

theorem inK_apply (t : Fin cfg0.N) (a : Fin 512) (b : Fin 128) : inK m c t (ix2 a b) = arg m c main_arg4 (ix2 a (gcol t b)) :=
  (congrFun (V_main_arg4 m c) _).trans (congrArg (arg m c main_arg4) (emb_cols t a b _ ((win0_4.rect_emb_val t _ 0).trans (by rw [(index_4 t).1]; exact Nat.zero_add _))
    ((win0_4.rect_emb_val t _ 1).trans (by rw [(index_4 t).2]; rfl))))

theorem inV_apply (t : Fin cfg0.N) (a : Fin 512) (b : Fin 128) : inV m c t (ix2 a b) = arg m c main_arg5 (ix2 a (gcol t b)) :=
  (congrFun (V_main_arg5 m c) _).trans (congrArg (arg m c main_arg5) (emb_cols t a b _ ((win0_5.rect_emb_val t _ 0).trans (by rw [(index_5 t).1]; exact Nat.zero_add _))
    ((win0_5.rect_emb_val t _ 1).trans (by rw [(index_5 t).2]; rfl))))

theorem inA_apply (t : Fin cfg0.N) (a : Fin 512) (b : Fin 128) : inA m c t (ix2 a b) = arg m c main_arg6 (ix2 a (gcol t b)) :=
  (congrFun (V_main_arg6 m c) _).trans (congrArg (arg m c main_arg6) (emb_cols t a b _ ((win0_6.rect_emb_val t _ 0).trans (by rw [(index_6 t).1]; exact Nat.zero_add _))
    ((win0_6.rect_emb_val t _ 1).trans (by rw [(index_6 t).2]; rfl))))

theorem inB_apply (t : Fin cfg0.N) (a : Fin 512) (b : Fin 128) : inB m c t (ix2 a b) = arg m c main_arg7 (ix2 a (gcol t b)) :=
  (congrFun (V_main_arg7 m c) _).trans (congrArg (arg m c main_arg7) (emb_cols t a b _ ((win0_7.rect_emb_val t _ 0).trans (by rw [(index_7 t).1]; exact Nat.zero_add _))
    ((win0_7.rect_emb_val t _ 1).trans (by rw [(index_7 t).2]; rfl))))

/-! ## The results -/

/-- The operands of the recurrence. -/
def ops : Ops where
  r a b := arg m c main_arg2 (ix2 a b)
  w a b := Ideal.exp (arg m c main_arg3 (ix2 a b))
  k a b := arg m c main_arg4 (ix2 a b)
  v a b := arg m c main_arg5 (ix2 a b)
  a a b := arg m c main_arg6 (ix2 a b)
  b a b := arg m c main_arg7 (ix2 a b)
/-- The states the recurrence starts from. -/
def start (b : Fin 128) (h : Fin 16) (p j : Fin 64) : EReal := arg m c main_arg8 (ix5 0 b h p j)

/-- The unit of head `h` and value column `p`. -/
def unit (h : Fin 16) (p : Fin 64) : Fin cfg0.N := point (2 * h.val + p.val / 32) (by omega)
theorem unit_val (h : Fin 16) (p : Fin 64) : (unit h p).val = 2 * h.val + p.val / 32 := rfl
/-- The value column inside its unit's slab. -/
def inner (p : Fin 64) : Fin 32 := ⟨p.val % 32, Nat.mod_lt _ (by decide)⟩

section
variable (h : Fin 16) (p : Fin 64)

theorem gcol_lane (j : Fin 64) : gcol (unit h p) (lane (grid0.coords (unit h p)) j) = col h j := Fin.ext (by
  show min ((unit h p).val / 4) 7 * 128 + (64 * (subN (grid0.coords (unit h p)) / 2) + j.val) = 64 * h.val + j.val
  rw [subN_coords, unit_val]; omega)

theorem gcol_value : gcol (unit h p) ⟨32 * subN (grid0.coords (unit h p)) + (inner p).val, by
      have : subN (grid0.coords (unit h p)) < 4 := Nat.mod_lt _ (by decide); omega⟩ = col h p := Fin.ext (by
  show min ((unit h p).val / 4) 7 * 128 + (32 * subN (grid0.coords (unit h p)) + p.val % 32) = 64 * h.val + p.val
  rw [subN_coords, unit_val]; omega)

theorem start_apply (b : Fin 128) (j : Fin 64) : inS m c (unit h p) (ix4 0 (inner p) j b) = start m c b h p j := by
  refine (inS_apply m c (unit h p) (inner p) j b).trans ?_
  have e1 : (⟨min (unit h p).val 31 / 2, by omega⟩ : Fin 16) = h := Fin.ext (by
    show min (unit h p).val 31 / 2 = h.val; rw [unit_val]; omega)
  have e2 : (⟨32 * (min (unit h p).val 31 % 2) + (inner p).val, by omega⟩ : Fin 64) = p := Fin.ext (by
    show 32 * (min (unit h p).val 31 % 2) + p.val % 32 = p.val; rw [unit_val]; omega)
  rw [e1, e2]
  rfl

/-- A unit's states. -/
theorem unit_state (t : Fin 4) (b : Fin 128) (j : Fin 64) :
    stateAt (inS m c (unit h p)) (op m c (unit h p)) (vt m c (unit h p)) (grid0.coords (unit h p)) (inner p) t (ix2 j b)
      = state (ops m c) b h p (start m c b h p) t j :=
  stateAt_apply (inS m c (unit h p)) (inR m c (unit h p)) (inL m c (unit h p)) (inK m c (unit h p)) (inV m c (unit h p)) (inA m c (unit h p)) (inB m c (unit h p))
    (grid0.coords (unit h p)) (inner p) (ops m c) h p
    (fun t b j => by rw [inL_apply, gcol_lane]; rfl) (fun t b j => by rw [inK_apply, gcol_lane]; rfl)
    (fun t b j => by rw [inA_apply, gcol_lane]; rfl) (fun t b j => by rw [inB_apply, gcol_lane]; rfl)
    (fun t b => by rw [inV_apply, gcol_value]; rfl) (fun b => start m c b h p) (fun b j => start_apply m c h p b j) t b j

/-- A unit's output rows. -/
theorem unit_row (t : Fin 4) (b : Fin 128) :
    rowAt (inS m c (unit h p)) (op m c (unit h p)) (vt m c (unit h p)) (grid0.coords (unit h p)) (inner p) t (ix3 0 0 b)
      = out (ops m c) b h p (start m c b h p) t :=
  rowAt_apply (inS m c (unit h p)) (inR m c (unit h p)) (inL m c (unit h p)) (inK m c (unit h p)) (inV m c (unit h p)) (inA m c (unit h p)) (inB m c (unit h p))
    (grid0.coords (unit h p)) (inner p) (ops m c) h p (fun t b j => by rw [inR_apply, gcol_lane]; rfl)
    (fun t b j => by rw [inL_apply, gcol_lane]; rfl) (fun t b j => by rw [inK_apply, gcol_lane]; rfl)
    (fun t b j => by rw [inA_apply, gcol_lane]; rfl) (fun t b j => by rw [inB_apply, gcol_lane]; rfl)
    (fun t b => by rw [inV_apply, gcol_value]; rfl) (fun b => start m c b h p) (fun b j => start_apply m c h p b j) t b
end

/-- The state array's final contents. -/
theorem sFin_apply (h : Fin 16) (p j : Fin 64) (b : Fin 128) :
    sFin m c (ix4 h p j b) = state (ops m c) b h p (start m c b h p) 3 j :=
  unit_state m c h p 3 b j

/-- The output array's final contents. -/
theorem yFin_apply (b : Fin 128) (t : Fin 4) (h : Fin 16) (p : Fin 64) :
    yFin m c (ix2 (row b t) (col h p)) = out (ops m c) b h p (start m c b h p) t := by
  refine Eq.trans ?_ (unit_row m c h p t b)
  have key (u u' : Fin cfg0.N) (n n' : Fin 32) (t t' : Fin 4) (b b' : Fin 128) (eu : u = u') (en : n = n') (et : t = t') (eb : b = b') :
      rowAt (inS m c u) (op m c u) (vt m c u) (grid0.coords u) n t (ix3 0 0 b) = rowAt (inS m c u') (op m c u') (vt m c u') (grid0.coords u') n' t' (ix3 0 0 b') := by
    subst eu en et eb; rfl
  exact key _ _ _ _ _ _ _ _
    (Fin.ext (by show 4 * ((64 * h.val + p.val) / 128) + (64 * h.val + p.val) % 128 / 32 = 2 * h.val + p.val / 32; omega))
    (Fin.ext (by show (64 * h.val + p.val) % 128 % 32 = p.val % 32; omega))
    (Fin.ext (by show (4 * b.val + t.val) % 4 = t.val; omega))
    (Fin.ext (by show (4 * b.val + t.val) / 4 = b.val; omega))

/-- Entry `(i, k)` of the rows. -/
def hAt (i : Fin 8704) (k : Fin 2048) : EReal := arg m c main_arg0 (ix2 i k)
/-- Entry `(k, j)` of the weights. -/
def wAt (k : Fin 2048) (j : Fin 8480) : EReal := arg m c main_arg1 (ix3 0 k j)

/-- The projection array's final contents. -/
theorem zFin_apply (i : Fin 8704) (j : Fin 5120) :
    zFin m c (ix2 i j) = ∑ k : Fin 2048, hAt m c i k * wAt m c k ⟨3360 + j.val, by omega⟩ := by
  let t := point (8 * (j.val / 1024) + i.val / 1088) (by omega)
  have tv : t.val = 8 * (j.val / 1024) + i.val / 1088 := rfl
  refine (zC_apply (inH m c t) (wb m c t) ⟨i.val % 1088, Nat.mod_lt _ (by decide)⟩ ⟨j.val % 1024, Nat.mod_lt _ (by decide)⟩).trans
    (Finset.sum_congr rfl fun k _ => ?_)
  refine congrArg₂ (fun a b : EReal => a * b) ?_ ?_
  · refine (inH_apply m c t _ k).trans (congrArg (fun i' => arg m c main_arg0 (ix2 i' k)) (Fin.ext ?_))
    show 1088 * (t.val % 8) + i.val % 1088 = i.val
    rw [tv]; omega
  · refine (inW_apply m c t _ k).trans (congrArg (fun j' => arg m c main_arg1 (ix3 0 k j')) (Fin.ext ?_))
    show 3360 + 1024 * (t.val / 8) + j.val % 1024 = 3360 + j.val
    rw [tv]; omega

end Cert.KernelIdeal.Hand
-- ==== Proof.RefStep.lean ====
module

public import proofs.«01_k».proof.Proof.Gen.ReferenceIdeal.Run
public import proofs.«01_k».proof.Proof.Recur
public import Idealize.ShloMosaic.Lib.WordCmp
public import Idealize.ShloMosaic.Lib.StableHlo.ReadAt

@[expose] public section

set_option synthInstance.maxSize 4096
set_option maxRecDepth 16384

noncomputable section

namespace Cert.ReferenceIdeal.Hand

open Cert.ReferenceIdeal Cert.ReferenceIdeal.Gen Cert.ReferenceIdeal.Value Cert.Recur
open Idealize.ShloMosaic Idealize.ShloMosaic.TcCoe Idealize.ShloMosaic.Tactic
open Idealize.ShloMosaic.StableHlo
open Idealize.SL

/-! ## One token's rows, taken out of and put into a token-first array -/

/-- The start of token `t`'s rows. -/
theorem slices_tok (t : Fin 4) : S4x128x16x64.Slices ![t.val, 0, 0, 0] S1x128x16x64 := by
  revert t; decide +kernel

theorem tok_apply (X : FVec Ideal S4x128x16x64 .f32) (f : Fin 4 → Int) (t : Fin 4) (hf : ∀ a, f a = ((![t.val, 0, 0, 0] : Fin 4 → Nat) a : Int))
    (b : Fin 128) (h : Fin 16) (j : Fin 64) :
    shapeCast S128x16x64 (Host.dynamicSlice S1x128x16x64 X f sliceFits_S4x128x16x64_S1x128x16x64) shapeCasts_S1x128x16x64_S128x16x64 (ix3 b h j)
      = X (ix4 t b h j) := by
  rw [WordCmp.dynamicSlice_eq_extract S1x128x16x64 X f sliceFits_S4x128x16x64_S1x128x16x64 ![t.val, 0, 0, 0] (slices_tok t) hf]
  pointwise

theorem put_apply (X : FVec Ideal S4x128x16x64 .f32) (Y : FVec Ideal S128x16x64 .f32) (f : Fin 4 → Int) (t t' : Fin 4)
    (hf : ∀ a, f a = ((![t.val, 0, 0, 0] : Fin 4 → Nat) a : Int)) (b : Fin 128) (h : Fin 16) (j : Fin 64) :
    Host.dynamicUpdateSlice X (broadcastInDim S1x128x16x64 ![1, 2, 3] bcast_S128x16x64_S1x128x16x64_1_2_3 Y) f updateFits_S4x128x16x64_S1x128x16x64 (ix4 t' b h j)
      = if t' = t then Y (ix3 b h j) else X (ix4 t' b h j) := by
  rw [WordCmp.dynamicUpdateSlice_eq_update X _ f updateFits_S4x128x16x64_S1x128x16x64 ![t.val, 0, 0, 0] (slices_tok t) hf]
  pointwise
  by_cases e : t' = t
  · subst e
    rw [if_pos rfl, dif_pos ⟨Nat.le_refl _, Nat.lt_succ_self _⟩]
  · have e' : t'.val ≠ t.val := fun h => e (Fin.ext h)
    rw [if_neg e, dif_neg (by omega)]

/-! ## One token of the recurrence, over plain arrays -/

/-- The new state. -/
theorem next_apply (s : FVec Ideal S128x16x64x64 .f32) (w k v a b : FVec Ideal S128x16x64 .f32) (bb : Fin 128) (h : Fin 16) (p j : Fin 64) :
    addf (addf (mulf s (broadcastInDim S128x16x64x64 ![0, 1, 2, 3] bcast_S128x16x1x64_S128x16x64x64_0_1_2_3 (broadcastInDim S128x16x1x64 ![0, 1, 3] bcast_S128x16x64_S128x16x1x64_0_1_3 w)))
      (mulf (broadcastInDim S128x16x64x64 ![0, 1, 2, 3] bcast_S128x16x64x1_S128x16x64x64_0_1_2_3 (broadcastInDim S128x16x64x1 ![0, 1, 2] bcast_S128x16x64_S128x16x64x1_0_1_2
          (Host.dotGeneral dot_S128x16x64x64_S128x16x64_S128x16x64_3_2_2_n_01_01 none s a)))
        (broadcastInDim S128x16x64x64 ![0, 1, 2, 3] bcast_S128x16x1x64_S128x16x64x64_0_1_2_3 (broadcastInDim S128x16x1x64 ![0, 1, 3] bcast_S128x16x64_S128x16x1x64_0_1_3 b))))
      (mulf (broadcastInDim S128x16x64x64 ![0, 1, 2, 3] bcast_S128x16x64x1_S128x16x64x64_0_1_2_3 (broadcastInDim S128x16x64x1 ![0, 1, 2] bcast_S128x16x64_S128x16x64x1_0_1_2 v))
        (broadcastInDim S128x16x64x64 ![0, 1, 2, 3] bcast_S128x16x1x64_S128x16x64x64_0_1_2_3 (broadcastInDim S128x16x1x64 ![0, 1, 3] bcast_S128x16x64_S128x16x1x64_0_1_3 k)))
      (ix4 bb h p j)
    = (s (ix4 bb h p j) * w (ix3 bb h j) + (∑ i : Fin 64, s (ix4 bb h p i) * a (ix3 bb h i)) * b (ix3 bb h j) + v (ix3 bb h p) * k (ix3 bb h j) : EReal) := by
  pointwise

/-- The output. -/
theorem read_apply (s : FVec Ideal S128x16x64x64 .f32) (r : FVec Ideal S128x16x64 .f32) (bb : Fin 128) (h : Fin 16) (p : Fin 64) :
    Host.dotGeneral dot_S128x16x64x64_S128x16x64_S128x16x64_3_2_2_n_01_01 none s r (ix3 bb h p)
      = (∑ i : Fin 64, s (ix4 bb h p i) * r (ix3 bb h i) : EReal) := by
  pointwise

/-! ## One trip of the loop -/

/-- The loop's buffers before token `n`: the operands, the counter, and the states `S`. -/
structure At (o : Ops) (n : Nat) (S : Fin 128 → Fin 16 → Fin 64 → Fin 64 → EReal) (V : Valuation τ sig (Elt Ideal)) : Prop where
  r : ∀ (t : Fin 4) (b : Fin 128) (h : Fin 16) (j : Fin 64), V (Proc.devRef .tc main_v15_0) (ix4 t b h j) = o.r (row b t) (col h j)
  w : ∀ (t : Fin 4) (b : Fin 128) (h : Fin 16) (j : Fin 64), V (Proc.devRef .tc main_v15_1) (ix4 t b h j) = o.w (row b t) (col h j)
  k : ∀ (t : Fin 4) (b : Fin 128) (h : Fin 16) (j : Fin 64), V (Proc.devRef .tc main_v15_2) (ix4 t b h j) = o.k (row b t) (col h j)
  v : ∀ (t : Fin 4) (b : Fin 128) (h : Fin 16) (j : Fin 64), V (Proc.devRef .tc main_v15_3) (ix4 t b h j) = o.v (row b t) (col h j)
  a : ∀ (t : Fin 4) (b : Fin 128) (h : Fin 16) (j : Fin 64), V (Proc.devRef .tc main_v15_4) (ix4 t b h j) = o.a (row b t) (col h j)
  b : ∀ (t : Fin 4) (b : Fin 128) (h : Fin 16) (j : Fin 64), V (Proc.devRef .tc main_v15_5) (ix4 t b h j) = o.b (row b t) (col h j)
  ctr : ∀ i, V (Proc.devRef .tc main_v15_6) i = BitVec.ofNat 32 n
  s : ∀ (b : Fin 128) (h : Fin 16) (p j : Fin 64), V (Proc.devRef .tc main_v15_7) (ix4 b h p j) = S b h p j

/-- The step's formula with its factors named. -/
theorem step_of (o : Ops) (t : Fin 4) (S : Fin 128 → Fin 16 → Fin 64 → Fin 64 → EReal) (bb : Fin 128) (h : Fin 16) (p j : Fin 64)
    (s w k v a b : Fin 64 → EReal) (hs : ∀ i, s i = S bb h p i) (hw : ∀ i, w i = o.w (row bb t) (col h i))
    (hk : ∀ i, k i = o.k (row bb t) (col h i)) (hv : ∀ i, v i = o.v (row bb t) (col h i))
    (ha : ∀ i, a i = o.a (row bb t) (col h i)) (hb : ∀ i, b i = o.b (row bb t) (col h i)) :
    s j * w j + (∑ i : Fin 64, s i * a i) * b j + v p * k j = step o bb h p t (S bb h p) j := by
  simp only [hs, hw, hk, hv, ha, hb]
  rfl

section
variable {o : Ops} {t : Fin 4} {S : Fin 128 → Fin 16 → Fin 64 → Fin 64 → EReal} {V : Valuation τ sig (Elt Ideal)} (H : At o t.val S V)
include H

/-- The starts read at the counter. -/
theorem At.starts (a : Fin 4) :
    ((![V (Proc.devRef .tc main_v15_6), constantI S_ 32 0#32, constantI S_ 32 0#32, constantI S_ 32 0#32] : Fin 4 → (⟨S_, .i32⟩ : BufTy).Contents (Elt Ideal))
      a (Shape.Idx.first h_S_)).toInt = ((![t.val, 0, 0, 0] : Fin 4 → Nat) a : Int) := by
  match a with
  | 0 =>
    refine (congrArg BitVec.toInt (H.ctr (Shape.Idx.first h_S_))).trans ?_
    show (BitVec.ofNat 32 t.val).toInt = (t.val : Int)
    clear H; revert t; decide
  | 1 => rfl
  | 2 => rfl
  | 3 => rfl

theorem At.next (b : Fin 128) (h : Fin 16) (p j : Fin 64) :
    res_main_while0b_v44 V (ix4 b h p j) = step o b h p t (S b h p) j := by
  unfold res_main_while0b_v44
  exact (next_apply _ _ _ _ _ _ b h p j).trans (step_of o t S b h p j _ _ _ _ _ _ (fun i => H.s b h p i)
    (fun j => (tok_apply _ _ t H.starts b h j).trans (H.w t b h j)) (fun j => (tok_apply _ _ t H.starts b h j).trans (H.k t b h j))
    (fun j => (tok_apply _ _ t H.starts b h j).trans (H.v t b h j)) (fun j => (tok_apply _ _ t H.starts b h j).trans (H.a t b h j))
    (fun j => (tok_apply _ _ t H.starts b h j).trans (H.b t b h j)))

theorem At.rows (Y : FVec Ideal S4x128x16x64 .f32) (hY : V (Proc.devRef .tc main_v15_8) = Y) (t' : Fin 4) (b : Fin 128) (h : Fin 16) (p : Fin 64) :
    STEP V (Proc.devRef .tc main_v15_8) (ix4 t' b h p)
      = if t' = t then (∑ i : Fin 64, step o b h p t (S b h p) i * o.r (row b t) (col h i) : EReal) else Y (ix4 t' b h p) := by
  rw [STEP_main_v15_8]
  refine (put_apply _ _ _ t t' H.starts b h p).trans ?_
  rw [hY]
  refine if_congr Iff.rfl ((read_apply _ _ b h p).trans (Finset.sum_congr rfl fun i _ => ?_)) rfl
  exact congrArg₂ (fun x y : EReal => x * y) (H.next b h p i) ((tok_apply _ _ t H.starts b h i).trans (H.r t b h i))

theorem At.trip : At o (t.val + 1) (fun b h p => step o b h p t (S b h p)) (STEP V) where
  r := by rw [STEP_main_v15_0]; exact H.r
  w := by rw [STEP_main_v15_1]; exact H.w
  k := by rw [STEP_main_v15_2]; exact H.k
  v := by rw [STEP_main_v15_3]; exact H.v
  a := by rw [STEP_main_v15_4]; exact H.a
  b := by rw [STEP_main_v15_5]; exact H.b
  ctr i := by
    rw [STEP_main_v15_6]
    refine (congrArg (· + 1#32) (H.ctr i)).trans ?_
    show BitVec.ofNat 32 t.val + 1#32 = BitVec.ofNat 32 (t.val + 1)
    clear H; revert t; decide
  s b h p j := by
    rw [STEP_main_v15_7]
    exact H.next b h p j
end

end Cert.ReferenceIdeal.Hand
-- ==== Proof.Ref.lean ====
module

public import proofs.«01_k».proof.Proof.RefStep

@[expose] public section

set_option synthInstance.maxSize 4096
set_option maxRecDepth 16384

noncomputable section

namespace Cert.ReferenceIdeal.Hand

open Cert.ReferenceIdeal Cert.ReferenceIdeal.Gen Cert.ReferenceIdeal.Value Cert.Recur
open Idealize.ShloMosaic Idealize.ShloMosaic.TcCoe Idealize.ShloMosaic.Tactic
open Idealize.ShloMosaic.StableHlo
open Idealize.SL

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The operands of the recurrence. -/
def ops : Ops where
  r a b := arg m c main_arg2 (ix2 a b)
  w a b := Ideal.exp (arg m c main_arg3 (ix2 a b))
  k a b := arg m c main_arg4 (ix2 a b)
  v a b := arg m c main_arg5 (ix2 a b)
  a a b := arg m c main_arg6 (ix2 a b)
  b a b := arg m c main_arg7 (ix2 a b)
/-- The states the recurrence starts from. -/
def start (b : Fin 128) (h : Fin 16) (p j : Fin 64) : EReal := arg m c main_arg8 (ix5 0 b h p j)
/-- Entry `(i, k)` of the rows. -/
def hAt (i : Fin 8704) (k : Fin 2048) : EReal := arg m c main_arg0 (ix2 i k)
/-- Entry `(k, j)` of the weights. -/
def wAt (k : Fin 2048) (j : Fin 8480) : EReal := arg m c main_arg1 (ix3 0 k j)

/-- Rows split by token and head, token first. -/
theorem split_apply (X : FVec Ideal S512x1024 .f32) (t : Fin 4) (b : Fin 128) (h : Fin 16) (j : Fin 64) :
    transpose S4x128x16x64 [1, 0, 2, 3] (shapeCast S128x4x16x64 X shapeCasts_S512x1024_S128x4x16x64) transposes_S128x4x16x64_S4x128x16x64_1_0_2_3 (ix4 t b h j)
      = X (ix2 (row b t) (col h j)) := by
  pointwise
  exact congrArg X (congrArg₂ (fun x y => ix2 x y) (Fin.ext (by show b.val * 4 + t.val = 4 * b.val + t.val; omega))
    (Fin.ext (by show h.val * 64 + j.val = 64 * h.val + j.val; omega)))

theorem entry_0 (t : Fin 4) (b : Fin 128) (h : Fin 16) (j : Fin 64) :
    entryContents preI m c (Proc.devRef .tc main_v15_0) (ix4 t b h j) = (ops m c).r (row b t) (col h j) := by
  refine Eq.trans ?_ (split_apply (arg m c main_arg2) t b h j)
  show after hostOps0 (launchContents m c) _ _ = _
  after_reads_simp
  rfl
theorem entry_2 (t : Fin 4) (b : Fin 128) (h : Fin 16) (j : Fin 64) :
    entryContents preI m c (Proc.devRef .tc main_v15_2) (ix4 t b h j) = (ops m c).k (row b t) (col h j) := by
  refine Eq.trans ?_ (split_apply (arg m c main_arg4) t b h j)
  show after hostOps0 (launchContents m c) _ _ = _
  after_reads_simp
  rfl
theorem entry_3 (t : Fin 4) (b : Fin 128) (h : Fin 16) (j : Fin 64) :
    entryContents preI m c (Proc.devRef .tc main_v15_3) (ix4 t b h j) = (ops m c).v (row b t) (col h j) := by
  refine Eq.trans ?_ (split_apply (arg m c main_arg5) t b h j)
  show after hostOps0 (launchContents m c) _ _ = _
  after_reads_simp
  rfl
theorem entry_4 (t : Fin 4) (b : Fin 128) (h : Fin 16) (j : Fin 64) :
    entryContents preI m c (Proc.devRef .tc main_v15_4) (ix4 t b h j) = (ops m c).a (row b t) (col h j) := by
  refine Eq.trans ?_ (split_apply (arg m c main_arg6) t b h j)
  show after hostOps0 (launchContents m c) _ _ = _
  after_reads_simp
  rfl
theorem entry_5 (t : Fin 4) (b : Fin 128) (h : Fin 16) (j : Fin 64) :
    entryContents preI m c (Proc.devRef .tc main_v15_5) (ix4 t b h j) = (ops m c).b (row b t) (col h j) := by
  refine Eq.trans ?_ (split_apply (arg m c main_arg7) t b h j)
  show after hostOps0 (launchContents m c) _ _ = _
  after_reads_simp
  rfl
/-- The decay is the exponential of the log-decay. -/
theorem entry_1 (t : Fin 4) (b : Fin 128) (h : Fin 16) (j : Fin 64) :
    entryContents preI m c (Proc.devRef .tc main_v15_1) (ix4 t b h j) = (ops m c).w (row b t) (col h j) := by
  refine Eq.trans ?_ (split_apply (Host.exp (F := Ideal) (arg m c main_arg3 : FVec Ideal S512x1024 .f32)) t b h j)
  show after hostOps0 (launchContents m c) _ _ = _
  after_reads_simp
  rfl

theorem entry_7 (b : Fin 128) (h : Fin 16) (p j : Fin 64) :
    entryContents preI m c (Proc.devRef .tc main_v15_7) (ix4 b h p j) = start m c b h p j := by
  have e (X : FVec Ideal S1x128x16x64x64 .f32) : shapeCast S128x16x64x64 X shapeCasts_S1x128x16x64x64_S128x16x64x64 (ix4 b h p j) = X (ix5 0 b h p j) := by
    pointwise
  refine Eq.trans ?_ (e (arg m c main_arg8))
  show after hostOps0 (launchContents m c) _ _ = _
  after_reads_simp
  rfl

/-- The loop's buffers before the first token. -/
theorem entry : At (ops m c) 0 (start m c) (entryContents preI m c) where
  r := entry_0 m c
  w := entry_1 m c
  k := entry_2 m c
  v := entry_3 m c
  a := entry_4 m c
  b := entry_5 m c
  ctr i := congrFun (ctr_entry m c) i
  s := entry_7 m c

/-! ## The four tokens -/

/-- The loop's buffers before each token. -/
theorem at1 : At (ops m c) 1 (fun b h p => state (ops m c) b h p (start m c b h p) 0) (STEP (entryContents preI m c)) :=
  (entry m c).trip (t := 0)
theorem at2 : At (ops m c) 2 (fun b h p => state (ops m c) b h p (start m c b h p) 1) (STEP (STEP (entryContents preI m c))) :=
  (at1 m c).trip (t := 1)
theorem at3 : At (ops m c) 3 (fun b h p => state (ops m c) b h p (start m c b h p) 2) (STEP (STEP (STEP (entryContents preI m c)))) :=
  (at2 m c).trip (t := 2)
theorem at4 : At (ops m c) 4 (fun b h p => state (ops m c) b h p (start m c b h p) 3) (STEP (STEP (STEP (STEP (entryContents preI m c))))) :=
  (at3 m c).trip (t := 3)

theorem final_state (b : Fin 128) (h : Fin 16) (p j : Fin 64) :
    (STEP^[4] (entryContents preI m c)) (Proc.devRef .tc main_v15_7) (ix4 b h p j) = state (ops m c) b h p (start m c b h p) 3 j :=
  (at4 m c).s b h p j

theorem final_rows (t : Fin 4) (b : Fin 128) (h : Fin 16) (p : Fin 64) :
    (STEP^[4] (entryContents preI m c)) (Proc.devRef .tc main_v15_8) (ix4 t b h p) = out (ops m c) b h p (start m c b h p) t := by
  have r3 := (at3 m c).rows (t := 3) _ rfl t b h p
  have r2 := (at2 m c).rows (t := 2) _ rfl t b h p
  have r1 := (at1 m c).rows (t := 1) _ rfl t b h p
  have r0 := (entry m c).rows (t := 0) _ rfl t b h p
  by_cases h3 : t = 3
  · subst h3; exact r3.trans (if_pos rfl)
  refine (r3.trans (if_neg h3)).trans ?_
  by_cases h2 : t = 2
  · subst h2; exact r2.trans (if_pos rfl)
  refine (r2.trans (if_neg h2)).trans ?_
  by_cases h1 : t = 1
  · subst h1; exact r1.trans (if_pos rfl)
  refine (r1.trans (if_neg h1)).trans ?_
  have h0 : t = 0 := by
    clear r0 r1 r2 r3
    revert t; decide
  subst h0; exact r0.trans (if_pos rfl)

/-! ## The results -/

theorem out_state (h : Fin 16) (p j : Fin 64) (b : Fin 128) :
    out_main_v22 (STEP^[4] (entryContents preI m c)) (ix4 h p j b) = state (ops m c) b h p (start m c b h p) 3 j := by
  have e (X : FVec Ideal S128x16x64x64 .f32) : transpose S16x64x64x128 [1, 2, 3, 0] X transposes_S128x16x64x64_S16x64x64x128_1_2_3_0 (ix4 h p j b) = X (ix4 b h p j) := by
    pointwise
  exact (e _).trans (final_state m c b h p j)

theorem out_rows (b : Fin 128) (t : Fin 4) (h : Fin 16) (p : Fin 64) :
    out_main_v21 (STEP^[4] (entryContents preI m c)) (ix2 (row b t) (col h p)) = out (ops m c) b h p (start m c b h p) t := by
  have e (X : FVec Ideal S4x128x16x64 .f32) : shapeCast S512x1024 (transpose S128x4x16x64 [1, 0, 2, 3] X transposes_S4x128x16x64_S128x4x16x64_1_0_2_3)
      shapeCasts_S128x4x16x64_S512x1024 (ix2 (row b t) (col h p)) = X (ix4 t b h p) := by
    have e1 := shapeCast_apply (transpose S128x4x16x64 [1, 0, 2, 3] X transposes_S4x128x16x64_S128x4x16x64_1_0_2_3)
      shapeCasts_S128x4x16x64_S512x1024 (ix2 (row b t) (col h p)) (ix4 b t h p) (by
        rw [Shape.rowMajor_val_four, Shape.rowMajor_val_two]
        show ((b.val * 4 + t.val) * 16 + h.val) * 64 + p.val = (4 * b.val + t.val) * 1024 + (64 * h.val + p.val)
        omega)
    refine e1.trans ?_
    pointwise
  exact (e _).trans (final_rows m c t b h p)

theorem out_proj (i : Fin 8704) (j : Fin 5120) :
    out_main_v20 (STEP^[4] (entryContents preI m c)) (ix2 i j) = ∑ k : Fin 2048, hAt m c i k * wAt m c k ⟨3360 + j.val, by omega⟩ := by
  have e (X : FVec Ideal S8704x2048 .bf16) (W : FVec Ideal S1x2048x8480 .f32) :
      extractStridedSlice S8704x5120 ![0, 3360] (Host.dotGeneral dot_S8704x2048_S2048x8480_S8704x8480_1_0_0_1_n_n none (extf .f32 X bitsLt_bf16_f32)
        (shapeCast S2048x8480 W shapeCasts_S1x2048x8480_S2048x8480)) slices_S8704x8480_S8704x5120_0_3360 (ix2 i j)
        = (∑ k : Fin 2048, X (ix2 i k) * W (ix3 0 k ⟨3360 + j.val, by omega⟩) : EReal) := by
    pointwise
  unfold out_main_v20
  rw [iter_main_arg0, iter_main_arg1]
  exact e _ _

end Cert.ReferenceIdeal.Hand
-- ==== Proof.Equal.lean ====
module

public import proofs.«01_k».proof.Proof.Blocks
public import proofs.«01_k».proof.Proof.Ref

@[expose] public section

set_option maxRecDepth 16384

noncomputable section

namespace Cert.Equal

open Cert.Recur
open Idealize.ShloMosaic Idealize.ShloMosaic.TcCoe
open Idealize.SL

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel's projection rows are the reference's. -/
theorem proj
    (e0 : Cert.ReferenceIdeal.Hand.arg m' c Cert.ReferenceIdeal.main_arg0 = Cert.KernelIdeal.Hand.arg m c Cert.KernelIdeal.main_arg0)
    (e1 : Cert.ReferenceIdeal.Hand.arg m' c Cert.ReferenceIdeal.main_arg1 = Cert.KernelIdeal.Hand.arg m c Cert.KernelIdeal.main_arg1) :
    Cert.ReferenceIdeal.Value.out_main_v20 (Cert.ReferenceIdeal.Value.STEP^[4] (StableHlo.entryContents Cert.ReferenceIdeal.Value.preI m' c))
      = Cert.KernelIdeal.Hand.zFin m c := by
  funext x
  obtain ⟨i, j, rfl⟩ : ∃ (i : Fin 8704) (j : Fin 5120), x = ix2 i j := ⟨x 0, x 1, by funext a; match a with | 0 => rfl | 1 => rfl⟩
  refine (Cert.ReferenceIdeal.Hand.out_proj m' c i j).trans (Eq.trans ?_ (Cert.KernelIdeal.Hand.zFin_apply m c i j).symm)
  refine congrArg (fun f : Fin 2048 → EReal => ∑ k, f k) (funext fun k => ?_)
  exact congrArg₂ (fun x y : EReal => x * y) (congrFun e0 (ix2 i k)) (congrFun e1 (ix3 0 k ⟨3360 + j.val, by omega⟩))

/-- The operands of the two recurrences are the same. -/
theorem ops_eq
    (e2 : Cert.ReferenceIdeal.Hand.arg m' c Cert.ReferenceIdeal.main_arg2 = Cert.KernelIdeal.Hand.arg m c Cert.KernelIdeal.main_arg2)
    (e3 : Cert.ReferenceIdeal.Hand.arg m' c Cert.ReferenceIdeal.main_arg3 = Cert.KernelIdeal.Hand.arg m c Cert.KernelIdeal.main_arg3)
    (e4 : Cert.ReferenceIdeal.Hand.arg m' c Cert.ReferenceIdeal.main_arg4 = Cert.KernelIdeal.Hand.arg m c Cert.KernelIdeal.main_arg4)
    (e5 : Cert.ReferenceIdeal.Hand.arg m' c Cert.ReferenceIdeal.main_arg5 = Cert.KernelIdeal.Hand.arg m c Cert.KernelIdeal.main_arg5)
    (e6 : Cert.ReferenceIdeal.Hand.arg m' c Cert.ReferenceIdeal.main_arg6 = Cert.KernelIdeal.Hand.arg m c Cert.KernelIdeal.main_arg6)
    (e7 : Cert.ReferenceIdeal.Hand.arg m' c Cert.ReferenceIdeal.main_arg7 = Cert.KernelIdeal.Hand.arg m c Cert.KernelIdeal.main_arg7) :
    Cert.ReferenceIdeal.Hand.ops m' c = Cert.KernelIdeal.Hand.ops m c := by
  have ext (o o' : Ops) (hr : o.r = o'.r) (hw : o.w = o'.w) (hk : o.k = o'.k) (hv : o.v = o'.v) (ha : o.a = o'.a) (hb : o.b = o'.b) : o = o' := by
    cases o; cases o'; cases hr; cases hw; cases hk; cases hv; cases ha; cases hb; rfl
  exact ext _ _
    (funext fun a => funext fun b => congrFun e2 (ix2 a b))
    (funext fun a => funext fun b => congrArg Ideal.exp (congrFun e3 (ix2 a b)))
    (funext fun a => funext fun b => congrFun e4 (ix2 a b))
    (funext fun a => funext fun b => congrFun e5 (ix2 a b))
    (funext fun a => funext fun b => congrFun e6 (ix2 a b))
    (funext fun a => funext fun b => congrFun e7 (ix2 a b))

/-- The two recurrences start from the same states. -/
theorem start_eq
    (e8 : Cert.ReferenceIdeal.Hand.arg m' c Cert.ReferenceIdeal.main_arg8 = Cert.KernelIdeal.Hand.arg m c Cert.KernelIdeal.main_arg8) :
    Cert.ReferenceIdeal.Hand.start m' c = Cert.KernelIdeal.Hand.start m c :=
  funext fun b => funext fun h => funext fun p => funext fun j => congrFun e8 (ix5 0 b h p j)

/-- The kernel's output rows are the reference's. -/
theorem rows (eo : Cert.ReferenceIdeal.Hand.ops m' c = Cert.KernelIdeal.Hand.ops m c)
    (es : Cert.ReferenceIdeal.Hand.start m' c = Cert.KernelIdeal.Hand.start m c) :
    Cert.ReferenceIdeal.Value.out_main_v21 (Cert.ReferenceIdeal.Value.STEP^[4] (StableHlo.entryContents Cert.ReferenceIdeal.Value.preI m' c))
      = Cert.KernelIdeal.Hand.yFin m c := by
  funext x
  obtain ⟨b, t, h, p, rfl⟩ : ∃ (b : Fin 128) (t : Fin 4) (h : Fin 16) (p : Fin 64), x = ix2 (row b t) (col h p) := by
    have l0 : (x 0).val < 512 := (x 0).isLt
    have l1 : (x 1).val < 1024 := (x 1).isLt
    refine ⟨⟨(x 0).val / 4, by omega⟩, ⟨(x 0).val % 4, by omega⟩, ⟨(x 1).val / 64, by omega⟩, ⟨(x 1).val % 64, by omega⟩, ?_⟩
    funext a
    match a with
    | 0 => exact Fin.ext (by show (x 0).val = 4 * ((x 0).val / 4) + (x 0).val % 4; omega)
    | 1 => exact Fin.ext (by show (x 1).val = 64 * ((x 1).val / 64) + (x 1).val % 64; omega)
  refine (Cert.ReferenceIdeal.Hand.out_rows m' c b t h p).trans (Eq.trans ?_ (Cert.KernelIdeal.Hand.yFin_apply m c b t h p).symm)
  rw [eo, es]

/-- The kernel's final states are the reference's. -/
theorem states (eo : Cert.ReferenceIdeal.Hand.ops m' c = Cert.KernelIdeal.Hand.ops m c)
    (es : Cert.ReferenceIdeal.Hand.start m' c = Cert.KernelIdeal.Hand.start m c) :
    Cert.ReferenceIdeal.Value.out_main_v22 (Cert.ReferenceIdeal.Value.STEP^[4] (StableHlo.entryContents Cert.ReferenceIdeal.Value.preI m' c))
      = Cert.KernelIdeal.Hand.sFin m c := by
  funext x
  obtain ⟨h, p, j, b, rfl⟩ : ∃ (h : Fin 16) (p j : Fin 64) (b : Fin 128), x = ix4 h p j b :=
    ⟨x 0, x 1, x 2, x 3, by funext a; match a with | 0 => rfl | 1 => rfl | 2 => rfl | 3 => rfl⟩
  refine (Cert.ReferenceIdeal.Hand.out_state m' c h p j b).trans (Eq.trans ?_ (Cert.KernelIdeal.Hand.sFin_apply m c h p j b).symm)
  rw [eo, es]

end Cert.Equal

end
-- ==== Proof.FfnBody.lean ====
/- The feed-forward kernel's body as a state function: what one grid point makes of the buffers it holds. -/
module

public import proofs.«01_k».proof.Proof.Gen.Kernel2Ideal.Skeleton
public import proofs.«01_k».proof.Proof.Gen.Kernel2Ideal.Frame
public import Idealize.ShloMosaic.Lib.VecWindow
public import Idealize.ShloMosaic.Lib.PointwiseCore

@[expose] public section

set_option synthInstance.maxSize 4096

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's programs. -/
abbrev P0 (F : FTy → Type) [FloatOps F] := Prog (TpuEff nD τ sig (Elt F) Λ₀ .tc) PUnit

/-- A buffer held whole on core `c`, reading `X`. -/
def rd (c : Dev nD) {sp : Space} {S : Shape} {e : EltTy} (M : Memref sig .tc sp S e) (X : S.Idx → Elt F e) : sProp 𝕄 :=
  iprop(∃ f, ⌜M.view.read (Elt F) f = X⌝ ∗ M.view.loc (c : Thread nD τ) ↦{fullShare} f)

/-- `K` run to the postcondition `Q` on core `c`. -/
abbrev runs (c : Dev nD) (K : P0 F) (Q : PUnit → sProp 𝕄) : sProp 𝕄 :=
  wp frame (wpE (defs₀ (F := F)) Variants.none c none) Set.univ K Q

section
variable {sp : CoreSpace} {S : Shape} {e : EltTy} (M : Memref sig .tc sp S e)

/-- A load of a whole held buffer. -/
theorem load_wp (c : Dev nD) (X : S.Idx → Elt F e) (off : Fin S.rank → Nat) (inb : ∀ a, off a + S.size a ≤ S.size a)
    (hl : M.view.LoadsAt (Rect.unit off S.size inb).toLoadRect) (k : ((Rect.unit off S.size inb).shape.Idx → Elt F e) → P0 F)
    (Q : PUnit → sProp 𝕄) :
    iprop(rd c M X ∗ (rd c M X -∗ runs c (k X) Q))
    ⊢ runs c (Prog.lift (.load M (Rect.unit off S.size inb).toLoadRect hl) >>= k) Q := by
  unfold rd
  iintro ⟨⟨%f, %h, H⟩, HK⟩
  subst h
  unfold runs
  sl_exec
  rw [View.readAt_full]
  iapply HK $$ [H]
  iexists f; isplitr; · ipureintro; rfl
  iexact H

/-- A store over a whole held buffer. -/
theorem store_wp (c : Dev nD) (X : S.Idx → Elt F e) (off : Fin S.rank → Nat) (inb : ∀ a, off a + S.size a ≤ S.size a)
    (w : (Rect.unit off S.size inb).shape.Idx → Elt F e)
    (hl : (M.access (Rect.unit off S.size inb)).Stores Finset.univ) (hm) (k : P0 F) (Q : PUnit → sProp 𝕄) :
    iprop(rd c M X ∗ (rd c M w -∗ runs c k Q))
    ⊢ runs c (Prog.lift (.store M (Rect.unit off S.size inb) w Finset.univ hl hm) >>= fun _ => k) Q := by
  unfold rd
  iintro ⟨⟨%f, %h, H⟩, HK⟩
  subst h
  unfold runs
  sl_exec
  iapply HK $$ [H]
  iexists _; isplitr; rotate_left; · iexact H
  ipureintro
  exact View.read_writes_full _ _ _ _ []

/-- A load of a part of a held buffer. -/
theorem loadPart_wp (c : Dev nD) (X : S.Idx → Elt F e) (off size : Fin S.rank → Nat) (inb : ∀ a, off a + size a ≤ S.size a)
    (hl : M.view.LoadsAt (Rect.unit off size inb).toLoadRect) (k : ((Rect.unit off size inb).shape.Idx → Elt F e) → P0 F) (Q : PUnit → sProp 𝕄) :
    iprop(rd c M X ∗ (rd c M X -∗ runs c (k (VecWindow.window X off size inb)) Q))
    ⊢ runs c (Prog.lift (.load M (Rect.unit off size inb).toLoadRect hl) >>= k) Q := by
  unfold rd
  iintro ⟨⟨%f, %h, H⟩, HK⟩
  subst h
  unfold runs
  sl_exec
  iapply HK $$ [H]
  iexists f; isplitr; · ipureintro; rfl
  iexact H

/-- A store over a part of a held buffer. -/
theorem storePart_wp (c : Dev nD) (X : S.Idx → Elt F e) (off size : Fin S.rank → Nat) (inb : ∀ a, off a + size a ≤ S.size a)
    (w : (Rect.unit off size inb).shape.Idx → Elt F e)
    (hl : (M.access (Rect.unit off size inb)).Stores Finset.univ) (hm) (k : P0 F) (Q : PUnit → sProp 𝕄) :
    iprop(rd c M X ∗ (rd c M (VecWindow.put X off size w) -∗ runs c k Q))
    ⊢ runs c (Prog.lift (.store M (Rect.unit off size inb) w Finset.univ hl hm) >>= fun _ => k) Q := by
  unfold rd
  iintro ⟨⟨%f, %h, H⟩, HK⟩
  subst h
  unfold runs
  sl_exec
  iapply HK $$ [H]
  iexists _; isplitr; rotate_left; · iexact H
  ipureintro
  exact View.read_writes_cons_put _ _ _ _ [] rfl
end

/-- A conditional step before the rest `K`. -/
def whenP (p : Prop) [Decidable p] (A : p → P0 F → P0 F) (K : P0 F) : P0 F := if h : p then A h K else K

/-- The chunk's first point: the accumulator starts at zero. -/
abbrev cond2 (i : grid0.Coords) : BitVec 1 :=
  Scalar.cmpi .ne (Scalar.extui (Scalar.cmpi .eq (BitVec.ofNat 32 (i 1).val) 0#32)) 0#32

section
variable (i : grid0.Coords)
  (arg2 : Memref sig .tc .vmem S512x2048 .f32) (harg2 : arg2.IsWhole) (arg3 : Memref sig .tc .vmem S512x2048 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S3x512 .f32) (harg6 : arg6.IsWhole) (arg7 : Memref sig .tc .vmem S1x512 .f32) (harg7 : arg7.IsWhole)
  (arg8 : Memref sig .tc .vmem S512x2048 .bf16) (harg8 : arg8.IsWhole) (arg9 : Memref sig .tc .vmem S1x2048 .f32) (harg9 : arg9.IsWhole)
  (arg10 : Memref sig .tc .vmem S512x2048 .f32) (harg10 : arg10.IsWhole) (arg11 : Memref sig .tc .vmem S1x8x512 .f32) (harg11 : arg11.IsWhole)
  (arg12 : Memref sig .tc .vmem S512x2048 .f32) (harg12 : arg12.IsWhole) (arg13 : Memref sig .tc .vmem S11x8x512 .f32) (harg13 : arg13.IsWhole)

/-- The convolution's and the activation's index plane: the row number at each place. -/
abbrev rows : IVec S512x512 32 := iota .tc S512x512 32 [0] iota_S512x512_d0_w32

/-- The accumulator after a chunk: its rows through the gate, the convolution over `hist`, the activation and the
    chunk's output rows, added to `acc`. -/
def accStep (hist : Vec F S1x8x512 .f32) (acc : Vec F S512x2048 .f32) (h : Vec F S512x2048 .bf16) (wg wu : Vec F S2048x512 .bf16)
    (cw : Vec F S3x512 .f32) (cb : Vec F S1x512 .f32) (wo : Vec F S512x2048 .bf16) : Vec F S512x2048 .f32 :=
  k0_pay1 (k0_pay8 h wu) acc (k0_pay14 (k0_pay5 hist) (k0_pay7 h wg) (k0_pay9 cw) (k0_pay10 cb) (k0_pay11 cw) rows)
    (k0_pay15 (k0_pay5 hist) (k0_pay7 h wg) (k0_pay9 cw) (k0_pay10 cb) (k0_pay11 cw) rows) k0_pay16 wo

/-- The body as one line of steps, each condition before the rest. -/
def bodyS : P0 F :=
  whenP (k0_cond1 i = 1#1) (fun h1 K => do
    let _a : Vec F S1x8x512 .f32 ← Prog.lift (.load arg13 (Rect.unit (s := S11x8x512) (k0_off1 i) S1x8x512.size (k0_off1_inb i h1)).toLoadRect (View.loadsAt_vmem h_S1x8x512))
    Prog.lift (.store arg13 (Rect.unit (s := S11x8x512) (k0_off1 i) S1x8x512.size (k0_off1_inb i h1)) (k0_pay4 (F := F)) Finset.univ (View.stores_vmem_bits_univ h_S1x8x512 rfl) (.inl rfl))
    K) <| do
  let v14 : Vec F S1x8x512 .f32 ← Prog.lift (.load arg13 (Rect.unit (s := S11x8x512) (k0_off2 i) S1x8x512.size (k0_off2_inb i)).toLoadRect (View.loadsAt_vmem h_S1x8x512))
  whenP (cond2 i = 1#1) (fun h2 K => do
    let _a : Vec F S512x2048 .f32 ← Prog.lift (.load arg12 (Rect.unit (s := S512x2048) ![0, 0] S512x2048.size inb_S512x2048_S512x2048_0_0).toLoadRect (View.loadsAt_vmem h_S512x2048))
    Prog.lift (.store arg12 (Rect.unit (s := S512x2048) ![0, 0] S512x2048.size inb_S512x2048_S512x2048_0_0) (k0_pay6 (F := F)) Finset.univ (View.stores_vmem_bits_univ h_S512x2048 rfl) (.inl rfl))
    K) <| do
  let v19 : Vec F S512x2048 .bf16 ← Prog.lift (.load arg3 (Rect.unit (s := S512x2048) ![0, 0] S512x2048.size inb_S512x2048_S512x2048_0_0).toLoadRect (View.loadsAt_vmem h_S512x2048))
  let v20 : Vec F S2048x512 .bf16 ← Prog.lift (.load arg4 (Rect.unit (s := S2048x512) ![0, 0] S2048x512.size inb_S2048x512_S2048x512_0_0).toLoadRect (View.loadsAt_vmem h_S2048x512))
  let v23 : Vec F S2048x512 .bf16 ← Prog.lift (.load arg5 (Rect.unit (s := S2048x512) ![0, 0] S2048x512.size inb_S2048x512_S2048x512_0_0).toLoadRect (View.loadsAt_vmem h_S2048x512))
  let v26 : Vec F S3x512 .f32 ← Prog.lift (.load arg6 (Rect.unit (s := S3x512) ![0, 0] S3x512.size inb_S3x512_S3x512_0_0).toLoadRect (View.loadsAt_vmem h_S3x512))
  let v28 : Vec F S1x512 .f32 ← Prog.lift (.load arg7 (Rect.unit (s := S1x512) ![0, 0] S1x512.size inb_S1x512_S1x512_0_0).toLoadRect (View.loadsAt_vmem h_S1x512))
  let _a : Vec F S1x8x512 .f32 ← Prog.lift (.load arg11 (Rect.unit (s := S1x8x512) ![0, 0, 0] S1x8x512.size inb_S1x8x512_S1x8x512_0_0_0).toLoadRect (View.loadsAt_vmem h_S1x8x512))
  Prog.lift (.store arg11 (Rect.unit (s := S1x8x512) ![0, 0, 0] S1x8x512.size inb_S1x8x512_S1x8x512_0_0_0) (k0_pay13 (k0_pay7 v19 v20)) Finset.univ (View.stores_vmem_bits_univ h_S1x8x512 rfl) (.inl rfl))
  let v69 : Vec F S512x2048 .f32 ← Prog.lift (.load arg12 (Rect.unit (s := S512x2048) ![0, 0] S512x2048.size inb_S512x2048_S512x2048_0_0).toLoadRect (View.loadsAt_vmem h_S512x2048))
  let v84 : Vec F S512x2048 .bf16 ← Prog.lift (.load arg8 (Rect.unit (s := S512x2048) ![0, 0] S512x2048.size inb_S512x2048_S512x2048_0_0).toLoadRect (View.loadsAt_vmem h_S512x2048))
  let _b : Vec F S512x2048 .f32 ← Prog.lift (.load arg12 (Rect.unit (s := S512x2048) ![0, 0] S512x2048.size inb_S512x2048_S512x2048_0_0).toLoadRect (View.loadsAt_vmem h_S512x2048))
  Prog.lift (.store arg12 (Rect.unit (s := S512x2048) ![0, 0] S512x2048.size inb_S512x2048_S512x2048_0_0) (accStep v14 v69 v19 v20 v23 v26 v28 v84) Finset.univ (View.stores_vmem_bits_univ h_S512x2048 rfl) (.inl rfl))
  whenP (k0_cond3 i = 1#1) (fun h3 K => do
    let v101 : Vec F S512x2048 .f32 ← Prog.lift (.load arg2 (Rect.unit (s := S512x2048) ![0, 0] S512x2048.size inb_S512x2048_S512x2048_0_0).toLoadRect (View.loadsAt_vmem h_S512x2048))
    let v102 : Vec F S512x2048 .f32 ← Prog.lift (.load arg12 (Rect.unit (s := S512x2048) ![0, 0] S512x2048.size inb_S512x2048_S512x2048_0_0).toLoadRect (View.loadsAt_vmem h_S512x2048))
    let v103 : Vec F S1x2048 .f32 ← Prog.lift (.load arg9 (Rect.unit (s := S1x2048) ![0, 0] S1x2048.size inb_S1x2048_S1x2048_0_0).toLoadRect (View.loadsAt_vmem h_S1x2048))
    let _a : Vec F S512x2048 .f32 ← Prog.lift (.load arg10 (Rect.unit (s := S512x2048) ![0, 0] S512x2048.size inb_S512x2048_S512x2048_0_0).toLoadRect (View.loadsAt_vmem h_S512x2048))
    Prog.lift (.store arg10 (Rect.unit (s := S512x2048) ![0, 0] S512x2048.size inb_S512x2048_S512x2048_0_0) (k0_pay2 v101 v102 v103) Finset.univ (View.stores_vmem_bits_univ h_S512x2048 rfl) (.inl rfl))
    K) <| do
  let v95 : Vec F S1x8x512 .f32 ← Prog.lift (.load arg11 (Rect.unit (s := S1x8x512) ![0, 0, 0] S1x8x512.size inb_S1x8x512_S1x8x512_0_0_0).toLoadRect (View.loadsAt_vmem h_S1x8x512))
  let _c : Vec F S1x8x512 .f32 ← Prog.lift (.load arg13 (Rect.unit (s := S11x8x512) (k0_off2 i) S1x8x512.size (k0_off2_inb i)).toLoadRect (View.loadsAt_vmem h_S1x8x512))
  Prog.lift (.store arg13 (Rect.unit (s := S11x8x512) (k0_off2 i) S1x8x512.size (k0_off2_inb i)) (k0_pay3 v95) Finset.univ (View.stores_vmem_bits_univ h_S1x8x512 rfl) (.inl rfl))
  (.ret ⟨⟩ : P0 F)

set_option maxRecDepth 100000 in
/-- The kernel's body is that line of steps. -/
theorem body_eq : cc0_ffn_prompt (F := F) i arg2 harg2 arg3 harg3 arg4 harg4 arg5 harg5 arg6 harg6 arg7 harg7 arg8 harg8 arg9 harg9 arg10 harg10 arg11 harg11 arg12 harg12 arg13 harg13
    = bodyS i arg2 arg3 arg4 arg5 arg6 arg7 arg8 arg9 arg10 arg11 arg12 arg13 := by
  rw [cc0_ffn_prompt_eq_skeleton]
  unfold cc0_ffn_prompt_skel bodyS
  rw [k0_part1_eq_skeleton, k0_part2_eq_skeleton]
  unfold k0_part1_skel k0_part2_skel whenP
  by_cases h1 : k0_cond1 i = 1#1 <;> by_cases h2 : cond2 i = 1#1 <;> by_cases h3 : k0_cond3 i = 1#1 <;>
    simp only [h1, h2, h3, ↓reduceDIte] <;> with_unfolding_all exact rfl
end

section
variable (c : Dev nD) (i : grid0.Coords)
  (arg2 : Memref sig .tc .vmem S512x2048 .f32) (arg3 : Memref sig .tc .vmem S512x2048 .bf16)
  (arg4 : Memref sig .tc .vmem S2048x512 .bf16) (arg5 : Memref sig .tc .vmem S2048x512 .bf16)
  (arg6 : Memref sig .tc .vmem S3x512 .f32) (arg7 : Memref sig .tc .vmem S1x512 .f32)
  (arg8 : Memref sig .tc .vmem S512x2048 .bf16) (arg9 : Memref sig .tc .vmem S1x2048 .f32)
  (arg10 : Memref sig .tc .vmem S512x2048 .f32) (arg11 : Memref sig .tc .vmem S1x8x512 .f32)
  (arg12 : Memref sig .tc .vmem S512x2048 .f32) (arg13 : Memref sig .tc .vmem S11x8x512 .f32)
  (X2 : Vec F S512x2048 .f32) (X3 : Vec F S512x2048 .bf16) (X4 X5 : Vec F S2048x512 .bf16) (X6 : Vec F S3x512 .f32)
  (X7 : Vec F S1x512 .f32) (X8 : Vec F S512x2048 .bf16) (X9 : Vec F S1x2048 .f32) (X10 : Vec F S512x2048 .f32)
  (X11 : Vec F S1x8x512 .f32) (X12 : Vec F S512x2048 .f32) (X13 : Vec F S11x8x512 .f32)

/-- The carried rows when the point reads them: zeros written first at a sequence's first tile. -/
def carry0 : Vec F S11x8x512 .f32 := if k0_cond1 i = 1#1 then VecWindow.put X13 (k0_off2 i) S1x8x512.size (k0_pay4 (F := F)) else X13
/-- The accumulator when the point reads it: zero at the first chunk. -/
def acc0 : Vec F S512x2048 .f32 := if cond2 i = 1#1 then k0_pay6 else X12
/-- The chunk's carried rows, as the point reads them. -/
def hist0 : Vec F S1x8x512 .f32 := VecWindow.window (carry0 i X13) (k0_off2 i) S1x8x512.size (k0_off2_inb i)
/-- The accumulator after the point. -/
def acc1 : Vec F S512x2048 .f32 := accStep (hist0 i X13) (acc0 i X12) X3 X4 X5 X6 X7 X8
/-- The carried rows after the point: the chunk's are the tile's last eight. -/
def carry1 : Vec F S11x8x512 .f32 := VecWindow.put (carry0 i X13) (k0_off2 i) S1x8x512.size (k0_pay3 (k0_pay13 (k0_pay7 X3 X4)))
/-- The output tile after the point: written at the last chunk. -/
def out1 : Vec F S512x2048 .f32 := if k0_cond3 i = 1#1 then k0_pay2 X2 (acc1 i X3 X4 X5 X6 X7 X8 X12 X13) X9 else X10

/-- The body run: each buffer ends at its state function. -/
theorem bodyS_wp (Q : PUnit → sProp 𝕄) :
    iprop(rd c arg2 X2 ∗ rd c arg3 X3 ∗ rd c arg4 X4 ∗ rd c arg5 X5 ∗ rd c arg6 X6 ∗ rd c arg7 X7 ∗ rd c arg8 X8 ∗ rd c arg9 X9
      ∗ rd c arg10 X10 ∗ rd c arg11 X11 ∗ rd c arg12 X12 ∗ rd c arg13 X13
      ∗ (rd c arg2 X2 -∗ rd c arg3 X3 -∗ rd c arg4 X4 -∗ rd c arg5 X5 -∗ rd c arg6 X6 -∗ rd c arg7 X7 -∗ rd c arg8 X8 -∗ rd c arg9 X9
        -∗ rd c arg10 (out1 i X2 X3 X4 X5 X6 X7 X8 X9 X10 X12 X13) -∗ rd c arg11 (k0_pay13 (k0_pay7 X3 X4))
        -∗ rd c arg12 (acc1 i X3 X4 X5 X6 X7 X8 X12 X13) -∗ rd c arg13 (carry1 i X3 X4 X13) -∗ Q ⟨⟩))
    ⊢ runs c (bodyS i arg2 arg3 arg4 arg5 arg6 arg7 arg8 arg9 arg10 arg11 arg12 arg13) Q := by
  unfold bodyS out1 acc1 carry1 hist0
  iintro ⟨H2, H3, H4, H5, H6, H7, H8, H9, H10, H11, H12, H13, HK⟩
  have step1 (K : P0 F) : iprop(rd c arg13 X13 ∗ (rd c arg13 (carry0 i X13) -∗ runs c K Q)) ⊢ runs c (whenP (k0_cond1 i = 1#1) (fun h1 K => do
      let _a : Vec F S1x8x512 .f32 ← Prog.lift (.load arg13 (Rect.unit (s := S11x8x512) (k0_off1 i) S1x8x512.size (k0_off1_inb i h1)).toLoadRect (View.loadsAt_vmem h_S1x8x512))
      Prog.lift (.store arg13 (Rect.unit (s := S11x8x512) (k0_off1 i) S1x8x512.size (k0_off1_inb i h1)) (k0_pay4 (F := F)) Finset.univ (View.stores_vmem_bits_univ h_S1x8x512 rfl) (.inl rfl))
      K) K) Q := by
    unfold whenP carry0
    split
    · iintro ⟨H, HK⟩
      iapply (loadPart_wp arg13 c X13 _ _ _ _ _ Q)
      isplitl [H]; · iexact H
      iintro H
      iapply (storePart_wp arg13 c X13 _ _ _ _ _ _ _ Q)
      isplitl [H]; · iexact H
      iexact HK
    · iintro ⟨H, HK⟩
      iapply HK $$ H
  have step2 (K : P0 F) : iprop(rd c arg12 X12 ∗ (rd c arg12 (acc0 i X12) -∗ runs c K Q)) ⊢ runs c (whenP (cond2 i = 1#1) (fun h2 K => do
      let _a : Vec F S512x2048 .f32 ← Prog.lift (.load arg12 (Rect.unit (s := S512x2048) ![0, 0] S512x2048.size inb_S512x2048_S512x2048_0_0).toLoadRect (View.loadsAt_vmem h_S512x2048))
      Prog.lift (.store arg12 (Rect.unit (s := S512x2048) ![0, 0] S512x2048.size inb_S512x2048_S512x2048_0_0) (k0_pay6 (F := F)) Finset.univ (View.stores_vmem_bits_univ h_S512x2048 rfl) (.inl rfl))
      K) K) Q := by
    unfold whenP acc0
    split
    · iintro ⟨H, HK⟩
      iapply (load_wp arg12 c X12 _ _ _ _ Q)
      isplitl [H]; · iexact H
      iintro H
      iapply (store_wp arg12 c X12 _ _ _ _ _ _ Q)
      isplitl [H]; · iexact H
      iexact HK
    · iintro ⟨H, HK⟩
      iapply HK $$ H
  have step3 (A : Vec F S512x2048 .f32) (K : P0 F) : iprop(rd c arg2 X2 ∗ rd c arg12 A ∗ rd c arg9 X9 ∗ rd c arg10 X10
      ∗ (rd c arg2 X2 -∗ rd c arg12 A -∗ rd c arg9 X9 -∗ rd c arg10 (if k0_cond3 i = 1#1 then k0_pay2 X2 A X9 else X10) -∗ runs c K Q))
    ⊢ runs c (whenP (k0_cond3 i = 1#1) (fun h3 K => do
      let v101 : Vec F S512x2048 .f32 ← Prog.lift (.load arg2 (Rect.unit (s := S512x2048) ![0, 0] S512x2048.size inb_S512x2048_S512x2048_0_0).toLoadRect (View.loadsAt_vmem h_S512x2048))
      let v102 : Vec F S512x2048 .f32 ← Prog.lift (.load arg12 (Rect.unit (s := S512x2048) ![0, 0] S512x2048.size inb_S512x2048_S512x2048_0_0).toLoadRect (View.loadsAt_vmem h_S512x2048))
      let v103 : Vec F S1x2048 .f32 ← Prog.lift (.load arg9 (Rect.unit (s := S1x2048) ![0, 0] S1x2048.size inb_S1x2048_S1x2048_0_0).toLoadRect (View.loadsAt_vmem h_S1x2048))
      let _a : Vec F S512x2048 .f32 ← Prog.lift (.load arg10 (Rect.unit (s := S512x2048) ![0, 0] S512x2048.size inb_S512x2048_S512x2048_0_0).toLoadRect (View.loadsAt_vmem h_S512x2048))
      Prog.lift (.store arg10 (Rect.unit (s := S512x2048) ![0, 0] S512x2048.size inb_S512x2048_S512x2048_0_0) (k0_pay2 v101 v102 v103) Finset.univ (View.stores_vmem_bits_univ h_S512x2048 rfl) (.inl rfl))
      K) K) Q := by
    unfold whenP
    split
    · iintro ⟨H2, H12, H9, H10, HK⟩
      iapply (load_wp arg2 c X2 _ _ _ _ Q)
      isplitl [H2]; · iexact H2
      iintro H2
      iapply (load_wp arg12 c A _ _ _ _ Q)
      isplitl [H12]; · iexact H12
      iintro H12
      iapply (load_wp arg9 c X9 _ _ _ _ Q)
      isplitl [H9]; · iexact H9
      iintro H9
      iapply (load_wp arg10 c X10 _ _ _ _ Q)
      isplitl [H10]; · iexact H10
      iintro H10
      iapply (store_wp arg10 c X10 _ _ _ _ _ _ Q)
      isplitl [H10]; · iexact H10
      iintro H10
      iapply HK $$ H2 H12 H9 H10
    · iintro ⟨H2, H12, H9, H10, HK⟩
      iapply HK $$ H2 H12 H9 H10
  iapply (step1 _)
  isplitl [H13]; · iexact H13
  iintro H13
  iapply (loadPart_wp arg13 c _ _ _ _ _ _ Q)
  isplitl [H13]; · iexact H13
  iintro H13
  iapply (step2 _)
  isplitl [H12]; · iexact H12
  iintro H12
  iapply (load_wp arg3 c X3 _ _ _ _ Q)
  isplitl [H3]; · iexact H3
  iintro H3
  iapply (load_wp arg4 c X4 _ _ _ _ Q)
  isplitl [H4]; · iexact H4
  iintro H4
  iapply (load_wp arg5 c X5 _ _ _ _ Q)
  isplitl [H5]; · iexact H5
  iintro H5
  iapply (load_wp arg6 c X6 _ _ _ _ Q)
  isplitl [H6]; · iexact H6
  iintro H6
  iapply (load_wp arg7 c X7 _ _ _ _ Q)
  isplitl [H7]; · iexact H7
  iintro H7
  iapply (load_wp arg11 c X11 _ _ _ _ Q)
  isplitl [H11]; · iexact H11
  iintro H11
  iapply (store_wp arg11 c X11 _ _ _ _ _ _ Q)
  isplitl [H11]; · iexact H11
  iintro H11
  iapply (load_wp arg12 c _ _ _ _ _ Q)
  isplitl [H12]; · iexact H12
  iintro H12
  iapply (load_wp arg8 c X8 _ _ _ _ Q)
  isplitl [H8]; · iexact H8
  iintro H8
  iapply (load_wp arg12 c _ _ _ _ _ Q)
  isplitl [H12]; · iexact H12
  iintro H12
  iapply (store_wp arg12 c _ _ _ _ _ _ _ Q)
  isplitl [H12]; · iexact H12
  iintro H12
  iapply (step3 _ _)
  isplitl [H2]; · iexact H2
  isplitl [H12]; · iexact H12
  isplitl [H9]; · iexact H9
  isplitl [H10]; · iexact H10
  iintro H2 H12 H9 H10
  iapply (load_wp arg11 c _ _ _ _ _ Q)
  isplitl [H11]; · iexact H11
  iintro H11
  iapply (loadPart_wp arg13 c _ _ _ _ _ _ Q)
  isplitl [H13]; · iexact H13
  iintro H13
  iapply (storePart_wp arg13 c _ _ _ _ _ _ _ _ Q)
  isplitl [H13]; · iexact H13
  iintro H13
  unfold runs
  rw [wp_ret]
  iapply HK $$ H2 H3 H4 H5 H6 H7 H8 H9 H10 H11 H12 H13
end

end Cert.Kernel2Ideal.Hand
-- ==== Proof.FfnData.lean ====
/- The feed-forward kernel's data: what each buffer holds at each grid point, as functions of the arrays as launched. -/
module

public import proofs.«01_k».proof.Proof.FfnBody

@[expose] public section

set_option synthInstance.maxSize 4096
set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## The grid's 176 points: 16 row tiles, 11 column chunks each -/

/-- The grid's point number `n`. -/
def point (n : Nat) (h : n < 176) : Fin cfg0.N := ⟨n, h⟩
theorem lt176 (t : Fin cfg0.N) : t.val < 176 := t.isLt

/-- A sequence's first tile starts its carried rows. -/
theorem cond1_iff : ∀ t : Fin cfg0.N, k0_cond1 (grid0.coords t) = 1#1 ↔ t.val / 11 % 4 = 0 := by decide +kernel
/-- A tile's first chunk starts the accumulator. -/
theorem cond2_iff : ∀ t : Fin cfg0.N, cond2 (grid0.coords t) = 1#1 ↔ t.val % 11 = 0 := by decide +kernel
/-- A tile's last chunk writes the output. -/
theorem cond3_iff : ∀ t : Fin cfg0.N, k0_cond3 (grid0.coords t) = 1#1 ↔ t.val % 11 = 10 := by decide +kernel
/-- A point's carried rows lie at its chunk number. -/
theorem off2_eq : ∀ t : Fin cfg0.N, k0_off2 (grid0.coords t) = ![t.val % 11, 0, 0] := by decide +kernel
/-- The output tile is written at a tile's last chunk only. -/
theorem idle_8 : ∀ t : Fin cfg0.N, cfg0.idle 8 (cfg0.grid.coords t) = true ↔ t.val % 11 ≠ 10 := by decide +kernel
/-- The tail rows are written at every point. -/
theorem idle_9 : ∀ t : Fin cfg0.N, cfg0.idle 9 (cfg0.grid.coords t) = false := by decide +kernel

/-! ## What the buffers hold -/

/-- The residual rows of a point. -/
def inX (t : Fin cfg0.N) : Vec F S512x2048 .f32 := iblk m c 0 t
/-- The normed rows of a point. -/
def inH (t : Fin cfg0.N) : Vec F S512x2048 .bf16 := iblk m c 1 t
/-- The gate's weight columns of a point. -/
def inG (t : Fin cfg0.N) : Vec F S2048x512 .bf16 := iblk m c 2 t
/-- The up-projection's weight columns of a point. -/
def inU (t : Fin cfg0.N) : Vec F S2048x512 .bf16 := iblk m c 3 t
/-- The convolution taps of a point. -/
def inW (t : Fin cfg0.N) : Vec F S3x512 .f32 := iblk m c 4 t
/-- The convolution bias of a point. -/
def inB (t : Fin cfg0.N) : Vec F S1x512 .f32 := iblk m c 5 t
/-- The output weight rows of a point. -/
def inO (t : Fin cfg0.N) : Vec F S512x2048 .bf16 := iblk m c 6 t
/-- The norm's scale. -/
def inS (t : Fin cfg0.N) : Vec F S1x2048 .f32 := iblk m c 7 t

/-- The gate a point computes. -/
def gate (t : Fin cfg0.N) : Vec F S512x512 .f32 := k0_pay7 (inH m c t) (inG m c t)
/-- The gate's last eight rows. -/
def tail (t : Fin cfg0.N) : Vec F S1x8x512 .f32 := k0_pay13 (gate m c t)
/-- The carried rows a point reads: zeros at a sequence's first tile, else the tile above's last eight. -/
def histOf (t : Fin cfg0.N) : Vec F S1x8x512 .f32 :=
  if t.val / 11 % 4 = 0 then k0_pay4 else k0_pay3 (tail m c (point (t.val - 11) (by have := lt176 t; omega)))
/-- One point's addition to the accumulator. -/
def step (t : Fin cfg0.N) (a : Vec F S512x2048 .f32) : Vec F S512x2048 .f32 :=
  accStep (histOf m c t) a (inH m c t) (inG m c t) (inU m c t) (inW m c t) (inB m c t) (inO m c t)
/-- The accumulator after point `n`. -/
def accUpTo : (n : Nat) → n < 176 → Vec F S512x2048 .f32
  | 0, h => step m c (point 0 h) k0_pay6
  | n + 1, h => step m c (point (n + 1) h) (if (n + 1) % 11 = 0 then k0_pay6 else accUpTo n (by omega))
/-- The accumulator after a point. -/
def accAt (t : Fin cfg0.N) : Vec F S512x2048 .f32 := accUpTo m c t.val (lt176 t)
/-- The output tile a tile's last chunk writes. -/
def outOf (t : Fin cfg0.N) : Vec F S512x2048 .f32 := k0_pay2 (inX m c t) (accAt m c t) (inS m c t)

/-- A tile's first chunk starts from zero. -/
theorem accAt_first (t : Fin cfg0.N) (h : t.val % 11 = 0) : accAt m c t = step m c t k0_pay6 := by
  obtain ⟨n, hn⟩ := t
  cases n with
  | zero => rfl
  | succ n => exact congrArg (step m c ⟨n + 1, hn⟩) (if_pos h)
/-- A later chunk adds to the chunk before. -/
theorem accAt_next (t : Fin cfg0.N) (h : t.val % 11 ≠ 0) :
    accAt m c t = step m c t (accAt m c (point (t.val - 1) (by have := lt176 t; omega))) := by
  obtain ⟨n, hn⟩ := t
  cases n with
  | zero => exact absurd rfl h
  | succ n => exact congrArg (step m c ⟨n + 1, hn⟩) (if_neg h)

/-- A chunk's carried rows. -/
def slot (X13 : Vec F S11x8x512 .f32) (s : Fin cfg0.N) : Vec F S1x8x512 .f32 :=
  VecWindow.window X13 (k0_off2 (grid0.coords s)) S1x8x512.size (k0_off2_inb (grid0.coords s))

/-- The scratch buffers between points: the accumulator after the last point, and the last eleven points' tails. -/
def Good (n : Nat) (X12 : Vec F S512x2048 .f32) (X13 : Vec F S11x8x512 .f32) : Prop :=
  (∀ t : Fin cfg0.N, t.val + 1 = n → X12 = accAt m c t)
  ∧ ∀ s : Fin cfg0.N, s.val < n → n ≤ s.val + 11 → slot X13 s = k0_pay3 (tail m c s)

/-- The region's invariant. -/
def inv (n : Nat) : sProp 𝕄 :=
  iprop((∃ X12 X13, ⌜Good m c n X12 X13⌝ ∗ rd c (Memref.whole cc0_scratch0) X12 ∗ rd c (Memref.whole cc0_scratch1) X13) ∗ ∃ r, prngReg c r)

/-- The proof data: each input's block stays in place, each output's is the closed form. -/
def dats (p : Fin 1) (c : Dev nD) : Dat τ (Elt F) Unit ℕ (UR sig nD τ) ℕ (cfgs p) c where
  A w := V m c (Pipeline.arrRef spec0 w)
  after := fun
    | 0 => iblk m c 0 | 1 => iblk m c 1 | 2 => iblk m c 2 | 3 => iblk m c 3 | 4 => iblk m c 4 | 5 => iblk m c 5
    | 6 => iblk m c 6 | 7 => iblk m c 7
    | 8 => fun t => outOf m c t
    | 9 => fun t => tail m c t
  Φ n := inv m c n.val
  q := Pipeline.shareOf spec0
  owed _ := 0

theorem A_eq (c : Dev nD) (w : Fin cfg0.W) : (dats m 0 c).A w = V m c (Pipeline.arrRef spec0 w) := by dsimp only [dats]

/-! ## One point's effect on the scratch buffers -/

section
variable {m c} {t : Fin cfg0.N} {X12 : Vec F S512x2048 .f32} {X13 : Vec F S11x8x512 .f32}

/-- Windows at equal offsets are equal. -/
theorem window_off (X : Vec F S11x8x512 .f32) {o o' : Fin S11x8x512.rank → ℕ} (e : o = o') (inb : ∀ a, o a + S1x8x512.size a ≤ S11x8x512.size a)
    (inb' : ∀ a, o' a + S1x8x512.size a ≤ S11x8x512.size a) : VecWindow.window X o S1x8x512.size inb = VecWindow.window X o' S1x8x512.size inb' := by
  subst e; rfl

/-- The carried rows a point reads. -/
theorem hist0_good (h : Good m c t.val X12 X13) : hist0 (grid0.coords t) X13 = histOf m c t := by
  unfold hist0 carry0 histOf
  by_cases h1 : t.val / 11 % 4 = 0
  · rw [if_pos ((cond1_iff t).mpr h1), if_pos h1]
    exact VecWindow.window_put_same _ _ _ _ _
  · rw [if_neg fun e => h1 ((cond1_iff t).mp e), if_neg h1]
    have hs := h.2 (point (t.val - 11) (by have := lt176 t; omega)) (by show t.val - 11 < t.val; omega) (by show t.val ≤ t.val - 11 + 11; omega)
    rw [← hs]
    unfold slot
    have e : k0_off2 (grid0.coords t) = k0_off2 (grid0.coords (point (t.val - 11) (by have := lt176 t; omega))) := by
      rw [off2_eq, off2_eq]
      have : t.val % 11 = (t.val - 11) % 11 := by omega
      show ![t.val % 11, 0, 0] = ![(t.val - 11) % 11, 0, 0]
      rw [this]
    exact window_off X13 e _ _

/-- The accumulator after a point. -/
theorem acc1_good (h : Good m c t.val X12 X13) :
    acc1 (grid0.coords t) (inH m c t) (inG m c t) (inU m c t) (inW m c t) (inB m c t) (inO m c t) X12 X13 = accAt m c t := by
  unfold acc1 acc0
  rw [hist0_good h]
  by_cases h2 : t.val % 11 = 0
  · rw [if_pos ((cond2_iff t).mpr h2), accAt_first m c t h2]; rfl
  · rw [if_neg fun e => h2 ((cond2_iff t).mp e), accAt_next m c t h2,
      h.1 (point (t.val - 1) (by have := lt176 t; omega)) (by show t.val - 1 + 1 = t.val; omega)]
    rfl

/-- A write at another chunk's place leaves a chunk's rows. -/
theorem slot_put (s : Fin cfg0.N) (hne : s.val % 11 ≠ t.val % 11) (w) :
    slot (VecWindow.put X13 (k0_off2 (grid0.coords t)) S1x8x512.size w) s = slot X13 s := by
  unfold slot
  refine VecWindow.window_put_of_disjoint _ _ _ _ _ _ _ 0 ?_
  rw [off2_eq, off2_eq]
  show s.val % 11 + 1 ≤ t.val % 11 ∨ t.val % 11 + 1 ≤ s.val % 11
  omega

/-- The scratch buffers after a point. -/
theorem good_step (h : Good m c t.val X12 X13) : Good m c (t.val + 1) (accAt m c t) (carry1 (grid0.coords t) (inH m c t) (inG m c t) X13) := by
  refine ⟨fun t' ht' => ?_, fun s hs hs' => ?_⟩
  · obtain rfl : t' = t := Fin.ext (by omega)
    rfl
  · by_cases e : s = t
    · subst e
      unfold carry1 slot
      exact VecWindow.window_put_same _ _ _ _ _
    · have hlt : s.val < t.val := by
        have : s.val ≠ t.val := fun h => e (Fin.ext h)
        omega
      have hne : s.val % 11 ≠ t.val % 11 := by omega
      unfold carry1
      rw [slot_put s hne]
      unfold carry0
      split
      · rw [slot_put s hne]
        exact h.2 s hlt (by omega)
      · exact h.2 s hlt (by omega)
end

/-! ## Ownership -/

/-- A whole buffer owned at contents `X` is the buffer held whole, reading `X`. -/
theorem owns_eq {sp : Space} {S : Shape} {e : EltTy} (M : Memref sig .tc sp S e) (hM : M.IsWhole) (X : S.Idx → Elt F e) :
    (owns (c : Thread nD τ) M fullShare X : sProp 𝕄) = rd c M X := by
  obtain ⟨b, hsp, hsh, he, h⟩ := hM
  subst hsp hsh he
  cases h
  show (owns (c : Thread nD τ) (Memref.whole b) fullShare X : sProp 𝕄) = rd c (Memref.whole b) X
  unfold rd owns
  simp only [View.set_whole]

end Cert.Kernel2Ideal.Hand
-- ==== Proof.FfnRun.lean ====
/- The feed-forward kernel's run at any values, and its frame. -/
module

public import proofs.«01_k».proof.Proof.FfnData
public import Idealize.ShloMosaic.Lib.Claim

@[expose] public section

set_option synthInstance.maxSize 4096
set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

variable (t : Fin cfg0.N)

/-! ## What the body leaves in the output windows -/

theorem leaves_live (w : Fin cfg0.W) (e : cfg0.idle w (cfg0.grid.coords t) = false) :
    (dats m 0 c).leavesExact w t = (owns (c : Thread nD τ) ((cfg0.win w).stage (cfg0.slots t w)) fullShare ((dats m 0 c).after w t) : sProp 𝕄) := by
  have e' : (cfgs 0).idle w ((cfgs 0).grid.coords t) = false := e
  unfold Dat.leavesExact; rw [e']
theorem leaves_keep (w : Fin cfg0.W) (e : cfg0.idle w (cfg0.grid.coords t) = true) (hf : (cfg0.win w).flush t = false) :
    (dats m 0 c).leavesExact w t = (iprop(∃ d, owns (c : Thread nD τ) ((cfg0.win w).stage (cfg0.slots t w)) fullShare ((dats m 0 c).before w t d)) : sProp 𝕄) := by
  have e' : (cfgs 0).idle w ((cfgs 0).grid.coords t) = true := e
  have hf' : ((cfgs 0).win w).flush t = false := hf
  unfold Dat.leavesExact; rw [e', hf']

/-- The output tile: written at a tile's last chunk, kept elsewhere. -/
theorem left_8 (d) (A : Vec F S512x2048 .f32) (hA : A = accAt m c t) :
    rd c (st0_8 t) (if k0_cond3 (grid0.coords t) = 1#1 then k0_pay2 (inX m c t) A (inS m c t) else (dats m 0 c).before 8 t d)
    ⊢ (dats m 0 c).leavesExact 8 t := by
  have own (X : Vec F S512x2048 .f32) : rd c (st0_8 t) X ⊢ (owns (c : Thread nD τ) (st0_8 t) fullShare X : sProp 𝕄) :=
    Entails.of_eq (owns_eq c (st0_8 t) (hstage0_8 ((cfg0.slots t 8).cast nbuf0_8)) X).symm
  subst hA
  by_cases hw : t.val % 11 = 10
  · rw [leaves_live m c t 8 (Bool.eq_false_iff.mpr fun e => (idle_8 t).mp e hw), if_pos ((cond3_iff t).mpr hw)]
    exact own (outOf m c t)
  · rw [if_neg fun e => hw ((cond3_iff t).mp e),
      leaves_keep m c t 8 ((idle_8 t).mpr hw) (Bool.eq_false_iff.mpr fun e => hw ((flush0_8 t).mp e))]
    iintro H
    iexists d
    iapply (own ((dats m 0 c).before 8 t d))
    iexact H

/-- The tail rows: written at every point. -/
theorem left_9 : rd c (st0_9 t) (k0_pay13 (k0_pay7 (inH m c t) (inG m c t))) ⊢ (dats m 0 c).leavesExact 9 t := by
  rw [leaves_live m c t 9 (idle_9 t)]
  exact Entails.of_eq (owns_eq c (st0_9 t) (hstage0_9 ((cfg0.slots t 9).cast nbuf0_9)) (tail m c t)).symm

/-! ## The body at a point -/

/-- Window 0 holds its block when the body runs. -/
theorem in_0 : iprop(∃ d, owns (c : Thread nD τ) (st0_0 t) fullShare ((dats m 0 c).before 0 t d)) ⊢ rd c (st0_0 t) (inX m c t) := by
  iintro ⟨%d, H⟩
  rw [before0_0_of m (dats m 0 c) (A_eq m c 0) (fun _ => by dsimp only [dats]) t d]
  iapply (Entails.of_eq (owns_eq c (st0_0 t) (hstage0_0 ((cfg0.slots t 0).cast nbuf0_0)) (inX m c t)))
  iexact H
/-- The body leaves window 0's block in place. -/
theorem out_0 : rd c (st0_0 t) (inX m c t) ⊢ (owns (c : Thread nD τ) (st0_0 t) fullShare ((dats m 0 c).after 0 t) : sProp 𝕄) :=
  Entails.of_eq (owns_eq c (st0_0 t) (hstage0_0 ((cfg0.slots t 0).cast nbuf0_0)) (inX m c t)).symm
/-- Window 1 holds its block when the body runs. -/
theorem in_1 : iprop(∃ d, owns (c : Thread nD τ) (st0_1 t) fullShare ((dats m 0 c).before 1 t d)) ⊢ rd c (st0_1 t) (inH m c t) := by
  iintro ⟨%d, H⟩
  rw [before0_1_of m (dats m 0 c) (A_eq m c 1) (fun _ => by dsimp only [dats]) t d]
  iapply (Entails.of_eq (owns_eq c (st0_1 t) (hstage0_1 ((cfg0.slots t 1).cast nbuf0_1)) (inH m c t)))
  iexact H
/-- The body leaves window 1's block in place. -/
theorem out_1 : rd c (st0_1 t) (inH m c t) ⊢ (owns (c : Thread nD τ) (st0_1 t) fullShare ((dats m 0 c).after 1 t) : sProp 𝕄) :=
  Entails.of_eq (owns_eq c (st0_1 t) (hstage0_1 ((cfg0.slots t 1).cast nbuf0_1)) (inH m c t)).symm
/-- Window 2 holds its block when the body runs. -/
theorem in_2 : iprop(∃ d, owns (c : Thread nD τ) (st0_2 t) fullShare ((dats m 0 c).before 2 t d)) ⊢ rd c (st0_2 t) (inG m c t) := by
  iintro ⟨%d, H⟩
  rw [before0_2_of m (dats m 0 c) (A_eq m c 2) (fun _ => by dsimp only [dats]) t d]
  iapply (Entails.of_eq (owns_eq c (st0_2 t) (hstage0_2 ((cfg0.slots t 2).cast nbuf0_2)) (inG m c t)))
  iexact H
/-- The body leaves window 2's block in place. -/
theorem out_2 : rd c (st0_2 t) (inG m c t) ⊢ (owns (c : Thread nD τ) (st0_2 t) fullShare ((dats m 0 c).after 2 t) : sProp 𝕄) :=
  Entails.of_eq (owns_eq c (st0_2 t) (hstage0_2 ((cfg0.slots t 2).cast nbuf0_2)) (inG m c t)).symm
/-- Window 3 holds its block when the body runs. -/
theorem in_3 : iprop(∃ d, owns (c : Thread nD τ) (st0_3 t) fullShare ((dats m 0 c).before 3 t d)) ⊢ rd c (st0_3 t) (inU m c t) := by
  iintro ⟨%d, H⟩
  rw [before0_3_of m (dats m 0 c) (A_eq m c 3) (fun _ => by dsimp only [dats]) t d]
  iapply (Entails.of_eq (owns_eq c (st0_3 t) (hstage0_3 ((cfg0.slots t 3).cast nbuf0_3)) (inU m c t)))
  iexact H
/-- The body leaves window 3's block in place. -/
theorem out_3 : rd c (st0_3 t) (inU m c t) ⊢ (owns (c : Thread nD τ) (st0_3 t) fullShare ((dats m 0 c).after 3 t) : sProp 𝕄) :=
  Entails.of_eq (owns_eq c (st0_3 t) (hstage0_3 ((cfg0.slots t 3).cast nbuf0_3)) (inU m c t)).symm
/-- Window 4 holds its block when the body runs. -/
theorem in_4 : iprop(∃ d, owns (c : Thread nD τ) (st0_4 t) fullShare ((dats m 0 c).before 4 t d)) ⊢ rd c (st0_4 t) (inW m c t) := by
  iintro ⟨%d, H⟩
  rw [before0_4_of m (dats m 0 c) (A_eq m c 4) (fun _ => by dsimp only [dats]) t d]
  iapply (Entails.of_eq (owns_eq c (st0_4 t) (hstage0_4 ((cfg0.slots t 4).cast nbuf0_4)) (inW m c t)))
  iexact H
/-- The body leaves window 4's block in place. -/
theorem out_4 : rd c (st0_4 t) (inW m c t) ⊢ (owns (c : Thread nD τ) (st0_4 t) fullShare ((dats m 0 c).after 4 t) : sProp 𝕄) :=
  Entails.of_eq (owns_eq c (st0_4 t) (hstage0_4 ((cfg0.slots t 4).cast nbuf0_4)) (inW m c t)).symm
/-- Window 5 holds its block when the body runs. -/
theorem in_5 : iprop(∃ d, owns (c : Thread nD τ) (st0_5 t) fullShare ((dats m 0 c).before 5 t d)) ⊢ rd c (st0_5 t) (inB m c t) := by
  iintro ⟨%d, H⟩
  rw [before0_5_of m (dats m 0 c) (A_eq m c 5) (fun _ => by dsimp only [dats]) t d]
  iapply (Entails.of_eq (owns_eq c (st0_5 t) (hstage0_5 ((cfg0.slots t 5).cast nbuf0_5)) (inB m c t)))
  iexact H
/-- The body leaves window 5's block in place. -/
theorem out_5 : rd c (st0_5 t) (inB m c t) ⊢ (owns (c : Thread nD τ) (st0_5 t) fullShare ((dats m 0 c).after 5 t) : sProp 𝕄) :=
  Entails.of_eq (owns_eq c (st0_5 t) (hstage0_5 ((cfg0.slots t 5).cast nbuf0_5)) (inB m c t)).symm
/-- Window 6 holds its block when the body runs. -/
theorem in_6 : iprop(∃ d, owns (c : Thread nD τ) (st0_6 t) fullShare ((dats m 0 c).before 6 t d)) ⊢ rd c (st0_6 t) (inO m c t) := by
  iintro ⟨%d, H⟩
  rw [before0_6_of m (dats m 0 c) (A_eq m c 6) (fun _ => by dsimp only [dats]) t d]
  iapply (Entails.of_eq (owns_eq c (st0_6 t) (hstage0_6 ((cfg0.slots t 6).cast nbuf0_6)) (inO m c t)))
  iexact H
/-- The body leaves window 6's block in place. -/
theorem out_6 : rd c (st0_6 t) (inO m c t) ⊢ (owns (c : Thread nD τ) (st0_6 t) fullShare ((dats m 0 c).after 6 t) : sProp 𝕄) :=
  Entails.of_eq (owns_eq c (st0_6 t) (hstage0_6 ((cfg0.slots t 6).cast nbuf0_6)) (inO m c t)).symm
/-- Window 7 holds its block when the body runs. -/
theorem in_7 : iprop(∃ d, owns (c : Thread nD τ) (st0_7 t) fullShare ((dats m 0 c).before 7 t d)) ⊢ rd c (st0_7 t) (inS m c t) := by
  iintro ⟨%d, H⟩
  rw [before0_7_of m (dats m 0 c) (A_eq m c 7) (fun _ => by dsimp only [dats]) t d]
  iapply (Entails.of_eq (owns_eq c (st0_7 t) (hstage0_7 ((cfg0.slots t 7).cast nbuf0_7)) (inS m c t)))
  iexact H
/-- The body leaves window 7's block in place. -/
theorem out_7 : rd c (st0_7 t) (inS m c t) ⊢ (owns (c : Thread nD τ) (st0_7 t) fullShare ((dats m 0 c).after 7 t) : sProp 𝕄) :=
  Entails.of_eq (owns_eq c (st0_7 t) (hstage0_7 ((cfg0.slots t 7).cast nbuf0_7)) (inS m c t)).symm

/-- The body at a point: the inputs stay, the accumulator and the carried rows advance, the outputs are written. -/
theorem sound_body : iprop(inv m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d)))
    ⊢ wp frame (wpE (defs₀ (F := F)) Variants.none (c : Thread nD τ) none) Set.univ (bodyAt0 t) fun _ =>
      iprop(inv m c (t.val + 1) ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ (dats m 0 c).leavesExact 8 t ∗ (dats m 0 c).leavesExact 9 t) := by
  rw [show (dats m 0 c).owesAt () t.succ = (dats m 0 c).owesAt () t.castSucc from rfl]
  iintro ⟨HΦ, Ho, H0, H1, H2, H3, H4, H5, H6, H7, ⟨%d8, H8⟩, ⟨%d9, H9⟩⟩
  unfold inv
  icases HΦ with ⟨⟨%X12, %X13, %hG, HS0, HS1⟩, HR⟩
  ihave H0 := (in_0 m c t) $$ H0
  ihave H1 := (in_1 m c t) $$ H1
  ihave H2 := (in_2 m c t) $$ H2
  ihave H3 := (in_3 m c t) $$ H3
  ihave H4 := (in_4 m c t) $$ H4
  ihave H5 := (in_5 m c t) $$ H5
  ihave H6 := (in_6 m c t) $$ H6
  ihave H7 := (in_7 m c t) $$ H7
  ihave H8 := (Entails.of_eq (owns_eq c (st0_8 t) (hstage0_8 ((cfg0.slots t 8).cast nbuf0_8)) ((dats m 0 c).before 8 t d8))) $$ H8
  ihave H9 := (Entails.of_eq (owns_eq c (st0_9 t) (hstage0_9 ((cfg0.slots t 9).cast nbuf0_9)) ((dats m 0 c).before 9 t d9))) $$ H9
  unfold bodyAt0
  rw [body_eq]
  iapply (bodyS_wp c (grid0.coords t) _ _ _ _ _ _ _ _ _ _ _ _ (inX m c t) (inH m c t) (inG m c t) (inU m c t) (inW m c t) (inB m c t) (inO m c t) (inS m c t)
    ((dats m 0 c).before 8 t d8) ((dats m 0 c).before 9 t d9) X12 X13)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro H0 H1 H2 H3 H4 H5 H6 H7 H8 H9 HS0 HS1
  isplitl [HS0 HS1 HR]
  · isplitr [HR]
    · iexists _, _
      isplitr
      rotate_left
      · isplitl [HS0]; · iexact HS0
        iexact HS1
      · ipureintro
        rw [acc1_good hG]
        exact good_step hG
    · iexact HR
  isplitl [Ho]; · iexact Ho
  isplitl [H0]; · iapply (out_0 m c t); iexact H0
  isplitl [H1]; · iapply (out_1 m c t); iexact H1
  isplitl [H2]; · iapply (out_2 m c t); iexact H2
  isplitl [H3]; · iapply (out_3 m c t); iexact H3
  isplitl [H4]; · iapply (out_4 m c t); iexact H4
  isplitl [H5]; · iapply (out_5 m c t); iexact H5
  isplitl [H6]; · iapply (out_6 m c t); iexact H6
  isplitl [H7]; · iapply (out_7 m c t); iexact H7
  isplitl [H8]
  · iapply (left_8 m c t d8 _ (acc1_good hG))
    iexact H8
  iapply (left_9 m c t)
  iexact H9

/-- The body table's row at a point is the body. -/
theorem defs₀_row : defs₀ (F := F) .tc cfg0.body (cfg0.bodyArgs t (cfg0.slots t)) = bodyAt0 t := by
  unfold defs₀; rw [Defs.onTc_tc]

/-- The body obligation at every point. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant is entered from the scratch buffers at any contents. -/
theorem inv_enter : Pipeline.ΦA spec0 c ⊢ inv m c 0 := by
  unfold Pipeline.ΦA inv
  rw [scopedRest0_eq]
  iintro ⟨⟨⟨%f0, H0⟩, ⟨%f1, H1⟩⟩, HR⟩
  isplitr [HR]
  · iexists f0, f1
    isplitr
    · ipureintro
      exact ⟨fun t ht => by omega, fun s hs => by omega⟩
    unfold rd
    isplitl [H0]
    · iexists f0
      isplitr
      · ipureintro; rfl
      · iexact H0
    · iexists f1
      isplitr
      · ipureintro; rfl
      · iexact H1
  · iexact HR

/-- The invariant gives the scratch buffers back at some contents. -/
theorem inv_leave (n : Nat) : inv m c n ⊢ Pipeline.ΦA spec0 c := by
  unfold Pipeline.ΦA inv rd
  rw [scopedRest0_eq]
  iintro ⟨⟨%X12, %X13, -, ⟨%f0, -, H0⟩, ⟨%f1, -, H1⟩⟩, HR⟩
  isplitr [HR]
  · isplitl [H0]
    · iexists f0; iexact H0
    · iexists f1; iexact H1
  · iexact HR

variable (ρ : Dev nD → PrngReg)

set_option backward.isDefEq.respectTransparency.types false in
/-- The run, at any values: every array ends at what the data and the lines after the call give, every semaphore at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m)
    (hin := fun c => inv_enter m c) (hout := fun c => inv_leave m c _)

/-- The arrays at the end of the run. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the run terminates, the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Kernel2Ideal.Hand
-- ==== Proof.FfnSame.lean ====
/- The feed-forward kernel at machine words and the kernel at any values are one text: their tables of bodies are equal, so the frame
   proved at any values is the frame at machine words. -/
module

public import proofs.«01_k».proof.Defs
public import proofs.«01_k».proof.Proof.Gen.Kernel2
public import proofs.«01_k».proof.Proof.FfnRun
public import Idealize.ShloMosaic.Adequacy
public import Idealize.ShloMosaic.Init

@[expose] public section

noncomputable section

namespace Cert.Kernel2.Hand

open Idealize.ShloMosaic Idealize.SL.Sem

local instance : Cert.Kernel2.Facts := Cert.Kernel2.Gen.facts
local instance : Cert.Kernel2Ideal.Facts := Cert.Kernel2Ideal.Gen.facts

/-- The two programs have one body. -/
theorem body_same : @Cert.Kernel2.cc0_ffn_prompt Bits _ _ = @Cert.Kernel2Ideal.cc0_ffn_prompt Bits _ _ := rfl

/-- Equal bodies are equal at equal arguments. -/
theorem body_congr {B B' : type_of% (@Cert.Kernel2Ideal.cc0_ffn_prompt Bits _ _)} (e : B = B') i a2 h2 a3 h3 a4 h4 a5 h5 a6 h6 a7 h7 a8 h8 a9 h9 a10 h10 a11 h11 a12 h12 a13 h13 :
    B i a2 h2 a3 h3 a4 h4 a5 h5 a6 h6 a7 h7 a8 h8 a9 h9 a10 h10 a11 h11 a12 h12 a13 h13 = B' i a2 h2 a3 h3 a4 h4 a5 h5 a6 h6 a7 h7 a8 h8 a9 h9 a10 h10 a11 h11 a12 h12 a13 h13 := by
  rw [e]

set_option maxHeartbeats 4000000 in
/-- The two programs have one table of bodies. -/
theorem table_same : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) =>
    exact body_congr (B := @Cert.Kernel2.cc0_ffn_prompt Bits _ _) (B' := @Cert.Kernel2Ideal.cc0_ffn_prompt Bits _ _) body_same
      _ _ _ _ _ _ _ _ _ _ _ _ _ _ _ _ _ _ _ _ _ _ _ _ _
  | ⟨_ + 1, h⟩, _ => exact absurd h (Nat.not_lt.2 (Nat.le_add_left _ _))

/-- The two programs have the same definitions. -/
theorem defs_same : Cert.Kernel2.defs (F := Bits) = Cert.Kernel2Ideal.defs (F := Bits) :=
  congrArg (Pipeline.defs Cert.Kernel2Ideal.pcfgs) table_same

/-- The kernel at machine words runs, leaves its arguments and ends with every semaphore at zero. -/
theorem frame : Cert.quiescent_Kernel2 := fun m ρ _ => by
  rw [defs_same]
  exact Cert.Kernel2Ideal.Hand.frame (F := Bits) m ρ

end Cert.Kernel2.Hand

end
-- ==== Proof.FfnFinal.lean ====
/- What the feed-forward kernel's result arrays end holding. -/
module

public import proofs.«01_k».proof.Proof.FfnRun
public import Idealize.ShloMosaic.Lib.Pointwise
public import Idealize.ShloMosaic.Lib.StableHlo.ReadAt

@[expose] public section

set_option synthInstance.maxSize 4096
set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## Where each window's block sits at a point -/

theorem index_0 : ∀ t : Fin cfg0.N, win0_0.index t 0 = t.val / 11 ∧ win0_0.index t 1 = 0 := by decide +kernel
theorem index_1 : ∀ t : Fin cfg0.N, win0_1.index t 0 = t.val / 11 ∧ win0_1.index t 1 = 0 := by decide +kernel
theorem index_2 : ∀ t : Fin cfg0.N, win0_2.index t 0 = 0 ∧ win0_2.index t 1 = t.val % 11 := by decide +kernel
theorem index_3 : ∀ t : Fin cfg0.N, win0_3.index t 0 = 0 ∧ win0_3.index t 1 = t.val % 11 + 11 := by decide +kernel
theorem index_4 : ∀ t : Fin cfg0.N, win0_4.index t 0 = 0 ∧ win0_4.index t 1 = t.val % 11 := by decide +kernel
theorem index_5 : ∀ t : Fin cfg0.N, win0_5.index t 0 = 0 ∧ win0_5.index t 1 = t.val % 11 := by decide +kernel
theorem index_6 : ∀ t : Fin cfg0.N, win0_6.index t 0 = t.val % 11 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = t.val / 11 ∧ win0_8.index t 1 = 0 := by decide +kernel
theorem index_9 : ∀ t : Fin cfg0.N, win0_9.index t 0 = t.val / 11 ∧ win0_9.index t 1 = 0 ∧ win0_9.index t 2 = t.val % 11 := by decide +kernel

/-! ## What the result arrays end holding -/

/-- The output: row tile `y 0 / 512`'s last chunk writes it. -/
def outFin : S8192x2048.Idx → Elt F .f32 := fun y =>
  have h0 : (y 0).val < 8192 := (y 0).isLt
  outOf m c (point (11 * ((y 0).val / 512) + 10) (by omega)) (ix2 ⟨(y 0).val % 512, Nat.mod_lt _ (by decide)⟩ (y 1))
/-- The tails: row tile `y 0`'s last eight gate rows, chunk by chunk. -/
def tailFin : S16x8x5632.Idx → Elt F .f32 := fun y =>
  have h0 : (y 0).val < 16 := (y 0).isLt
  have h2 : (y 2).val < 5632 := (y 2).isLt
  tail m c (point (11 * (y 0).val + (y 2).val / 512) (by omega)) (ix3 0 (y 1) ⟨(y 2).val % 512, Nat.mod_lt _ (by decide)⟩)

theorem flushed_8 (t : Fin cfg0.N) (hf : (cfg0.win 8).flush t = true) :
    (dats m 0 c).flushed 8 t = ((cfg0.win 8).blk t).view.read (Elt F) (outFin m c) := by
  have h10 := (flush0_8 t).mp hf
  funext y
  show outOf m c t y = outFin m c ((win0_8.rect t).emb y)
  have e0 : ((win0_8.rect t).emb y 0 : Nat) = _ := win0_8.rect_emb_val t y 0
  have e1 : ((win0_8.rect t).emb y 1 : Nat) = _ := win0_8.rect_emb_val t y 1
  rw [(index_8 t).1] at e0
  rw [(index_8 t).2] at e1
  have s0 : win0_8.size 0 = 512 := rfl
  rw [s0] at e0
  generalize (win0_8.rect t).emb y = z at e0 e1 ⊢
  have y0 : (y 0).val < 512 := (y 0).isLt
  have ht := lt176 t
  have ep : point (11 * ((z 0).val / 512) + 10) (by have : (z 0).val < 8192 := (z 0).isLt; omega) = t :=
    Fin.ext (by show 11 * ((z 0).val / 512) + 10 = t.val; omega)
  have ey : (ix2 ⟨(z 0).val % 512, Nat.mod_lt _ (by decide)⟩ (z 1) : S512x2048.Idx) = y := by
    funext k
    match k with
    | 0 => exact Fin.ext (by show (z 0).val % 512 = (y 0).val; omega)
    | 1 => exact Fin.ext (by show (z 1).val = (y 1).val; omega)
  show _ = outOf m c (point (11 * ((z 0).val / 512) + 10) _) (ix2 _ _)
  rw [ep, ey]

theorem flushed_9 (t : Fin cfg0.N) : (dats m 0 c).flushed 9 t = ((cfg0.win 9).blk t).view.read (Elt F) (tailFin m c) := by
  funext y
  show tail m c t y = tailFin m c ((win0_9.rect t).emb y)
  have e0 : ((win0_9.rect t).emb y 0 : Nat) = _ := win0_9.rect_emb_val t y 0
  have e1 : ((win0_9.rect t).emb y 1 : Nat) = _ := win0_9.rect_emb_val t y 1
  have e2 : ((win0_9.rect t).emb y 2 : Nat) = _ := win0_9.rect_emb_val t y 2
  rw [(index_9 t).1] at e0
  rw [(index_9 t).2.1] at e1
  rw [(index_9 t).2.2] at e2
  have s0 : win0_9.size 0 = 1 := rfl
  have s2 : win0_9.size 2 = 512 := rfl
  rw [s0] at e0
  rw [s2] at e2
  generalize (win0_9.rect t).emb y = z at e0 e1 e2 ⊢
  have y0 : (y 0).val < 1 := (y 0).isLt
  have y2 : (y 2).val < 512 := (y 2).isLt
  have ht := lt176 t
  have ep : point (11 * (z 0).val + (z 2).val / 512) (by have : (z 0).val < 16 := (z 0).isLt; have : (z 2).val < 5632 := (z 2).isLt; omega) = t :=
    Fin.ext (by show 11 * (z 0).val + (z 2).val / 512 = t.val; omega)
  have ey : (ix3 0 (z 1) ⟨(z 2).val % 512, Nat.mod_lt _ (by decide)⟩ : S1x8x512.Idx) = y := by
    funext k
    match k with
    | 0 => exact Fin.ext (by show 0 = (y 0).val; omega)
    | 1 => exact Fin.ext (by show (z 1).val = (y 1).val; omega)
    | 2 => exact Fin.ext (by show (z 2).val % 512 = (y 2).val; omega)
  show _ = tail m c (point (11 * (z 0).val + (z 2).val / 512) _) (ix3 _ _ _)
  rw [ep, ey]

theorem cover_8 (i : S8192x2048.Idx) : ∃ t : Fin cfg0.N, (cfg0.win 8).flush t = true ∧ i ∈ ((cfg0.win 8).blk t).view.set := by
  have h0 : (i 0).val < 8192 := (i 0).isLt
  have h1 : (i 1).val < 2048 := (i 1).isLt
  let t := point (11 * ((i 0).val / 512) + 10) (by omega)
  have tv : t.val = 11 * ((i 0).val / 512) + 10 := rfl
  refine ⟨t, (flush0_8 t).mpr (by omega), ?_⟩
  show i ∈ ((View.whole main_v9_0).slice (win0_8.rect t)).set
  rw [View.set_slice_whole, Rect.mem_set_unit]
  intro a
  match a with
  | 0 =>
    show win0_8.index t 0 * 512 ≤ (i 0 : Nat) ∧ (i 0 : Nat) < win0_8.index t 0 * 512 + 512
    rw [(index_8 t).1]; omega
  | 1 =>
    show win0_8.index t 1 * 2048 ≤ (i 1 : Nat) ∧ (i 1 : Nat) < win0_8.index t 1 * 2048 + 2048
    rw [(index_8 t).2]; omega

theorem cover_9 (i : S16x8x5632.Idx) : ∃ t : Fin cfg0.N, (cfg0.win 9).flush t = true ∧ i ∈ ((cfg0.win 9).blk t).view.set := by
  have h0 : (i 0).val < 16 := (i 0).isLt
  have h1 : (i 1).val < 8 := (i 1).isLt
  have h2 : (i 2).val < 5632 := (i 2).isLt
  let t := point (11 * (i 0).val + (i 2).val / 512) (by omega)
  have tv : t.val = 11 * (i 0).val + (i 2).val / 512 := rfl
  refine ⟨t, flush0_9 t, ?_⟩
  show i ∈ ((View.whole main_v9_1).slice (win0_9.rect t)).set
  rw [View.set_slice_whole, Rect.mem_set_unit]
  intro a
  match a with
  | 0 =>
    show win0_9.index t 0 * 1 ≤ (i 0 : Nat) ∧ (i 0 : Nat) < win0_9.index t 0 * 1 + 1
    rw [(index_9 t).1]; omega
  | 1 =>
    show win0_9.index t 1 * 8 ≤ (i 1 : Nat) ∧ (i 1 : Nat) < win0_9.index t 1 * 8 + 8
    rw [(index_9 t).2.1]; omega
  | 2 =>
    show win0_9.index t 2 * 512 ≤ (i 2 : Nat) ∧ (i 2 : Nat) < win0_9.index t 2 * 512 + 512
    rw [(index_9 t).2.2]; omega

/-- The output array ends holding `outFin`. -/
theorem final_8 : (dats m 0 c).arrAt 8 cfg0.N = outFin m c :=
  (dats m 0 c).arrAt_eq_of_cover 8 (outFin m c) (fun t h => flushed_8 m c t h) cover_8
/-- The tail array ends holding `tailFin`. -/
theorem final_9 : (dats m 0 c).arrAt 9 cfg0.N = tailFin m c :=
  (dats m 0 c).arrAt_eq_of_cover 9 (tailFin m c) (fun t _ => flushed_9 m c t) cover_9

/-- The convolution state: the last two gate rows of each sequence's last tile. -/
def convFin : S4x2x5632.Idx → Elt F .f32 := fun y =>
  have h0 : (y 0).val < 4 := (y 0).isLt
  have h1 : (y 1).val < 2 := (y 1).isLt
  tailFin m c (ix3 ⟨4 * (y 0).val + 3, by omega⟩ ⟨6 + (y 1).val, by omega⟩ (y 2))

/-- The lines after the call read the convolution state off the tails. -/
theorem slice_tails (X : S16x8x5632.Idx → Elt F .f32) (a : Fin 4) (b : Fin 2) (n : Fin 5632) :
    shapeCast S4x2x5632 (extractStridedSlice S4x1x2x5632 ![0, 3, 6, 0] (shapeCast S4x4x8x5632 X shapeCasts_S16x8x5632_S4x4x8x5632) slices_S4x4x8x5632_S4x1x2x5632_0_3_6_0)
      shapeCasts_S4x1x2x5632_S4x2x5632 (ix3 a b n) = X (ix3 ⟨4 * a.val + 3, by omega⟩ ⟨6 + b.val, by omega⟩ n) := by
  rw [shapeCast_apply _ _ (ix3 a b n) (ix4 a 0 b n) (by
    rw [Shape.rowMajor_val_four, Shape.rowMajor_val_three]
    show ((a.val * 1 + 0) * 2 + b.val) * 5632 + n.val = (a.val * 2 + b.val) * 5632 + n.val
    omega)]
  show shapeCast S4x4x8x5632 X shapeCasts_S16x8x5632_S4x4x8x5632 _ = _
  rw [shapeCast_apply _ _ _ (ix3 ⟨4 * a.val + 3, by omega⟩ ⟨6 + b.val, by omega⟩ n) (by
    rw [Shape.rowMajor_val_four, Shape.rowMajor_val_three]
    show ((4 * a.val + 3) * 8 + (6 + b.val)) * 5632 + n.val = (((0 + a.val) * 4 + (3 + 0)) * 8 + (6 + b.val)) * 5632 + (0 + n.val)
    omega)]

theorem conv_eq : Pipeline.afterTail₀ cfgs (dats m) 0 (V0 m) [hostOps1] c main_v12 = convFin m c := by
  have hw : Pipeline.withArrays spec0 c (V0 m c) (fun w => (dats m 0 c).arrAt w cfg0.N) (Proc.devRef .tc main_v9_1) = tailFin m c :=
    (Dat.withArrays_arrAt (dats m 0 c) sharedIn0 (V0 m c) (A_eq m c) 9).trans (final_9 m c)
  funext y
  obtain ⟨a, b, n, rfl⟩ : ∃ (a : Fin 4) (b : Fin 2) (n : Fin 5632), y = ix3 a b n :=
    ⟨y 0, y 1, y 2, funext fun k => by match k with | 0 => rfl | 1 => rfl | 2 => rfl⟩
  refine Eq.trans ?_ (slice_tails (tailFin m c) a b n)
  unfold Pipeline.afterTail₀
  rw [← hw]
  after_reads_simp
  rfl

variable (ρ : Dev nD → PrngReg)

/-- The run ends with the two result arrays holding these values and the arguments as launched. -/
theorem run_values : θ_run defs (onTc (τ := τ) (main (F := F))) ⟨m, fun _ => 0, ρ⟩ (fun r => ∀ c : Dev nD,
    r.2.mem ((c.tc : Thread nD τ).loc main_v9_0) = outFin m c
      ∧ r.2.mem ((c.tc : Thread nD τ).loc main_v12) = convFin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 8).trans (final_8 m c),
      ((h.1 c).2 main_v12 (Pipeline.mem_restRefs_of main_v12 (by decide) (by decide))).trans (conv_eq m c), h.2.1 c⟩)
    (θ_run_and (run_main m ρ) (frame m ρ))

end Cert.Kernel2Ideal.Hand
-- ==== Proof.FfnSpec.lean ====
/- The feed-forward layer over the extended reals, entry by entry: what both the kernel and the reference compute. -/
module

public import Idealize.ShloMosaic.PureOps.Ideal.Laws
public import Idealize.ShloMosaic.Lib.Pointwise

@[expose] public section

noncomputable section

namespace Cert.Ffn

open Idealize.ShloMosaic

/-- The layer's operands: residual rows, normed rows, first weights, convolution taps and bias, second weights, norm scale. -/
structure Args where
  x : Fin 8192 → Fin 2048 → EReal
  h : Fin 8192 → Fin 2048 → EReal
  w : Fin 2048 → Fin 11264 → EReal
  cw : Fin 3 → Fin 5632 → EReal
  cb : Fin 5632 → EReal
  wo : Fin 5632 → Fin 2048 → EReal
  g : Fin 2048 → EReal

/-- The literal the bits `b` denote. -/
abbrev lit (b : BitVec 32) : EReal := Ideal.ofBits .f32 b

variable (A : Args)

/-- The gate: the first half of the first product's columns. -/
def gate (r : Fin 8192) (n : Fin 5632) : EReal := ∑ k : Fin 2048, A.h r k * A.w k ⟨n.val, by omega⟩
/-- The up-projection: the second half. -/
def up (r : Fin 8192) (n : Fin 5632) : EReal := ∑ k : Fin 2048, A.h r k * A.w k ⟨n.val + 5632, by omega⟩
/-- The gate `d` rows back in the row's sequence of 2048, zero before the sequence's start. -/
def back (d : Nat) (r : Fin 8192) (n : Fin 5632) : EReal :=
  if d ≤ r.val % 2048 then gate A ⟨r.val - d, by omega⟩ n else 0
/-- The causal convolution over three rows, with its bias. -/
def conv (r : Fin 8192) (n : Fin 5632) : EReal :=
  ((A.cb n + A.cw 0 n * back A 2 r n) + A.cw 1 n * back A 1 r n) + A.cw 2 n * gate A r n
/-- The tanh form of the Gaussian error linear unit. -/
def gelu (z : EReal) : EReal :=
  (lit 0x3F000000#32 * z) * (lit 0x3F800000#32 + Ideal.tanh (lit 0x3F4C422A#32 * (z + ((lit 0x3D372713#32 * z) * z) * z)))
/-- The activated product. -/
def act (r : Fin 8192) (n : Fin 5632) : EReal := gelu (conv A r n) * up A r n
/-- The second product. -/
def ffn (r : Fin 8192) (j : Fin 2048) : EReal := ∑ n : Fin 5632, act A r n * A.wo n j
/-- The residual plus the normed second product. -/
def norm (x : EReal) (f : Fin 2048 → EReal) (g : EReal) (j : Fin 2048) : EReal :=
  x + (f j * Ideal.rsqrt (Ideal.div (∑ k : Fin 2048, f k * f k) (lit 0x45000000#32) + lit 0x358637BD#32)) * g
/-- The layer's output. -/
def out (r : Fin 8192) (j : Fin 2048) : EReal := norm (A.x r j) (ffn A r) (A.g j) j

/-- Row `a` of row tile `b`. -/
def row (b : Fin 16) (a : Fin 512) : Fin 8192 := ⟨512 * b.val + a.val, by omega⟩
/-- Column `e` of column chunk `q`. -/
def col (q : Fin 11) (e : Fin 512) : Fin 5632 := ⟨512 * q.val + e.val, by omega⟩

/-- A sum over the columns is the sum over the chunks of the sums inside them. -/
theorem sum_chunks (f : Fin 5632 → EReal) : ∑ n : Fin 5632, f n = ∑ q : Fin 11, ∑ e : Fin 512, f (col q e) := by
  rw [← Fintype.sum_prod_type' (f := fun q e => f (col q e))]
  refine (Fintype.sum_equiv (finProdFinEquiv (m := 11) (n := 512)) _ _ fun x => ?_).symm
  refine congrArg f (Fin.ext ?_)
  show 512 * x.1.val + x.2.val = x.2.val + 512 * x.1.val
  omega

end Cert.Ffn
-- ==== Proof.FfnBlocks.lean ====
/- What each block of the feed-forward kernel holds, in terms of the operands as launched. -/
module

public import proofs.«01_k».proof.Proof.FfnFinal
public import proofs.«01_k».proof.Proof.FfnSpec

@[expose] public section

set_option synthInstance.maxSize 4096
set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL
open Cert.Ffn (row col)

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The operands as launched. -/
def args : Cert.Ffn.Args where
  x r k := arg m c main_arg0 (ix2 r k)
  h r k := arg m c main_arg1 (ix2 r k)
  w k n := arg m c main_arg2 (ix3 0 k n)
  cw d n := arg m c main_arg3 (ix3 0 d n)
  cb n := arg m c main_arg4 (ix2 0 n)
  wo n j := arg m c main_arg5 (ix3 0 n j)
  g j := arg m c main_arg6 (ix2 0 j)

/-! ## The arrays the lines before the call write -/

theorem V_v1 (k : Fin 2048) (n : Fin 11264) : V m c main_v1 (ix2 k n) = arg m c main_arg2 (ix3 0 k n) := by
  unfold V
  after_reads_at
theorem V_v2 (d : Fin 3) (n : Fin 5632) : V m c main_v2 (ix2 d n) = arg m c main_arg3 (ix3 0 d n) := by
  unfold V
  after_reads_at
theorem V_v4 (n : Fin 5632) : V m c main_v4 (ix2 0 n) = arg m c main_arg4 (ix2 0 n) := by
  unfold V
  after_reads_at
theorem V_v6 (n : Fin 5632) (j : Fin 2048) : V m c main_v6 (ix2 n j) = arg m c main_arg5 (ix3 0 n j) := by
  unfold V
  after_reads_at
theorem V_v8 (j : Fin 2048) : V m c main_v8 (ix2 0 j) = arg m c main_arg6 (ix2 0 j) := by
  unfold V
  after_reads_at

/-! ## The blocks -/

/-- The point of row tile `b` and column chunk `q`. -/
def pt (b : Fin 16) (q : Fin 11) : Fin cfg0.N := point (11 * b.val + q.val) (by omega)
theorem pt_val (b : Fin 16) (q : Fin 11) : (pt b q).val = 11 * b.val + q.val := rfl
theorem pt_div (b : Fin 16) (q : Fin 11) : (pt b q).val / 11 = b.val := by rw [pt_val]; omega
theorem pt_mod (b : Fin 16) (q : Fin 11) : (pt b q).val % 11 = q.val := by rw [pt_val]; omega

variable (b : Fin 16) (q : Fin 11)

theorem inX_apply (a : Fin 512) (k : Fin 2048) : inX m c (pt b q) (ix2 a k) = (args m c).x (row b a) k := by
  refine (congrFun (V_main_arg0 m c) _).trans (congrArg (arg m c main_arg0) (funext fun x => Fin.ext ?_))
  match x with
  | 0 => exact (win0_0.rect_emb_val _ _ 0).trans (by rw [(index_0 _).1, pt_div]; show b.val * 512 + a.val = 512 * b.val + a.val; omega)
  | 1 => exact (win0_0.rect_emb_val _ _ 1).trans (by rw [(index_0 _).2]; show 0 * 2048 + k.val = k.val; omega)

theorem inH_apply (a : Fin 512) (k : Fin 2048) : inH m c (pt b q) (ix2 a k) = (args m c).h (row b a) k := by
  refine (congrFun (V_main_arg1 m c) _).trans (congrArg (arg m c main_arg1) (funext fun x => Fin.ext ?_))
  match x with
  | 0 => exact (win0_1.rect_emb_val _ _ 0).trans (by rw [(index_1 _).1, pt_div]; show b.val * 512 + a.val = 512 * b.val + a.val; omega)
  | 1 => exact (win0_1.rect_emb_val _ _ 1).trans (by rw [(index_1 _).2]; show 0 * 2048 + k.val = k.val; omega)

theorem inG_apply (k : Fin 2048) (e : Fin 512) :
    inG m c (pt b q) (ix2 k e) = (args m c).w k ⟨(col q e).val, by have := (col q e).isLt; omega⟩ := by
  refine Eq.trans (congrArg (V m c main_v1) (funext fun x => Fin.ext ?_)) (V_v1 m c k _)
  match x with
  | 0 => exact (win0_2.rect_emb_val _ _ 0).trans (by rw [(index_2 _).1]; show 0 * 2048 + k.val = k.val; omega)
  | 1 => exact (win0_2.rect_emb_val _ _ 1).trans (by rw [(index_2 _).2, pt_mod]; show q.val * 512 + e.val = 512 * q.val + e.val; omega)

theorem inU_apply (k : Fin 2048) (e : Fin 512) :
    inU m c (pt b q) (ix2 k e) = (args m c).w k ⟨(col q e).val + 5632, by have := (col q e).isLt; omega⟩ := by
  refine Eq.trans (congrArg (V m c main_v1) (funext fun x => Fin.ext ?_)) (V_v1 m c k _)
  match x with
  | 0 => exact (win0_3.rect_emb_val _ _ 0).trans (by rw [(index_3 _).1]; show 0 * 2048 + k.val = k.val; omega)
  | 1 => exact (win0_3.rect_emb_val _ _ 1).trans (by rw [(index_3 _).2, pt_mod]; show (q.val + 11) * 512 + e.val = 512 * q.val + e.val + 5632; omega)

theorem inW_apply (d : Fin 3) (e : Fin 512) : inW m c (pt b q) (ix2 d e) = (args m c).cw d (col q e) := by
  refine Eq.trans (congrArg (V m c main_v2) (funext fun x => Fin.ext ?_)) (V_v2 m c d _)
  match x with
  | 0 => exact (win0_4.rect_emb_val _ _ 0).trans (by rw [(index_4 _).1]; show 0 * 3 + d.val = d.val; omega)
  | 1 => exact (win0_4.rect_emb_val _ _ 1).trans (by rw [(index_4 _).2, pt_mod]; show q.val * 512 + e.val = 512 * q.val + e.val; omega)

theorem inB_apply (e : Fin 512) : inB m c (pt b q) (ix2 0 e) = (args m c).cb (col q e) := by
  refine Eq.trans (congrArg (V m c main_v4) (funext fun x => Fin.ext ?_)) (V_v4 m c _)
  match x with
  | 0 => exact (win0_5.rect_emb_val _ _ 0).trans (by rw [(index_5 _).1]; rfl)
  | 1 => exact (win0_5.rect_emb_val _ _ 1).trans (by rw [(index_5 _).2, pt_mod]; show q.val * 512 + e.val = 512 * q.val + e.val; omega)

theorem inO_apply (e : Fin 512) (j : Fin 2048) : inO m c (pt b q) (ix2 e j) = (args m c).wo (col q e) j := by
  refine Eq.trans (congrArg (V m c main_v6) (funext fun x => Fin.ext ?_)) (V_v6 m c _ j)
  match x with
  | 0 => exact (win0_6.rect_emb_val _ _ 0).trans (by rw [(index_6 _).1, pt_mod]; show q.val * 512 + e.val = 512 * q.val + e.val; omega)
  | 1 => exact (win0_6.rect_emb_val _ _ 1).trans (by rw [(index_6 _).2]; show 0 * 2048 + j.val = j.val; omega)

theorem inS_apply (j : Fin 2048) : inS m c (pt b q) (ix2 0 j) = (args m c).g j := by
  refine Eq.trans (congrArg (V m c main_v8) (funext fun x => Fin.ext ?_)) (V_v8 m c j)
  match x with
  | 0 => exact (win0_7.rect_emb_val _ _ 0).trans (by rw [(index_7 _).1]; rfl)
  | 1 => exact (win0_7.rect_emb_val _ _ 1).trans (by rw [(index_7 _).2]; show 0 * 2048 + j.val = j.val; omega)

end Cert.Kernel2Ideal.Hand
-- ==== Proof.FfnVals.lean ====
/- The feed-forward body's values over the extended reals, entry by entry. -/
module

public import proofs.«01_k».proof.Proof.FfnBlocks

@[expose] public section

set_option synthInstance.maxSize 4096
set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL
open Cert.Ffn (row col lit)

/-! ## The payloads at an entry -/

theorem pay7_apply (h : Vec Ideal S512x2048 .bf16) (w : Vec Ideal S2048x512 .bf16) (a e : Fin 512) :
    k0_pay7 h w (ix2 a e) = ∑ k : Fin 2048, (h (ix2 a k) : EReal) * (w (ix2 k e) : EReal) := by
  unfold k0_pay7
  pointwise

theorem pay8_apply (h : Vec Ideal S512x2048 .bf16) (w : Vec Ideal S2048x512 .bf16) (a e : Fin 512) :
    k0_pay8 h w (ix2 a e) = ∑ k : Fin 2048, (h (ix2 a k) : EReal) * (w (ix2 k e) : EReal) := by
  unfold k0_pay8
  pointwise

theorem pay13_apply (g : FVec Ideal S512x512 .f32) (i : Fin 8) (e : Fin 512) :
    k0_pay13 g (ix3 0 i e) = g (ix2 ⟨504 + i.val, by omega⟩ e) := by
  unfold k0_pay13
  pointwise

theorem pay5_pay3_apply (v : Vec Ideal S1x8x512 .f32) (i : Fin 8) (e : Fin 512) :
    k0_pay5 (k0_pay3 v) (ix2 i e) = v (ix3 0 i e) := by
  unfold k0_pay5 k0_pay3
  pointwise

theorem pay5_pay4_apply (i : Fin 8) (e : Fin 512) : (k0_pay5 (F := Ideal) (k0_pay4 (F := Ideal)) : S8x512.Idx → EReal) (ix2 i e) = 0 := by
  unfold k0_pay5 k0_pay4
  pointwise

theorem pay6_apply (i : Fin 512) (e : Fin 2048) : (k0_pay6 (F := Ideal) (ix2 i e) : EReal) = 0 := by
  unfold k0_pay6
  pointwise

theorem pay9_apply (cw : Vec Ideal S3x512 .f32) (d : Fin 3) (e : Fin 512) : k0_pay9 cw (ix2 d e) = cw (ix2 d e) := by
  unfold k0_pay9
  pointwise

/-- A choice by the row number. -/
theorem select_row (a : Fin 512) (d : Nat) (hd : d < 512) (x y : EReal) :
    Scalar.select (IntOp.cmpi .eq (BitVec.ofNat 32 a.val) (BitVec.ofNat 32 d)) x y = if a.val = d then x else y := by
  have ha := a.isLt
  rw [WordCmp.cmpi_eq_eq_toNat, BitVec.toNat_ofNat, BitVec.toNat_ofNat, Nat.mod_eq_of_lt (by omega), Nat.mod_eq_of_lt (by omega)]
  by_cases h : a.val = d
  · rw [if_pos h, decide_eq_true h]; rfl
  · rw [if_neg h, decide_eq_false h]; rfl

theorem pay12_apply (hist : FVec Ideal S8x512 .f32) (g : FVec Ideal S512x512 .f32) (cw : Vec Ideal S3x512 .f32) (cb : Vec Ideal S1x512 .f32) (a e : Fin 512) :
    (k0_pay12 hist g (k0_pay9 cw) (k0_pay10 cb) (k0_pay11 cw) rows (ix2 a e) : EReal)
      = (((cb (ix2 0 e) : EReal) + (cw (ix2 0 e) : EReal) * (if a.val = 1 then hist (ix2 7 e) else if a.val = 0 then hist (ix2 6 e) else g (ix2 ⟨a.val - 2, by omega⟩ e) : EReal))
        + (cw (ix2 1 e) : EReal) * (if a.val = 0 then hist (ix2 7 e) else g (ix2 ⟨a.val - 1, by omega⟩ e) : EReal))
        + (cw (ix2 2 e) : EReal) * (g (ix2 a e) : EReal) := by
  unfold k0_pay12 k0_pay9 k0_pay10 k0_pay11 rows
  pointwise
  rw [pay9_apply]
  refine congrArg₂ (fun x y : EReal => x + y) (congrArg₂ (fun x y : EReal => x + y) (congrArg (fun y : EReal => _ + _ * y) ?_) (congrArg (fun y : EReal => _ * y) ?_)) rfl
  · refine (select_row a 1 (by decide) _ _).trans ?_
    by_cases h1 : a.val = 1
    · rw [if_pos h1, if_pos h1]
    · rw [if_neg h1, if_neg h1]
      refine (select_row a 0 (by decide) _ _).trans ?_
      by_cases h0 : a.val = 0
      · rw [if_pos h0, if_pos h0]
      · rw [if_neg h0, if_neg h0]
        exact congrArg g (congrArg (fun x => ix2 x e) (Fin.ext (by show (a.val + 512 - 2) % 512 = a.val - 2; omega)))
  · refine (select_row a 0 (by decide) _ _).trans ?_
    by_cases h0 : a.val = 0
    · rw [if_pos h0, if_pos h0]
    · rw [if_neg h0, if_neg h0]
      exact congrArg g (congrArg (fun x => ix2 x e) (Fin.ext (by show (a.val + 512 - 1) % 512 = a.val - 1; omega)))

theorem pay1_apply (u : FVec Ideal S512x512 .f32) (acc : Vec Ideal S512x2048 .f32) (p q s : FVec Ideal S512x512 .f32) (wo : Vec Ideal S512x2048 .bf16) (a : Fin 512) (j : Fin 2048) :
    (k0_pay1 u acc p q s wo (ix2 a j) : EReal) = (acc (ix2 a j) : EReal)
      + ∑ e : Fin 512, (((p (ix2 a e) : EReal) * (lit 0x3F800000#32 + Ideal.tanh ((s (ix2 a e) : EReal) * (q (ix2 a e) : EReal)))) * (u (ix2 a e) : EReal)) * (wo (ix2 e j) : EReal) := by
  unfold k0_pay1
  pointwise

theorem pay2_apply (x acc : Vec Ideal S512x2048 .f32) (g : Vec Ideal S1x2048 .f32) (a : Fin 512) (j : Fin 2048) :
    (k0_pay2 x acc g (ix2 a j) : EReal) = Cert.Ffn.norm (x (ix2 a j)) (fun k => acc (ix2 a k)) (g (ix2 0 j)) j := by
  unfold k0_pay2 Cert.Ffn.norm
  pointwise

theorem pay14_apply (hist : FVec Ideal S8x512 .f32) (g : FVec Ideal S512x512 .f32) (cw : FVec Ideal S3x512 .f32) (cb cw' : FVec Ideal S1x512 .f32) (v) (a e : Fin 512) :
    (k0_pay14 hist g cw cb cw' v (ix2 a e) : EReal) = lit 0x3F000000#32 * (k0_pay12 hist g cw cb cw' v (ix2 a e) : EReal) := rfl

theorem pay15_apply (hist : FVec Ideal S8x512 .f32) (g : FVec Ideal S512x512 .f32) (cw : FVec Ideal S3x512 .f32) (cb cw' : FVec Ideal S1x512 .f32) (v) (a e : Fin 512) :
    (k0_pay15 hist g cw cb cw' v (ix2 a e) : EReal) = (k0_pay12 hist g cw cb cw' v (ix2 a e) : EReal)
      + ((lit 0x3D372713#32 * (k0_pay12 hist g cw cb cw' v (ix2 a e) : EReal)) * (k0_pay12 hist g cw cb cw' v (ix2 a e) : EReal)) * (k0_pay12 hist g cw cb cw' v (ix2 a e) : EReal) := rfl

end Cert.Kernel2Ideal.Hand
-- ==== Proof.FfnTiles.lean ====
/- The feed-forward kernel's results over the extended reals: the layer's output and its convolution state. -/
module

public import proofs.«01_k».proof.Proof.FfnVals

@[expose] public section

set_option synthInstance.maxSize 4096
set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL
open Cert.Ffn (row col lit)

variable (m : (ℓ : Loc nD τ sig) → Buf (Elt Ideal) ℓ) (c : Dev nD) (b : Fin 16) (q : Fin 11)

/-- A point's gate entries. -/
theorem gate_apply (a e : Fin 512) : gate m c (pt b q) (ix2 a e) = Cert.Ffn.gate (args m c) (row b a) (col q e) := by
  refine (pay7_apply _ _ a e).trans ?_
  refine congrArg (fun f : Fin 2048 → EReal => ∑ k, f k) (funext fun k => ?_)
  exact congrArg₂ (fun x y : EReal => x * y) (inH_apply m c b q a k) (inG_apply m c b q k e)

/-- A point's up-projection entries. -/
theorem up_apply (a e : Fin 512) : k0_pay8 (inH m c (pt b q)) (inU m c (pt b q)) (ix2 a e) = Cert.Ffn.up (args m c) (row b a) (col q e) := by
  refine (pay8_apply _ _ a e).trans ?_
  refine congrArg (fun f : Fin 2048 → EReal => ∑ k, f k) (funext fun k => ?_)
  exact congrArg₂ (fun x y : EReal => x * y) (inH_apply m c b q a k) (inU_apply m c b q k e)

/-- The carried rows at a sequence's first tile. -/
theorem hist_first (h : b.val % 4 = 0) (i : Fin 8) (e : Fin 512) : (k0_pay5 (histOf m c (pt b q)) (ix2 i e) : EReal) = 0 := by
  unfold histOf
  rw [if_pos (by rw [pt_div]; exact h)]
  exact pay5_pay4_apply i e

/-- The carried rows at a later tile: the rows just above the tile. -/
theorem hist_next (h : b.val % 4 ≠ 0) (i : Fin 8) (e : Fin 512) :
    (k0_pay5 (histOf m c (pt b q)) (ix2 i e) : EReal) = Cert.Ffn.gate (args m c) ⟨512 * b.val - 8 + i.val, by omega⟩ (col q e) := by
  unfold histOf
  rw [if_neg (by rw [pt_div]; exact h)]
  have e1 : point ((pt b q).val - 11) (by have := lt176 (pt b q); omega) = pt ⟨b.val - 1, by omega⟩ q := Fin.ext (by
    show 11 * b.val + q.val - 11 = 11 * (b.val - 1) + q.val; omega)
  rw [e1]
  refine (pay5_pay3_apply _ i e).trans ?_
  refine (pay13_apply _ i e).trans ?_
  refine (gate_apply m c _ q _ e).trans ?_
  refine congrArg (fun r => Cert.Ffn.gate (args m c) r (col q e)) (Fin.ext ?_)
  show 512 * (b.val - 1) + (504 + i.val) = 512 * b.val - 8 + i.val
  omega

/-- The convolution's input two rows back. -/
theorem back2 (a e : Fin 512) :
    (if a.val = 1 then (k0_pay5 (histOf m c (pt b q)) (ix2 7 e) : EReal) else if a.val = 0 then (k0_pay5 (histOf m c (pt b q)) (ix2 6 e) : EReal)
      else gate m c (pt b q) (ix2 ⟨a.val - 2, by omega⟩ e)) = Cert.Ffn.back (args m c) 2 (row b a) (col q e) := by
  unfold Cert.Ffn.back
  have hr : (row b a).val = 512 * b.val + a.val := rfl
  by_cases h1 : a.val = 1
  · rw [if_pos h1]
    by_cases h4 : b.val % 4 = 0
    · rw [hist_first m c b q h4, if_neg (by rw [hr]; omega)]
    · rw [hist_next m c b q h4, if_pos (by rw [hr]; omega)]
      exact congrArg (fun r => Cert.Ffn.gate (args m c) r (col q e)) (Fin.ext (by show 512 * b.val - 8 + 7 = 512 * b.val + a.val - 2; omega))
  · rw [if_neg h1]
    by_cases h0 : a.val = 0
    · rw [if_pos h0]
      by_cases h4 : b.val % 4 = 0
      · rw [hist_first m c b q h4, if_neg (by rw [hr]; omega)]
      · rw [hist_next m c b q h4, if_pos (by rw [hr]; omega)]
        exact congrArg (fun r => Cert.Ffn.gate (args m c) r (col q e)) (Fin.ext (by show 512 * b.val - 8 + 6 = 512 * b.val + a.val - 2; omega))
    · rw [if_neg h0, if_pos (by rw [hr]; omega)]
      refine (gate_apply m c b q _ e).trans ?_
      exact congrArg (fun r => Cert.Ffn.gate (args m c) r (col q e)) (Fin.ext (by show 512 * b.val + (a.val - 2) = 512 * b.val + a.val - 2; omega))

/-- The convolution's input one row back. -/
theorem back1 (a e : Fin 512) :
    (if a.val = 0 then (k0_pay5 (histOf m c (pt b q)) (ix2 7 e) : EReal)
      else gate m c (pt b q) (ix2 ⟨a.val - 1, by omega⟩ e)) = Cert.Ffn.back (args m c) 1 (row b a) (col q e) := by
  unfold Cert.Ffn.back
  have hr : (row b a).val = 512 * b.val + a.val := rfl
  by_cases h0 : a.val = 0
  · rw [if_pos h0]
    by_cases h4 : b.val % 4 = 0
    · rw [hist_first m c b q h4, if_neg (by rw [hr]; omega)]
    · rw [hist_next m c b q h4, if_pos (by rw [hr]; omega)]
      exact congrArg (fun r => Cert.Ffn.gate (args m c) r (col q e)) (Fin.ext (by show 512 * b.val - 8 + 7 = 512 * b.val + a.val - 1; omega))
  · rw [if_neg h0, if_pos (by rw [hr]; omega)]
    refine (gate_apply m c b q _ e).trans ?_
    exact congrArg (fun r => Cert.Ffn.gate (args m c) r (col q e)) (Fin.ext (by show 512 * b.val + (a.val - 1) = 512 * b.val + a.val - 1; omega))

/-- A point's convolution entries. -/
theorem conv_apply (a e : Fin 512) :
    (k0_pay12 (k0_pay5 (histOf m c (pt b q))) (k0_pay7 (inH m c (pt b q)) (inG m c (pt b q))) (k0_pay9 (inW m c (pt b q))) (k0_pay10 (inB m c (pt b q)))
      (k0_pay11 (inW m c (pt b q))) rows (ix2 a e) : EReal) = Cert.Ffn.conv (args m c) (row b a) (col q e) := by
  refine (pay12_apply _ _ _ _ a e).trans ?_
  unfold Cert.Ffn.conv
  exact congrArg₂ (fun x y : EReal => x + y) (congrArg₂ (fun x y : EReal => x + y)
    (congrArg₂ (fun x y : EReal => x + y) (inB_apply m c b q e) (congrArg₂ (fun x y : EReal => x * y) (inW_apply m c b q 0 e) (back2 m c b q a e)))
    (congrArg₂ (fun x y : EReal => x * y) (inW_apply m c b q 1 e) (back1 m c b q a e)))
    (congrArg₂ (fun x y : EReal => x * y) (inW_apply m c b q 2 e) (gate_apply m c b q a e))

/-- One chunk's part of an entry of the second product. -/
def chunk (r : Fin 8192) (q : Fin 11) (j : Fin 2048) : EReal :=
  ∑ e : Fin 512, Cert.Ffn.act (args m c) r (col q e) * (args m c).wo (col q e) j

/-- One point's addition to an entry of the accumulator. -/
theorem step_apply (acc : Vec Ideal S512x2048 .f32) (a : Fin 512) (j : Fin 2048) :
    (step m c (pt b q) acc (ix2 a j) : EReal) = (acc (ix2 a j) : EReal) + chunk m c (row b a) q j := by
  unfold step accStep
  refine (pay1_apply _ _ _ _ _ _ a j).trans (congrArg (fun y : EReal => _ + y) ?_)
  unfold chunk
  refine congrArg (fun f : Fin 512 → EReal => ∑ e, f e) (funext fun e => ?_)
  refine congrArg₂ (fun x y : EReal => x * y) (congrArg₂ (fun x y : EReal => x * y) ?_ (up_apply m c b q a e)) (inO_apply m c b q e j)
  rw [pay14_apply, pay15_apply, conv_apply]
  rfl

/-- The accumulator after a tile's chunk `n`: the chunks so far. -/
theorem acc_apply (a : Fin 512) (j : Fin 2048) (n : Nat) (hn : n < 11) :
    (accAt m c (pt b ⟨n, hn⟩) (ix2 a j) : EReal) = ∑ k : Fin (n + 1), chunk m c (row b a) ⟨k.val, by omega⟩ j := by
  induction n with
  | zero =>
    rw [accAt_first m c _ (by rw [pt_mod]), step_apply, pay6_apply, zero_add, Fin.sum_univ_castSucc, Finset.univ_eq_empty, Finset.sum_empty, zero_add]
    rfl
  | succ n ih =>
    rw [accAt_next m c _ (by rw [pt_mod]; show n + 1 ≠ 0; omega), step_apply, Fin.sum_univ_castSucc]
    have e1 : point ((pt b ⟨n + 1, hn⟩).val - 1) (by have := lt176 (pt b ⟨n + 1, hn⟩); omega) = pt b ⟨n, by omega⟩ := Fin.ext (by
      show 11 * b.val + (n + 1) - 1 = 11 * b.val + n; omega)
    rw [e1, ih]
    rfl

/-- The accumulator after a tile's last chunk: the second product. -/
theorem acc_last (a : Fin 512) (j : Fin 2048) : (accAt m c (pt b 10) (ix2 a j) : EReal) = Cert.Ffn.ffn (args m c) (row b a) j :=
  (acc_apply m c b a j 10 (by decide)).trans (Cert.Ffn.sum_chunks fun n => Cert.Ffn.act (args m c) (row b a) n * (args m c).wo n j).symm

/-- The output tile's entries. -/
theorem out_apply (a : Fin 512) (j : Fin 2048) : (outOf m c (pt b 10) (ix2 a j) : EReal) = Cert.Ffn.out (args m c) (row b a) j := by
  unfold outOf
  refine (pay2_apply _ _ _ a j).trans ?_
  unfold Cert.Ffn.out
  rw [inX_apply m c b 10 a j, inS_apply m c b 10 j]
  exact congrArg (fun f => Cert.Ffn.norm _ f _ j) (funext fun k => acc_last m c b a k)

/-- The kernel's first result is the layer's output. -/
theorem outFin_apply (r : Fin 8192) (j : Fin 2048) : (outFin m c (ix2 r j) : EReal) = Cert.Ffn.out (args m c) r j := by
  have e := out_apply m c ⟨r.val / 512, by omega⟩ ⟨r.val % 512, by omega⟩ j
  have er : row ⟨r.val / 512, by omega⟩ ⟨r.val % 512, by omega⟩ = r := Fin.ext (by show 512 * (r.val / 512) + r.val % 512 = r.val; omega)
  rw [er] at e
  exact e

/-- The kernel's second result is the gate at each sequence's last two rows. -/
theorem convFin_apply (s : Fin 4) (i : Fin 2) (n : Fin 5632) :
    (convFin m c (ix3 s i n) : EReal) = Cert.Ffn.gate (args m c) ⟨2048 * s.val + 2046 + i.val, by omega⟩ n := by
  have e := (pay13_apply (gate m c (pt ⟨4 * s.val + 3, by omega⟩ ⟨n.val / 512, by omega⟩)) ⟨6 + i.val, by omega⟩ ⟨n.val % 512, by omega⟩).trans
    (gate_apply m c ⟨4 * s.val + 3, by omega⟩ ⟨n.val / 512, by omega⟩ ⟨504 + (6 + i.val), by omega⟩ ⟨n.val % 512, by omega⟩)
  have er : row ⟨4 * s.val + 3, by omega⟩ ⟨504 + (6 + i.val), by omega⟩ = ⟨2048 * s.val + 2046 + i.val, by omega⟩ := Fin.ext (by
    show 512 * (4 * s.val + 3) + (504 + (6 + i.val)) = 2048 * s.val + 2046 + i.val; omega)
  have ec : col ⟨n.val / 512, by omega⟩ ⟨n.val % 512, by omega⟩ = n := Fin.ext (by show 512 * (n.val / 512) + n.val % 512 = n.val; omega)
  rw [er, ec] at e
  exact e

end Cert.Kernel2Ideal.Hand
-- ==== Proof.FfnRef.lean ====
/- The plain feed-forward program's results over the extended reals: the layer's output and its convolution state. -/
module

public import proofs.«01_k».proof.Proof.FfnSpec
public import proofs.«01_k».proof.Proof.Gen.Reference2Ideal.Run
public import Idealize.ShloMosaic.Lib.Pointwise

@[expose] public section

set_option synthInstance.maxSize 4096
set_option maxRecDepth 16384

noncomputable section

namespace Cert.Reference2Ideal.Hand

open Cert.Reference2Ideal Cert.Reference2Ideal.Gen Cert.Reference2Ideal.Value
open Idealize.ShloMosaic Idealize.ShloMosaic.TcCoe Idealize.ShloMosaic.Tactic
open Idealize.SL
open Cert.Ffn (lit)

/-- Row `t` of sequence `s`. -/
def srow (s : Fin 4) (t : Fin 2048) : Fin 8192 := ⟨2048 * s.val + t.val, by omega⟩

/-! ## The program's arrays, each of the ones before it -/

/-- The first product. -/
def both (h : FVec Ideal S8192x2048 .bf16) (w : FVec Ideal S1x2048x11264 .f32) : FVec Ideal S4x2048x11264 .f32 :=
  Host.dotGeneral dot_S4x2048x2048_S2048x11264_S4x2048x11264_2_0_01_1_n_n none
    (shapeCast S4x2048x2048 (extf .f32 h bitsLt_bf16_f32) shapeCasts_S8192x2048_S4x2048x2048) (shapeCast S2048x11264 w shapeCasts_S1x2048x11264_S2048x11264)
/-- Its gate half. -/
def gateA (u : FVec Ideal S4x2048x11264 .f32) : FVec Ideal S4x2048x5632 .f32 :=
  extractStridedSlice S4x2048x5632 ![0, 0, 0] u slices_S4x2048x11264_S4x2048x5632_0_0_0
/-- Its up half. -/
def upA (u : FVec Ideal S4x2048x11264 .f32) : FVec Ideal S4x2048x5632 .f32 :=
  extractStridedSlice S4x2048x5632 ![0, 0, 5632] u slices_S4x2048x11264_S4x2048x5632_0_0_5632
/-- The gate with two zero rows before each sequence. -/
def padA (g : FVec Ideal S4x2048x5632 .f32) : FVec Ideal S4x2050x5632 .f32 :=
  concatenate S4x2050x5632 1 [⟨S4x2x5632, (broadcastInDim S4x2x5632 ![] bcast_S_S4x2x5632 (constant S_ .f32 0x00000000#32))⟩, ⟨S4x2048x5632, g⟩]
    concatenates_S4x2x5632_S4x2048x5632_S4x2050x5632_d1
/-- A row of columns at every row. -/
def wide (v : FVec Ideal S5632 .f32) : FVec Ideal S4x2048x5632 .f32 :=
  broadcastInDim S4x2048x5632 ![0, 1, 2] bcast_S1x1x5632_S4x2048x5632_0_1_2 (broadcastInDim S1x1x5632 ![2] bcast_S5632_S1x1x5632_2 v)
/-- The literal `b` at every entry. -/
def litA (b : BitVec 32) : FVec Ideal S4x2048x5632 .f32 := broadcastInDim S4x2048x5632 ![] bcast_S_S4x2048x5632 (constant S_ .f32 b)
/-- The convolution. -/
def convA (p : FVec Ideal S4x2050x5632 .f32) (cw : FVec Ideal S1x3x5632 .f32) (cb : FVec Ideal S1x5632 .f32) : FVec Ideal S4x2048x5632 .f32 :=
  addf (wide (shapeCast S5632 cb shapeCasts_S1x5632_S5632)) (addf (addf (addf (litA 0x00000000#32)
    (mulf (wide (shapeCast S5632 (extractStridedSlice S1x5632 ![0, 0] (shapeCast S3x5632 cw shapeCasts_S1x3x5632_S3x5632) slices_S3x5632_S1x5632_0_0) shapeCasts_S1x5632_S5632))
      (extractStridedSlice S4x2048x5632 ![0, 0, 0] p slices_S4x2050x5632_S4x2048x5632_0_0_0)))
    (mulf (wide (shapeCast S5632 (extractStridedSlice S1x5632 ![1, 0] (shapeCast S3x5632 cw shapeCasts_S1x3x5632_S3x5632) slices_S3x5632_S1x5632_1_0) shapeCasts_S1x5632_S5632))
      (extractStridedSlice S4x2048x5632 ![0, 1, 0] p slices_S4x2050x5632_S4x2048x5632_0_1_0)))
    (mulf (wide (shapeCast S5632 (extractStridedSlice S1x5632 ![2, 0] (shapeCast S3x5632 cw shapeCasts_S1x3x5632_S3x5632) slices_S3x5632_S1x5632_2_0) shapeCasts_S1x5632_S5632))
      (extractStridedSlice S4x2048x5632 ![0, 2, 0] p slices_S4x2050x5632_S4x2048x5632_0_2_0)))
/-- The activated product. -/
def actA (z u : FVec Ideal S4x2048x5632 .f32) : FVec Ideal S4x2048x5632 .f32 :=
  mulf (mulf z (mulf (litA 0x3F000000#32) (addf (litA 0x3F800000#32) (Host.tanh (mulf (litA 0x3F4C422A#32)
    (addf z (mulf (litA 0x3D372713#32) (mulf (mulf z z) z)))))))) u
/-- The second product. -/
def ffnA (a : FVec Ideal S4x2048x5632 .f32) (wo : FVec Ideal S1x5632x2048 .f32) : FVec Ideal S4x2048x2048 .f32 :=
  Host.dotGeneral dot_S4x2048x5632_S5632x2048_S4x2048x2048_2_0_01_1_n_n none a (shapeCast S5632x2048 wo shapeCasts_S1x5632x2048_S5632x2048)
/-- The residual plus the normed second product. -/
def normA (x : FVec Ideal S8192x2048 .f32) (f : FVec Ideal S4x2048x2048 .f32) (g : FVec Ideal S1x2048 .f32) : FVec Ideal S8192x2048 .f32 :=
  shapeCast S8192x2048 (addf (shapeCast S4x2048x2048 x shapeCasts_S8192x2048_S4x2048x2048) (mulf (mulf f
    (broadcastInDim S4x2048x2048 ![0, 1, 2] bcast_S4x2048x1_S4x2048x2048_0_1_2 (Host.rsqrt (addf (Host.divf
      (broadcastInDim S4x2048x1 ![0, 1] bcast_S4x2048_S4x2048x1_0_1 (Host.reduceAdd (mulf f f) (constant S_ .f32 0x00000000#32) reducesTo_S4x2048x2048_S4x2048_d2 h_S_))
      (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2
      (shapeCast S2048 g shapeCasts_S1x2048_S2048))))) shapeCasts_S4x2048x2048_S8192x2048

/-! ## Their entries -/

theorem both_apply (h : FVec Ideal S8192x2048 .bf16) (w : FVec Ideal S1x2048x11264 .f32) (s : Fin 4) (t : Fin 2048) (n : Fin 11264) :
    (both h w (ix3 s t n) : EReal) = ∑ k : Fin 2048, (h (ix2 (srow s t) k) : EReal) * (w (ix3 0 k n) : EReal) := by
  unfold both
  pointwise
  refine congrArg (fun f : Fin 2048 → EReal => ∑ k, f k) (funext fun k => ?_)
  exact congrArg₂ (fun x y : EReal => x * y) (congrArg (fun r => h (ix2 r k)) (Fin.ext (by
    show s.val * 2048 + t.val = 2048 * s.val + t.val; omega))) rfl

theorem gateA_apply (u : FVec Ideal S4x2048x11264 .f32) (s : Fin 4) (t : Fin 2048) (n : Fin 5632) :
    gateA u (ix3 s t n) = u (ix3 s t ⟨n.val, by omega⟩) := by
  unfold gateA
  pointwise

theorem upA_apply (u : FVec Ideal S4x2048x11264 .f32) (s : Fin 4) (t : Fin 2048) (n : Fin 5632) :
    upA u (ix3 s t n) = u (ix3 s t ⟨n.val + 5632, by omega⟩) := by
  unfold upA
  pointwise
  exact congrArg (fun y => u (ix3 s t y)) (Fin.ext (Nat.add_comm _ _))

theorem padA_apply (g : FVec Ideal S4x2048x5632 .f32) (s : Fin 4) (u : Fin 2050) (n : Fin 5632) :
    (padA g (ix3 s u n) : EReal) = if h : u.val < 2 then 0 else (g (ix3 s ⟨u.val - 2, by omega⟩ n) : EReal) := by
  unfold padA
  pointwise

theorem wide_apply (v : FVec Ideal S5632 .f32) (s : Fin 4) (t : Fin 2048) (n : Fin 5632) : wide v (ix3 s t n) = v (ix1 n) := by
  unfold wide
  pointwise

theorem litA_apply (b : BitVec 32) (s : Fin 4) (t : Fin 2048) (n : Fin 5632) : (litA b (ix3 s t n) : EReal) = lit b := by
  unfold litA
  pointwise

theorem cb_apply (cb : FVec Ideal S1x5632 .f32) (n : Fin 5632) : shapeCast S5632 cb shapeCasts_S1x5632_S5632 (ix1 n) = cb (ix2 0 n) := by
  pointwise

theorem tap0_apply (cw : FVec Ideal S1x3x5632 .f32) (n : Fin 5632) :
    shapeCast S5632 (extractStridedSlice S1x5632 ![0, 0] (shapeCast S3x5632 cw shapeCasts_S1x3x5632_S3x5632) slices_S3x5632_S1x5632_0_0) shapeCasts_S1x5632_S5632 (ix1 n)
      = cw (ix3 0 0 n) := by
  pointwise

theorem tap1_apply (cw : FVec Ideal S1x3x5632 .f32) (n : Fin 5632) :
    shapeCast S5632 (extractStridedSlice S1x5632 ![1, 0] (shapeCast S3x5632 cw shapeCasts_S1x3x5632_S3x5632) slices_S3x5632_S1x5632_1_0) shapeCasts_S1x5632_S5632 (ix1 n)
      = cw (ix3 0 1 n) := by
  pointwise

theorem tap2_apply (cw : FVec Ideal S1x3x5632 .f32) (n : Fin 5632) :
    shapeCast S5632 (extractStridedSlice S1x5632 ![2, 0] (shapeCast S3x5632 cw shapeCasts_S1x3x5632_S3x5632) slices_S3x5632_S1x5632_2_0) shapeCasts_S1x5632_S5632 (ix1 n)
      = cw (ix3 0 2 n) := by
  pointwise

theorem at0_apply (p : FVec Ideal S4x2050x5632 .f32) (s : Fin 4) (t : Fin 2048) (n : Fin 5632) :
    extractStridedSlice S4x2048x5632 ![0, 0, 0] p slices_S4x2050x5632_S4x2048x5632_0_0_0 (ix3 s t n) = p (ix3 s ⟨t.val, by omega⟩ n) := by
  pointwise

theorem at1_apply (p : FVec Ideal S4x2050x5632 .f32) (s : Fin 4) (t : Fin 2048) (n : Fin 5632) :
    extractStridedSlice S4x2048x5632 ![0, 1, 0] p slices_S4x2050x5632_S4x2048x5632_0_1_0 (ix3 s t n) = p (ix3 s ⟨t.val + 1, by omega⟩ n) := by
  pointwise
  exact congrArg (fun y => p (ix3 s y n)) (Fin.ext (Nat.add_comm _ _))

theorem at2_apply (p : FVec Ideal S4x2050x5632 .f32) (s : Fin 4) (t : Fin 2048) (n : Fin 5632) :
    extractStridedSlice S4x2048x5632 ![0, 2, 0] p slices_S4x2050x5632_S4x2048x5632_0_2_0 (ix3 s t n) = p (ix3 s ⟨t.val + 2, by omega⟩ n) := by
  pointwise
  exact congrArg (fun y => p (ix3 s y n)) (Fin.ext (Nat.add_comm _ _))

/-- The convolution's entries. -/
theorem convA_apply (p : FVec Ideal S4x2050x5632 .f32) (cw : FVec Ideal S1x3x5632 .f32) (cb : FVec Ideal S1x5632 .f32) (s : Fin 4) (t : Fin 2048) (n : Fin 5632) :
    (convA p cw cb (ix3 s t n) : EReal) = ((((cb (ix2 0 n) : EReal) + (cw (ix3 0 0 n) : EReal) * (p (ix3 s ⟨t.val, by omega⟩ n) : EReal))
      + (cw (ix3 0 1 n) : EReal) * (p (ix3 s ⟨t.val + 1, by omega⟩ n) : EReal)) + (cw (ix3 0 2 n) : EReal) * (p (ix3 s ⟨t.val + 2, by omega⟩ n) : EReal)) := by
  have e : (convA p cw cb (ix3 s t n) : EReal) = (cb (ix2 0 n) : EReal) + (((lit 0x00000000#32 + (cw (ix3 0 0 n) : EReal) * (p (ix3 s ⟨t.val, by omega⟩ n) : EReal))
      + (cw (ix3 0 1 n) : EReal) * (p (ix3 s ⟨t.val + 1, by omega⟩ n) : EReal)) + (cw (ix3 0 2 n) : EReal) * (p (ix3 s ⟨t.val + 2, by omega⟩ n) : EReal)) := by
    unfold convA
    refine congrArg₂ (fun x y : EReal => x + y) ((wide_apply _ s t n).trans (cb_apply cb n)) (congrArg₂ (fun x y : EReal => x + y) (congrArg₂ (fun x y : EReal => x + y)
      (congrArg₂ (fun x y : EReal => x + y) (litA_apply _ s t n) (congrArg₂ (fun x y : EReal => x * y) ((wide_apply _ s t n).trans (tap0_apply cw n)) (at0_apply p s t n)))
      (congrArg₂ (fun x y : EReal => x * y) ((wide_apply _ s t n).trans (tap1_apply cw n)) (at1_apply p s t n)))
      (congrArg₂ (fun x y : EReal => x * y) ((wide_apply _ s t n).trans (tap2_apply cw n)) (at2_apply p s t n)))
  rw [e, show lit 0x00000000#32 = 0 from Ideal.ofBits_zero .f32, zero_add, ← add_assoc, ← add_assoc]

/-- The activated product's entries. -/
theorem actA_apply (z u : FVec Ideal S4x2048x5632 .f32) (s : Fin 4) (t : Fin 2048) (n : Fin 5632) :
    (actA z u (ix3 s t n) : EReal) = Cert.Ffn.gelu (z (ix3 s t n)) * (u (ix3 s t n) : EReal) := by
  have e : (actA z u (ix3 s t n) : EReal) = ((z (ix3 s t n) : EReal) * (lit 0x3F000000#32 * (lit 0x3F800000#32 + Ideal.tanh (lit 0x3F4C422A#32
      * ((z (ix3 s t n) : EReal) + lit 0x3D372713#32 * (((z (ix3 s t n) : EReal) * (z (ix3 s t n) : EReal)) * (z (ix3 s t n) : EReal))))))) * (u (ix3 s t n) : EReal) := by
    unfold actA
    refine congrArg₂ (fun x y : EReal => x * y) (congrArg₂ (fun x y : EReal => x * y) rfl (congrArg₂ (fun x y : EReal => x * y) (litA_apply _ s t n)
      (congrArg₂ (fun x y : EReal => x + y) (litA_apply _ s t n) (congrArg Ideal.tanh (congrArg₂ (fun x y : EReal => x * y) (litA_apply _ s t n)
        (congrArg₂ (fun x y : EReal => x + y) rfl (congrArg₂ (fun x y : EReal => x * y) (litA_apply _ s t n) rfl))))))) rfl
  rw [e]
  unfold Cert.Ffn.gelu
  generalize (z (ix3 s t n) : EReal) = v
  rw [mul_left_comm, ← mul_assoc (lit 0x3F000000#32) v, ← mul_assoc (lit 0x3D372713#32), ← mul_assoc (lit 0x3D372713#32) v v]

/-- The second product's entries. -/
theorem ffnA_apply (a : FVec Ideal S4x2048x5632 .f32) (wo : FVec Ideal S1x5632x2048 .f32) (s : Fin 4) (t j : Fin 2048) :
    (ffnA a wo (ix3 s t j) : EReal) = ∑ n : Fin 5632, (a (ix3 s t n) : EReal) * (wo (ix3 0 n j) : EReal) := by
  unfold ffnA
  pointwise

/-- The normed sum's entries. -/
theorem normA_apply (x : FVec Ideal S8192x2048 .f32) (f : FVec Ideal S4x2048x2048 .f32) (g : FVec Ideal S1x2048 .f32) (s : Fin 4) (t j : Fin 2048) :
    (normA x f g (ix2 (srow s t) j) : EReal) = Cert.Ffn.norm (x (ix2 (srow s t) j)) (fun k => f (ix3 s t k)) (g (ix2 0 j)) j := by
  unfold normA
  refine (shapeCast_apply _ _ (ix2 (srow s t) j) (ix3 s t j) (by
    rw [Shape.rowMajor_val_three, Shape.rowMajor_val_two]
    show (s.val * 2048 + t.val) * 2048 + j.val = (2048 * s.val + t.val) * 2048 + j.val
    omega)).trans ?_
  unfold Cert.Ffn.norm
  pointwise
  have er : (⟨s.val * 2048 + t.val, by omega⟩ : Fin 8192) = srow s t := Fin.ext (by show s.val * 2048 + t.val = 2048 * s.val + t.val; omega)
  rw [er]

/-! ## The results -/

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The operands as launched. -/
def args : Cert.Ffn.Args where
  x r k := arg m c main_arg0 (ix2 r k)
  h r k := arg m c main_arg1 (ix2 r k)
  w k n := arg m c main_arg2 (ix3 0 k n)
  cw d n := arg m c main_arg3 (ix3 0 d n)
  cb n := arg m c main_arg4 (ix2 0 n)
  wo n j := arg m c main_arg5 (ix3 0 n j)
  g j := arg m c main_arg6 (ix2 0 j)

/-- The gate's array. -/
def gateM : FVec Ideal S4x2048x5632 .f32 := gateA (both (arg m c main_arg1) (arg m c main_arg2))
/-- The up-projection's array. -/
def upM : FVec Ideal S4x2048x5632 .f32 := upA (both (arg m c main_arg1) (arg m c main_arg2))
/-- The convolution's array. -/
def convM : FVec Ideal S4x2048x5632 .f32 := convA (padA (gateM m c)) (arg m c main_arg3) (arg m c main_arg4)
/-- The second product's array. -/
def ffnM : FVec Ideal S4x2048x2048 .f32 := ffnA (actA (convM m c) (upM m c)) (arg m c main_arg5)
/-- The convolution state's array. -/
def stateM : FVec Ideal S4x2x5632 .f32 := extractStridedSlice S4x2x5632 ![0, 2048, 0] (padA (gateM m c)) slices_S4x2050x5632_S4x2x5632_0_2048_0

/-- The program's first result, by these arrays. -/
theorem res_eq : res_main_v68 m c = normA (arg m c main_arg0) (ffnM m c) (arg m c main_arg6) := rfl

/-- The gate's entries. -/
theorem gateM_apply (s : Fin 4) (t : Fin 2048) (n : Fin 5632) : (gateM m c (ix3 s t n) : EReal) = Cert.Ffn.gate (args m c) (srow s t) n :=
  (gateA_apply _ s t n).trans (both_apply _ _ s t _)

/-- The up-projection's entries. -/
theorem upM_apply (s : Fin 4) (t : Fin 2048) (n : Fin 5632) : (upM m c (ix3 s t n) : EReal) = Cert.Ffn.up (args m c) (srow s t) n :=
  (upA_apply _ s t n).trans (both_apply _ _ s t _)

/-- The padded gate `2 - d` rows on: the gate `d` rows back. -/
theorem pad_apply (s : Fin 4) (t : Fin 2048) (d : Nat) (hd : d ≤ 2) (n : Fin 5632) :
    (padA (gateM m c) (ix3 s ⟨t.val + (2 - d), by omega⟩ n) : EReal) = Cert.Ffn.back (args m c) d (srow s t) n := by
  rw [padA_apply]
  unfold Cert.Ffn.back
  have hr : (srow s t).val = 2048 * s.val + t.val := rfl
  by_cases h : d ≤ t.val
  · rw [dif_neg (by show ¬t.val + (2 - d) < 2; omega), if_pos (by rw [hr]; omega), gateM_apply]
    exact congrArg (fun r => Cert.Ffn.gate (args m c) r n) (Fin.ext (by show 2048 * s.val + (t.val + (2 - d) - 2) = 2048 * s.val + t.val - d; omega))
  · rw [dif_pos (by show t.val + (2 - d) < 2; omega), if_neg (by rw [hr]; omega)]

/-- The convolution's entries. -/
theorem convM_apply (s : Fin 4) (t : Fin 2048) (n : Fin 5632) : (convM m c (ix3 s t n) : EReal) = Cert.Ffn.conv (args m c) (srow s t) n := by
  refine (convA_apply _ _ _ s t n).trans ?_
  unfold Cert.Ffn.conv
  have e0 : Cert.Ffn.back (args m c) 0 (srow s t) n = Cert.Ffn.gate (args m c) (srow s t) n := if_pos (Nat.zero_le _)
  exact congrArg₂ (fun x y : EReal => x + y) (congrArg₂ (fun x y : EReal => x + y) (congrArg (fun y : EReal => _ + y)
    (congrArg (fun y : EReal => _ * y) (pad_apply m c s t 2 (by decide) n)))
    (congrArg (fun y : EReal => _ * y) (pad_apply m c s t 1 (by decide) n)))
    (congrArg (fun y : EReal => _ * y) ((pad_apply m c s t 0 (by decide) n).trans e0))

/-- The second product's entries. -/
theorem ffnM_apply (s : Fin 4) (t j : Fin 2048) : (ffnM m c (ix3 s t j) : EReal) = Cert.Ffn.ffn (args m c) (srow s t) j := by
  refine (ffnA_apply _ _ s t j).trans ?_
  unfold Cert.Ffn.ffn
  refine congrArg (fun f : Fin 5632 → EReal => ∑ n, f n) (funext fun n => congrArg (fun x : EReal => x * _) ?_)
  exact (actA_apply _ _ s t n).trans (congrArg₂ (fun x y : EReal => Cert.Ffn.gelu x * y) (convM_apply m c s t n) (upM_apply m c s t n))

/-- The program's first result is the layer's output. -/
theorem res_apply (s : Fin 4) (t j : Fin 2048) : (res_main_v68 m c (ix2 (srow s t) j) : EReal) = Cert.Ffn.out (args m c) (srow s t) j := by
  rw [res_eq]
  refine (normA_apply _ _ _ s t j).trans ?_
  exact congrArg (fun f => Cert.Ffn.norm _ f _ j) (funext fun k => ffnM_apply m c s t k)

/-- The program's second result is the gate at each sequence's last two rows. -/
theorem state_apply (s : Fin 4) (i : Fin 2) (n : Fin 5632) :
    (stateM m c (ix3 s i n) : EReal) = Cert.Ffn.gate (args m c) ⟨2048 * s.val + 2046 + i.val, by omega⟩ n := by
  have e (p : FVec Ideal S4x2050x5632 .f32) : extractStridedSlice S4x2x5632 ![0, 2048, 0] p slices_S4x2050x5632_S4x2x5632_0_2048_0 (ix3 s i n)
      = p (ix3 s ⟨2048 + i.val, by omega⟩ n) := by
    pointwise
  refine (e _).trans ?_
  rw [padA_apply, dif_neg (by show ¬2048 + i.val < 2; omega), gateM_apply]
  exact congrArg (fun r => Cert.Ffn.gate (args m c) r n) (Fin.ext (by show 2048 * s.val + (2048 + i.val - 2) = 2048 * s.val + 2046 + i.val; omega))

end Cert.Reference2Ideal.Hand
-- ==== Proof.FfnEqual.lean ====
/- The feed-forward kernel's results are the plain program's. -/
module

public import proofs.«01_k».proof.Proof.FfnTiles
public import proofs.«01_k».proof.Proof.FfnRef

@[expose] public section

set_option synthInstance.maxSize 4096
set_option maxRecDepth 16384

noncomputable section

namespace Cert.Ffn.Equal

open Idealize.ShloMosaic Idealize.ShloMosaic.TcCoe Idealize.SL

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The operands of the two programs are the same. -/
theorem args_eq
    (e0 : Cert.Reference2Ideal.Hand.arg m' c Cert.Reference2Ideal.main_arg0 = Cert.Kernel2Ideal.Hand.arg m c Cert.Kernel2Ideal.main_arg0)
    (e1 : Cert.Reference2Ideal.Hand.arg m' c Cert.Reference2Ideal.main_arg1 = Cert.Kernel2Ideal.Hand.arg m c Cert.Kernel2Ideal.main_arg1)
    (e2 : Cert.Reference2Ideal.Hand.arg m' c Cert.Reference2Ideal.main_arg2 = Cert.Kernel2Ideal.Hand.arg m c Cert.Kernel2Ideal.main_arg2)
    (e3 : Cert.Reference2Ideal.Hand.arg m' c Cert.Reference2Ideal.main_arg3 = Cert.Kernel2Ideal.Hand.arg m c Cert.Kernel2Ideal.main_arg3)
    (e4 : Cert.Reference2Ideal.Hand.arg m' c Cert.Reference2Ideal.main_arg4 = Cert.Kernel2Ideal.Hand.arg m c Cert.Kernel2Ideal.main_arg4)
    (e5 : Cert.Reference2Ideal.Hand.arg m' c Cert.Reference2Ideal.main_arg5 = Cert.Kernel2Ideal.Hand.arg m c Cert.Kernel2Ideal.main_arg5)
    (e6 : Cert.Reference2Ideal.Hand.arg m' c Cert.Reference2Ideal.main_arg6 = Cert.Kernel2Ideal.Hand.arg m c Cert.Kernel2Ideal.main_arg6) :
    Cert.Reference2Ideal.Hand.args m' c = Cert.Kernel2Ideal.Hand.args m c := by
  have ext (o o' : Args) (hx : o.x = o'.x) (hh : o.h = o'.h) (hw : o.w = o'.w) (hc : o.cw = o'.cw) (hb : o.cb = o'.cb) (ho : o.wo = o'.wo)
      (hg : o.g = o'.g) : o = o' := by
    cases o; cases o'; cases hx; cases hh; cases hw; cases hc; cases hb; cases ho; cases hg; rfl
  exact ext _ _
    (funext fun a => funext fun b => congrFun e0 (ix2 a b))
    (funext fun a => funext fun b => congrFun e1 (ix2 a b))
    (funext fun a => funext fun b => congrFun e2 (ix3 0 a b))
    (funext fun a => funext fun b => congrFun e3 (ix3 0 a b))
    (funext fun b => congrFun e4 (ix2 0 b))
    (funext fun a => funext fun b => congrFun e5 (ix3 0 a b))
    (funext fun b => congrFun e6 (ix2 0 b))

/-- The kernel's output is the plain program's. -/
theorem out_eq (ea : Cert.Reference2Ideal.Hand.args m' c = Cert.Kernel2Ideal.Hand.args m c) :
    Cert.Reference2Ideal.Value.res_main_v68 m' c = Cert.Kernel2Ideal.Hand.outFin m c := by
  funext x
  obtain ⟨s, t, j, rfl⟩ : ∃ (s : Fin 4) (t j : Fin 2048), x = ix2 (Cert.Reference2Ideal.Hand.srow s t) j := by
    have l0 : (x 0).val < 8192 := (x 0).isLt
    refine ⟨⟨(x 0).val / 2048, by omega⟩, ⟨(x 0).val % 2048, by omega⟩, x 1, ?_⟩
    funext a
    match a with
    | 0 => exact Fin.ext (by show (x 0).val = 2048 * ((x 0).val / 2048) + (x 0).val % 2048; omega)
    | 1 => rfl
  refine (Cert.Reference2Ideal.Hand.res_apply m' c s t j).trans (Eq.trans ?_ (Cert.Kernel2Ideal.Hand.outFin_apply m c _ j).symm)
  rw [ea]

/-- The kernel's convolution state is the plain program's. -/
theorem state_eq (ea : Cert.Reference2Ideal.Hand.args m' c = Cert.Kernel2Ideal.Hand.args m c) :
    Cert.Reference2Ideal.Hand.stateM m' c = Cert.Kernel2Ideal.Hand.convFin m c := by
  funext x
  obtain ⟨s, i, n, rfl⟩ : ∃ (s : Fin 4) (i : Fin 2) (n : Fin 5632), x = ix3 s i n :=
    ⟨x 0, x 1, x 2, by funext a; match a with | 0 => rfl | 1 => rfl | 2 => rfl⟩
  refine (Cert.Reference2Ideal.Hand.state_apply m' c s i n).trans (Eq.trans ?_ (Cert.Kernel2Ideal.Hand.convFin_apply m c s i n).symm)
  rw [ea]

end Cert.Ffn.Equal

end
-- ==== Proof.ProjOut.lean ====
/- The projection kernel's result over the extended reals: the columns from 1024 on of the rows times the weights. -/
module

public import proofs.«01_k».proof.Proof.Gen.Kernel3Ideal.Value
public import Idealize.ShloMosaic.Lib.StableHlo.ReadAt
public import Idealize.ShloMosaic.Lib.Pointwise
public import Idealize.ShloMosaic.PureOps.Ideal.Laws

@[expose] public section

set_option synthInstance.maxSize 4096
set_option maxRecDepth 16384

noncomputable section

namespace Cert.Kernel3Ideal.Hand

open Cert.Kernel3Ideal Cert.Kernel3Ideal.Gen Cert.Kernel3Ideal.Value
open Idealize.ShloMosaic Idealize.ShloMosaic.TcCoe Idealize.ShloMosaic.Tactic
open Idealize.SL

/-! ## What a point stores -/

section Any
variable {F : FTy → Type} [FloatOps F]

theorem origin : (![0, 0] : Fin 2 → Nat) = fun _ => 0 := funext fun a => by fin_cases a <;> rfl

/-- At a column tile's first point the scratch is left with the rounded weights. -/
theorem scratch_first (c : Dev nD) (i : grid0.Coords) (a2 : Memref sig .tc .vmem S1088x2048 .bf16) (h2 : a2.IsWhole) (a3 : Memref sig .tc .vmem S1024x2048 .f32) (h3 : a3.IsWhole)
    (a4 : Memref sig .tc .vmem S1088x1024 .f32) (h4 : a4.IsWhole) (a5 : Memref sig .tc .vmem S1024x2048 .bf16) (h5 : a5.IsWhole) (hc : cond0_0 i)
    (x : Vec F S1088x2048 .bf16) (w : Vec F S1024x2048 .f32) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S1024x2048) origin]
  simp only [View.readAt_eq_ld, h3.read_unread, View.ld_unit_zero (S := S1024x2048) origin]

/-- At a column tile's first point the output block is the product with the weights just rounded. -/
theorem store_first (c : Dev nD) (i : grid0.Coords) (a2 : Memref sig .tc .vmem S1088x2048 .bf16) (h2 : a2.IsWhole) (a3 : Memref sig .tc .vmem S1024x2048 .f32) (h3 : a3.IsWhole)
    (a4 : Memref sig .tc .vmem S1088x1024 .f32) (h4 : a4.IsWhole) (a5 : Memref sig .tc .vmem S1024x2048 .bf16) (h5 : a5.IsWhole) (hc : cond0_0 i)
    (x : Vec F S1088x2048 .bf16) (w : Vec F S1024x2048 .f32) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1088x1024) origin, View.readCov_unit_zero (S := S1024x2048) _ origin]
  simp only [View.readAt_eq_ld, h2.read_unread, h3.read_unread, View.ld_unit_zero (S := S1024x2048) origin, View.ld_unit_zero (S := S1088x2048) origin]

/-- At a column tile's later points the output block is the product with the scratch's weights. -/
theorem store_next (c : Dev nD) (i : grid0.Coords) (a2 : Memref sig .tc .vmem S1088x2048 .bf16) (h2 : a2.IsWhole) (a3 : Memref sig .tc .vmem S1024x2048 .f32) (h3 : a3.IsWhole)
    (a4 : Memref sig .tc .vmem S1088x1024 .f32) (h4 : a4.IsWhole) (a5 : Memref sig .tc .vmem S1024x2048 .bf16) (h5 : a5.IsWhole) (hc : ¬cond0_0 i)
    (x : Vec F S1088x2048 .bf16) (w : Vec F S1024x2048 .f32) (s : Vec F S1024x2048 .bf16) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero (S := S1088x1024) origin]
  simp only [View.readAt_eq_ld, h2.read_unread, h5.read_unread, View.ld_unit_zero (S := S1024x2048) origin, View.ld_unit_zero (S := S1088x2048) origin]

end Any

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-! ## Where the blocks lie -/

theorem lt16 (t : Fin cfg0.N) : t.val < 16 := lt_of_lt_of_eq t.isLt N_0
theorem index_0 : ∀ t : Fin cfg0.N, win0_0.index t 0 = t.val % 8 ∧ win0_0.index t 1 = 0 := by decide +kernel
theorem index_1 : ∀ t : Fin cfg0.N, win0_1.index t 0 = 1024 + 1024 * (t.val / 8) ∧ win0_1.index t 1 = 0 := by decide +kernel

/-- The transposed weights. -/
theorem V_v1 (a : Fin 8480) (b : Fin 2048) : V m c main_v1 (ix2 a b) = arg m c main_arg1 (ix3 0 b a) := by
  unfold V
  after_reads_at

/-- A point's block of rows. -/
theorem rows_apply (t : Fin cfg0.N) (a : Fin 1088) (k : Fin 2048) :
    (iblk m c 0 t : Vec Ideal S1088x2048 .bf16) (ix2 a k) = arg m c main_arg0 (ix2 ⟨1088 * (t.val % 8) + a.val, by omega⟩ k) := by
  refine (congrFun (V_main_arg0 m c) _).trans (congrArg (arg m c main_arg0) (funext fun x => Fin.ext ?_))
  match x with
  | 0 => exact (win0_0.rect_emb_val t _ 0).trans (by rw [(index_0 t).1]; show t.val % 8 * 1088 + a.val = 1088 * (t.val % 8) + a.val; omega)
  | 1 => exact (win0_0.rect_emb_val t _ 1).trans (by rw [(index_0 t).2]; show 0 * 2048 + k.val = k.val; omega)

/-- A point's block of weights. -/
theorem weights_apply (t : Fin cfg0.N) (b : Fin 1024) (k : Fin 2048) :
    (iblk m c 1 t : Vec Ideal S1024x2048 .f32) (ix2 b k) = arg m c main_arg1 (ix3 0 k ⟨1024 + 1024 * (t.val / 8) + b.val, by have := lt16 t; omega⟩) := by
  refine Eq.trans (congrArg (V m c main_v1) (funext fun x => Fin.ext ?_))
    (V_v1 m c ⟨1024 + 1024 * (t.val / 8) + b.val, by have := lt16 t; omega⟩ k)
  match x with
  | 0 => exact (win0_1.rect_emb_val_off t _ 0).trans (by rw [(index_1 t).1]; rfl)
  | 1 => exact (win0_1.rect_emb_val_off t _ 1).trans (by rw [(index_1 t).2]; exact Nat.zero_add _)

/-! ## The payloads at an entry -/

theorem pay1_apply (w : Vec Ideal S1024x2048 .f32) (b : Fin 1024) (k : Fin 2048) : (k0_pay1 w (ix2 b k) : EReal) = (w (ix2 b k) : EReal) := by
  unfold k0_pay1
  pointwise

theorem pay2_apply (x : Vec Ideal S1088x2048 .bf16) (w : Vec Ideal S1024x2048 .bf16) (a : Fin 1088) (b : Fin 1024) :
    k0_pay2 x w (ix2 a b) = ∑ k : Fin 2048, (x (ix2 a k) : EReal) * (w (ix2 b k) : EReal) := by
  unfold k0_pay2
  pointwise

/-- An entry of the rows. -/
def X (i : Fin 8704) (k : Fin 2048) : EReal := arg m c main_arg0 (ix2 i k)
/-- An entry of the weights. -/
def W (k : Fin 2048) (j : Fin 8480) : EReal := arg m c main_arg1 (ix3 0 k j)

/-- The output block and the scratch after a column tile's first point. -/
theorem outs_first (t : Fin cfg0.N) (h : t.val % 8 = 0) :
    outsAt0 m c t.val t.isLt = (k0_pay2 (iblk m c 0 t) (k0_pay1 (iblk m c 1 t)), k0_pay1 (iblk m c 1 t)) := by
  rw [outsAt0_A m c t h, store_first, scratch_first]

/-- The output block and the scratch after a column tile's later points. -/
theorem outs_next (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, store_next]
  unfold sout0_B_0
  rfl

/-- The scratch after a column tile's first point. -/
theorem scratch_at (t : Fin cfg0.N) (h : t.val % 8 = 0) (b : Fin 1024) (k : Fin 2048) (j : Fin 8480) (hj : j.val = 1024 + 1024 * (t.val / 8) + b.val) :
    ((outsAt0 m c t.val t.isLt).2 (ix2 b k) : EReal) = W m c k j := by
  have e : (outsAt0 m c t.val t.isLt).2 = k0_pay1 (iblk m c 1 t) := by rw [outs_first m c t h]
  have hw : ((iblk m c 1 t : Vec Ideal S1024x2048 .f32) (ix2 b k) : EReal) = W m c k j :=
    Eq.trans (weights_apply m c t b k) (congrArg (W m c k) (Fin.ext hj.symm))
  rw [e]
  exact Eq.trans (pay1_apply (iblk m c 1 t) b k) hw

/-- The scratch after a column tile's later points. -/
theorem scratch_kept (t : Fin cfg0.N) (h : ¬t.val % 8 = 0) :
    (outsAt0 m c t.val t.isLt).2 = (outsAt0 m c (t.val - 1) (Nat.lt_of_le_of_lt (Nat.sub_le _ _) t.isLt)).2 := by
  rw [outs_next m c t h]

/-- What the scratch holds after a point: the rounded weights of its column tile. -/
theorem scratch_apply (b : Fin 1024) (k : Fin 2048) (n : Nat) : ∀ (t : Fin cfg0.N), t.val = n → ∀ j : Fin 8480, j.val = 1024 + 1024 * (n / 8) + b.val →
    ((outsAt0 m c t.val t.isLt).2 (ix2 b k) : EReal) = W m c k j := by
  induction n with
  | zero => exact fun t ht j hj => scratch_at m c t (by rw [ht]) b k j (by rw [ht]; exact hj)
  | succ n ih =>
    intro t ht j hj
    by_cases h : t.val % 8 = 0
    · exact scratch_at m c t h b k j (by rw [ht]; exact hj)
    · rw [scratch_kept m c t h]
      exact ih ⟨t.val - 1, Nat.lt_of_le_of_lt (Nat.sub_le _ _) t.isLt⟩ (by show t.val - 1 = n; omega) j (by omega)

/-- What a point leaves in its output block. -/
theorem store_apply (t : Fin cfg0.N) (a : Fin 1088) (b : Fin 1024) :
    ((outsAt0 m c t.val t.isLt).1 (ix2 a b) : EReal) = ∑ k : Fin 2048, X m c ⟨1088 * (t.val % 8) + a.val, by omega⟩ k
      * W m c k ⟨1024 + 1024 * (t.val / 8) + b.val, by have := lt16 t; omega⟩ := by
  by_cases h : t.val % 8 = 0
  · rw [outs_first m c t h]
    refine (pay2_apply _ _ a b).trans (congrArg (fun f : Fin 2048 → EReal => ∑ k, f k) (funext fun k => ?_))
    exact congrArg₂ (fun x y : EReal => x * y) (rows_apply m c t a k) ((pay1_apply _ b k).trans (weights_apply m c t b k))
  · rw [outs_next m c t h]
    refine (pay2_apply _ _ a b).trans (congrArg (fun f : Fin 2048 → EReal => ∑ k, f k) (funext fun k => ?_))
    exact congrArg₂ (fun x y : EReal => x * y) (rows_apply m c t a k)
      (scratch_apply m c b k (t.val - 1) ⟨t.val - 1, Nat.lt_of_le_of_lt (Nat.sub_le _ _) t.isLt⟩ rfl _ (by
        show 1024 + 1024 * (t.val / 8) + b.val = 1024 + 1024 * ((t.val - 1) / 8) + b.val
        omega))

/-- The result's entries: the rows times the weights' columns from 1024 on. -/
theorem result_apply (i : Fin 8704) (j : Fin 2048) :
    (G2 m c (ix2 i j) : EReal) = ∑ k : Fin 2048, X m c i k * W m c k ⟨1024 + j.val, by omega⟩ := by
  have hp : pt2Of (ix2 i j) = i.val / 1088 + 8 * (j.val / 1024) := by
    show 1 * (i.val / 1088 - 0) + 8 * (j.val / 1024 - 0) = _
    omega
  have hN : pt2Of (ix2 i j) < cfg0.N := by rw [hp, show cfg0.N = 16 from N_0]; omega
  have hl : loc2Of (ix2 i j) = ix2 (⟨i.val % 1088, Nat.mod_lt _ (by decide)⟩ : Fin 1088) (⟨j.val % 1024, Nat.mod_lt _ (by decide)⟩ : Fin 1024) := by
    funext a
    match a with
    | 0 => rfl
    | 1 => rfl
  unfold G2
  rw [dif_pos hN, ← outsAt0_sweep m c _ hN, hl]
  refine (store_apply m c ⟨pt2Of (ix2 i j), hN⟩ _ _).trans (congrArg (fun f : Fin 2048 → EReal => ∑ k, f k) (funext fun k => ?_))
  refine congrArg₂ (fun x y : EReal => x * y) (congrArg (fun y => X m c y k) (Fin.ext ?_)) (congrArg (W m c k) (Fin.ext ?_))
  · show 1088 * (pt2Of (ix2 i j) % 8) + i.val % 1088 = i.val
    rw [hp]; omega
  · show 1024 + 1024 * (pt2Of (ix2 i j) / 8) + j.val % 1024 = 1024 + j.val
    rw [hp]; omega

end Cert.Kernel3Ideal.Hand

end
-- ==== Proof.ProjEqual.lean ====
/- The projection kernel's result is the plain program's. -/
module

public import proofs.«01_k».proof.Proof.ProjOut
public import proofs.«01_k».proof.Proof.Gen.Reference3Ideal.Run

@[expose] public section

set_option synthInstance.maxSize 4096
set_option maxRecDepth 16384

noncomputable section

namespace Cert.Proj.Equal

open Idealize.ShloMosaic Idealize.ShloMosaic.TcCoe Idealize.ShloMosaic.Tactic Idealize.SL

open Cert.Reference3Ideal Cert.Reference3Ideal.Gen in
/-- The plain program's result. -/
def spec (h : FVec Ideal S8704x2048 .bf16) (w : FVec Ideal S1x2048x8480 .f32) : FVec Ideal S8704x2048 .f32 :=
  extractStridedSlice S8704x2048 ![0, 1024] (Host.dotGeneral (F := Ideal) dot_S8704x2048_S2048x8480_S8704x8480_1_0_0_1_n_n none
    (extf .f32 h bitsLt_bf16_f32) (shapeCast _ w shapeCasts_S1x2048x8480_S2048x8480)) slices_S8704x8480_S8704x2048_0_1024

/-- Its entries: a row times a column of the weights from 1024 on. -/
theorem spec_apply (h : FVec Ideal Cert.Reference3Ideal.S8704x2048 .bf16) (w : FVec Ideal Cert.Reference3Ideal.S1x2048x8480 .f32) (i : Fin 8704) (j : Fin 2048) :
    (spec h w (ix2 i j) : EReal) = ∑ k : Fin 2048, (h (ix2 i k) : EReal) * (w (ix3 0 k ⟨1024 + j.val, by omega⟩) : EReal) := by
  unfold spec
  pointwise

variable (m : (ℓ : Loc Cert.Kernel3Ideal.nD Cert.Kernel3Ideal.τ Cert.Kernel3Ideal.sig) → Buf (Elt Ideal) ℓ) (c : Dev Cert.Kernel3Ideal.nD)

/-- The kernel's result is the plain program's of the same operands. -/
theorem out_eq (h : FVec Ideal Cert.Reference3Ideal.S8704x2048 .bf16) (w : FVec Ideal Cert.Reference3Ideal.S1x2048x8480 .f32)
    (e0 : h = Cert.Kernel3Ideal.Hand.arg m c Cert.Kernel3Ideal.main_arg0) (e1 : w = Cert.Kernel3Ideal.Hand.arg m c Cert.Kernel3Ideal.main_arg1) :
    spec h w = Cert.Kernel3Ideal.Value.G2 m c := by
  funext x
  obtain ⟨i, j, rfl⟩ : ∃ (i : Fin 8704) (j : Fin 2048), x = ix2 i j := ⟨x 0, x 1, by funext a; match a with | 0 => rfl | 1 => rfl⟩
  refine (spec_apply h w i j).trans (Eq.trans ?_ (Cert.Kernel3Ideal.Hand.result_apply m c i j).symm)
  subst e0 e1
  rfl

end Cert.Proj.Equal

end
-- ==== Proof.PreStore.lean ====
/- What the norm-and-project kernel's body leaves at each point. -/
module

public import proofs.«01_k».proof.Proof.Gen.Kernel4Ideal.Value

@[expose] public section

set_option synthInstance.maxSize 4096
set_option maxRecDepth 16384

noncomputable section

namespace Cert.Kernel4Ideal.Hand

open Cert.Kernel4Ideal Cert.Kernel4Ideal.Gen Cert.Kernel4Ideal.Value
open Idealize.ShloMosaic Idealize.ShloMosaic.TcCoe Idealize.ShloMosaic.Tactic
open Idealize.SL

theorem origin : (![0, 0] : Fin 2 → Nat) = fun _ => 0 := funext fun a => by fin_cases a <;> rfl

section Body
variable {F : FTy → Type} [FloatOps F] (c : Dev nD) (i : grid0.Coords)
  (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S1024x2048 .f32) (h4 : a4.IsWhole)
  (a5 : Memref sig .tc .vmem S384x2048 .f32) (h5 : a5.IsWhole) (a6 : Memref sig .tc .vmem S512x2048 .bf16) (h6 : a6.IsWhole)
  (a7 : Memref sig .tc .vmem S512x1024 .f32) (h7 : a7.IsWhole) (a8 : Memref sig .tc .vmem S512x384 .f32) (h8 : a8.IsWhole)
  (a9 : Memref sig .tc .vmem S1024x2048 .bf16) (h9 : a9.IsWhole) (a10 : Memref sig .tc .vmem S384x2048 .bf16) (h10 : a10.IsWhole)
  (x0 x1 : Vec F S512x2048 .f32) (x2 : Vec F S1x2048 .f32) (x3 : Vec F S1024x2048 .f32) (x4 : Vec F S384x2048 .f32)
  (s0 : Vec F S1024x2048 .bf16) (s1 : Vec F S384x2048 .bf16)

/-- The first point leaves the weights rounded. -/
theorem first_scratch (c0 : cond0_0 i) (c1 : cond0_1 i) (c2 : ¬cond0_2 i) :
    sout0_A_0 c i a1 h1 a2 h2 a3 h3 a4 h4 a5 h5 a6 h6 a7 h7 a8 h8 a9 h9 a10 h10 c0 c1 c2 x0 x1 x2 x3 x4 = k0_pay1 x3
    ∧ sout0_A_1 c i a1 h1 a2 h2 a3 h3 a4 h4 a5 h5 a6 h6 a7 h7 a8 h8 a9 h9 a10 h10 c0 c1 c2 x0 x1 x2 x3 x4 = k0_pay2 x4 := by
  constructor
  · unfold sout0_A_0
    rw [View.read_writes_eq_canon _ _ _ (scover0_A_0 c i a1 h1 a2 h2 a3 h3 a4 h4 a5 h5 a6 h6 a7 h7 a8 h8 a9 h9 a10 h10 c0 c1 c2 x0 x1 x2 x3 x4)]
    unfold kernelRun0_A
    dsimp only
    sl_unfold_words
    rw [View.canon_unit_zero (S := S1024x2048) origin]
    simp only [View.readAt_eq_ld, h4.read_unread, View.ld_unit_zero (S := S1024x2048) origin]
  · unfold sout0_A_1
    rw [View.read_writes_eq_canon _ _ _ (scover0_A_1 c i a1 h1 a2 h2 a3 h3 a4 h4 a5 h5 a6 h6 a7 h7 a8 h8 a9 h9 a10 h10 c0 c1 c2 x0 x1 x2 x3 x4)]
    unfold kernelRun0_A
    dsimp only
    sl_unfold_words
    rw [View.canon_unit_zero (S := S384x2048) origin]
    simp only [View.readAt_eq_ld, h5.read_unread, View.ld_unit_zero (S := S384x2048) origin]

/-- The first point's blocks: the first tile normed and its products with the weights just rounded. -/
theorem first_blocks (c0 : cond0_0 i) (c1 : cond0_1 i) (c2 : ¬cond0_2 i) :
    out0_A_5 c i a1 h1 a2 h2 a3 h3 a4 h4 a5 h5 a6 h6 a7 h7 a8 h8 a9 h9 a10 h10 c0 c1 c2 x0 x1 x2 x3 x4 = k0_pay3 x0 x2
    ∧ out0_A_6 c i a1 h1 a2 h2 a3 h3 a4 h4 a5 h5 a6 h6 a7 h7 a8 h8 a9 h9 a10 h10 c0 c1 c2 x0 x1 x2 x3 x4 = k0_pay6 (k0_pay3 x0 x2) (k0_pay1 x3)
    ∧ out0_A_7 c i a1 h1 a2 h2 a3 h3 a4 h4 a5 h5 a6 h6 a7 h7 a8 h8 a9 h9 a10 h10 c0 c1 c2 x0 x1 x2 x3 x4 = k0_pay7 (k0_pay3 x0 x2) (k0_pay2 x4) := by
  refine ⟨?_, ?_, ?_⟩
  · unfold out0_A_5
    rw [View.read_writes_eq_canon _ _ _ (cover0_A_5 c i a1 h1 a2 h2 a3 h3 a4 h4 a5 h5 a6 h6 a7 h7 a8 h8 a9 h9 a10 h10 c0 c1 c2 x0 x1 x2 x3 x4)]
    unfold kernelRun0_A
    dsimp only
    sl_unfold_words
    rw [View.canon_unit_zero (S := S512x2048) origin]
    simp only [View.readAt_eq_ld, h1.read_unread, h3.read_unread, View.ld_unit_zero (S := S512x2048) origin, View.ld_unit_zero (S := S1x2048) origin]
  · unfold out0_A_6
    rw [View.read_writes_eq_canon _ _ _ (cover0_A_6 c i a1 h1 a2 h2 a3 h3 a4 h4 a5 h5 a6 h6 a7 h7 a8 h8 a9 h9 a10 h10 c0 c1 c2 x0 x1 x2 x3 x4)]
    unfold kernelRun0_A
    dsimp only
    sl_unfold_words
    rw [View.canon_unit_zero (S := S512x1024) origin, View.readCov_unit_zero (S := S512x2048) _ origin, View.readCov_unit_zero (S := S1024x2048) _ origin]
    simp only [View.readAt_eq_ld, h1.read_unread, h3.read_unread, h4.read_unread, View.ld_unit_zero (S := S512x2048) origin,
      View.ld_unit_zero (S := S1x2048) origin, View.ld_unit_zero (S := S1024x2048) origin]
  · unfold out0_A_7
    rw [View.read_writes_eq_canon _ _ _ (cover0_A_7 c i a1 h1 a2 h2 a3 h3 a4 h4 a5 h5 a6 h6 a7 h7 a8 h8 a9 h9 a10 h10 c0 c1 c2 x0 x1 x2 x3 x4)]
    unfold kernelRun0_A
    dsimp only
    sl_unfold_words
    rw [View.canon_unit_zero (S := S512x384) origin, View.readCov_unit_zero (S := S512x2048) _ origin, View.readCov_unit_zero (S := S384x2048) _ origin]
    simp only [View.readAt_eq_ld, h1.read_unread, h3.read_unread, h5.read_unread, View.ld_unit_zero (S := S512x2048) origin,
      View.ld_unit_zero (S := S1x2048) origin, View.ld_unit_zero (S := S384x2048) origin]

/-- A later prompt point's blocks: its tile normed and its products with the weights kept. -/
theorem prompt_blocks (c0 : ¬cond0_0 i) (c1 : cond0_1 i) (c2 : ¬cond0_2 i) :
    out0_B_5 c i a1 h1 a2 h2 a3 h3 a4 h4 a5 h5 a6 h6 a7 h7 a8 h8 a9 h9 a10 h10 c0 c1 c2 x0 x1 x2 x3 x4 s0 s1 = k0_pay3 x0 x2
    ∧ out0_B_6 c i a1 h1 a2 h2 a3 h3 a4 h4 a5 h5 a6 h6 a7 h7 a8 h8 a9 h9 a10 h10 c0 c1 c2 x0 x1 x2 x3 x4 s0 s1 = k0_pay6 (k0_pay3 x0 x2) s0
    ∧ out0_B_7 c i a1 h1 a2 h2 a3 h3 a4 h4 a5 h5 a6 h6 a7 h7 a8 h8 a9 h9 a10 h10 c0 c1 c2 x0 x1 x2 x3 x4 s0 s1 = k0_pay7 (k0_pay3 x0 x2) s1 := by
  refine ⟨?_, ?_, ?_⟩
  · unfold out0_B_5
    rw [View.read_writes_eq_canon _ _ _ (cover0_B_5 c i a1 h1 a2 h2 a3 h3 a4 h4 a5 h5 a6 h6 a7 h7 a8 h8 a9 h9 a10 h10 c0 c1 c2 x0 x1 x2 x3 x4 s0 s1)]
    unfold kernelRun0_B
    dsimp only
    sl_unfold_words
    rw [View.canon_unit_zero (S := S512x2048) origin]
    simp only [View.readAt_eq_ld, h1.read_unread, h3.read_unread, View.ld_unit_zero (S := S512x2048) origin, View.ld_unit_zero (S := S1x2048) origin]
  · unfold out0_B_6
    rw [View.read_writes_eq_canon _ _ _ (cover0_B_6 c i a1 h1 a2 h2 a3 h3 a4 h4 a5 h5 a6 h6 a7 h7 a8 h8 a9 h9 a10 h10 c0 c1 c2 x0 x1 x2 x3 x4 s0 s1)]
    unfold kernelRun0_B
    dsimp only
    sl_unfold_words
    rw [View.canon_unit_zero (S := S512x1024) origin, View.readCov_unit_zero (S := S512x2048) _ origin]
    simp only [View.readAt_eq_ld, h1.read_unread, h3.read_unread, h9.read_unread, View.ld_unit_zero (S := S512x2048) origin,
      View.ld_unit_zero (S := S1x2048) origin, View.ld_unit_zero (S := S1024x2048) origin]
  · unfold out0_B_7
    rw [View.read_writes_eq_canon _ _ _ (cover0_B_7 c i a1 h1 a2 h2 a3 h3 a4 h4 a5 h5 a6 h6 a7 h7 a8 h8 a9 h9 a10 h10 c0 c1 c2 x0 x1 x2 x3 x4 s0 s1)]
    unfold kernelRun0_B
    dsimp only
    sl_unfold_words
    rw [View.canon_unit_zero (S := S512x384) origin, View.readCov_unit_zero (S := S512x2048) _ origin]
    simp only [View.readAt_eq_ld, h1.read_unread, h3.read_unread, h10.read_unread, View.ld_unit_zero (S := S512x2048) origin,
      View.ld_unit_zero (S := S1x2048) origin, View.ld_unit_zero (S := S384x2048) origin]

/-- The sample point's blocks: its tile normed and its products with the weights kept. -/
theorem sample_blocks (c0 : ¬cond0_0 i) (c1 : ¬cond0_1 i) (c2 : cond0_2 i) :
    out0_C_5 c i a1 h1 a2 h2 a3 h3 a4 h4 a5 h5 a6 h6 a7 h7 a8 h8 a9 h9 a10 h10 c0 c1 c2 x0 x1 x2 x3 x4 s0 s1 = k0_pay4 x1 x2
    ∧ out0_C_6 c i a1 h1 a2 h2 a3 h3 a4 h4 a5 h5 a6 h6 a7 h7 a8 h8 a9 h9 a10 h10 c0 c1 c2 x0 x1 x2 x3 x4 s0 s1 = k0_pay6 (k0_pay4 x1 x2) s0
    ∧ out0_C_7 c i a1 h1 a2 h2 a3 h3 a4 h4 a5 h5 a6 h6 a7 h7 a8 h8 a9 h9 a10 h10 c0 c1 c2 x0 x1 x2 x3 x4 s0 s1 = k0_pay7 (k0_pay4 x1 x2) s1 := by
  refine ⟨?_, ?_, ?_⟩
  · unfold out0_C_5
    rw [View.read_writes_eq_canon _ _ _ (cover0_C_5 c i a1 h1 a2 h2 a3 h3 a4 h4 a5 h5 a6 h6 a7 h7 a8 h8 a9 h9 a10 h10 c0 c1 c2 x0 x1 x2 x3 x4 s0 s1)]
    unfold kernelRun0_C
    dsimp only
    sl_unfold_words
    rw [View.canon_unit_zero (S := S512x2048) origin]
    simp only [View.readAt_eq_ld, h2.read_unread, h3.read_unread, View.ld_unit_zero (S := S512x2048) origin, View.ld_unit_zero (S := S1x2048) origin]
  · unfold out0_C_6
    rw [View.read_writes_eq_canon _ _ _ (cover0_C_6 c i a1 h1 a2 h2 a3 h3 a4 h4 a5 h5 a6 h6 a7 h7 a8 h8 a9 h9 a10 h10 c0 c1 c2 x0 x1 x2 x3 x4 s0 s1)]
    unfold kernelRun0_C
    dsimp only
    sl_unfold_words
    rw [View.canon_unit_zero (S := S512x1024) origin, View.readCov_unit_zero (S := S512x2048) _ origin]
    simp only [View.readAt_eq_ld, h2.read_unread, h3.read_unread, h9.read_unread, View.ld_unit_zero (S := S512x2048) origin,
      View.ld_unit_zero (S := S1x2048) origin, View.ld_unit_zero (S := S1024x2048) origin]
  · unfold out0_C_7
    rw [View.read_writes_eq_canon _ _ _ (cover0_C_7 c i a1 h1 a2 h2 a3 h3 a4 h4 a5 h5 a6 h6 a7 h7 a8 h8 a9 h9 a10 h10 c0 c1 c2 x0 x1 x2 x3 x4 s0 s1)]
    unfold kernelRun0_C
    dsimp only
    sl_unfold_words
    rw [View.canon_unit_zero (S := S512x384) origin, View.readCov_unit_zero (S := S512x2048) _ origin]
    simp only [View.readAt_eq_ld, h2.read_unread, h3.read_unread, h10.read_unread, View.ld_unit_zero (S := S512x2048) origin,
      View.ld_unit_zero (S := S1x2048) origin, View.ld_unit_zero (S := S384x2048) origin]

end Body

variable {F : FTy → Type} [FloatOps F] (m : (ℓ : Loc nD τ sig) → Buf (Elt F) ℓ) (c : Dev nD)

/-- The blocks and the scratches after the point before `t`. -/
abbrev before (t : Fin cfg0.N) := outsAt0 m c (t.val - 1) (Nat.lt_of_le_of_lt (Nat.sub_le _ _) t.isLt)

theorem lt17 (t : Fin cfg0.N) : t.val < 17 := lt_of_lt_of_eq t.isLt N_0

/-- The blocks and the scratches after the first point. -/
theorem outs_first (t : Fin cfg0.N) (h : t.val = 0) :
    outsAt0 m c t.val t.isLt = (k0_pay3 (iblk m c 0 t) (iblk m c 2 t), k0_pay6 (k0_pay3 (iblk m c 0 t) (iblk m c 2 t)) (k0_pay1 (iblk m c 3 t)),
      k0_pay7 (k0_pay3 (iblk m c 0 t) (iblk m c 2 t)) (k0_pay2 (iblk m c 4 t)), k0_pay1 (iblk m c 3 t), k0_pay2 (iblk m c 4 t)) := by
  rw [outsAt0_A m c t (by omega) (by omega) (by omega), (first_blocks ..).1, (first_blocks ..).2.1, (first_blocks ..).2.2, (first_scratch ..).1, (first_scratch ..).2]

/-- The blocks and the scratches after a later prompt point. -/
theorem outs_prompt (t : Fin cfg0.N) (h : ¬t.val = 0) (h' : t.val < 16) :
    outsAt0 m c t.val t.isLt = (k0_pay3 (iblk m c 0 t) (iblk m c 2 t), k0_pay6 (k0_pay3 (iblk m c 0 t) (iblk m c 2 t)) (before m c t).2.2.2.1,
      k0_pay7 (k0_pay3 (iblk m c 0 t) (iblk m c 2 t)) (before m c t).2.2.2.2, (before m c t).2.2.2.1, (before m c t).2.2.2.2) := by
  rw [outsAt0_B m c t (by omega) h' (by omega), (prompt_blocks ..).1, (prompt_blocks ..).2.1, (prompt_blocks ..).2.2]
  unfold sout0_B_0 sout0_B_1
  rfl

/-- The blocks and the scratches after the sample point. -/
theorem outs_sample (t : Fin cfg0.N) (h : t.val = 16) :
    outsAt0 m c t.val t.isLt = (k0_pay4 (iblk m c 1 t) (iblk m c 2 t), k0_pay6 (k0_pay4 (iblk m c 1 t) (iblk m c 2 t)) (before m c t).2.2.2.1,
      k0_pay7 (k0_pay4 (iblk m c 1 t) (iblk m c 2 t)) (before m c t).2.2.2.2, (before m c t).2.2.2.1, (before m c t).2.2.2.2) := by
  rw [outsAt0_C m c t (by omega) (by omega) (by omega), (sample_blocks ..).1, (sample_blocks ..).2.1, (sample_blocks ..).2.2]
  unfold sout0_C_0 sout0_C_1
  rfl

/-- At every point the two products are of the normed block and the scratches as left. -/
theorem outs_products (t : Fin cfg0.N) :
    (outsAt0 m c t.val t.isLt).2.1 = k0_pay6 (outsAt0 m c t.val t.isLt).1 (outsAt0 m c t.val t.isLt).2.2.2.1
    ∧ (outsAt0 m c t.val t.isLt).2.2.1 = k0_pay7 (outsAt0 m c t.val t.isLt).1 (outsAt0 m c t.val t.isLt).2.2.2.2 := by
  by_cases h : t.val = 0
  · rw [outs_first m c t h]; exact ⟨rfl, rfl⟩
  · by_cases h' : t.val < 16
    · rw [outs_prompt m c t h h']; exact ⟨rfl, rfl⟩
    · rw [outs_sample m c t (by have := lt17 t; omega)]; exact ⟨rfl, rfl⟩

/-- The scratches after a point other than the first are those before it. -/
theorem scratch_kept (t : Fin cfg0.N) (h : ¬t.val = 0) :
    (outsAt0 m c t.val t.isLt).2.2.2 = (before m c t).2.2.2 := by
  by_cases h' : t.val < 16
  · rw [outs_prompt m c t h h']
  · rw [outs_sample m c t (by have := lt17 t; omega)]

end Cert.Kernel4Ideal.Hand

end
-- ==== Proof.PreSpec.lean ====
/- The normed rows and their products with the weights, entry by entry. -/
module

public import proofs.«01_k».proof.Proof.FfnSpec

@[expose] public section

noncomputable section

namespace Cert.Pre

open Idealize.ShloMosaic Idealize.SL

/-- The operands: the prompt's rows, the samples' rows, the gain and the weights. -/
structure Args where
  p : Fin 4 → Fin 2048 → Fin 2048 → EReal
  s : Fin 128 → Fin 4 → Fin 2048 → EReal
  g : Fin 2048 → EReal
  w : Fin 2048 → Fin 8480 → EReal

/-- A row divided by its root mean square, times the gain. -/
def unit (f : Fin 2048 → EReal) (g : EReal) (j : Fin 2048) : EReal :=
  (f j * Ideal.rsqrt (Ideal.div (∑ k : Fin 2048, f k * f k) (Cert.Ffn.lit 0x45000000#32) + Cert.Ffn.lit 0x358637BD#32)) * g

variable (A : Args)

/-- Row `r` of the prompt's rows, its sequences one after the other. -/
def prow (r : Fin 8192) (k : Fin 2048) : EReal := A.p ⟨r.val / 2048, by omega⟩ ⟨r.val % 2048, by omega⟩ k
/-- Row `r` of the samples' rows. -/
def srow (r : Fin 512) (k : Fin 2048) : EReal := A.s ⟨r.val / 4, by omega⟩ ⟨r.val % 4, by omega⟩ k
/-- The normed rows: the prompt's, then the samples'. -/
def h (r : Fin 8704) (j : Fin 2048) : EReal :=
  if hr : r.val < 8192 then unit (prow A ⟨r.val, hr⟩) (A.g j) j else unit (srow A ⟨r.val - 8192, by omega⟩) (A.g j) j
/-- Their product with the weights. -/
def z (r : Fin 8704) (n : Fin 8480) : EReal := ∑ k : Fin 2048, h A r k * A.w k n

/-- A prompt row of the normed rows. -/
theorem h_prompt (q : Fin 8192) (r : Fin 8704) (e : r.val = q.val) (j : Fin 2048) : h A r j = unit (prow A q) (A.g j) j := by
  have hr : r.val < 8192 := by omega
  unfold h
  rw [dif_pos hr]
  exact congrArg (fun y => unit (prow A y) (A.g j) j) (Fin.ext e)

/-- A sample row of the normed rows. -/
theorem h_sample (q : Fin 512) (r : Fin 8704) (e : r.val = 8192 + q.val) (j : Fin 2048) : h A r j = unit (srow A q) (A.g j) j := by
  have hr : ¬r.val < 8192 := by omega
  unfold h
  rw [dif_neg hr]
  exact congrArg (fun y => unit (srow A y) (A.g j) j) (Fin.ext (by show r.val - 8192 = q.val; omega))

end Cert.Pre

end
-- ==== Proof.PreOut.lean ====
/- The norm-and-project kernel's results over the extended reals, entry by entry. -/
module

public import proofs.«01_k».proof.Proof.PreStore
public import proofs.«01_k».proof.Proof.PreSpec
public import Idealize.ShloMosaic.Lib.StableHlo.ReadAt
public import Idealize.ShloMosaic.Lib.Pointwise
public import Idealize.ShloMosaic.PureOps.Ideal.Laws

@[expose] public section

set_option synthInstance.maxSize 4096
set_option maxRecDepth 16384

noncomputable section

namespace Cert.Kernel4Ideal.Hand

open Cert.Kernel4Ideal Cert.Kernel4Ideal.Gen Cert.Kernel4Ideal.Value
open Idealize.ShloMosaic Idealize.ShloMosaic.TcCoe Idealize.ShloMosaic.Tactic
open Idealize.SL

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The operands as the kernel gets them. -/
def args : Cert.Pre.Args where
  p := fun s t k => arg m c main_arg0 (ix3 s t k)
  s := fun s t k => arg m c main_arg1 (ix3 s t k)
  g := fun k => arg m c main_arg2 (ix2 0 k)
  w := fun k n => arg m c main_arg3 (ix3 0 k n)

/-! ## Where the blocks lie -/

theorem index_0 : ∀ t : Fin cfg0.N, win0_0.index t 0 = min t.val 15 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 3072 ∧ win0_4.index t 1 = 0 := by decide +kernel

/-- The transposed weights. -/
theorem V_v1 (a : Fin 8480) (b : Fin 2048) : (V m c main_v1 (ix2 a b) : EReal) = (args m c).w b a := by
  unfold V
  after_reads_at
  rfl

/-- The prompt's rows. -/
theorem V_v2 (r : Fin 8192) (k : Fin 2048) : (V m c main_v2 (ix2 r k) : EReal) = Cert.Pre.prow (args m c) r k := by
  unfold V
  after_reads_at
  rfl

/-- The samples' rows. -/
theorem V_v3 (r : Fin 512) (k : Fin 2048) : (V m c main_v3 (ix2 r k) : EReal) = Cert.Pre.srow (args m c) r k := by
  unfold V
  after_reads_at
  rfl

/-- The gain. -/
theorem V_v5 (k : Fin 2048) : (V m c main_v5 (ix2 0 k) : EReal) = (args m c).g k := by
  unfold V
  after_reads_at
  rfl

/-- A prompt point's block of rows. -/
theorem prompt_apply (t : Fin cfg0.N) (ht : t.val < 16) (a : Fin 512) (k : Fin 2048) :
    ((iblk m c 0 t : Vec Ideal S512x2048 .f32) (ix2 a k) : EReal) = Cert.Pre.prow (args m c) ⟨512 * t.val + a.val, by omega⟩ k := by
  refine Eq.trans (congrArg (V m c main_v2) (funext fun x => Fin.ext ?_)) (V_v2 m c ⟨512 * t.val + a.val, by omega⟩ k)
  match x with
  | 0 => exact (win0_0.rect_emb_val t _ 0).trans (by rw [(index_0 t).1]; show min t.val 15 * 512 + a.val = 512 * t.val + a.val; omega)
  | 1 => exact (win0_0.rect_emb_val t _ 1).trans (by rw [(index_0 t).2]; show 0 * 2048 + k.val = k.val; omega)

/-- The block of the samples' rows. -/
theorem sample_apply (t : Fin cfg0.N) (a : Fin 512) (k : Fin 2048) :
    ((iblk m c 1 t : Vec Ideal S512x2048 .f32) (ix2 a k) : EReal) = Cert.Pre.srow (args m c) a k := by
  refine Eq.trans (congrArg (V m c main_v3) (funext fun x => Fin.ext ?_)) (V_v3 m c a k)
  match x with
  | 0 => exact (win0_1.rect_emb_val t _ 0).trans (by rw [(index_1 t).1]; show 0 * 512 + a.val = a.val; omega)
  | 1 => exact (win0_1.rect_emb_val t _ 1).trans (by rw [(index_1 t).2]; show 0 * 2048 + k.val = k.val; omega)

/-- The block of the gain. -/
theorem gain_apply (t : Fin cfg0.N) (k : Fin 2048) : ((iblk m c 2 t : Vec Ideal S1x2048 .f32) (ix2 0 k) : EReal) = (args m c).g k := by
  refine Eq.trans (congrArg (V m c main_v5) (funext fun x => Fin.ext ?_)) (V_v5 m c k)
  match x with
  | 0 => exact (win0_2.rect_emb_val t _ 0).trans (by rw [(index_2 t).1]; rfl)
  | 1 => exact (win0_2.rect_emb_val t _ 1).trans (by rw [(index_2 t).2]; show 0 * 2048 + k.val = k.val; omega)

/-- The block of the first weights. -/
theorem weights0_apply (t : Fin cfg0.N) (b : Fin 1024) (k : Fin 2048) :
    ((iblk m c 3 t : Vec Ideal S1024x2048 .f32) (ix2 b k) : EReal) = (args m c).w k ⟨b.val, by omega⟩ := by
  refine Eq.trans (congrArg (V m c main_v1) (funext fun x => Fin.ext ?_)) (V_v1 m c ⟨b.val, by omega⟩ k)
  match x with
  | 0 => exact (win0_3.rect_emb_val_off t _ 0).trans (by rw [(index_3 t).1]; exact Nat.zero_add _)
  | 1 => exact (win0_3.rect_emb_val_off t _ 1).trans (by rw [(index_3 t).2]; exact Nat.zero_add _)

/-- The block of the second weights. -/
theorem weights1_apply (t : Fin cfg0.N) (b : Fin 384) (k : Fin 2048) :
    ((iblk m c 4 t : Vec Ideal S384x2048 .f32) (ix2 b k) : EReal) = (args m c).w k ⟨3072 + b.val, by omega⟩ := by
  refine Eq.trans (congrArg (V m c main_v1) (funext fun x => Fin.ext ?_)) (V_v1 m c ⟨3072 + b.val, by omega⟩ k)
  match x with
  | 0 => exact (win0_4.rect_emb_val_off t _ 0).trans (by rw [(index_4 t).1]; rfl)
  | 1 => exact (win0_4.rect_emb_val_off t _ 1).trans (by rw [(index_4 t).2]; exact Nat.zero_add _)

/-! ## The payloads at an entry -/

theorem pay1_apply (w : Vec Ideal S1024x2048 .f32) (b : Fin 1024) (k : Fin 2048) : (k0_pay1 w (ix2 b k) : EReal) = (w (ix2 b k) : EReal) := by
  unfold k0_pay1
  pointwise

theorem pay2_apply (w : Vec Ideal S384x2048 .f32) (b : Fin 384) (k : Fin 2048) : (k0_pay2 w (ix2 b k) : EReal) = (w (ix2 b k) : EReal) := by
  unfold k0_pay2
  pointwise

theorem pay3_apply (x : Vec Ideal S512x2048 .f32) (g : Vec Ideal S1x2048 .f32) (a : Fin 512) (j : Fin 2048) :
    (k0_pay3 x g (ix2 a j) : EReal) = Cert.Pre.unit (fun k => x (ix2 a k)) (g (ix2 0 j)) j := by
  unfold k0_pay3 Cert.Pre.unit
  pointwise

theorem pay4_apply (x : Vec Ideal S512x2048 .f32) (g : Vec Ideal S1x2048 .f32) (a : Fin 512) (j : Fin 2048) :
    (k0_pay4 x g (ix2 a j) : EReal) = Cert.Pre.unit (fun k => x (ix2 a k)) (g (ix2 0 j)) j := by
  unfold k0_pay4 Cert.Pre.unit
  pointwise

theorem pay6_apply (x : Vec Ideal S512x2048 .bf16) (w : Vec Ideal S1024x2048 .bf16) (a : Fin 512) (b : Fin 1024) :
    (k0_pay6 x w (ix2 a b) : EReal) = ∑ k : Fin 2048, (x (ix2 a k) : EReal) * (w (ix2 b k) : EReal) := by
  unfold k0_pay6 k0_pay5
  pointwise

theorem pay7_apply (x : Vec Ideal S512x2048 .bf16) (w : Vec Ideal S384x2048 .bf16) (a : Fin 512) (b : Fin 384) :
    (k0_pay7 x w (ix2 a b) : EReal) = ∑ k : Fin 2048, (x (ix2 a k) : EReal) * (w (ix2 b k) : EReal) := by
  unfold k0_pay7 k0_pay5
  pointwise

/-! ## The points -/

/-- A point's normed block. -/
theorem normed_apply (t : Fin cfg0.N) (a : Fin 512) (j : Fin 2048) (r : Fin 8704) (hr : r.val = 512 * t.val + a.val) :
    ((outsAt0 m c t.val t.isLt).1 (ix2 a j) : EReal) = Cert.Pre.h (args m c) r j := by
  by_cases h : t.val < 16
  · have e : (outsAt0 m c t.val t.isLt).1 = k0_pay3 (iblk m c 0 t) (iblk m c 2 t) := by
      by_cases h0 : t.val = 0
      · rw [outs_first m c t h0]
      · rw [outs_prompt m c t h0 h]
    rw [e, Cert.Pre.h_prompt _ ⟨512 * t.val + a.val, by omega⟩ r hr j]
    refine (pay3_apply _ _ a j).trans ?_
    exact congrArg₂ (fun f g => Cert.Pre.unit f g j) (funext fun k => prompt_apply m c t h a k) (gain_apply m c t j)
  · have h16 : t.val = 16 := by have := lt17 t; omega
    have e : (outsAt0 m c t.val t.isLt).1 = k0_pay4 (iblk m c 1 t) (iblk m c 2 t) := by rw [outs_sample m c t h16]
    rw [e, Cert.Pre.h_sample _ a r (by omega) j]
    refine (pay4_apply _ _ a j).trans ?_
    exact congrArg₂ (fun f g => Cert.Pre.unit f g j) (funext fun k => sample_apply m c t a k) (gain_apply m c t j)

/-- After every point the first scratch holds the first weights. -/
theorem scratch0_apply (b : Fin 1024) (k : Fin 2048) (n : Nat) : ∀ t : Fin cfg0.N, t.val = n →
    ((outsAt0 m c t.val t.isLt).2.2.2.1 (ix2 b k) : EReal) = (args m c).w k ⟨b.val, by omega⟩ := by
  induction n with
  | zero =>
    intro t ht
    have e : (outsAt0 m c t.val t.isLt).2.2.2.1 = k0_pay1 (iblk m c 3 t) := by rw [outs_first m c t ht]
    rw [e]
    exact (pay1_apply (iblk m c 3 t) b k).trans (weights0_apply m c t b k)
  | succ n ih =>
    intro t ht
    rw [scratch_kept m c t (by omega)]
    exact ih ⟨t.val - 1, Nat.lt_of_le_of_lt (Nat.sub_le _ _) t.isLt⟩ (by show t.val - 1 = n; omega)

/-- After every point the second scratch holds the second weights. -/
theorem scratch1_apply (b : Fin 384) (k : Fin 2048) (n : Nat) : ∀ t : Fin cfg0.N, t.val = n →
    ((outsAt0 m c t.val t.isLt).2.2.2.2 (ix2 b k) : EReal) = (args m c).w k ⟨3072 + b.val, by omega⟩ := by
  induction n with
  | zero =>
    intro t ht
    have e : (outsAt0 m c t.val t.isLt).2.2.2.2 = k0_pay2 (iblk m c 4 t) := by rw [outs_first m c t ht]
    rw [e]
    exact (pay2_apply (iblk m c 4 t) b k).trans (weights1_apply m c t b k)
  | succ n ih =>
    intro t ht
    rw [scratch_kept m c t (by omega)]
    exact ih ⟨t.val - 1, Nat.lt_of_le_of_lt (Nat.sub_le _ _) t.isLt⟩ (by show t.val - 1 = n; omega)

/-- A point's first product. -/
theorem product0_apply (t : Fin cfg0.N) (a : Fin 512) (b : Fin 1024) (r : Fin 8704) (hr : r.val = 512 * t.val + a.val) :
    ((outsAt0 m c t.val t.isLt).2.1 (ix2 a b) : EReal) = Cert.Pre.z (args m c) r ⟨b.val, by omega⟩ := by
  rw [(outs_products m c t).1]
  refine (pay6_apply _ _ a b).trans (congrArg (fun f : Fin 2048 → EReal => ∑ k, f k) (funext fun k => ?_))
  exact congrArg₂ (fun x y : EReal => x * y) (normed_apply m c t a k r hr) (scratch0_apply m c b k t.val t rfl)

/-- A point's second product. -/
theorem product1_apply (t : Fin cfg0.N) (a : Fin 512) (b : Fin 384) (r : Fin 8704) (hr : r.val = 512 * t.val + a.val) :
    ((outsAt0 m c t.val t.isLt).2.2.1 (ix2 a b) : EReal) = Cert.Pre.z (args m c) r ⟨3072 + b.val, by omega⟩ := by
  rw [(outs_products m c t).2]
  refine (pay7_apply _ _ a b).trans (congrArg (fun f : Fin 2048 → EReal => ∑ k, f k) (funext fun k => ?_))
  exact congrArg₂ (fun x y : EReal => x * y) (normed_apply m c t a k r hr) (scratch1_apply m c b k t.val t rfl)

/-! ## The results -/

/-- The first result: the normed rows. -/
theorem result5_apply (i : Fin 8704) (j : Fin 2048) : (G5 m c (ix2 i j) : EReal) = Cert.Pre.h (args m c) i j := by
  have hp : pt5Of (ix2 i j) = i.val / 512 := by
    show 1 * (i.val / 512 - 0) + 1 * (j.val / 2048 - 0) = _
    omega
  have hN : pt5Of (ix2 i j) < cfg0.N := by rw [hp, show cfg0.N = 17 from N_0]; omega
  have hl : loc5Of (ix2 i j) = ix2 (⟨i.val % 512, Nat.mod_lt _ (by decide)⟩ : Fin 512) j := by
    funext a
    match a with
    | 0 => rfl
    | 1 => exact Fin.ext (Nat.mod_eq_of_lt j.isLt)
  unfold G5
  rw [dif_pos hN, ← outsAt0_sweep m c _ hN, hl]
  exact normed_apply m c ⟨pt5Of (ix2 i j), hN⟩ _ j i (by show i.val = 512 * pt5Of (ix2 i j) + i.val % 512; rw [hp]; omega)

/-- The second result: the normed rows times the first weights. -/
theorem result6_apply (i : Fin 8704) (j : Fin 1024) : (G6 m c (ix2 i j) : EReal) = Cert.Pre.z (args m c) i ⟨j.val, by omega⟩ := by
  have hp : pt6Of (ix2 i j) = i.val / 512 := by
    show 1 * (i.val / 512 - 0) + 1 * (j.val / 1024 - 0) = _
    omega
  have hN : pt6Of (ix2 i j) < cfg0.N := by rw [hp, show cfg0.N = 17 from N_0]; omega
  have hl : loc6Of (ix2 i j) = ix2 (⟨i.val % 512, Nat.mod_lt _ (by decide)⟩ : Fin 512) j := by
    funext a
    match a with
    | 0 => rfl
    | 1 => exact Fin.ext (Nat.mod_eq_of_lt j.isLt)
  unfold G6
  rw [dif_pos hN, ← outsAt0_sweep m c _ hN, hl]
  exact product0_apply m c ⟨pt6Of (ix2 i j), hN⟩ _ j i (by show i.val = 512 * pt6Of (ix2 i j) + i.val % 512; rw [hp]; omega)

/-- The third result: the normed rows times the second weights. -/
theorem result7_apply (i : Fin 8704) (j : Fin 384) : (G7 m c (ix2 i j) : EReal) = Cert.Pre.z (args m c) i ⟨3072 + j.val, by omega⟩ := by
  have hp : pt7Of (ix2 i j) = i.val / 512 := by
    show 1 * (i.val / 512 - 0) + 1 * (j.val / 384 - 0) = _
    omega
  have hN : pt7Of (ix2 i j) < cfg0.N := by rw [hp, show cfg0.N = 17 from N_0]; omega
  have hl : loc7Of (ix2 i j) = ix2 (⟨i.val % 512, Nat.mod_lt _ (by decide)⟩ : Fin 512) j := by
    funext a
    match a with
    | 0 => rfl
    | 1 => exact Fin.ext (Nat.mod_eq_of_lt j.isLt)
  unfold G7
  rw [dif_pos hN, ← outsAt0_sweep m c _ hN, hl]
  exact product1_apply m c ⟨pt7Of (ix2 i j), hN⟩ _ j i (by show i.val = 512 * pt7Of (ix2 i j) + i.val % 512; rw [hp]; omega)

end Cert.Kernel4Ideal.Hand

end
-- ==== Proof.PreEqual.lean ====
/- The norm-and-project kernel's results are the plain program's. -/
module

public import proofs.«01_k».proof.Proof.PreOut
public import proofs.«01_k».proof.Proof.Gen.Reference4Ideal.Run

@[expose] public section

set_option synthInstance.maxSize 4096
set_option maxRecDepth 16384

noncomputable section

namespace Cert.Pre.Equal

open Cert.Reference4Ideal Cert.Reference4Ideal.Gen
open Idealize.ShloMosaic Idealize.ShloMosaic.TcCoe Idealize.ShloMosaic.Tactic Idealize.SL

/-! ## The plain program's arrays -/

/-- The prompt's rows normed. -/
def promptA (x : FVec Ideal S4x2048x2048 .f32) (g : FVec Ideal S1x2048 .f32) : FVec Ideal S4x2048x2048 .f32 :=
  mulf (mulf x (broadcastInDim S4x2048x2048 ![0, 1, 2] bcast_S4x2048x1_S4x2048x2048_0_1_2 (Host.rsqrt (addf (Host.divf
      (broadcastInDim S4x2048x1 ![0, 1] bcast_S4x2048_S4x2048x1_0_1 (Host.reduceAdd (mulf x x) (constant S_ .f32 0x00000000#32) reducesTo_S4x2048x2048_S4x2048_d2 h_S_))
      (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2
      (shapeCast S2048 g shapeCasts_S1x2048_S2048)))
/-- The samples' rows normed. -/
def sampleA (x : FVec Ideal S128x4x2048 .f32) (g : FVec Ideal S1x2048 .f32) : FVec Ideal S128x4x2048 .f32 :=
  mulf (mulf x (broadcastInDim S128x4x2048 ![0, 1, 2] bcast_S128x4x1_S128x4x2048_0_1_2 (Host.rsqrt (addf (Host.divf
      (broadcastInDim S128x4x1 ![0, 1] bcast_S128x4_S128x4x1_0_1 (Host.reduceAdd (mulf x x) (constant S_ .f32 0x00000000#32) reducesTo_S128x4x2048_S128x4_d2 h_S_))
      (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2
      (shapeCast S2048 g shapeCasts_S1x2048_S2048)))
/-- The normed rows, the samples' after the prompt's. -/
def rowsA (p : FVec Ideal S4x2048x2048 .f32) (s : FVec Ideal S128x4x2048 .f32) : FVec Ideal S8704x2048 .f32 :=
  concatenate S8704x2048 0 [⟨S8192x2048, shapeCast S8192x2048 p shapeCasts_S4x2048x2048_S8192x2048⟩, ⟨S512x2048, shapeCast S512x2048 s shapeCasts_S128x4x2048_S512x2048⟩]
    concatenates_S8192x2048_S512x2048_S8704x2048_d0
/-- Their product with the weights. -/
def prodA (h : FVec Ideal S8704x2048 .f32) (w : FVec Ideal S1x2048x8480 .f32) : FVec Ideal S8704x8480 .f32 :=
  Host.dotGeneral dot_S8704x2048_S2048x8480_S8704x8480_1_0_0_1_n_n none h (shapeCast S2048x8480 w shapeCasts_S1x2048x8480_S2048x8480)
/-- The first result. -/
def roundA (h : FVec Ideal S8704x2048 .f32) : FVec Ideal S8704x2048 .bf16 := truncf .bf16 h bitsLt_bf16_f32
/-- The second result. -/
def colsA (z : FVec Ideal S8704x8480 .f32) : FVec Ideal S8704x1024 .f32 := extractStridedSlice S8704x1024 ![0, 0] z slices_S8704x8480_S8704x1024_0_0
/-- The third result. -/
def colsB (z : FVec Ideal S8704x8480 .f32) : FVec Ideal S8704x384 .f32 := extractStridedSlice S8704x384 ![0, 3072] z slices_S8704x8480_S8704x384_0_3072

/-! ## Their entries -/

theorem promptA_apply (x : FVec Ideal S4x2048x2048 .f32) (g : FVec Ideal S1x2048 .f32) (s : Fin 4) (t j : Fin 2048) :
    (promptA x g (ix3 s t j) : EReal) = Cert.Pre.unit (fun k => x (ix3 s t k)) (g (ix2 0 j)) j := by
  unfold promptA Cert.Pre.unit
  pointwise

theorem sampleA_apply (x : FVec Ideal S128x4x2048 .f32) (g : FVec Ideal S1x2048 .f32) (s : Fin 128) (t : Fin 4) (j : Fin 2048) :
    (sampleA x g (ix3 s t j) : EReal) = Cert.Pre.unit (fun k => x (ix3 s t k)) (g (ix2 0 j)) j := by
  unfold sampleA Cert.Pre.unit
  pointwise

theorem rowsA_apply (p : FVec Ideal S4x2048x2048 .f32) (s : FVec Ideal S128x4x2048 .f32) (r : Fin 8704) (j : Fin 2048) :
    (rowsA p s (ix2 r j) : EReal) = if h : r.val < 8192 then (p (ix3 ⟨r.val / 2048, by omega⟩ ⟨r.val % 2048, by omega⟩ j) : EReal)
      else (s (ix3 ⟨(r.val - 8192) / 4, by omega⟩ ⟨(r.val - 8192) % 4, by omega⟩ j) : EReal) := by
  unfold rowsA
  pointwise

theorem prodA_apply (h : FVec Ideal S8704x2048 .f32) (w : FVec Ideal S1x2048x8480 .f32) (r : Fin 8704) (n : Fin 8480) :
    (prodA h w (ix2 r n) : EReal) = ∑ k : Fin 2048, (h (ix2 r k) : EReal) * (w (ix3 0 k n) : EReal) := by
  unfold prodA
  pointwise

theorem roundA_apply (h : FVec Ideal S8704x2048 .f32) (r : Fin 8704) (j : Fin 2048) : (roundA h (ix2 r j) : EReal) = (h (ix2 r j) : EReal) := rfl

theorem colsA_apply (z : FVec Ideal S8704x8480 .f32) (r : Fin 8704) (j : Fin 1024) : (colsA z (ix2 r j) : EReal) = (z (ix2 r ⟨j.val, by omega⟩) : EReal) := by
  unfold colsA
  pointwise

theorem colsB_apply (z : FVec Ideal S8704x8480 .f32) (r : Fin 8704) (j : Fin 384) : (colsB z (ix2 r j) : EReal) = (z (ix2 r ⟨3072 + j.val, by omega⟩) : EReal) := by
  unfold colsB
  pointwise

/-! ## The equalities -/

variable (m : (ℓ : Loc Cert.Kernel4Ideal.nD Cert.Kernel4Ideal.τ Cert.Kernel4Ideal.sig) → Buf (Elt Ideal) ℓ) (c : Dev Cert.Kernel4Ideal.nD)
  (x : FVec Ideal S4x2048x2048 .f32) (y : FVec Ideal S128x4x2048 .f32) (g : FVec Ideal S1x2048 .f32) (w : FVec Ideal S1x2048x8480 .f32)

/-- The plain program's operands. -/
def args : Cert.Pre.Args where
  p := fun s t k => x (ix3 s t k)
  s := fun s t k => y (ix3 s t k)
  g := fun k => g (ix2 0 k)
  w := fun k n => w (ix3 0 k n)

/-- The plain program's normed rows. -/
theorem rows_apply (r : Fin 8704) (j : Fin 2048) : (rowsA (promptA x g) (sampleA y g) (ix2 r j) : EReal) = Cert.Pre.h (args x y g w) r j := by
  rw [rowsA_apply]
  unfold Cert.Pre.h
  by_cases h : r.val < 8192
  · rw [dif_pos h, dif_pos h]
    exact promptA_apply x g _ _ j
  · rw [dif_neg h, dif_neg h]
    exact sampleA_apply y g _ _ j

/-- The plain program's product. -/
theorem prod_apply (r : Fin 8704) (n : Fin 8480) :
    (prodA (rowsA (promptA x g) (sampleA y g)) w (ix2 r n) : EReal) = Cert.Pre.z (args x y g w) r n := by
  refine (prodA_apply _ w r n).trans (congrArg (fun f : Fin 2048 → EReal => ∑ k, f k) (funext fun k => ?_))
  exact congrArg (fun v : EReal => v * (w (ix3 0 k n) : EReal)) (rows_apply x y g w r k)

variable (e0 : x = Cert.Kernel4Ideal.Hand.arg m c Cert.Kernel4Ideal.main_arg0) (e1 : y = Cert.Kernel4Ideal.Hand.arg m c Cert.Kernel4Ideal.main_arg1)
  (e2 : g = Cert.Kernel4Ideal.Hand.arg m c Cert.Kernel4Ideal.main_arg2) (e3 : w = Cert.Kernel4Ideal.Hand.arg m c Cert.Kernel4Ideal.main_arg3)

include e0 e1 e2 e3

/-- The operands of the two programs are the same. -/
theorem args_eq : args x y g w = Cert.Kernel4Ideal.Hand.args m c := by
  subst e0 e1 e2 e3
  rfl

/-- The kernel's first result is the plain program's. -/
theorem rows_eq : roundA (rowsA (promptA x g) (sampleA y g)) = Cert.Kernel4Ideal.Value.G5 m c := by
  funext i
  obtain ⟨r, j, rfl⟩ : ∃ (r : Fin 8704) (j : Fin 2048), i = ix2 r j := ⟨i 0, i 1, by funext a; match a with | 0 => rfl | 1 => rfl⟩
  refine Eq.trans (rows_apply x y g w r j) (Eq.trans ?_ (Cert.Kernel4Ideal.Hand.result5_apply m c r j).symm)
  rw [args_eq m c x y g w e0 e1 e2 e3]

/-- The kernel's second result is the plain program's. -/
theorem colsA_eq : colsA (prodA (rowsA (promptA x g) (sampleA y g)) w) = Cert.Kernel4Ideal.Value.G6 m c := by
  funext i
  obtain ⟨r, j, rfl⟩ : ∃ (r : Fin 8704) (j : Fin 1024), i = ix2 r j := ⟨i 0, i 1, by funext a; match a with | 0 => rfl | 1 => rfl⟩
  refine Eq.trans ((colsA_apply _ r j).trans (prod_apply x y g w r _)) (Eq.trans ?_ (Cert.Kernel4Ideal.Hand.result6_apply m c r j).symm)
  rw [args_eq m c x y g w e0 e1 e2 e3]

/-- The kernel's third result is the plain program's. -/
theorem colsB_eq : colsB (prodA (rowsA (promptA x g) (sampleA y g)) w) = Cert.Kernel4Ideal.Value.G7 m c := by
  funext i
  obtain ⟨r, j, rfl⟩ : ∃ (r : Fin 8704) (j : Fin 384), i = ix2 r j := ⟨i 0, i 1, by funext a; match a with | 0 => rfl | 1 => rfl⟩
  refine Eq.trans ((colsB_apply _ r j).trans (prod_apply x y g w r _)) (Eq.trans ?_ (Cert.Kernel4Ideal.Hand.result7_apply m c r j).symm)
  rw [args_eq m c x y g w e0 e1 e2 e3]

end Cert.Pre.Equal

end
-- ==== Proof.DecScratch.lean ====
/- Reading back a scratch stored a lane tile at a time, some of its rows then stored again four apart. -/
module

public import proofs.«01_k».proof.Proof.Gen.Kernel5Ideal.Value
public import Idealize.ShloMosaic.Lib.Pointwise

@[expose] public section

set_option synthInstance.maxSize 4096
set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.ShloMosaic.Tactic
open Idealize.SL

section Scratch
variable {F : FTy → Type} [FloatOps F]

/-- A whole lane tile. -/
abbrev tileR (j : Nat) (h : ∀ a : Fin 3, (![j, 0, 0] : Fin 3 → Nat) a + (![1, 512, 128] : Fin 3 → Nat) a ≤ S4x512x128.size a) : Rect S4x512x128 := Rect.unit ![j, 0, 0] ![1, 512, 128] h
/-- A lane tile's rows `s`, `s + 4`, …. -/
abbrev stepR (j s : Nat)
    (h : ∀ a : Fin 3, (![1, 128, 128] : Fin 3 → Nat) a = 0 ∨ (![j, s, 0] : Fin 3 → Nat) a + (![1, 4, 1] : Fin 3 → Nat) a * ((![1, 128, 128] : Fin 3 → Nat) a - 1) < S4x512x128.size a)
    (p : ∀ a : Fin 3, 0 < (![1, 4, 1] : Fin 3 → Nat) a) : Rect S4x512x128 := ⟨(⟨![j, s, 0], ![1, 128, 128], ![1, 4, 1], h⟩ : LoadRect S4x512x128), p⟩

theorem tile_emb (j : Nat) (h) (x : (tileR j h).shape.Idx) :
    ((tileR j h).emb x 0).val = j ∧ ((tileR j h).emb x 1).val = (x 1).val ∧ ((tileR j h).emb x 2).val = (x 2).val := by
  have h0 : (x 0).val < 1 := (x 0).isLt
  exact ⟨show j + 1 * (x 0).val = j by omega, show 0 + 1 * (x 1).val = _ by omega, show 0 + 1 * (x 2).val = _ by omega⟩

theorem step_emb (j s : Nat) (h p) (x : (stepR j s h p).shape.Idx) :
    ((stepR j s h p).emb x 0).val = j ∧ ((stepR j s h p).emb x 1).val = s + 4 * (x 1).val ∧ ((stepR j s h p).emb x 2).val = (x 2).val := by
  have h0 : (x 0).val < 1 := (x 0).isLt
  exact ⟨show j + 1 * (x 0).val = j by omega, rfl, show 0 + 1 * (x 2).val = _ by omega⟩

theorem idx_ext {S : Shape} {x y : S.Idx} (h : ∀ a, (x a).val = (y a).val) : x = y := funext fun a => Fin.ext (h a)

/-- A whole lane tile stored, read at its own entry. -/
theorem canon_tile (j : Nat) (h) (w : S1x512x128.Idx → Elt F .f32) (L : List (View.Piece (Elt F) S4x512x128 .f32)) (y : S4x512x128.Idx) (hy : (y 0).val = j) :
    View.canon (⟨tileR j h, w⟩ :: L) y = w (ix3 0 (y 1) (y 2)) := by
  have e : (tileR j h).emb (ix3 0 (y 1) (y 2) : S1x512x128.Idx) = y := by
    obtain ⟨a, b, c⟩ := tile_emb j h (ix3 0 (y 1) (y 2) : S1x512x128.Idx)
    refine idx_ext fun k => ?_
    match k with
    | 0 => exact a.trans hy.symm
    | 1 => exact b
    | 2 => exact c
  exact (congrArg _ e.symm).trans (View.canon_cons_emb (tileR j h) w L (ix3 0 (y 1) (y 2) : S1x512x128.Idx))

/-- … and away from it. -/
theorem canon_tile_ne (j : Nat) (h) (w : S1x512x128.Idx → Elt F .f32) (L : List (View.Piece (Elt F) S4x512x128 .f32)) (y : S4x512x128.Idx) (hy : (y 0).val ≠ j) :
    View.canon (⟨tileR j h, w⟩ :: L) y = View.canon L y := by
  refine View.canon_cons_of_not_mem _ L fun hm => hy ?_
  rw [LoadRect.mem_set] at hm
  obtain ⟨k, hk, e⟩ := hm 0
  have hk' : k < 1 := hk
  have e' : (y 0).val = j + 1 * k := e
  omega

/-- Every fourth row stored, read at one of them. -/
theorem canon_step (j s : Nat) (h p) (w : S1x128x128.Idx → Elt F .f32) (L : List (View.Piece (Elt F) S4x512x128 .f32)) (y : S4x512x128.Idx)
    (hy : (y 0).val = j) (hs : s < 4) (hr : (y 1).val % 4 = s) :
    View.canon (⟨stepR j s h p, w⟩ :: L) y = w (ix3 0 ⟨(y 1).val / 4, by have : (y 1).val < 512 := (y 1).isLt; omega⟩ (y 2)) := by
  have l1 : (y 1).val < 512 := (y 1).isLt
  have e : (stepR j s h p).emb (ix3 0 ⟨(y 1).val / 4, by omega⟩ (y 2) : S1x128x128.Idx) = y := by
    obtain ⟨a, b, c⟩ := step_emb j s h p (ix3 0 ⟨(y 1).val / 4, by omega⟩ (y 2) : S1x128x128.Idx)
    refine idx_ext fun k => ?_
    match k with
    | 0 => exact a.trans hy.symm
    | 1 => exact b.trans (by show s + 4 * ((y 1).val / 4) = (y 1).val; omega)
    | 2 => exact c
  exact (congrArg _ e.symm).trans (View.canon_cons_emb (stepR j s h p) w L (ix3 0 ⟨(y 1).val / 4, by omega⟩ (y 2) : S1x128x128.Idx))

/-- … and away from them. -/
theorem canon_step_ne (j s : Nat) (h p) (w : S1x128x128.Idx → Elt F .f32) (L : List (View.Piece (Elt F) S4x512x128 .f32)) (y : S4x512x128.Idx)
    (hs : s < 4) (hy : (y 0).val ≠ j ∨ (y 1).val % 4 ≠ s) :
    View.canon (⟨stepR j s h p, w⟩ :: L) y = View.canon L y := by
  refine View.canon_cons_of_not_mem _ L fun hm => ?_
  rw [LoadRect.mem_set] at hm
  obtain ⟨k, hk, e⟩ := hm 0
  obtain ⟨k', _, e'⟩ := hm 1
  have hk1 : k < 1 := hk
  have e0 : (y 0).val = j + 1 * k := e
  have e1 : (y 1).val = s + 4 * k' := e'
  omega

/-- A lane tile with its rows `0, 4, …` replaced. -/
def over1 (w0 : S1x128x128.Idx → Elt F .f32) (w : S1x512x128.Idx → Elt F .f32) : S1x512x128.Idx → Elt F .f32 := fun x =>
  if (x 1).val % 4 = 0 then w0 (ix3 0 ⟨(x 1).val / 4, by have : (x 1).val < 512 := (x 1).isLt; omega⟩ (x 2)) else w (ix3 0 (x 1) (x 2))
/-- A lane tile with its rows `0, 4, …` and `1, 5, …` replaced. -/
def over2 (w1 w0 : S1x128x128.Idx → Elt F .f32) (w : S1x512x128.Idx → Elt F .f32) : S1x512x128.Idx → Elt F .f32 := fun x =>
  if (x 1).val % 4 = 1 then w1 (ix3 0 ⟨(x 1).val / 4, by have : (x 1).val < 512 := (x 1).isLt; omega⟩ (x 2)) else over1 w0 w x

/-- A tile's entry by its row and lane. -/
theorem tile_idx (x : S1x512x128.Idx) : ∃ (r : Fin 512) (l : Fin 128), x = ix3 0 r l :=
  ⟨x 1, x 2, funext fun k => by match k with | 0 => exact Fin.ext (by have : (x 0).val < 1 := (x 0).isLt; show (x 0).val = 0; omega) | 1 => rfl | 2 => rfl⟩

variable (v : View sig .tc .vmem S4x512x128 .f32)

/-- The tile just stored and overstored twice, read back. -/
theorem back_two (j : Nat) (h h1 h0 p1 p0 h') (w1 w0 : S1x128x128.Idx → Elt F .f32) (w : S1x512x128.Idx → Elt F .f32) (L : List (View.Piece (Elt F) S4x512x128 .f32)) :
    v.readCov (⟨stepR j 1 h1 p1, w1⟩ :: ⟨stepR j 0 h0 p0, w0⟩ :: ⟨tileR j h, w⟩ :: L) (tileR j h').toLoadRect = over2 w1 w0 w := by
  rw [View.readCov_eq_canon']
  funext x
  obtain ⟨r, l, rfl⟩ := tile_idx x
  obtain ⟨a, b, c⟩ := tile_emb j h' (ix3 0 r l : S1x512x128.Idx)
  show View.canon _ ((tileR j h').emb (ix3 0 r l : S1x512x128.Idx)) = _
  generalize (tileR j h').emb (ix3 0 r l : S1x512x128.Idx) = y at a b c
  obtain ⟨jj, r', l', rfl⟩ : ∃ (p : Fin 4) (q : Fin 512) (t : Fin 128), y = ix3 p q t :=
    ⟨y 0, y 1, y 2, funext fun k => by match k with | 0 => rfl | 1 => rfl | 2 => rfl⟩
  obtain rfl : r' = r := Fin.ext b
  obtain rfl : l' = l := Fin.ext c
  show _ = if r'.val % 4 = 1 then w1 (ix3 0 ⟨r'.val / 4, _⟩ l') else if r'.val % 4 = 0 then w0 (ix3 0 ⟨r'.val / 4, _⟩ l') else w (ix3 0 r' l')
  by_cases k1 : r'.val % 4 = 1
  · rw [if_pos k1]
    exact canon_step j 1 h1 p1 w1 _ _ a (by decide) k1
  · rw [if_neg k1, canon_step_ne j 1 h1 p1 w1 _ _ (by decide) (.inr k1)]
    by_cases k0 : r'.val % 4 = 0
    · rw [if_pos k0]
      exact canon_step j 0 h0 p0 w0 _ _ a (by decide) k0
    · rw [if_neg k0, canon_step_ne j 0 h0 p0 w0 _ _ (by decide) (.inr k0)]
      exact canon_tile j h w _ _ a

/-- The tile just stored and overstored once, read back. -/
theorem back_one (j : Nat) (h h0 p0 h') (w0 : S1x128x128.Idx → Elt F .f32) (w : S1x512x128.Idx → Elt F .f32) (L : List (View.Piece (Elt F) S4x512x128 .f32)) :
    v.readCov (⟨stepR j 0 h0 p0, w0⟩ :: ⟨tileR j h, w⟩ :: L) (tileR j h').toLoadRect = over1 w0 w := by
  rw [View.readCov_eq_canon']
  funext x
  obtain ⟨r, l, rfl⟩ := tile_idx x
  obtain ⟨a, b, c⟩ := tile_emb j h' (ix3 0 r l : S1x512x128.Idx)
  show View.canon _ ((tileR j h').emb (ix3 0 r l : S1x512x128.Idx)) = _
  generalize (tileR j h').emb (ix3 0 r l : S1x512x128.Idx) = y at a b c
  obtain ⟨jj, r', l', rfl⟩ : ∃ (p : Fin 4) (q : Fin 512) (t : Fin 128), y = ix3 p q t :=
    ⟨y 0, y 1, y 2, funext fun k => by match k with | 0 => rfl | 1 => rfl | 2 => rfl⟩
  obtain rfl : r' = r := Fin.ext b
  obtain rfl : l' = l := Fin.ext c
  show _ = if r'.val % 4 = 0 then w0 (ix3 0 ⟨r'.val / 4, _⟩ l') else w (ix3 0 r' l')
  by_cases k0 : r'.val % 4 = 0
  · rw [if_pos k0]
    exact canon_step j 0 h0 p0 w0 _ _ a (by decide) k0
  · rw [if_neg k0, canon_step_ne j 0 h0 p0 w0 _ _ (by decide) (.inr k0)]
    exact canon_tile j h w _ _ a

/-- Another tile's stores do not matter to a tile's read. -/
theorem skip_tile (j i : Nat) (hij : i ≠ j) (h h') (w : S1x512x128.Idx → Elt F .f32) (L : List (View.Piece (Elt F) S4x512x128 .f32)) :
    v.readCov (⟨tileR j h, w⟩ :: L) (tileR i h').toLoadRect = v.readCov L (tileR i h').toLoadRect := by
  rw [View.readCov_eq_canon', View.readCov_eq_canon']
  funext x
  exact canon_tile_ne j h w L _ (by rw [show (((tileR i h').toLoadRect.idx x) 0).val = i from (tile_emb i h' x).1]; exact hij)

theorem skip_step (j s i : Nat) (hij : i ≠ j) (hs : s < 4) (h p h') (w : S1x128x128.Idx → Elt F .f32) (L : List (View.Piece (Elt F) S4x512x128 .f32)) :
    v.readCov (⟨stepR j s h p, w⟩ :: L) (tileR i h').toLoadRect = v.readCov L (tileR i h').toLoadRect := by
  rw [View.readCov_eq_canon', View.readCov_eq_canon']
  funext x
  exact canon_step_ne j s h p w L _ hs (.inl (by rw [show (((tileR i h').toLoadRect.idx x) 0).val = i from (tile_emb i h' x).1]; exact hij))

/-- Every fourth row of a tile. -/
def every (s : Nat) (hs : s < 4) (w : S1x512x128.Idx → Elt F .f32) : S1x128x128.Idx → Elt F .f32 := fun x =>
  w (ix3 0 ⟨s + 4 * (x 1).val, by have : (x 1).val < 128 := (x 1).isLt; omega⟩ (x 2))

/-- The tile just stored, every fourth row of it read back. -/
theorem back_every (j s : Nat) (hs : s < 4) (h h') (w : S1x512x128.Idx → Elt F .f32) (L : List (View.Piece (Elt F) S4x512x128 .f32)) :
    v.readCov (⟨tileR j h, w⟩ :: L) (⟨![j, s, 0], ![1, 128, 128], ![1, 4, 1], h'⟩ : LoadRect S4x512x128) = every s hs w := by
  rw [View.readCov_eq_canon']
  funext x
  obtain ⟨r, l, rfl⟩ : ∃ (r l : Fin 128), x = (ix3 0 r l : S1x128x128.Idx) :=
    ⟨x 1, x 2, funext fun k => by match k with | 0 => exact Fin.ext (by have : (x 0).val < 1 := (x 0).isLt; show (x 0).val = 0; omega) | 1 => rfl | 2 => rfl⟩
  refine (canon_tile j h w L _ rfl).trans ?_
  show w _ = w _
  refine congrArg w (idx_ext fun k => ?_)
  match k with
  | 0 => rfl
  | 1 => rfl
  | 2 => exact (by show 0 + 1 * l.val = l.val; omega)

theorem skip_every (j i s : Nat) (hij : i ≠ j) (h h') (w : S1x512x128.Idx → Elt F .f32) (L : List (View.Piece (Elt F) S4x512x128 .f32)) :
    v.readCov (⟨tileR j h, w⟩ :: L) (⟨![i, s, 0], ![1, 128, 128], ![1, 4, 1], h'⟩ : LoadRect S4x512x128)
      = v.readCov L (⟨![i, s, 0], ![1, 128, 128], ![1, 4, 1], h'⟩ : LoadRect S4x512x128) := by
  rw [View.readCov_eq_canon', View.readCov_eq_canon']
  funext x
  have h0 : (x 0).val < 1 := (x 0).isLt
  refine canon_tile_ne j h w L _ fun e => hij ?_
  have e' : i + 1 * (x 0).val = j := e
  omega

end Scratch

end Cert.Kernel5Ideal.Hand

end
-- ==== Proof.DecStore.lean ====
/- What the sample rows' feed-forward kernel's body leaves at each point. -/
module

public import proofs.«01_k».proof.Proof.DecScratch

@[expose] public section

set_option synthInstance.maxSize 4096
set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.ShloMosaic.Tactic
open Idealize.SL

theorem origin : (![0, 0] : Fin 2 → Nat) = fun _ => 0 := funext fun a => by fin_cases a <;> rfl

section Values
variable {F : FTy → Type} [FloatOps F] (x1 : Vec F S128x2x512 .f32) (x2 : Vec F S512x2048 .bf16) (x3 x4 : Vec F S2048x512 .bf16)
  (x5 : Vec F S3x512 .f32) (x6 : Vec F S1x512 .f32) (x7 : Vec F S512x2048 .bf16)

/-- The state's first rows. -/
def state0 : Vec F S128x1x512 .f32 := View.ld x1 (Rect.unit ![0, 0, 0] ![128, 1, 512] inb_S128x2x512_S128x1x512_0_0_0)
/-- The state's second rows. -/
def state1 : Vec F S128x1x512 .f32 := View.ld x1 (Rect.unit ![0, 1, 0] ![128, 1, 512] inb_S128x2x512_S128x1x512_0_1_0)

/-- A chunk's convolution: the gate's rows two and one back, with the state where the sequence starts. -/
def convAt : FVec F S512x512 .f32 :=
  k0_pay38 (k0_pay6 x2 x3) (k0_pay8 x5)
    (k0_pay25 (k0_pay9 x6) (k0_pay10 x5)
      (over2 (k0_pay14 (k0_pay4 (state1 x1))) (k0_pay13 (state0 x1)) (k0_pay12 x2 x3))
      (over2 (k0_pay17 (k0_pay4 (state1 x1))) (k0_pay16 (k0_pay3 (state0 x1))) (k0_pay15 (k0_pay11 x2 x3)))
      (over2 (k0_pay20 (k0_pay4 (state1 x1))) (k0_pay19 (k0_pay3 (state0 x1))) (k0_pay18 (k0_pay11 x2 x3)))
      (over2 (k0_pay24 (k0_pay4 (state1 x1))) (k0_pay23 (k0_pay3 (state0 x1))) (k0_pay22 (k0_pay21 (k0_pay11 x2 x3)))))
    (k0_pay26 (k0_pay8 x5))
    (k0_pay37 (over1 (k0_pay30 (k0_pay29 (k0_pay4 (state1 x1)))) (k0_pay28 (k0_pay6 x2 x3))))
    (over1 (k0_pay32 (k0_pay4 (state1 x1))) (k0_pay31 (k0_pay27 (k0_pay6 x2 x3))))
    (over1 (k0_pay34 (k0_pay4 (state1 x1))) (k0_pay33 (k0_pay27 (k0_pay6 x2 x3))))
    (over1 (k0_pay36 (k0_pay4 (state1 x1))) (k0_pay35 (k0_pay27 (k0_pay6 x2 x3))))

/-- The accumulator with a chunk's part added. -/
def accAdd (acc : Vec F S512x2048 .f32) : Vec F S512x2048 .f32 :=
  k0_pay1 (k0_pay7 x2 x4) acc (k0_pay46 (convAt x1 x2 x3 x5 x6)) (k0_pay47 (convAt x1 x2 x3 x5 x6)) x7

/-- A chunk's new state: the gate's last two rows of every four. -/
def tails : Vec F S128x2x512 .f32 := View.canon
  [⟨Rect.unit ![0, 1, 0] ![128, 1, 512] inb_S128x2x512_S128x1x512_0_1_0,
      k0_pay45 (every 3 (by decide) (k0_pay39 (k0_pay6 x2 x3))) (every 3 (by decide) (k0_pay40 (k0_pay6 x2 x3)))
        (every 3 (by decide) (k0_pay41 (k0_pay6 x2 x3))) (every 3 (by decide) (k0_pay42 (k0_pay6 x2 x3)))⟩,
    ⟨Rect.unit ![0, 0, 0] ![128, 1, 512] inb_S128x2x512_S128x1x512_0_0_0,
      k0_pay44 (k0_pay43 (every 2 (by decide) (k0_pay39 (k0_pay6 x2 x3)))) (every 2 (by decide) (k0_pay40 (k0_pay6 x2 x3)))
        (every 2 (by decide) (k0_pay41 (k0_pay6 x2 x3))) (every 2 (by decide) (k0_pay42 (k0_pay6 x2 x3)))⟩]

end Values

section Body
variable {F : FTy → Type} [FloatOps F] (c : Dev nD) (i : grid0.Coords)
  (a2 : Memref sig .tc .vmem S512x2048 .f32) (h2 : a2.IsWhole)
  (a3 : Memref sig .tc .vmem S128x2x512 .f32) (h3 : a3.IsWhole)
  (a4 : Memref sig .tc .vmem S512x2048 .bf16) (h4 : a4.IsWhole)
  (a5 : Memref sig .tc .vmem S2048x512 .bf16) (h5 : a5.IsWhole)
  (a6 : Memref sig .tc .vmem S2048x512 .bf16) (h6 : a6.IsWhole)
  (a7 : Memref sig .tc .vmem S3x512 .f32) (h7 : a7.IsWhole)
  (a8 : Memref sig .tc .vmem S1x512 .f32) (h8 : a8.IsWhole)
  (a9 : Memref sig .tc .vmem S512x2048 .bf16) (h9 : a9.IsWhole)
  (a10 : Memref sig .tc .vmem S1x2048 .f32) (h10 : a10.IsWhole)
  (a11 : Memref sig .tc .vmem S512x2048 .f32) (h11 : a11.IsWhole)
  (a12 : Memref sig .tc .vmem S128x2x512 .f32) (h12 : a12.IsWhole)
  (a13 : Memref sig .tc .vmem S512x2048 .f32) (h13 : a13.IsWhole)
  (a14 : Memref sig .tc .vmem S4x512x128 .f32) (h14 : a14.IsWhole)
  (a15 : Memref sig .tc .vmem S4x512x128 .f32) (h15 : a15.IsWhole)
  (a16 : Memref sig .tc .vmem S4x512x128 .f32) (h16 : a16.IsWhole)
  (x0 : Vec F S512x2048 .f32) (x1 : Vec F S128x2x512 .f32) (x2 : Vec F S512x2048 .bf16) (x3 : Vec F S2048x512 .bf16) (x4 : Vec F S2048x512 .bf16) (x5 : Vec F S3x512 .f32) (x6 : Vec F S1x512 .f32) (x7 : Vec F S512x2048 .bf16) (x8 : Vec F S1x2048 .f32) (s : Vec F S512x2048 .f32)

/-- The first point starts the accumulator at zero. -/
theorem first_point (c0 : cond0_0 i) (c1 : ¬cond0_1 i) :
    sout0_A_0 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 = accAdd x1 x2 x3 x4 x5 x6 x7 (k0_pay5 (F := F))
    ∧ out0_A_10 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 = tails x2 x3 := by
  constructor
  · unfold sout0_A_0
    rw [View.read_writes_eq_canon _ _ _ (scover0_A_0 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8)]
    unfold kernelRun0_A
    dsimp only
    sl_unfold_words
    rw [View.canon_cons_unit_zero (S := S512x2048) origin, View.readCov_unit_zero (S := S512x2048) _ origin]
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_two, back_one, skip_tile, skip_step]
    rfl
  · unfold out0_A_10
    rw [View.read_writes_eq_canon _ _ _ (cover0_A_10 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8)]
    unfold kernelRun0_A
    dsimp only
    sl_unfold_words
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_every _ _ 2 (by decide), back_every _ _ 3 (by decide), skip_every]
    rfl

/-- A middle point adds to it. -/
theorem middle_point (c0 : ¬cond0_0 i) (c1 : ¬cond0_1 i) :
    sout0_B_0 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s = accAdd x1 x2 x3 x4 x5 x6 x7 s
    ∧ out0_B_10 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s = tails x2 x3 := by
  constructor
  · unfold sout0_B_0
    rw [View.read_writes_eq_canon _ _ _ (scover0_B_0 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s)]
    unfold kernelRun0_B
    dsimp only
    sl_unfold_words
    rw [View.canon_unit_zero (S := S512x2048) origin]
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_two, back_one, skip_tile, skip_step]
    rfl
  · unfold out0_B_10
    rw [View.read_writes_eq_canon _ _ _ (cover0_B_10 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s)]
    unfold kernelRun0_B
    dsimp only
    sl_unfold_words
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_every _ _ 2 (by decide), back_every _ _ 3 (by decide), skip_every]
    rfl

/-- The last point adds to it and writes the output. -/
theorem last_point (c0 : ¬cond0_0 i) (c1 : cond0_1 i) :
    sout0_C_0 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s = accAdd x1 x2 x3 x4 x5 x6 x7 s
    ∧ out0_C_9 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s = k0_pay2 x0 (accAdd x1 x2 x3 x4 x5 x6 x7 s) x8
    ∧ out0_C_10 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s = tails x2 x3 := by
  refine ⟨?_, ?_, ?_⟩
  · unfold sout0_C_0
    rw [View.read_writes_eq_canon _ _ _ (scover0_C_0 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s)]
    unfold kernelRun0_C
    dsimp only
    sl_unfold_words
    rw [View.canon_unit_zero (S := S512x2048) origin]
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_two, back_one, skip_tile, skip_step]
    rfl
  · unfold out0_C_9
    rw [View.read_writes_eq_canon _ _ _ (cover0_C_9 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s)]
    unfold kernelRun0_C
    dsimp only
    sl_unfold_words
    rw [View.canon_unit_zero (S := S512x2048) origin]
    rw [View.readCov_unit_zero (S := S512x2048) _ origin]
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_two, back_one, skip_tile, skip_step]
    rfl
  · unfold out0_C_10
    rw [View.read_writes_eq_canon _ _ _ (cover0_C_10 c i a2 h2 a3 h3 a4 h4 a5 h5 a6 h6 a7 h7 a8 h8 a9 h9 a10 h10 a11 h11 a12 h12 a13 h13 a14 h14 a15 h15 a16 h16 c0 c1 x0 x1 x2 x3 x4 x5 x6 x7 x8 s)]
    unfold kernelRun0_C
    dsimp only
    sl_unfold_words
    simp only [View.readAt_eq_ld, h2.read_unread, h3.read_unread, h4.read_unread, h5.read_unread, h6.read_unread, h7.read_unread, h8.read_unread, h9.read_unread, h10.read_unread, h13.read_unread, View.ld_unit_zero (S := S512x2048) origin, View.ld_unit_zero (S := S2048x512) origin, View.ld_unit_zero (S := S3x512) origin, View.ld_unit_zero (S := S1x512) origin, View.ld_unit_zero (S := S1x2048) origin]
    simp (disch := decide) only [back_every _ _ 2 (by decide), back_every _ _ 3 (by decide), skip_every]
    rfl

end Body

end Cert.Kernel5Ideal.Hand

end
-- ==== Proof.DecSpec.lean ====
/- The sample rows' feed-forward layer over the extended reals, entry by entry: what both the kernel and the reference compute. -/
module

public import proofs.«01_k».proof.Proof.FfnSpec

@[expose] public section

noncomputable section

namespace Cert.Dec

open Idealize.ShloMosaic
open Cert.Ffn (lit gelu norm)

/-- The layer's operands: residual rows, normed rows, convolution state, first weights, convolution taps and bias, second weights, norm scale. -/
structure Args where
  x : Fin 512 → Fin 2048 → EReal
  h : Fin 512 → Fin 2048 → EReal
  st : Fin 128 → Fin 2 → Fin 5632 → EReal
  w : Fin 2048 → Fin 11264 → EReal
  cw : Fin 3 → Fin 5632 → EReal
  cb : Fin 5632 → EReal
  wo : Fin 5632 → Fin 2048 → EReal
  g : Fin 2048 → EReal

variable (A : Args)

/-- The gate: the first half of the first product's columns. -/
def gate (r : Fin 512) (n : Fin 5632) : EReal := ∑ k : Fin 2048, A.h r k * A.w k ⟨n.val, by omega⟩
/-- The up-projection: the second half. -/
def up (r : Fin 512) (n : Fin 5632) : EReal := ∑ k : Fin 2048, A.h r k * A.w k ⟨n.val + 5632, by omega⟩
/-- The gate `d` rows back in the row's sequence of four, the convolution state before the sequence's start. -/
def back (d : Nat) (hd : d ≤ 2) (r : Fin 512) (n : Fin 5632) : EReal :=
  if h : d ≤ r.val % 4 then gate A ⟨r.val - d, by omega⟩ n else A.st ⟨r.val / 4, by omega⟩ ⟨r.val % 4 + 2 - d, by omega⟩ n
/-- The causal convolution over three rows, with its bias. -/
def conv (r : Fin 512) (n : Fin 5632) : EReal :=
  ((A.cb n + A.cw 0 n * back A 2 (by decide) r n) + A.cw 1 n * back A 1 (by decide) r n) + A.cw 2 n * gate A r n
/-- The activated product. -/
def act (r : Fin 512) (n : Fin 5632) : EReal := gelu (conv A r n) * up A r n
/-- The second product. -/
def ffn (r : Fin 512) (j : Fin 2048) : EReal := ∑ n : Fin 5632, act A r n * A.wo n j
/-- The layer's output. -/
def out (r : Fin 512) (j : Fin 2048) : EReal := norm (A.x r j) (ffn A r) (A.g j) j

end Cert.Dec
-- ==== Proof.DecVals.lean ====
/- The sample rows' feed-forward body's values over the extended reals, entry by entry. -/
module

public import proofs.«01_k».proof.Proof.DecStore
public import proofs.«01_k».proof.Proof.DecSpec

@[expose] public section

set_option synthInstance.maxSize 4096
set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.ShloMosaic.Tactic
open Idealize.SL
open Cert.Ffn (lit)

/-! ## The products, the normalization and the activation -/

theorem pay6_apply (h : Vec Ideal S512x2048 .bf16) (w : Vec Ideal S2048x512 .bf16) (a e : Fin 512) :
    (k0_pay6 h w (ix2 a e) : EReal) = ∑ k : Fin 2048, (h (ix2 a k) : EReal) * (w (ix2 k e) : EReal) := by
  unfold k0_pay6
  pointwise

theorem pay7_apply (h : Vec Ideal S512x2048 .bf16) (w : Vec Ideal S2048x512 .bf16) (a e : Fin 512) :
    (k0_pay7 h w (ix2 a e) : EReal) = ∑ k : Fin 2048, (h (ix2 a k) : EReal) * (w (ix2 k e) : EReal) := by
  unfold k0_pay7
  pointwise

theorem pay5_apply (a : Fin 512) (j : Fin 2048) : (k0_pay5 (F := Ideal) (ix2 a j) : EReal) = 0 := by
  unfold k0_pay5
  pointwise

theorem pay8_apply (cw : Vec Ideal S3x512 .f32) (d : Fin 3) (e : Fin 512) : (k0_pay8 cw (ix2 d e) : EReal) = (cw (ix2 d e) : EReal) := by
  unfold k0_pay8
  pointwise

theorem pay9_apply (cb : Vec Ideal S1x512 .f32) (e : Fin 512) : (k0_pay9 cb (ix2 0 e) : EReal) = (cb (ix2 0 e) : EReal) := by
  unfold k0_pay9
  pointwise

theorem pay10_apply (cw : Vec Ideal S3x512 .f32) (e : Fin 512) : (k0_pay10 cw (ix2 0 e) : EReal) = (cw (ix2 0 e) : EReal) := by
  unfold k0_pay10 k0_pay8
  pointwise

theorem pay26_apply (cw : FVec Ideal S3x512 .f32) (e : Fin 512) : (k0_pay26 cw (ix2 0 e) : EReal) = (cw (ix2 1 e) : EReal) := by
  unfold k0_pay26
  pointwise

theorem pay1_apply (u : FVec Ideal S512x512 .f32) (acc : Vec Ideal S512x2048 .f32) (p s : FVec Ideal S512x512 .f32) (wo : Vec Ideal S512x2048 .bf16) (a : Fin 512) (j : Fin 2048) :
    (k0_pay1 u acc p s wo (ix2 a j) : EReal) = (acc (ix2 a j) : EReal)
      + ∑ e : Fin 512, (((p (ix2 a e) : EReal) * (lit 0x3F800000#32 + Ideal.tanh (lit 0x3F4C422A#32 * (s (ix2 a e) : EReal)))) * (u (ix2 a e) : EReal)) * (wo (ix2 e j) : EReal) := by
  unfold k0_pay1
  pointwise

theorem pay2_apply (x acc : Vec Ideal S512x2048 .f32) (g : Vec Ideal S1x2048 .f32) (a : Fin 512) (j : Fin 2048) :
    (k0_pay2 x acc g (ix2 a j) : EReal) = Cert.Ffn.norm (x (ix2 a j)) (fun k => acc (ix2 a k)) (g (ix2 0 j)) j := by
  unfold k0_pay2 Cert.Ffn.norm
  pointwise

theorem pay46_apply (z : FVec Ideal S512x512 .f32) (a e : Fin 512) : (k0_pay46 z (ix2 a e) : EReal) = lit 0x3F000000#32 * (z (ix2 a e) : EReal) := rfl

theorem pay47_apply (z : FVec Ideal S512x512 .f32) (a e : Fin 512) :
    (k0_pay47 z (ix2 a e) : EReal) = (z (ix2 a e) : EReal) + ((lit 0x3D372713#32 * (z (ix2 a e) : EReal)) * (z (ix2 a e) : EReal)) * (z (ix2 a e) : EReal) := rfl

/-! ## The gate's rows moved down, and the state's rows -/

/-- The gate moved down two rows. -/
theorem pay11_apply (h : Vec Ideal S512x2048 .bf16) (w : Vec Ideal S2048x512 .bf16) (a e : Fin 512) (ha : 2 ≤ a.val) :
    (k0_pay11 h w (ix2 a e) : EReal) = (k0_pay6 h w (ix2 ⟨a.val - 2, by omega⟩ e) : EReal) := by
  unfold k0_pay11
  pointwise
  exact congrArg (k0_pay6 h w) (congrArg (fun x => ix2 x e) (Fin.ext (by show (a.val + 512 - 2) % 512 = a.val - 2; omega)))

/-- The gate moved down a row. -/
theorem pay27_apply (g : FVec Ideal S512x512 .f32) (a e : Fin 512) (ha : 1 ≤ a.val) :
    (k0_pay27 g (ix2 a e) : EReal) = (g (ix2 ⟨a.val - 1, by omega⟩ e) : EReal) := by
  unfold k0_pay27
  pointwise
  exact congrArg g (congrArg (fun x => ix2 x e) (Fin.ext (by show (a.val + 512 - 1) % 512 = a.val - 1; omega)))

theorem pay3_apply (x1 : Vec Ideal S128x2x512 .f32) (p : Fin 128) (e : Fin 512) : (k0_pay3 (state0 x1) (ix2 p e) : EReal) = (x1 (ix3 p 0 e) : EReal) := by
  unfold k0_pay3
  pointwise
  unfold state0
  refine congrArg x1 (idx_ext fun k => ?_)
  match k with
  | 0 => exact (by show 0 + 1 * p.val = p.val; omega)
  | 1 => rfl
  | 2 => exact (by show 0 + 1 * e.val = e.val; omega)

theorem pay4_apply (x1 : Vec Ideal S128x2x512 .f32) (p : Fin 128) (e : Fin 512) : (k0_pay4 (state1 x1) (ix2 p e) : EReal) = (x1 (ix3 p 1 e) : EReal) := by
  unfold k0_pay4
  pointwise
  unfold state1
  refine congrArg x1 (idx_ext fun k => ?_)
  match k with
  | 0 => exact (by show 0 + 1 * p.val = p.val; omega)
  | 1 => rfl
  | 2 => exact (by show 0 + 1 * e.val = e.val; omega)

/-! ## The lane tiles put side by side -/

/-- The tile that holds column `e`. -/
def pick {α : Type} (a b c d : α) (e : Fin 512) : α := if e.val < 128 then a else if e.val < 256 then b else if e.val < 384 then c else d
/-- A column's lane in its tile. -/
abbrev lane (e : Fin 512) : Fin 128 := ⟨e.val % 128, by omega⟩

/-- Four tiles side by side, at an entry. -/
theorem side (w0 w1 w2 w3 : S1x512x128.Idx → EReal) (a e : Fin 512) :
    (if h : e.val < 128 then w0 (ix3 0 a ⟨e.val, h⟩) else if h : e.val - 128 < 128 then w1 (ix3 0 a ⟨e.val - 128, h⟩)
      else if h : e.val - 128 - 128 < 128 then w2 (ix3 0 a ⟨e.val - 128 - 128, h⟩) else w3 (ix3 0 a ⟨e.val - 128 - 128 - 128, by omega⟩))
      = pick w0 w1 w2 w3 e (ix3 0 a (lane e)) := by
  unfold pick
  have he := e.isLt
  by_cases h0 : e.val < 128
  · rw [dif_pos h0, if_pos h0]
    exact congrArg (fun l => w0 (ix3 0 a l)) (Fin.ext (by show e.val = e.val % 128; omega))
  · rw [dif_neg h0, if_neg h0]
    by_cases h1 : e.val < 256
    · rw [dif_pos (by omega), if_pos h1]
      exact congrArg (fun l => w1 (ix3 0 a l)) (Fin.ext (by show e.val - 128 = e.val % 128; omega))
    · rw [dif_neg (by omega), if_neg h1]
      by_cases h2 : e.val < 384
      · rw [dif_pos (by omega), if_pos h2]
        exact congrArg (fun l => w2 (ix3 0 a l)) (Fin.ext (by show e.val - 128 - 128 = e.val % 128; omega))
      · rw [dif_neg (by omega), if_neg h2]
        exact congrArg (fun l => w3 (ix3 0 a l)) (Fin.ext (by show e.val - 128 - 128 - 128 = e.val % 128; omega))

theorem pay25_apply (b t : FVec Ideal S1x512 .f32) (w0 w1 w2 w3 : Vec Ideal S1x512x128 .f32) (a e : Fin 512) :
    (k0_pay25 b t w0 w1 w2 w3 (ix2 a e) : EReal) = (b (ix2 0 e) : EReal) + (t (ix2 0 e) : EReal) * (pick w0 w1 w2 w3 e (ix3 0 a (lane e)) : EReal) := by
  unfold k0_pay25
  pointwise
  exact congrArg (fun y : EReal => _ + _ * y) (side w0 w1 w2 w3 a e)

theorem pay38_apply (g : FVec Ideal S512x512 .f32) (cw : FVec Ideal S3x512 .f32) (z : FVec Ideal S512x512 .f32) (t : FVec Ideal S1x512 .f32)
    (w0 w1 w2 w3 : Vec Ideal S1x512x128 .f32) (a e : Fin 512) :
    (k0_pay38 g cw z t (k0_pay37 w0) w1 w2 w3 (ix2 a e) : EReal)
      = ((z (ix2 a e) : EReal) + (t (ix2 0 e) : EReal) * (pick w0 w1 w2 w3 e (ix3 0 a (lane e)) : EReal)) + (cw (ix2 2 e) : EReal) * (g (ix2 a e) : EReal) := by
  unfold k0_pay38 k0_pay37
  pointwise
  exact congrArg (fun y : EReal => (_ + _ * y) + _) (side w0 w1 w2 w3 a e)

/-! ## A tile's entries -/

/-- The gate two rows back in a row's four, from the state before them. -/
def two (st : S128x2x512.Idx → EReal) (g : S512x512.Idx → EReal) (a e : Fin 512) : EReal :=
  if 2 ≤ a.val % 4 then g (ix2 ⟨a.val - 2, by omega⟩ e) else if a.val % 4 = 1 then st (ix3 ⟨a.val / 4, by omega⟩ 1 e) else st (ix3 ⟨a.val / 4, by omega⟩ 0 e)
/-- The gate a row back in a row's four, from the state before them. -/
def one (st : S128x2x512.Idx → EReal) (g : S512x512.Idx → EReal) (a e : Fin 512) : EReal :=
  if 1 ≤ a.val % 4 then g (ix2 ⟨a.val - 1, by omega⟩ e) else st (ix3 ⟨a.val / 4, by omega⟩ 1 e)

theorem over2_two (st : S128x2x512.Idx → EReal) (g : S512x512.Idx → EReal) (w1 w0 : S1x128x128.Idx → EReal) (w : S1x512x128.Idx → EReal) (a e : Fin 512)
    (h1 : ∀ p : Fin 128, w1 (ix3 0 p (lane e)) = st (ix3 p 1 e)) (h0 : ∀ p : Fin 128, w0 (ix3 0 p (lane e)) = st (ix3 p 0 e))
    (h : 2 ≤ a.val → w (ix3 0 a (lane e)) = g (ix2 ⟨a.val - 2, by omega⟩ e)) :
    over2 (F := Ideal) w1 w0 w (ix3 0 a (lane e)) = two st g a e := by
  show (if a.val % 4 = 1 then w1 (ix3 0 ⟨a.val / 4, _⟩ (lane e)) else if a.val % 4 = 0 then w0 (ix3 0 ⟨a.val / 4, _⟩ (lane e)) else w (ix3 0 a (lane e))) = _
  unfold two
  by_cases k1 : a.val % 4 = 1
  · rw [if_pos k1, if_neg (by omega), if_pos k1, h1]
  · by_cases k0 : a.val % 4 = 0
    · rw [if_neg k1, if_pos k0, if_neg (by omega), if_neg k1, h0]
    · rw [if_neg k1, if_neg k0, if_pos (by omega), h (by omega)]

theorem over1_one (st : S128x2x512.Idx → EReal) (g : S512x512.Idx → EReal) (w0 : S1x128x128.Idx → EReal) (w : S1x512x128.Idx → EReal) (a e : Fin 512)
    (h0 : ∀ p : Fin 128, w0 (ix3 0 p (lane e)) = st (ix3 p 1 e))
    (h : 1 ≤ a.val → w (ix3 0 a (lane e)) = g (ix2 ⟨a.val - 1, by omega⟩ e)) :
    over1 (F := Ideal) w0 w (ix3 0 a (lane e)) = one st g a e := by
  show (if a.val % 4 = 0 then w0 (ix3 0 ⟨a.val / 4, _⟩ (lane e)) else w (ix3 0 a (lane e))) = _
  unfold one
  by_cases k0 : a.val % 4 = 0
  · rw [if_pos k0, if_neg (by omega), h0]
  · rw [if_neg k0, if_pos (by omega), h (by omega)]

/-- The first convolution input's tiles, at a column. -/
theorem tiles_two (x1 : Vec Ideal S128x2x512 .f32) (x2 : Vec Ideal S512x2048 .bf16) (x3 : Vec Ideal S2048x512 .bf16) (a e : Fin 512) :
    (pick (over2 (F := Ideal) (k0_pay14 (k0_pay4 (state1 x1))) (k0_pay13 (state0 x1)) (k0_pay12 x2 x3))
      (over2 (F := Ideal) (k0_pay17 (k0_pay4 (state1 x1))) (k0_pay16 (k0_pay3 (state0 x1))) (k0_pay15 (k0_pay11 x2 x3)))
      (over2 (F := Ideal) (k0_pay20 (k0_pay4 (state1 x1))) (k0_pay19 (k0_pay3 (state0 x1))) (k0_pay18 (k0_pay11 x2 x3)))
      (over2 (F := Ideal) (k0_pay24 (k0_pay4 (state1 x1))) (k0_pay23 (k0_pay3 (state0 x1))) (k0_pay22 (k0_pay21 (k0_pay11 x2 x3)))) e (ix3 0 a (lane e)) : EReal)
      = two x1 (k0_pay6 x2 x3) a e := by
  have he := e.isLt
  unfold pick
  by_cases h0 : e.val < 128
  · rw [if_pos h0]
    have hl (l : Fin 512) (h : l.val = e.val % 128) : l = e := Fin.ext (by omega)
    refine over2_two x1 _ _ _ _ a e (fun p => ?_) (fun p => ?_) (fun ha => ?_)
    · refine Eq.trans ?_ (pay4_apply x1 p e)
      unfold k0_pay14
      pointwise
      exact congrArg (fun l => k0_pay4 (state1 x1) (ix2 p l)) (hl _ rfl)
    · refine Eq.trans ?_ (pay3_apply x1 p e)
      unfold k0_pay13
      pointwise
      exact congrArg (fun l => k0_pay3 (state0 x1) (ix2 p l)) (hl _ rfl)
    · refine Eq.trans ?_ (pay11_apply x2 x3 a e ha)
      unfold k0_pay12
      pointwise
      exact congrArg (fun l => k0_pay11 x2 x3 (ix2 a l)) (hl _ rfl)
  · rw [if_neg h0]
    by_cases h1 : e.val < 256
    · rw [if_pos h1]
      have hl (l : Fin 512) (h : l.val = 128 + e.val % 128) : l = e := Fin.ext (by omega)
      refine over2_two x1 _ _ _ _ a e (fun p => ?_) (fun p => ?_) (fun ha => ?_)
      · refine Eq.trans ?_ (pay4_apply x1 p e)
        unfold k0_pay17
        pointwise
        exact congrArg (fun l => k0_pay4 (state1 x1) (ix2 p l)) (hl _ rfl)
      · refine Eq.trans ?_ (pay3_apply x1 p e)
        unfold k0_pay16
        pointwise
        exact congrArg (fun l => k0_pay3 (state0 x1) (ix2 p l)) (hl _ rfl)
      · refine Eq.trans ?_ (pay11_apply x2 x3 a e ha)
        unfold k0_pay15
        pointwise
        exact congrArg (fun l => k0_pay11 x2 x3 (ix2 a l)) (hl _ rfl)
    · rw [if_neg h1]
      by_cases h2 : e.val < 384
      · rw [if_pos h2]
        have hl (l : Fin 512) (h : l.val = 256 + e.val % 128) : l = e := Fin.ext (by omega)
        refine over2_two x1 _ _ _ _ a e (fun p => ?_) (fun p => ?_) (fun ha => ?_)
        · refine Eq.trans ?_ (pay4_apply x1 p e)
          unfold k0_pay20
          pointwise
          exact congrArg (fun l => k0_pay4 (state1 x1) (ix2 p l)) (hl _ rfl)
        · refine Eq.trans ?_ (pay3_apply x1 p e)
          unfold k0_pay19
          pointwise
          exact congrArg (fun l => k0_pay3 (state0 x1) (ix2 p l)) (hl _ rfl)
        · refine Eq.trans ?_ (pay11_apply x2 x3 a e ha)
          unfold k0_pay18
          pointwise
          exact congrArg (fun l => k0_pay11 x2 x3 (ix2 a l)) (hl _ rfl)
      · rw [if_neg h2]
        have hl (l : Fin 512) (h : l.val = 384 + e.val % 128) : l = e := Fin.ext (by omega)
        refine over2_two x1 _ _ _ _ a e (fun p => ?_) (fun p => ?_) (fun ha => ?_)
        · refine Eq.trans ?_ (pay4_apply x1 p e)
          unfold k0_pay24
          pointwise
          exact congrArg (fun l => k0_pay4 (state1 x1) (ix2 p l)) (hl _ rfl)
        · refine Eq.trans ?_ (pay3_apply x1 p e)
          unfold k0_pay23
          pointwise
          exact congrArg (fun l => k0_pay3 (state0 x1) (ix2 p l)) (hl _ rfl)
        · refine Eq.trans ?_ (pay11_apply x2 x3 a e ha)
          unfold k0_pay22 k0_pay21
          pointwise
          exact congrArg (fun l => k0_pay11 x2 x3 (ix2 a l)) (hl _ rfl)

/-- The second convolution input's tiles, at a column. -/
theorem tiles_one (x1 : Vec Ideal S128x2x512 .f32) (g : FVec Ideal S512x512 .f32) (a e : Fin 512) :
    (pick (over1 (F := Ideal) (k0_pay30 (k0_pay29 (k0_pay4 (state1 x1)))) (k0_pay28 g))
      (over1 (F := Ideal) (k0_pay32 (k0_pay4 (state1 x1))) (k0_pay31 (k0_pay27 g)))
      (over1 (F := Ideal) (k0_pay34 (k0_pay4 (state1 x1))) (k0_pay33 (k0_pay27 g)))
      (over1 (F := Ideal) (k0_pay36 (k0_pay4 (state1 x1))) (k0_pay35 (k0_pay27 g))) e (ix3 0 a (lane e)) : EReal)
      = one x1 g a e := by
  have he := e.isLt
  unfold pick
  by_cases h0 : e.val < 128
  · rw [if_pos h0]
    have hl (l : Fin 512) (h : l.val = e.val % 128) : l = e := Fin.ext (by omega)
    refine over1_one x1 _ _ _ a e (fun p => ?_) (fun ha => ?_)
    · refine Eq.trans ?_ (pay4_apply x1 p e)
      unfold k0_pay30 k0_pay29
      pointwise
      exact congrArg (fun l => k0_pay4 (state1 x1) (ix2 p l)) (hl _ rfl)
    · refine Eq.trans ?_ (pay27_apply g a e ha)
      unfold k0_pay28
      pointwise
      exact congrArg (fun l => k0_pay27 g (ix2 a l)) (hl _ rfl)
  · rw [if_neg h0]
    by_cases h1 : e.val < 256
    · rw [if_pos h1]
      have hl (l : Fin 512) (h : l.val = 128 + e.val % 128) : l = e := Fin.ext (by omega)
      refine over1_one x1 _ _ _ a e (fun p => ?_) (fun ha => ?_)
      · refine Eq.trans ?_ (pay4_apply x1 p e)
        unfold k0_pay32
        pointwise
        exact congrArg (fun l => k0_pay4 (state1 x1) (ix2 p l)) (hl _ rfl)
      · refine Eq.trans ?_ (pay27_apply g a e ha)
        unfold k0_pay31
        pointwise
        exact congrArg (fun l => k0_pay27 g (ix2 a l)) (hl _ rfl)
    · rw [if_neg h1]
      by_cases h2 : e.val < 384
      · rw [if_pos h2]
        have hl (l : Fin 512) (h : l.val = 256 + e.val % 128) : l = e := Fin.ext (by omega)
        refine over1_one x1 _ _ _ a e (fun p => ?_) (fun ha => ?_)
        · refine Eq.trans ?_ (pay4_apply x1 p e)
          unfold k0_pay34
          pointwise
          exact congrArg (fun l => k0_pay4 (state1 x1) (ix2 p l)) (hl _ rfl)
        · refine Eq.trans ?_ (pay27_apply g a e ha)
          unfold k0_pay33
          pointwise
          exact congrArg (fun l => k0_pay27 g (ix2 a l)) (hl _ rfl)
      · rw [if_neg h2]
        have hl (l : Fin 512) (h : l.val = 384 + e.val % 128) : l = e := Fin.ext (by omega)
        refine over1_one x1 _ _ _ a e (fun p => ?_) (fun ha => ?_)
        · refine Eq.trans ?_ (pay4_apply x1 p e)
          unfold k0_pay36
          pointwise
          exact congrArg (fun l => k0_pay4 (state1 x1) (ix2 p l)) (hl _ rfl)
        · refine Eq.trans ?_ (pay27_apply g a e ha)
          unfold k0_pay35
          pointwise
          exact congrArg (fun l => k0_pay27 g (ix2 a l)) (hl _ rfl)

/-- A chunk's convolution at an entry. -/
theorem convAt_apply (x1 : Vec Ideal S128x2x512 .f32) (x2 : Vec Ideal S512x2048 .bf16) (x3 : Vec Ideal S2048x512 .bf16) (x5 : Vec Ideal S3x512 .f32) (x6 : Vec Ideal S1x512 .f32)
    (a e : Fin 512) :
    (convAt x1 x2 x3 x5 x6 (ix2 a e) : EReal) = (((x6 (ix2 0 e) : EReal) + (x5 (ix2 0 e) : EReal) * two x1 (k0_pay6 x2 x3) a e)
      + (x5 (ix2 1 e) : EReal) * one x1 (k0_pay6 x2 x3) a e) + (x5 (ix2 2 e) : EReal) * (k0_pay6 x2 x3 (ix2 a e) : EReal) := by
  unfold convAt
  refine (pay38_apply _ _ _ _ _ _ _ _ a e).trans ?_
  refine congrArg₂ (fun x y : EReal => x + y) (congrArg₂ (fun x y : EReal => x + y) ?_ ?_) (congrArg (fun x : EReal => x * _) (pay8_apply x5 2 e))
  · refine (pay25_apply _ _ _ _ _ _ a e).trans ?_
    exact congrArg₂ (fun x y : EReal => x + y) (pay9_apply x6 e) (congrArg₂ (fun x y : EReal => x * y) (pay10_apply x5 e) (tiles_two x1 x2 x3 a e))
  · exact congrArg₂ (fun x y : EReal => x * y) ((pay26_apply _ e).trans (pay8_apply x5 1 e)) (tiles_one x1 _ a e)

end Cert.Kernel5Ideal.Hand

end
-- ==== Proof.DecOut.lean ====
/- The sample rows' feed-forward kernel's results over the extended reals: the layer's output and its convolution state. -/
module

public import proofs.«01_k».proof.Proof.DecVals

@[expose] public section

set_option synthInstance.maxSize 4096
set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.ShloMosaic.Tactic
open Idealize.SL
open Cert.Ffn (col lit)

/-! ## The new state's entries -/

/-- Four tiles side by side, at an entry. -/
theorem side128 (w0 w1 w2 w3 : S1x128x128.Idx → EReal) (g : Fin 512 → EReal) (p : Fin 128) (e : Fin 512)
    (h0 : ∀ l : Fin 128, w0 (ix3 0 p l) = g ⟨l.val, by omega⟩) (h1 : ∀ l : Fin 128, w1 (ix3 0 p l) = g ⟨128 + l.val, by omega⟩)
    (h2 : ∀ l : Fin 128, w2 (ix3 0 p l) = g ⟨256 + l.val, by omega⟩) (h3 : ∀ l : Fin 128, w3 (ix3 0 p l) = g ⟨384 + l.val, by omega⟩) :
    (if h : e.val < 128 then w0 (ix3 0 p ⟨e.val, h⟩) else if h : e.val - 128 < 128 then w1 (ix3 0 p ⟨e.val - 128, h⟩)
      else if h : e.val - 128 - 128 < 128 then w2 (ix3 0 p ⟨e.val - 128 - 128, h⟩) else w3 (ix3 0 p ⟨e.val - 128 - 128 - 128, by omega⟩)) = g e := by
  have he := e.isLt
  by_cases k0 : e.val < 128
  · rw [dif_pos k0, h0]
  · rw [dif_neg k0]
    by_cases k1 : e.val < 256
    · rw [dif_pos (by omega), h1]
      exact congrArg g (Fin.ext (by show 128 + (e.val - 128) = e.val; omega))
    · rw [dif_neg (by omega)]
      by_cases k2 : e.val < 384
      · rw [dif_pos (by omega), h2]
        exact congrArg g (Fin.ext (by show 256 + (e.val - 128 - 128) = e.val; omega))
      · rw [dif_neg (by omega), h3]
        exact congrArg g (Fin.ext (by show 384 + (e.val - 128 - 128 - 128) = e.val; omega))

theorem pay39_apply (g : FVec Ideal S512x512 .f32) (s : Nat) (hs : s < 4) (p l : Fin 128) :
    (every (F := Ideal) s hs (k0_pay39 g) (ix3 0 p l) : EReal) = (g (ix2 ⟨s + 4 * p.val, by omega⟩ ⟨l.val, by omega⟩) : EReal) := by
  show (k0_pay39 g (ix3 0 ⟨s + 4 * p.val, _⟩ l) : EReal) = _
  unfold k0_pay39
  pointwise

theorem pay40_apply (g : FVec Ideal S512x512 .f32) (s : Nat) (hs : s < 4) (p l : Fin 128) :
    (every (F := Ideal) s hs (k0_pay40 g) (ix3 0 p l) : EReal) = (g (ix2 ⟨s + 4 * p.val, by omega⟩ ⟨128 + l.val, by omega⟩) : EReal) := by
  show (k0_pay40 g (ix3 0 ⟨s + 4 * p.val, _⟩ l) : EReal) = _
  unfold k0_pay40
  pointwise

theorem pay41_apply (g : FVec Ideal S512x512 .f32) (s : Nat) (hs : s < 4) (p l : Fin 128) :
    (every (F := Ideal) s hs (k0_pay41 g) (ix3 0 p l) : EReal) = (g (ix2 ⟨s + 4 * p.val, by omega⟩ ⟨256 + l.val, by omega⟩) : EReal) := by
  show (k0_pay41 g (ix3 0 ⟨s + 4 * p.val, _⟩ l) : EReal) = _
  unfold k0_pay41
  pointwise

theorem pay42_apply (g : FVec Ideal S512x512 .f32) (s : Nat) (hs : s < 4) (p l : Fin 128) :
    (every (F := Ideal) s hs (k0_pay42 g) (ix3 0 p l) : EReal) = (g (ix2 ⟨s + 4 * p.val, by omega⟩ ⟨384 + l.val, by omega⟩) : EReal) := by
  show (k0_pay42 g (ix3 0 ⟨s + 4 * p.val, _⟩ l) : EReal) = _
  unfold k0_pay42
  pointwise

theorem pay45_apply (g : FVec Ideal S512x512 .f32) (p : Fin 128) (e : Fin 512) :
    (k0_pay45 (every (F := Ideal) 3 (by decide) (k0_pay39 g)) (every (F := Ideal) 3 (by decide) (k0_pay40 g)) (every (F := Ideal) 3 (by decide) (k0_pay41 g))
      (every (F := Ideal) 3 (by decide) (k0_pay42 g)) (ix3 p 0 e) : EReal) = (g (ix2 ⟨3 + 4 * p.val, by omega⟩ e) : EReal) := by
  unfold k0_pay45
  pointwise
  exact side128 _ _ _ _ (fun e => (g (ix2 ⟨3 + 4 * p.val, by omega⟩ e) : EReal)) p e (pay39_apply g 3 (by decide) p) (pay40_apply g 3 (by decide) p)
    (pay41_apply g 3 (by decide) p) (pay42_apply g 3 (by decide) p)

theorem pay44_apply (g : FVec Ideal S512x512 .f32) (p : Fin 128) (e : Fin 512) :
    (k0_pay44 (k0_pay43 (every (F := Ideal) 2 (by decide) (k0_pay39 g))) (every (F := Ideal) 2 (by decide) (k0_pay40 g)) (every (F := Ideal) 2 (by decide) (k0_pay41 g))
      (every (F := Ideal) 2 (by decide) (k0_pay42 g)) (ix3 p 0 e) : EReal) = (g (ix2 ⟨2 + 4 * p.val, by omega⟩ e) : EReal) := by
  unfold k0_pay44 k0_pay43
  pointwise
  exact side128 _ _ _ _ (fun e => (g (ix2 ⟨2 + 4 * p.val, by omega⟩ e) : EReal)) p e (pay39_apply g 2 (by decide) p) (pay40_apply g 2 (by decide) p)
    (pay41_apply g 2 (by decide) p) (pay42_apply g 2 (by decide) p)

/-- A state row of every sequence. -/
abbrev slabR (i : Nat) (h : ∀ a : Fin 3, (![0, i, 0] : Fin 3 → Nat) a + (![128, 1, 512] : Fin 3 → Nat) a ≤ S128x2x512.size a) : Rect S128x2x512 :=
  Rect.unit ![0, i, 0] ![128, 1, 512] h

/-- Two slabs stored whole, read at an entry of one of them. -/
theorem slabs (h1 h0) (w1 w0 : S128x1x512.Idx → EReal) (p : Fin 128) (i : Fin 2) (e : Fin 512) :
    (View.canon (Val := Elt Ideal) (e := .f32) (s := S128x2x512) [⟨slabR 1 h1, w1⟩, ⟨slabR 0 h0, w0⟩] (ix3 p i e) : EReal)
      = if i.val = 1 then w1 (ix3 p 0 e) else w0 (ix3 p 0 e) := by
  have e1 : (slabR 1 h1).emb (ix3 p 0 e : S128x1x512.Idx) = ix3 p 1 e := idx_ext fun k => by
    match k with
    | 0 => exact (by show 0 + 1 * p.val = p.val; omega)
    | 1 => rfl
    | 2 => exact (by show 0 + 1 * e.val = e.val; omega)
  have e0 : (slabR 0 h0).emb (ix3 p 0 e : S128x1x512.Idx) = ix3 p 0 e := idx_ext fun k => by
    match k with
    | 0 => exact (by show 0 + 1 * p.val = p.val; omega)
    | 1 => rfl
    | 2 => exact (by show 0 + 1 * e.val = e.val; omega)
  by_cases h : i.val = 1
  · rw [if_pos h]
    obtain rfl : i = 1 := Fin.ext h
    have q := View.canon_cons_emb (Val := Elt Ideal) (e := .f32) (s := S128x2x512) (slabR 1 h1) w1 [⟨slabR 0 h0, w0⟩] (ix3 p 0 e : S128x1x512.Idx)
    rw [e1] at q
    exact q
  · rw [if_neg h]
    obtain rfl : i = 0 := Fin.ext (by show i.val = 0; omega)
    have q := View.canon_cons_emb (Val := Elt Ideal) (e := .f32) (s := S128x2x512) (slabR 0 h0) w0 [] (ix3 p 0 e : S128x1x512.Idx)
    rw [e0] at q
    refine Eq.trans (View.canon_cons_of_not_mem (Val := Elt Ideal) (e := .f32) ⟨slabR 1 h1, w1⟩ _ fun hm => ?_) q
    rw [LoadRect.mem_set] at hm
    obtain ⟨k, hk, ek⟩ := hm 1
    have ek' : 0 = 1 + 1 * k := ek
    omega

/-- The new state's entries: the gate at the last two rows of every four. -/
theorem tails_apply (x2 : Vec Ideal S512x2048 .bf16) (x3 : Vec Ideal S2048x512 .bf16) (p : Fin 128) (i : Fin 2) (e : Fin 512) :
    (tails x2 x3 (ix3 p i e) : EReal) = (k0_pay6 x2 x3 (ix2 ⟨4 * p.val + 2 + i.val, by omega⟩ e) : EReal) := by
  unfold tails
  refine (slabs _ _ _ _ p i e).trans ?_
  by_cases h : i.val = 1
  · rw [if_pos h]
    refine (pay45_apply _ p e).trans (congrArg (fun r => k0_pay6 x2 x3 (ix2 r e)) (Fin.ext ?_))
    show 3 + 4 * p.val = 4 * p.val + 2 + i.val
    omega
  · rw [if_neg h]
    refine (pay44_apply _ p e).trans (congrArg (fun r => k0_pay6 x2 x3 (ix2 r e)) (Fin.ext ?_))
    show 2 + 4 * p.val = 4 * p.val + 2 + i.val
    omega

variable (m : (ℓ : Loc nD τ sig) → Buf (Elt Ideal) ℓ) (c : Dev nD)

/-! ## What each point leaves -/

theorem lt11 (t : Fin cfg0.N) : t.val < 11 := lt_of_lt_of_eq t.isLt N_0

/-- What the point before `t` left. -/
abbrev before (t : Fin cfg0.N) := outsAt0 m c (t.val - 1) (Nat.lt_of_le_of_lt (Nat.sub_le _ _) t.isLt)

/-- A point's addition to the accumulator. -/
abbrev stepAt (t : Fin cfg0.N) (acc : Vec Ideal S512x2048 .f32) : Vec Ideal S512x2048 .f32 :=
  accAdd (iblk m c 1 t) (iblk m c 2 t) (iblk m c 3 t) (iblk m c 4 t) (iblk m c 5 t) (iblk m c 6 t) (iblk m c 7 t) acc

theorem acc_first (t : Fin cfg0.N) (h : t.val = 0) : (outsAt0 m c t.val t.isLt).2.2 = stepAt m c t (k0_pay5 (F := Ideal)) := by
  rw [outsAt0_A m c t (by omega) (by omega), (first_point ..).1]

theorem acc_next (t : Fin cfg0.N) (h : ¬t.val = 0) : (outsAt0 m c t.val t.isLt).2.2 = stepAt m c t (before m c t).2.2 := by
  have := lt11 t
  by_cases h' : t.val = 10
  · rw [outsAt0_C m c t (by omega) (by omega), (last_point ..).1]
  · rw [outsAt0_B m c t (by omega) (by omega), (middle_point ..).1]

theorem tails_left (t : Fin cfg0.N) : (outsAt0 m c t.val t.isLt).2.1 = tails (iblk m c 2 t) (iblk m c 3 t) := by
  have := lt11 t
  by_cases h : t.val = 0
  · rw [outsAt0_A m c t (by omega) (by omega), (first_point ..).2]
  · by_cases h' : t.val = 10
    · rw [outsAt0_C m c t (by omega) (by omega), (last_point ..).2.2]
    · rw [outsAt0_B m c t (by omega) (by omega), (middle_point ..).2]

theorem out_left (t : Fin cfg0.N) (h : t.val = 10) :
    (outsAt0 m c t.val t.isLt).1 = k0_pay2 (iblk m c 0 t) (stepAt m c t (before m c t).2.2) (iblk m c 8 t) := by
  rw [outsAt0_C m c t (by omega) (by omega), (last_point ..).2.1]

end Cert.Kernel5Ideal.Hand

end
-- ==== Proof.DecFin.lean ====
/- The sample rows' feed-forward kernel's arrays over the extended reals, in terms of the operands as launched. -/
module

public import proofs.«01_k».proof.Proof.DecOut
public import Idealize.ShloMosaic.Lib.StableHlo.ReadAt

@[expose] public section

set_option synthInstance.maxSize 4096
set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.ShloMosaic.Tactic
open Idealize.SL
open Cert.Ffn (col lit)

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The operands as launched. -/
def args : Cert.Dec.Args where
  x r k := arg m c main_arg0 (ix2 r k)
  h r k := arg m c main_arg1 (ix2 r k)
  st s i n := arg m c main_arg2 (ix4 0 s i n)
  w k n := arg m c main_arg3 (ix3 0 k n)
  cw d n := arg m c main_arg4 (ix3 0 d n)
  cb n := arg m c main_arg5 (ix2 0 n)
  wo n j := arg m c main_arg6 (ix3 0 n j)
  g j := arg m c main_arg7 (ix2 0 j)

/-! ## The arrays the lines before the call write -/

theorem V_v1 (k : Fin 2048) (n : Fin 11264) : V m c main_v1 (ix2 k n) = arg m c main_arg3 (ix3 0 k n) := by
  unfold V
  after_reads_at
theorem V_v2 (d : Fin 3) (n : Fin 5632) : V m c main_v2 (ix2 d n) = arg m c main_arg4 (ix3 0 d n) := by
  unfold V
  after_reads_at
theorem V_v4 (n : Fin 5632) : V m c main_v4 (ix2 0 n) = arg m c main_arg5 (ix2 0 n) := by
  unfold V
  after_reads_at
theorem V_v6 (n : Fin 5632) (j : Fin 2048) : V m c main_v6 (ix2 n j) = arg m c main_arg6 (ix3 0 n j) := by
  unfold V
  after_reads_at
theorem V_v8 (j : Fin 2048) : V m c main_v8 (ix2 0 j) = arg m c main_arg7 (ix2 0 j) := by
  unfold V
  after_reads_at
theorem V_v9 (s : Fin 128) (i : Fin 2) (n : Fin 5632) : V m c main_v9 (ix3 s i n) = arg m c main_arg2 (ix4 0 s i n) := by
  unfold V
  after_reads_at

/-! ## The blocks -/

theorem index_0 : ∀ t : Fin cfg0.N, win0_0.index t 0 = 0 ∧ win0_0.index t 1 = 0 := by decide +kernel
theorem index_1 : ∀ t : Fin cfg0.N, win0_1.index t 0 = 0 ∧ win0_1.index t 1 = 0 ∧ win0_1.index t 2 = t.val := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = t.val := by decide +kernel
theorem index_4 : ∀ t : Fin cfg0.N, win0_4.index t 0 = 0 ∧ win0_4.index t 1 = t.val + 11 := by decide +kernel
theorem index_5 : ∀ t : Fin cfg0.N, win0_5.index t 0 = 0 ∧ win0_5.index t 1 = t.val := by decide +kernel
theorem index_6 : ∀ t : Fin cfg0.N, win0_6.index t 0 = 0 ∧ win0_6.index t 1 = t.val := by decide +kernel
theorem index_7 : ∀ t : Fin cfg0.N, win0_7.index t 0 = t.val ∧ win0_7.index t 1 = 0 := by decide +kernel
theorem index_8 : ∀ t : Fin cfg0.N, win0_8.index t 0 = 0 ∧ win0_8.index t 1 = 0 := by decide +kernel

variable (t : Fin cfg0.N)

/-- A point's column chunk. -/
abbrev ch : Fin 11 := ⟨t.val, lt11 t⟩

theorem x_apply (a : Fin 512) (k : Fin 2048) : ((iblk m c 0 t : Vec Ideal S512x2048 .f32) (ix2 a k) : EReal) = (args m c).x a k := by
  refine (congrFun (V_main_arg0 m c) _).trans (congrArg (arg m c main_arg0) (funext fun x => Fin.ext ?_))
  match x with
  | 0 => exact (win0_0.rect_emb_val t _ 0).trans (by rw [(index_0 t).1]; show 0 * 512 + a.val = a.val; omega)
  | 1 => exact (win0_0.rect_emb_val t _ 1).trans (by rw [(index_0 t).2]; show 0 * 2048 + k.val = k.val; omega)

theorem st_apply (s : Fin 128) (i : Fin 2) (e : Fin 512) :
    ((iblk m c 1 t : Vec Ideal S128x2x512 .f32) (ix3 s i e) : EReal) = (args m c).st s i (col (ch t) e) := by
  refine Eq.trans (congrArg (V m c main_v9) (funext fun x => Fin.ext ?_)) (V_v9 m c s i _)
  match x with
  | 0 => exact (win0_1.rect_emb_val t _ 0).trans (by rw [(index_1 t).1]; show 0 * 128 + s.val = s.val; omega)
  | 1 => exact (win0_1.rect_emb_val t _ 1).trans (by rw [(index_1 t).2.1]; show 0 * 2 + i.val = i.val; omega)
  | 2 => exact (win0_1.rect_emb_val t _ 2).trans (by rw [(index_1 t).2.2]; show t.val * 512 + e.val = 512 * t.val + e.val; omega)

theorem h_apply (a : Fin 512) (k : Fin 2048) : ((iblk m c 2 t : Vec Ideal S512x2048 .bf16) (ix2 a k) : EReal) = (args m c).h a k := by
  refine (congrFun (V_main_arg1 m c) _).trans (congrArg (arg m c main_arg1) (funext fun x => Fin.ext ?_))
  match x with
  | 0 => exact (win0_2.rect_emb_val t _ 0).trans (by rw [(index_2 t).1]; show 0 * 512 + a.val = a.val; omega)
  | 1 => exact (win0_2.rect_emb_val t _ 1).trans (by rw [(index_2 t).2]; show 0 * 2048 + k.val = k.val; omega)

theorem wg_apply (k : Fin 2048) (e : Fin 512) :
    ((iblk m c 3 t : Vec Ideal S2048x512 .bf16) (ix2 k e) : EReal) = (args m c).w k ⟨(col (ch t) e).val, by have := (col (ch t) e).isLt; omega⟩ := by
  refine Eq.trans (congrArg (V m c main_v1) (funext fun x => Fin.ext ?_)) (V_v1 m c k _)
  match x with
  | 0 => exact (win0_3.rect_emb_val t _ 0).trans (by rw [(index_3 t).1]; show 0 * 2048 + k.val = k.val; omega)
  | 1 => exact (win0_3.rect_emb_val t _ 1).trans (by rw [(index_3 t).2]; show t.val * 512 + e.val = 512 * t.val + e.val; omega)

theorem wu_apply (k : Fin 2048) (e : Fin 512) :
    ((iblk m c 4 t : Vec Ideal S2048x512 .bf16) (ix2 k e) : EReal) = (args m c).w k ⟨(col (ch t) e).val + 5632, by have := (col (ch t) e).isLt; omega⟩ := by
  refine Eq.trans (congrArg (V m c main_v1) (funext fun x => Fin.ext ?_)) (V_v1 m c k _)
  match x with
  | 0 => exact (win0_4.rect_emb_val t _ 0).trans (by rw [(index_4 t).1]; show 0 * 2048 + k.val = k.val; omega)
  | 1 => exact (win0_4.rect_emb_val t _ 1).trans (by rw [(index_4 t).2]; show (t.val + 11) * 512 + e.val = 512 * t.val + e.val + 5632; omega)

theorem cw_apply (d : Fin 3) (e : Fin 512) : ((iblk m c 5 t : Vec Ideal S3x512 .f32) (ix2 d e) : EReal) = (args m c).cw d (col (ch t) e) := by
  refine Eq.trans (congrArg (V m c main_v2) (funext fun x => Fin.ext ?_)) (V_v2 m c d _)
  match x with
  | 0 => exact (win0_5.rect_emb_val t _ 0).trans (by rw [(index_5 t).1]; show 0 * 3 + d.val = d.val; omega)
  | 1 => exact (win0_5.rect_emb_val t _ 1).trans (by rw [(index_5 t).2]; show t.val * 512 + e.val = 512 * t.val + e.val; omega)

theorem cb_apply (e : Fin 512) : ((iblk m c 6 t : Vec Ideal S1x512 .f32) (ix2 0 e) : EReal) = (args m c).cb (col (ch t) e) := by
  refine Eq.trans (congrArg (V m c main_v4) (funext fun x => Fin.ext ?_)) (V_v4 m c _)
  match x with
  | 0 => exact (win0_6.rect_emb_val t _ 0).trans (by rw [(index_6 t).1]; rfl)
  | 1 => exact (win0_6.rect_emb_val t _ 1).trans (by rw [(index_6 t).2]; show t.val * 512 + e.val = 512 * t.val + e.val; omega)

theorem wo_apply (e : Fin 512) (j : Fin 2048) : ((iblk m c 7 t : Vec Ideal S512x2048 .bf16) (ix2 e j) : EReal) = (args m c).wo (col (ch t) e) j := by
  refine Eq.trans (congrArg (V m c main_v6) (funext fun x => Fin.ext ?_)) (V_v6 m c _ j)
  match x with
  | 0 => exact (win0_7.rect_emb_val t _ 0).trans (by rw [(index_7 t).1]; show t.val * 512 + e.val = 512 * t.val + e.val; omega)
  | 1 => exact (win0_7.rect_emb_val t _ 1).trans (by rw [(index_7 t).2]; show 0 * 2048 + j.val = j.val; omega)

theorem g_apply (j : Fin 2048) : ((iblk m c 8 t : Vec Ideal S1x2048 .f32) (ix2 0 j) : EReal) = (args m c).g j := by
  refine Eq.trans (congrArg (V m c main_v8) (funext fun x => Fin.ext ?_)) (V_v8 m c j)
  match x with
  | 0 => exact (win0_8.rect_emb_val t _ 0).trans (by rw [(index_8 t).1]; rfl)
  | 1 => exact (win0_8.rect_emb_val t _ 1).trans (by rw [(index_8 t).2]; show 0 * 2048 + j.val = j.val; omega)

/-! ## A chunk's values -/

/-- A point's gate entries. -/
theorem gate_apply (a e : Fin 512) : (k0_pay6 (iblk m c 2 t) (iblk m c 3 t) (ix2 a e) : EReal) = Cert.Dec.gate (args m c) a (col (ch t) e) := by
  refine (pay6_apply _ _ a e).trans ?_
  refine congrArg (fun f : Fin 2048 → EReal => ∑ k, f k) (funext fun k => ?_)
  exact congrArg₂ (fun x y : EReal => x * y) (h_apply m c t a k) (wg_apply m c t k e)

/-- A point's up-projection entries. -/
theorem up_apply (a e : Fin 512) : (k0_pay7 (iblk m c 2 t) (iblk m c 4 t) (ix2 a e) : EReal) = Cert.Dec.up (args m c) a (col (ch t) e) := by
  refine (pay7_apply _ _ a e).trans ?_
  refine congrArg (fun f : Fin 2048 → EReal => ∑ k, f k) (funext fun k => ?_)
  exact congrArg₂ (fun x y : EReal => x * y) (h_apply m c t a k) (wu_apply m c t k e)

/-- The convolution's input two rows back. -/
theorem two_apply (a e : Fin 512) :
    two (iblk m c 1 t) (k0_pay6 (iblk m c 2 t) (iblk m c 3 t)) a e = Cert.Dec.back (args m c) 2 (by decide) a (col (ch t) e) := by
  unfold two Cert.Dec.back
  by_cases h : 2 ≤ a.val % 4
  · rw [if_pos h, dif_pos h]
    exact gate_apply m c t _ e
  · rw [if_neg h, dif_neg h]
    by_cases h1 : a.val % 4 = 1
    · rw [if_pos h1]
      exact (st_apply m c t _ 1 e).trans (congrArg (fun i => (args m c).st _ i _) (Fin.ext (by show 1 = a.val % 4 + 2 - 2; omega)))
    · rw [if_neg h1]
      exact (st_apply m c t _ 0 e).trans (congrArg (fun i => (args m c).st _ i _) (Fin.ext (by show 0 = a.val % 4 + 2 - 2; omega)))

/-- The convolution's input one row back. -/
theorem one_apply (a e : Fin 512) :
    one (iblk m c 1 t) (k0_pay6 (iblk m c 2 t) (iblk m c 3 t)) a e = Cert.Dec.back (args m c) 1 (by decide) a (col (ch t) e) := by
  unfold one Cert.Dec.back
  by_cases h : 1 ≤ a.val % 4
  · rw [if_pos h, dif_pos h]
    exact gate_apply m c t _ e
  · rw [if_neg h, dif_neg h]
    exact (st_apply m c t _ 1 e).trans (congrArg (fun i => (args m c).st _ i _) (Fin.ext (by show 1 = a.val % 4 + 2 - 1; omega)))

/-- A point's convolution entries. -/
theorem conv_apply (a e : Fin 512) :
    (convAt (iblk m c 1 t) (iblk m c 2 t) (iblk m c 3 t) (iblk m c 5 t) (iblk m c 6 t) (ix2 a e) : EReal) = Cert.Dec.conv (args m c) a (col (ch t) e) := by
  refine (convAt_apply _ _ _ _ _ a e).trans ?_
  unfold Cert.Dec.conv
  exact congrArg₂ (fun x y : EReal => x + y) (congrArg₂ (fun x y : EReal => x + y)
    (congrArg₂ (fun x y : EReal => x + y) (cb_apply m c t e) (congrArg₂ (fun x y : EReal => x * y) (cw_apply m c t 0 e) (two_apply m c t a e)))
    (congrArg₂ (fun x y : EReal => x * y) (cw_apply m c t 1 e) (one_apply m c t a e)))
    (congrArg₂ (fun x y : EReal => x * y) (cw_apply m c t 2 e) (gate_apply m c t a e))

/-- One chunk's part of an entry of the second product. -/
def chunk (r : Fin 512) (q : Fin 11) (j : Fin 2048) : EReal :=
  ∑ e : Fin 512, Cert.Dec.act (args m c) r (col q e) * (args m c).wo (col q e) j

/-- The activation as the kernel computes it. -/
theorem gelu_eq (z : EReal) : (lit 0x3F000000#32 * z) * (lit 0x3F800000#32 + Ideal.tanh (lit 0x3F4C422A#32 * (z + ((lit 0x3D372713#32 * z) * z) * z))) = Cert.Ffn.gelu z := by
  unfold Cert.Ffn.gelu
  first
    | rfl
    | rw [mul_comm (lit 0x3F4C422A#32)]

/-- One point's addition to an entry of the accumulator. -/
theorem step_apply (acc : Vec Ideal S512x2048 .f32) (a : Fin 512) (j : Fin 2048) :
    (stepAt m c t acc (ix2 a j) : EReal) = (acc (ix2 a j) : EReal) + chunk m c a (ch t) j := by
  unfold stepAt accAdd
  refine (pay1_apply _ _ _ _ _ a j).trans (congrArg (fun y : EReal => _ + y) ?_)
  unfold chunk
  refine congrArg (fun f : Fin 512 → EReal => ∑ e, f e) (funext fun e => ?_)
  refine congrArg₂ (fun x y : EReal => x * y) (congrArg₂ (fun x y : EReal => x * y) ?_ (up_apply m c t a e)) (wo_apply m c t e j)
  rw [pay46_apply, pay47_apply, conv_apply]
  exact gelu_eq _

/-- The accumulator after chunk `n`: the chunks so far. -/
theorem acc_apply (a : Fin 512) (j : Fin 2048) (n : Nat) : ∀ (t : Fin cfg0.N) (ht : t.val = n),
    ((outsAt0 m c t.val t.isLt).2.2 (ix2 a j) : EReal) = ∑ k : Fin (n + 1), chunk m c a ⟨k.val, by have := lt11 t; omega⟩ j := by
  induction n with
  | zero =>
    intro t ht
    rw [acc_first m c t ht, step_apply, pay5_apply, zero_add, Fin.sum_univ_castSucc, Finset.univ_eq_empty, Finset.sum_empty, zero_add]
    exact congrArg (fun q => chunk m c a q j) (Fin.ext ht)
  | succ n ih =>
    intro t ht
    have := lt11 t
    rw [acc_next m c t (by omega), step_apply, Fin.sum_univ_castSucc]
    refine congrArg₂ (fun x y : EReal => x + y) ?_ (congrArg (fun q => chunk m c a q j) (Fin.ext ht))
    exact ih ⟨t.val - 1, Nat.lt_of_le_of_lt (Nat.sub_le _ _) t.isLt⟩ (by show t.val - 1 = n; omega)

/-- The accumulator after the last chunk: the second product. -/
theorem acc_last (h : t.val = 10) (a : Fin 512) (j : Fin 2048) : ((outsAt0 m c t.val t.isLt).2.2 (ix2 a j) : EReal) = Cert.Dec.ffn (args m c) a j :=
  (acc_apply m c a j 10 t h).trans (Cert.Ffn.sum_chunks fun n => Cert.Dec.act (args m c) a n * (args m c).wo n j).symm

/-- The last point's output entries. -/
theorem out_apply (h : t.val = 10) (a : Fin 512) (j : Fin 2048) : ((outsAt0 m c t.val t.isLt).1 (ix2 a j) : EReal) = Cert.Dec.out (args m c) a j := by
  rw [out_left m c t h, ← acc_next m c t (by omega)]
  refine (pay2_apply _ _ _ a j).trans ?_
  unfold Cert.Dec.out
  rw [x_apply m c t a j, g_apply m c t j]
  exact congrArg (fun f => Cert.Ffn.norm _ f _ j) (funext fun k => acc_last m c t h a k)

/-! ## The results -/

/-- The first result: the layer's output. -/
theorem result9_apply (i : Fin 512) (j : Fin 2048) : (G9 m c (ix2 i j) : EReal) = Cert.Dec.out (args m c) i j := by
  have hp : pt9Of (ix2 i j) = 10 := by
    show 11 * (1 * (i.val / 512 - 0) + 1 * (j.val / 2048 - 0)) + 10 = _
    omega
  have hN : pt9Of (ix2 i j) < cfg0.N := by rw [hp, show cfg0.N = 11 from N_0]; omega
  have hl : loc9Of (ix2 i j) = ix2 i j := by
    funext a
    match a with
    | 0 => exact Fin.ext (Nat.mod_eq_of_lt i.isLt)
    | 1 => exact Fin.ext (Nat.mod_eq_of_lt j.isLt)
  unfold G9
  rw [dif_pos hN, ← outsAt0_sweep m c _ hN, hl]
  exact out_apply m c ⟨pt9Of (ix2 i j), hN⟩ hp i j

/-- The second result: the gate at each sequence's last two rows. -/
theorem result10_apply (s : Fin 128) (i : Fin 2) (n : Fin 5632) :
    (G10 m c (ix3 s i n) : EReal) = Cert.Dec.gate (args m c) ⟨4 * s.val + 2 + i.val, by omega⟩ n := by
  have hp : pt10Of (ix3 s i n) = n.val / 512 := by
    show 11 * (s.val / 128 - 0) + 11 * (i.val / 2 - 0) + 1 * (n.val / 512 - 0) = _
    omega
  have hN : pt10Of (ix3 s i n) < cfg0.N := by rw [hp, show cfg0.N = 11 from N_0]; omega
  have hl : loc10Of (ix3 s i n) = ix3 s i (⟨n.val % 512, Nat.mod_lt _ (by decide)⟩ : Fin 512) := by
    funext a
    match a with
    | 0 => exact Fin.ext (Nat.mod_eq_of_lt s.isLt)
    | 1 => exact Fin.ext (Nat.mod_eq_of_lt i.isLt)
    | 2 => rfl
  unfold G10
  rw [dif_pos hN, ← outsAt0_sweep m c _ hN, hl]
  have e : (outsAt0 m c (pt10Of (ix3 s i n)) hN).2.1 = tails (iblk m c 2 ⟨pt10Of (ix3 s i n), hN⟩) (iblk m c 3 ⟨pt10Of (ix3 s i n), hN⟩) :=
    tails_left m c ⟨pt10Of (ix3 s i n), hN⟩
  rw [e]
  refine (tails_apply _ _ s i _).trans ((gate_apply m c _ _ _).trans ?_)
  refine congrArg (Cert.Dec.gate (args m c) _) (Fin.ext ?_)
  show 512 * pt10Of (ix3 s i n) + n.val % 512 = n.val
  rw [hp]
  omega

end Cert.Kernel5Ideal.Hand

end
-- ==== Proof.DecRef.lean ====
/- The plain feed-forward program on the sample rows's results over the extended reals: the layer's output and its convolution state. -/
module

public import proofs.«01_k».proof.Proof.DecSpec
public import proofs.«01_k».proof.Proof.Gen.Reference5Ideal.Run
public import Idealize.ShloMosaic.Lib.Pointwise

@[expose] public section

set_option synthInstance.maxSize 4096
set_option maxRecDepth 16384

noncomputable section

namespace Cert.Reference5Ideal.Hand

open Cert.Reference5Ideal Cert.Reference5Ideal.Gen Cert.Reference5Ideal.Value
open Idealize.ShloMosaic Idealize.ShloMosaic.TcCoe Idealize.ShloMosaic.Tactic
open Idealize.SL
open Cert.Ffn (lit)

/-- Row `t` of sequence `s`. -/
def srow (s : Fin 128) (t : Fin 4) : Fin 512 := ⟨4 * s.val + t.val, by omega⟩

/-! ## The program's arrays, each of the ones before it -/

/-- The first product. -/
def both (h : FVec Ideal S512x2048 .bf16) (w : FVec Ideal S1x2048x11264 .f32) : FVec Ideal S128x4x11264 .f32 :=
  Host.dotGeneral dot_S128x4x2048_S2048x11264_S128x4x11264_2_0_01_1_n_n none
    (shapeCast S128x4x2048 (extf .f32 h bitsLt_bf16_f32) shapeCasts_S512x2048_S128x4x2048) (shapeCast S2048x11264 w shapeCasts_S1x2048x11264_S2048x11264)
/-- Its gate half. -/
def gateA (u : FVec Ideal S128x4x11264 .f32) : FVec Ideal S128x4x5632 .f32 :=
  extractStridedSlice S128x4x5632 ![0, 0, 0] u slices_S128x4x11264_S128x4x5632_0_0_0
/-- Its up half. -/
def upA (u : FVec Ideal S128x4x11264 .f32) : FVec Ideal S128x4x5632 .f32 :=
  extractStridedSlice S128x4x5632 ![0, 0, 5632] u slices_S128x4x11264_S128x4x5632_0_0_5632
/-- The gate with the state's two rows before each sequence. -/
def padA (st : FVec Ideal S1x128x2x5632 .f32) (g : FVec Ideal S128x4x5632 .f32) : FVec Ideal S128x6x5632 .f32 :=
  concatenate S128x6x5632 1 [⟨S128x2x5632, (shapeCast S128x2x5632 st shapeCasts_S1x128x2x5632_S128x2x5632)⟩, ⟨S128x4x5632, g⟩]
    concatenates_S128x2x5632_S128x4x5632_S128x6x5632_d1
/-- A row of columns at every row. -/
def wide (v : FVec Ideal S5632 .f32) : FVec Ideal S128x4x5632 .f32 :=
  broadcastInDim S128x4x5632 ![0, 1, 2] bcast_S1x1x5632_S128x4x5632_0_1_2 (broadcastInDim S1x1x5632 ![2] bcast_S5632_S1x1x5632_2 v)
/-- The literal `b` at every entry. -/
def litA (b : BitVec 32) : FVec Ideal S128x4x5632 .f32 := broadcastInDim S128x4x5632 ![] bcast_S_S128x4x5632 (constant S_ .f32 b)
/-- The convolution. -/
def convA (p : FVec Ideal S128x6x5632 .f32) (cw : FVec Ideal S1x3x5632 .f32) (cb : FVec Ideal S1x5632 .f32) : FVec Ideal S128x4x5632 .f32 :=
  addf (wide (shapeCast S5632 cb shapeCasts_S1x5632_S5632)) (addf (addf (addf (litA 0x00000000#32)
    (mulf (wide (shapeCast S5632 (extractStridedSlice S1x5632 ![0, 0] (shapeCast S3x5632 cw shapeCasts_S1x3x5632_S3x5632) slices_S3x5632_S1x5632_0_0) shapeCasts_S1x5632_S5632))
      (extractStridedSlice S128x4x5632 ![0, 0, 0] p slices_S128x6x5632_S128x4x5632_0_0_0)))
    (mulf (wide (shapeCast S5632 (extractStridedSlice S1x5632 ![1, 0] (shapeCast S3x5632 cw shapeCasts_S1x3x5632_S3x5632) slices_S3x5632_S1x5632_1_0) shapeCasts_S1x5632_S5632))
      (extractStridedSlice S128x4x5632 ![0, 1, 0] p slices_S128x6x5632_S128x4x5632_0_1_0)))
    (mulf (wide (shapeCast S5632 (extractStridedSlice S1x5632 ![2, 0] (shapeCast S3x5632 cw shapeCasts_S1x3x5632_S3x5632) slices_S3x5632_S1x5632_2_0) shapeCasts_S1x5632_S5632))
      (extractStridedSlice S128x4x5632 ![0, 2, 0] p slices_S128x6x5632_S128x4x5632_0_2_0)))
/-- The activated product. -/
def actA (z u : FVec Ideal S128x4x5632 .f32) : FVec Ideal S128x4x5632 .f32 :=
  mulf (mulf z (mulf (litA 0x3F000000#32) (addf (litA 0x3F800000#32) (Host.tanh (mulf (litA 0x3F4C422A#32)
    (addf z (mulf (litA 0x3D372713#32) (mulf (mulf z z) z)))))))) u
/-- The second product. -/
def ffnA (a : FVec Ideal S128x4x5632 .f32) (wo : FVec Ideal S1x5632x2048 .f32) : FVec Ideal S128x4x2048 .f32 :=
  Host.dotGeneral dot_S128x4x5632_S5632x2048_S128x4x2048_2_0_01_1_n_n none a (shapeCast S5632x2048 wo shapeCasts_S1x5632x2048_S5632x2048)
/-- The residual plus the normed second product. -/
def normA (x : FVec Ideal S512x2048 .f32) (f : FVec Ideal S128x4x2048 .f32) (g : FVec Ideal S1x2048 .f32) : FVec Ideal S512x2048 .f32 :=
  shapeCast S512x2048 (addf (shapeCast S128x4x2048 x shapeCasts_S512x2048_S128x4x2048) (mulf (mulf f
    (broadcastInDim S128x4x2048 ![0, 1, 2] bcast_S128x4x1_S128x4x2048_0_1_2 (Host.rsqrt (addf (Host.divf
      (broadcastInDim S128x4x1 ![0, 1] bcast_S128x4_S128x4x1_0_1 (Host.reduceAdd (mulf f f) (constant S_ .f32 0x00000000#32) reducesTo_S128x4x2048_S128x4_d2 h_S_))
      (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2
      (shapeCast S2048 g shapeCasts_S1x2048_S2048))))) shapeCasts_S128x4x2048_S512x2048

/-! ## Their entries -/

theorem both_apply (h : FVec Ideal S512x2048 .bf16) (w : FVec Ideal S1x2048x11264 .f32) (s : Fin 128) (t : Fin 4) (n : Fin 11264) :
    (both h w (ix3 s t n) : EReal) = ∑ k : Fin 2048, (h (ix2 (srow s t) k) : EReal) * (w (ix3 0 k n) : EReal) := by
  unfold both
  pointwise
  refine congrArg (fun f : Fin 2048 → EReal => ∑ k, f k) (funext fun k => ?_)
  exact congrArg₂ (fun x y : EReal => x * y) (congrArg (fun r => h (ix2 r k)) (Fin.ext (by
    show s.val * 4 + t.val = 4 * s.val + t.val; omega))) rfl

theorem gateA_apply (u : FVec Ideal S128x4x11264 .f32) (s : Fin 128) (t : Fin 4) (n : Fin 5632) :
    gateA u (ix3 s t n) = u (ix3 s t ⟨n.val, by omega⟩) := by
  unfold gateA
  pointwise

theorem upA_apply (u : FVec Ideal S128x4x11264 .f32) (s : Fin 128) (t : Fin 4) (n : Fin 5632) :
    upA u (ix3 s t n) = u (ix3 s t ⟨n.val + 5632, by omega⟩) := by
  unfold upA
  pointwise
  exact congrArg (fun y => u (ix3 s t y)) (Fin.ext (Nat.add_comm _ _))

theorem padA_apply (st : FVec Ideal S1x128x2x5632 .f32) (g : FVec Ideal S128x4x5632 .f32) (s : Fin 128) (u : Fin 6) (n : Fin 5632) :
    (padA st g (ix3 s u n) : EReal) = if h : u.val < 2 then (st (ix4 0 s ⟨u.val, h⟩ n) : EReal) else (g (ix3 s ⟨u.val - 2, by omega⟩ n) : EReal) := by
  unfold padA
  pointwise

theorem wide_apply (v : FVec Ideal S5632 .f32) (s : Fin 128) (t : Fin 4) (n : Fin 5632) : wide v (ix3 s t n) = v (ix1 n) := by
  unfold wide
  pointwise

theorem litA_apply (b : BitVec 32) (s : Fin 128) (t : Fin 4) (n : Fin 5632) : (litA b (ix3 s t n) : EReal) = lit b := by
  unfold litA
  pointwise

theorem cb_apply (cb : FVec Ideal S1x5632 .f32) (n : Fin 5632) : shapeCast S5632 cb shapeCasts_S1x5632_S5632 (ix1 n) = cb (ix2 0 n) := by
  pointwise

theorem tap0_apply (cw : FVec Ideal S1x3x5632 .f32) (n : Fin 5632) :
    shapeCast S5632 (extractStridedSlice S1x5632 ![0, 0] (shapeCast S3x5632 cw shapeCasts_S1x3x5632_S3x5632) slices_S3x5632_S1x5632_0_0) shapeCasts_S1x5632_S5632 (ix1 n)
      = cw (ix3 0 0 n) := by
  pointwise

theorem tap1_apply (cw : FVec Ideal S1x3x5632 .f32) (n : Fin 5632) :
    shapeCast S5632 (extractStridedSlice S1x5632 ![1, 0] (shapeCast S3x5632 cw shapeCasts_S1x3x5632_S3x5632) slices_S3x5632_S1x5632_1_0) shapeCasts_S1x5632_S5632 (ix1 n)
      = cw (ix3 0 1 n) := by
  pointwise

theorem tap2_apply (cw : FVec Ideal S1x3x5632 .f32) (n : Fin 5632) :
    shapeCast S5632 (extractStridedSlice S1x5632 ![2, 0] (shapeCast S3x5632 cw shapeCasts_S1x3x5632_S3x5632) slices_S3x5632_S1x5632_2_0) shapeCasts_S1x5632_S5632 (ix1 n)
      = cw (ix3 0 2 n) := by
  pointwise

theorem at0_apply (p : FVec Ideal S128x6x5632 .f32) (s : Fin 128) (t : Fin 4) (n : Fin 5632) :
    extractStridedSlice S128x4x5632 ![0, 0, 0] p slices_S128x6x5632_S128x4x5632_0_0_0 (ix3 s t n) = p (ix3 s ⟨t.val, by omega⟩ n) := by
  pointwise

theorem at1_apply (p : FVec Ideal S128x6x5632 .f32) (s : Fin 128) (t : Fin 4) (n : Fin 5632) :
    extractStridedSlice S128x4x5632 ![0, 1, 0] p slices_S128x6x5632_S128x4x5632_0_1_0 (ix3 s t n) = p (ix3 s ⟨t.val + 1, by omega⟩ n) := by
  pointwise
  exact congrArg (fun y => p (ix3 s y n)) (Fin.ext (Nat.add_comm _ _))

theorem at2_apply (p : FVec Ideal S128x6x5632 .f32) (s : Fin 128) (t : Fin 4) (n : Fin 5632) :
    extractStridedSlice S128x4x5632 ![0, 2, 0] p slices_S128x6x5632_S128x4x5632_0_2_0 (ix3 s t n) = p (ix3 s ⟨t.val + 2, by omega⟩ n) := by
  pointwise
  exact congrArg (fun y => p (ix3 s y n)) (Fin.ext (Nat.add_comm _ _))

/-- The convolution's entries. -/
theorem convA_apply (p : FVec Ideal S128x6x5632 .f32) (cw : FVec Ideal S1x3x5632 .f32) (cb : FVec Ideal S1x5632 .f32) (s : Fin 128) (t : Fin 4) (n : Fin 5632) :
    (convA p cw cb (ix3 s t n) : EReal) = ((((cb (ix2 0 n) : EReal) + (cw (ix3 0 0 n) : EReal) * (p (ix3 s ⟨t.val, by omega⟩ n) : EReal))
      + (cw (ix3 0 1 n) : EReal) * (p (ix3 s ⟨t.val + 1, by omega⟩ n) : EReal)) + (cw (ix3 0 2 n) : EReal) * (p (ix3 s ⟨t.val + 2, by omega⟩ n) : EReal)) := by
  have e : (convA p cw cb (ix3 s t n) : EReal) = (cb (ix2 0 n) : EReal) + (((lit 0x00000000#32 + (cw (ix3 0 0 n) : EReal) * (p (ix3 s ⟨t.val, by omega⟩ n) : EReal))
      + (cw (ix3 0 1 n) : EReal) * (p (ix3 s ⟨t.val + 1, by omega⟩ n) : EReal)) + (cw (ix3 0 2 n) : EReal) * (p (ix3 s ⟨t.val + 2, by omega⟩ n) : EReal)) := by
    unfold convA
    refine congrArg₂ (fun x y : EReal => x + y) ((wide_apply _ s t n).trans (cb_apply cb n)) (congrArg₂ (fun x y : EReal => x + y) (congrArg₂ (fun x y : EReal => x + y)
      (congrArg₂ (fun x y : EReal => x + y) (litA_apply _ s t n) (congrArg₂ (fun x y : EReal => x * y) ((wide_apply _ s t n).trans (tap0_apply cw n)) (at0_apply p s t n)))
      (congrArg₂ (fun x y : EReal => x * y) ((wide_apply _ s t n).trans (tap1_apply cw n)) (at1_apply p s t n)))
      (congrArg₂ (fun x y : EReal => x * y) ((wide_apply _ s t n).trans (tap2_apply cw n)) (at2_apply p s t n)))
  rw [e, show lit 0x00000000#32 = 0 from Ideal.ofBits_zero .f32, zero_add, ← add_assoc, ← add_assoc]

/-- The activated product's entries. -/
theorem actA_apply (z u : FVec Ideal S128x4x5632 .f32) (s : Fin 128) (t : Fin 4) (n : Fin 5632) :
    (actA z u (ix3 s t n) : EReal) = Cert.Ffn.gelu (z (ix3 s t n)) * (u (ix3 s t n) : EReal) := by
  have e : (actA z u (ix3 s t n) : EReal) = ((z (ix3 s t n) : EReal) * (lit 0x3F000000#32 * (lit 0x3F800000#32 + Ideal.tanh (lit 0x3F4C422A#32
      * ((z (ix3 s t n) : EReal) + lit 0x3D372713#32 * (((z (ix3 s t n) : EReal) * (z (ix3 s t n) : EReal)) * (z (ix3 s t n) : EReal))))))) * (u (ix3 s t n) : EReal) := by
    unfold actA
    refine congrArg₂ (fun x y : EReal => x * y) (congrArg₂ (fun x y : EReal => x * y) rfl (congrArg₂ (fun x y : EReal => x * y) (litA_apply _ s t n)
      (congrArg₂ (fun x y : EReal => x + y) (litA_apply _ s t n) (congrArg Ideal.tanh (congrArg₂ (fun x y : EReal => x * y) (litA_apply _ s t n)
        (congrArg₂ (fun x y : EReal => x + y) rfl (congrArg₂ (fun x y : EReal => x * y) (litA_apply _ s t n) rfl))))))) rfl
  rw [e]
  unfold Cert.Ffn.gelu
  generalize (z (ix3 s t n) : EReal) = v
  rw [mul_left_comm, ← mul_assoc (lit 0x3F000000#32) v, ← mul_assoc (lit 0x3D372713#32), ← mul_assoc (lit 0x3D372713#32) v v]

/-- The second product's entries. -/
theorem ffnA_apply (a : FVec Ideal S128x4x5632 .f32) (wo : FVec Ideal S1x5632x2048 .f32) (s : Fin 128) (t : Fin 4) (j : Fin 2048) :
    (ffnA a wo (ix3 s t j) : EReal) = ∑ n : Fin 5632, (a (ix3 s t n) : EReal) * (wo (ix3 0 n j) : EReal) := by
  unfold ffnA
  pointwise

/-- The normed sum's entries. -/
theorem normA_apply (x : FVec Ideal S512x2048 .f32) (f : FVec Ideal S128x4x2048 .f32) (g : FVec Ideal S1x2048 .f32) (s : Fin 128) (t : Fin 4) (j : Fin 2048) :
    (normA x f g (ix2 (srow s t) j) : EReal) = Cert.Ffn.norm (x (ix2 (srow s t) j)) (fun k => f (ix3 s t k)) (g (ix2 0 j)) j := by
  unfold normA
  refine (shapeCast_apply _ _ (ix2 (srow s t) j) (ix3 s t j) (by
    rw [Shape.rowMajor_val_three, Shape.rowMajor_val_two]
    show (s.val * 4 + t.val) * 2048 + j.val = (4 * s.val + t.val) * 2048 + j.val
    omega)).trans ?_
  unfold Cert.Ffn.norm
  pointwise
  have er : (⟨s.val * 4 + t.val, by omega⟩ : Fin 512) = srow s t := Fin.ext (by show s.val * 4 + t.val = 4 * s.val + t.val; omega)
  rw [er]

/-! ## The results -/

variable (m : (ℓ : Loc nD τ sig) → Buf (Elt Ideal) ℓ) (c : Dev nD)

/-- Argument `r` as launched. -/
abbrev arg (r : Ref sig .tc) : Buf (Elt Ideal) ((c : Thread nD τ).loc r) := m ((c : Thread nD τ).loc r)

/-- The operands as launched. -/
def args : Cert.Dec.Args where
  x r k := arg m c main_arg0 (ix2 r k)
  h r k := arg m c main_arg1 (ix2 r k)
  st s i n := arg m c main_arg2 (ix4 0 s i n)
  w k n := arg m c main_arg3 (ix3 0 k n)
  cw d n := arg m c main_arg4 (ix3 0 d n)
  cb n := arg m c main_arg5 (ix2 0 n)
  wo n j := arg m c main_arg6 (ix3 0 n j)
  g j := arg m c main_arg7 (ix2 0 j)

/-- The gate's array. -/
def gateM : FVec Ideal S128x4x5632 .f32 := gateA (both (arg m c main_arg1) (arg m c main_arg3))
/-- The up-projection's array. -/
def upM : FVec Ideal S128x4x5632 .f32 := upA (both (arg m c main_arg1) (arg m c main_arg3))
/-- The convolution's array. -/
def convM : FVec Ideal S128x4x5632 .f32 := convA (padA (arg m c main_arg2) (gateM m c)) (arg m c main_arg4) (arg m c main_arg5)
/-- The second product's array. -/
def ffnM : FVec Ideal S128x4x2048 .f32 := ffnA (actA (convM m c) (upM m c)) (arg m c main_arg6)
/-- The convolution state's array. -/
def stateM : FVec Ideal S128x2x5632 .f32 := extractStridedSlice S128x2x5632 ![0, 4, 0] (padA (arg m c main_arg2) (gateM m c)) slices_S128x6x5632_S128x2x5632_0_4_0

/-- The program's first result, by these arrays. -/
theorem res_eq : res_main_v68 m c = normA (arg m c main_arg0) (ffnM m c) (arg m c main_arg7) := rfl

/-- The gate's entries. -/
theorem gateM_apply (s : Fin 128) (t : Fin 4) (n : Fin 5632) : (gateM m c (ix3 s t n) : EReal) = Cert.Dec.gate (args m c) (srow s t) n :=
  (gateA_apply _ s t n).trans (both_apply _ _ s t _)

/-- The up-projection's entries. -/
theorem upM_apply (s : Fin 128) (t : Fin 4) (n : Fin 5632) : (upM m c (ix3 s t n) : EReal) = Cert.Dec.up (args m c) (srow s t) n :=
  (upA_apply _ s t n).trans (both_apply _ _ s t _)

/-- The padded gate `2 - d` rows on: the gate `d` rows back. -/
theorem pad_apply (s : Fin 128) (t : Fin 4) (d : Nat) (hd : d ≤ 2) (n : Fin 5632) :
    (padA (arg m c main_arg2) (gateM m c) (ix3 s ⟨t.val + (2 - d), by omega⟩ n) : EReal) = Cert.Dec.back (args m c) d hd (srow s t) n := by
  rw [padA_apply]
  unfold Cert.Dec.back
  have hr : (srow s t).val = 4 * s.val + t.val := rfl
  by_cases h : d ≤ t.val
  · rw [dif_neg (by show ¬t.val + (2 - d) < 2; omega), dif_pos (by rw [hr]; omega), gateM_apply]
    exact congrArg (fun r => Cert.Dec.gate (args m c) r n) (Fin.ext (by show 4 * s.val + (t.val + (2 - d) - 2) = 4 * s.val + t.val - d; omega))
  · rw [dif_pos (by show t.val + (2 - d) < 2; omega), dif_neg (by rw [hr]; omega)]
    exact congrArg₂ (fun p i => (args m c).st p i n) (Fin.ext (by show s.val = (4 * s.val + t.val) / 4; omega))
      (Fin.ext (by show t.val + (2 - d) = (4 * s.val + t.val) % 4 + 2 - d; omega))

/-- The convolution's entries. -/
theorem convM_apply (s : Fin 128) (t : Fin 4) (n : Fin 5632) : (convM m c (ix3 s t n) : EReal) = Cert.Dec.conv (args m c) (srow s t) n := by
  refine (convA_apply _ _ _ s t n).trans ?_
  unfold Cert.Dec.conv
  have e0 : Cert.Dec.back (args m c) 0 (by decide) (srow s t) n = Cert.Dec.gate (args m c) (srow s t) n := dif_pos (Nat.zero_le _)
  exact congrArg₂ (fun x y : EReal => x + y) (congrArg₂ (fun x y : EReal => x + y) (congrArg (fun y : EReal => _ + y)
    (congrArg (fun y : EReal => _ * y) (pad_apply m c s t 2 (by decide) n)))
    (congrArg (fun y : EReal => _ * y) (pad_apply m c s t 1 (by decide) n)))
    (congrArg (fun y : EReal => _ * y) ((pad_apply m c s t 0 (by decide) n).trans e0))

/-- The second product's entries. -/
theorem ffnM_apply (s : Fin 128) (t : Fin 4) (j : Fin 2048) : (ffnM m c (ix3 s t j) : EReal) = Cert.Dec.ffn (args m c) (srow s t) j := by
  refine (ffnA_apply _ _ s t j).trans ?_
  unfold Cert.Dec.ffn
  refine congrArg (fun f : Fin 5632 → EReal => ∑ n, f n) (funext fun n => congrArg (fun x : EReal => x * _) ?_)
  exact (actA_apply _ _ s t n).trans (congrArg₂ (fun x y : EReal => Cert.Ffn.gelu x * y) (convM_apply m c s t n) (upM_apply m c s t n))

/-- The program's first result is the layer's output. -/
theorem res_apply (s : Fin 128) (t : Fin 4) (j : Fin 2048) : (res_main_v68 m c (ix2 (srow s t) j) : EReal) = Cert.Dec.out (args m c) (srow s t) j := by
  rw [res_eq]
  refine (normA_apply _ _ _ s t j).trans ?_
  exact congrArg (fun f => Cert.Ffn.norm _ f _ j) (funext fun k => ffnM_apply m c s t k)

/-- The program's second result is the gate at each sequence's last two rows. -/
theorem state_apply (s : Fin 128) (i : Fin 2) (n : Fin 5632) :
    (stateM m c (ix3 s i n) : EReal) = Cert.Dec.gate (args m c) ⟨4 * s.val + 2 + i.val, by omega⟩ n := by
  have e (p : FVec Ideal S128x6x5632 .f32) : extractStridedSlice S128x2x5632 ![0, 4, 0] p slices_S128x6x5632_S128x2x5632_0_4_0 (ix3 s i n)
      = p (ix3 s ⟨4 + i.val, by omega⟩ n) := by
    pointwise
  refine (e _).trans ?_
  rw [padA_apply, dif_neg (by show ¬4 + i.val < 2; omega), gateM_apply]
  exact congrArg (fun r => Cert.Dec.gate (args m c) r n) (Fin.ext (by show 4 * s.val + (4 + i.val - 2) = 4 * s.val + 2 + i.val; omega))

end Cert.Reference5Ideal.Hand
-- ==== Proof.DecEqual.lean ====
/- The sample rows' feed-forward kernel's results are the plain program's. -/
module

public import proofs.«01_k».proof.Proof.DecFin
public import proofs.«01_k».proof.Proof.DecRef

@[expose] public section

set_option synthInstance.maxSize 4096
set_option maxRecDepth 16384

noncomputable section

namespace Cert.Dec.Equal

open Idealize.ShloMosaic Idealize.ShloMosaic.TcCoe Idealize.SL

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The operands of the two programs are the same. -/
theorem args_eq
    (e0 : Cert.Reference5Ideal.Hand.arg m' c Cert.Reference5Ideal.main_arg0 = Cert.Kernel5Ideal.Hand.arg m c Cert.Kernel5Ideal.main_arg0)
    (e1 : Cert.Reference5Ideal.Hand.arg m' c Cert.Reference5Ideal.main_arg1 = Cert.Kernel5Ideal.Hand.arg m c Cert.Kernel5Ideal.main_arg1)
    (e2 : Cert.Reference5Ideal.Hand.arg m' c Cert.Reference5Ideal.main_arg2 = Cert.Kernel5Ideal.Hand.arg m c Cert.Kernel5Ideal.main_arg2)
    (e3 : Cert.Reference5Ideal.Hand.arg m' c Cert.Reference5Ideal.main_arg3 = Cert.Kernel5Ideal.Hand.arg m c Cert.Kernel5Ideal.main_arg3)
    (e4 : Cert.Reference5Ideal.Hand.arg m' c Cert.Reference5Ideal.main_arg4 = Cert.Kernel5Ideal.Hand.arg m c Cert.Kernel5Ideal.main_arg4)
    (e5 : Cert.Reference5Ideal.Hand.arg m' c Cert.Reference5Ideal.main_arg5 = Cert.Kernel5Ideal.Hand.arg m c Cert.Kernel5Ideal.main_arg5)
    (e6 : Cert.Reference5Ideal.Hand.arg m' c Cert.Reference5Ideal.main_arg6 = Cert.Kernel5Ideal.Hand.arg m c Cert.Kernel5Ideal.main_arg6)
    (e7 : Cert.Reference5Ideal.Hand.arg m' c Cert.Reference5Ideal.main_arg7 = Cert.Kernel5Ideal.Hand.arg m c Cert.Kernel5Ideal.main_arg7) :
    Cert.Reference5Ideal.Hand.args m' c = Cert.Kernel5Ideal.Hand.args m c := by
  have ext (o o' : Args) (hx : o.x = o'.x) (hh : o.h = o'.h) (hs : o.st = o'.st) (hw : o.w = o'.w) (hc : o.cw = o'.cw) (hb : o.cb = o'.cb)
      (ho : o.wo = o'.wo) (hg : o.g = o'.g) : o = o' := by
    cases o; cases o'; cases hx; cases hh; cases hs; cases hw; cases hc; cases hb; cases ho; cases hg; rfl
  exact ext _ _
    (funext fun a => funext fun b => congrFun e0 (ix2 a b))
    (funext fun a => funext fun b => congrFun e1 (ix2 a b))
    (funext fun a => funext fun i => funext fun b => congrFun e2 (ix4 0 a i b))
    (funext fun a => funext fun b => congrFun e3 (ix3 0 a b))
    (funext fun a => funext fun b => congrFun e4 (ix3 0 a b))
    (funext fun b => congrFun e5 (ix2 0 b))
    (funext fun a => funext fun b => congrFun e6 (ix3 0 a b))
    (funext fun b => congrFun e7 (ix2 0 b))

/-- The kernel's output is the plain program's. -/
theorem out_eq (ea : Cert.Reference5Ideal.Hand.args m' c = Cert.Kernel5Ideal.Hand.args m c) :
    Cert.Reference5Ideal.Value.res_main_v68 m' c = Cert.Kernel5Ideal.Value.G9 m c := by
  funext x
  obtain ⟨s, t, j, rfl⟩ : ∃ (s : Fin 128) (t : Fin 4) (j : Fin 2048), x = ix2 (Cert.Reference5Ideal.Hand.srow s t) j := by
    have l0 : (x 0).val < 512 := (x 0).isLt
    refine ⟨⟨(x 0).val / 4, by omega⟩, ⟨(x 0).val % 4, by omega⟩, x 1, ?_⟩
    funext a
    match a with
    | 0 => exact Fin.ext (by show (x 0).val = 4 * ((x 0).val / 4) + (x 0).val % 4; omega)
    | 1 => rfl
  refine (Cert.Reference5Ideal.Hand.res_apply m' c s t j).trans (Eq.trans ?_ (Cert.Kernel5Ideal.Hand.result9_apply m c _ j).symm)
  rw [ea]

/-- The kernel's convolution state is the plain program's. -/
theorem state_eq (ea : Cert.Reference5Ideal.Hand.args m' c = Cert.Kernel5Ideal.Hand.args m c) :
    Cert.Reference5Ideal.Hand.stateM m' c = Cert.Kernel5Ideal.Value.G10 m c := by
  funext x
  obtain ⟨s, i, n, rfl⟩ : ∃ (s : Fin 128) (i : Fin 2) (n : Fin 5632), x = ix3 s i n :=
    ⟨x 0, x 1, x 2, by funext a; match a with | 0 => rfl | 1 => rfl | 2 => rfl⟩
  refine (Cert.Reference5Ideal.Hand.state_apply m' c s i n).trans (Eq.trans ?_ (Cert.Kernel5Ideal.Hand.result10_apply m c s i n).symm)
  rw [ea]

end Cert.Dec.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel4Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel5Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Run
public import proofs.«01_k».proof.Proof.Same
public import proofs.«01_k».proof.Proof.Equal
public import proofs.«01_k».proof.Proof.FfnRun
public import proofs.«01_k».proof.Proof.FfnSame
public import proofs.«01_k».proof.Proof.FfnEqual
public import proofs.«01_k».proof.Proof.ProjEqual
public import proofs.«01_k».proof.Proof.PreEqual
public import proofs.«01_k».proof.Proof.DecEqual
public import Idealize.ShloMosaic.Adequacy
public import Idealize.ShloMosaic.Init

@[expose] public section

noncomputable section

namespace Cert.Proof

open Idealize.ShloMosaic Idealize.SL.Sem Cert.Kernel

/-- The kernel at extended reals runs, leaves its arguments and ends with every semaphore at zero. -/
theorem frame_kernel_ideal : Cert.quiescent_KernelIdeal (hKernelIdeal := Cert.KernelIdeal.Gen.facts) := fun m ρ _ =>
  Cert.KernelIdeal.Hand.frame (F := Ideal) m ρ

/-- The reference runs, leaves its arguments and ends with every semaphore at zero: it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- At extended reals the kernel's three results are the reference's, element by element. -/
theorem algebraic : Cert.algebraic_KernelIdeal_ReferenceIdeal (hKernelIdeal := Cert.KernelIdeal.Gen.facts)
    (hReferenceIdeal := Cert.ReferenceIdeal.Gen.facts) := by
  intro m g m' g' _ e
  refine ⟨fun c => Cert.KernelIdeal.Hand.zFin m c, fun c => Cert.KernelIdeal.Hand.yFin m c, fun c => Cert.KernelIdeal.Hand.sFin m c, ?_, ?_⟩
  · refine (θ_run Cert.KernelIdeal.defs _ _).mono (fun r h c => ?_) (Cert.KernelIdeal.Hand.run_values (F := Ideal) m g)
    exact ⟨(h c).1.1, (h c).1.2.1, (h c).1.2.2, (h c).2⟩
  · refine (θ_run Cert.ReferenceIdeal.defs _ _).mono (fun r h c => ?_) (Cert.ReferenceIdeal.Value.run (F := Ideal) m' g')
    obtain ⟨e0, e1, e2, e3, e4, e5, e6, e7, e8⟩ := e c
    have eo := Cert.Equal.ops_eq m m' c e2 e3 e4 e5 e6 e7
    have es := Cert.Equal.start_eq m m' c e8
    exact ⟨(h c).1.trans (Cert.Equal.proj m m' c e0 e1), (h c).2.1.trans (Cert.Equal.rows m m' c eo es),
      (h c).2.2.1.trans (Cert.Equal.states m m' c eo es), (h c).2.2.2⟩

/-- The feed-forward kernel at extended reals runs, leaves its arguments and ends with every semaphore at zero. -/
theorem frame_kernel2_ideal : Cert.quiescent_Kernel2Ideal (hKernel2Ideal := Cert.Kernel2Ideal.Gen.facts) := fun m ρ _ =>
  Cert.Kernel2Ideal.Hand.frame (F := Ideal) m ρ

/-- The plain feed-forward program runs, leaves its arguments and ends with every semaphore at zero: it declares no semaphore. -/
theorem frame_reference2 : Cert.quiescent_Reference2Ideal (hReference2Ideal := Cert.Reference2Ideal.Gen.facts) := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- At extended reals the feed-forward kernel's two results are the plain program's, element by element. -/
theorem algebraic2 : Cert.algebraic_Kernel2Ideal_Reference2Ideal (hKernel2Ideal := Cert.Kernel2Ideal.Gen.facts)
    (hReference2Ideal := Cert.Reference2Ideal.Gen.facts) := by
  intro m g m' g' _ e
  refine ⟨fun c => Cert.Kernel2Ideal.Hand.outFin m c, fun c => Cert.Kernel2Ideal.Hand.convFin m c, ?_, ?_⟩
  · exact (θ_run Cert.Kernel2Ideal.defs _ _).mono (fun r h c => h c) (Cert.Kernel2Ideal.Hand.run_values (F := Ideal) m g)
  · refine (θ_run Cert.Reference2Ideal.defs _ _).mono (fun r h c => ?_) (Cert.Reference2Ideal.Value.run (F := Ideal) m' g')
    obtain ⟨e0, e1, e2, e3, e4, e5, e6⟩ := e c
    have ea := Cert.Ffn.Equal.args_eq m m' c e0 e1 e2 e3 e4 e5 e6
    exact ⟨(h c).1.trans (Cert.Ffn.Equal.out_eq m m' c ea), (h c).2.1.trans (Cert.Ffn.Equal.state_eq m m' c ea), (h c).2.2⟩

/-- The projection kernel's frame over the extended reals. -/
theorem frame_kernel3_ideal : Cert.quiescent_Kernel3Ideal (hKernel3Ideal := Cert.Kernel3Ideal.Gen.facts) := fun m ρ _ => Cert.Kernel3Ideal.Gen.frame m ρ

/-- The plain projection's frame. -/
theorem frame_reference3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- At extended reals the projection kernel's result is the plain program's, element by element. -/
theorem algebraic3 : Cert.algebraic_Kernel3Ideal_Reference3Ideal (hKernel3Ideal := Cert.Kernel3Ideal.Gen.facts)
    (hReference3Ideal := Cert.Reference3Ideal.Gen.facts) := by
  intro m g m' g' _ e
  refine ⟨fun c => Cert.Kernel3Ideal.Value.G2 m c, ?_, ?_⟩
  · exact (θ_run Cert.Kernel3Ideal.defs _ _).mono (fun r h c => h c) (Cert.Kernel3Ideal.Value.run (F := Ideal) m g)
  · refine (θ_run Cert.Reference3Ideal.defs _ _).mono (fun r h c => ?_) (Cert.Reference3Ideal.Value.run (F := Ideal) m' g')
    obtain ⟨e0, e1⟩ := e c
    exact ⟨(h c).1.trans (Cert.Proj.Equal.out_eq m c _ _ e0 e1), (h c).2⟩

/-- The norm-and-project kernel's frame over the extended reals. -/
theorem frame_kernel4_ideal : Cert.quiescent_Kernel4Ideal (hKernel4Ideal := Cert.Kernel4Ideal.Gen.facts) := fun m ρ _ => Cert.Kernel4Ideal.Gen.frame m ρ

/-- The plain norm and projection's frame. -/
theorem frame_reference4 : Cert.quiescent_Reference4Ideal (hReference4Ideal := Cert.Reference4Ideal.Gen.facts) := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- At extended reals the norm-and-project kernel's three results are the plain program's, element by element. -/
theorem algebraic4 : Cert.algebraic_Kernel4Ideal_Reference4Ideal (hKernel4Ideal := Cert.Kernel4Ideal.Gen.facts)
    (hReference4Ideal := Cert.Reference4Ideal.Gen.facts) := by
  intro m g m' g' _ e
  refine ⟨fun c => Cert.Kernel4Ideal.Value.G5 m c, fun c => Cert.Kernel4Ideal.Value.G6 m c, fun c => Cert.Kernel4Ideal.Value.G7 m c, ?_, ?_⟩
  · exact (θ_run Cert.Kernel4Ideal.defs _ _).mono (fun r h c => h c) (Cert.Kernel4Ideal.Value.run (F := Ideal) m g)
  · refine (θ_run Cert.Reference4Ideal.defs _ _).mono (fun r h c => ?_) (Cert.Reference4Ideal.Value.run (F := Ideal) m' g')
    obtain ⟨e0, e1, e2, e3⟩ := e c
    exact ⟨(h c).1.trans (Cert.Pre.Equal.rows_eq m c _ _ _ _ e0 e1 e2 e3), (h c).2.1.trans (Cert.Pre.Equal.colsA_eq m c _ _ _ _ e0 e1 e2 e3),
      (h c).2.2.1.trans (Cert.Pre.Equal.colsB_eq m c _ _ _ _ e0 e1 e2 e3), (h c).2.2.2⟩

/-- The sample rows' feed-forward kernel's frame over the extended reals. -/
theorem frame_kernel5_ideal : Cert.quiescent_Kernel5Ideal (hKernel5Ideal := Cert.Kernel5Ideal.Gen.facts) := fun m ρ _ => Cert.Kernel5Ideal.Gen.frame m ρ

/-- The plain feed-forward program's frame, on the sample rows. -/
theorem frame_reference5 : Cert.quiescent_Reference5Ideal (hReference5Ideal := Cert.Reference5Ideal.Gen.facts) := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- At extended reals the sample rows' feed-forward kernel's two results are the plain program's, element by element. -/
theorem algebraic5 : Cert.algebraic_Kernel5Ideal_Reference5Ideal (hKernel5Ideal := Cert.Kernel5Ideal.Gen.facts)
    (hReference5Ideal := Cert.Reference5Ideal.Gen.facts) := by
  intro m g m' g' _ e
  refine ⟨fun c => Cert.Kernel5Ideal.Value.G9 m c, fun c => Cert.Kernel5Ideal.Value.G10 m c, ?_, ?_⟩
  · exact (θ_run Cert.Kernel5Ideal.defs _ _).mono (fun r h c => h c) (Cert.Kernel5Ideal.Value.run (F := Ideal) m g)
  · refine (θ_run Cert.Reference5Ideal.defs _ _).mono (fun r h c => ?_) (Cert.Reference5Ideal.Value.run (F := Ideal) m' g')
    obtain ⟨e0, e1, e2, e3, e4, e5, e6, e7⟩ := e c
    have ea := Cert.Dec.Equal.args_eq m m' c e0 e1 e2 e3 e4 e5 e6 e7
    exact ⟨(h c).1.trans (Cert.Dec.Equal.out_eq m m' c ea), (h c).2.1.trans (Cert.Dec.Equal.state_eq m m' c ea), (h c).2.2⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel.Hand.frame, frame_kernel_ideal, frame_reference, Cert.Kernel2.Hand.frame, frame_kernel2_ideal, frame_reference2,
  fun m ρ _ => Cert.Kernel3.Gen.frame m ρ, frame_kernel3_ideal, frame_reference3,
  fun m ρ _ => Cert.Kernel4.Gen.frame m ρ, frame_kernel4_ideal, frame_reference4,
  fun m ρ _ => Cert.Kernel5.Gen.frame m ρ, frame_kernel5_ideal, frame_reference5,
  trivial, algebraic, trivial, algebraic2, trivial, algebraic3, trivial, algebraic4, trivial, algebraic5⟩

end Cert.Proof

end
